-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_RmsQuantX (m : (ℓ : Loc Cert.RmsQuantX.nD Cert.RmsQuantX.τ Cert.RmsQuantX.sig) → Buf (Elt Bits) ℓ) : Prop :=
  True

def Pre_RmsQuantXIdeal (m : (ℓ : Loc Cert.RmsQuantXIdeal.nD Cert.RmsQuantXIdeal.τ Cert.RmsQuantXIdeal.sig) → Buf (Elt Ideal) ℓ) : Prop :=
  True

def Pre_RmsQuantXRefIdeal (m : (ℓ : Loc Cert.RmsQuantXRefIdeal.nD Cert.RmsQuantXRefIdeal.τ Cert.RmsQuantXRefIdeal.sig) → Buf (Elt Ideal) ℓ) : Prop :=
  True

def Pre_RmsQuantH (m : (ℓ : Loc Cert.RmsQuantH.nD Cert.RmsQuantH.τ Cert.RmsQuantH.sig) → Buf (Elt Bits) ℓ) : Prop :=
  True

def Pre_RmsQuantHIdeal (m : (ℓ : Loc Cert.RmsQuantHIdeal.nD Cert.RmsQuantHIdeal.τ Cert.RmsQuantHIdeal.sig) → Buf (Elt Ideal) ℓ) : Prop :=
  True

def Pre_RmsQuantHRefIdeal (m : (ℓ : Loc Cert.RmsQuantHRefIdeal.nD Cert.RmsQuantHRefIdeal.τ Cert.RmsQuantHRefIdeal.sig) → Buf (Elt Ideal) ℓ) : Prop :=
  True

def Pre_RowQuantAttn (m : (ℓ : Loc Cert.RowQuantAttn.nD Cert.RowQuantAttn.τ Cert.RowQuantAttn.sig) → Buf (Elt Bits) ℓ) : Prop :=
  True

def Pre_RowQuantAttnIdeal (m : (ℓ : Loc Cert.RowQuantAttnIdeal.nD Cert.RowQuantAttnIdeal.τ Cert.RowQuantAttnIdeal.sig) → Buf (Elt Ideal) ℓ) : Prop :=
  True

def Pre_RowQuantAttnRefIdeal (m : (ℓ : Loc Cert.RowQuantAttnRefIdeal.nD Cert.RowQuantAttnRefIdeal.τ Cert.RowQuantAttnRefIdeal.sig) → Buf (Elt Ideal) ℓ) : Prop :=
  True

def Pre_RowQuantMlp (m : (ℓ : Loc Cert.RowQuantMlp.nD Cert.RowQuantMlp.τ Cert.RowQuantMlp.sig) → Buf (Elt Bits) ℓ) : Prop :=
  True

def Pre_RowQuantMlpIdeal (m : (ℓ : Loc Cert.RowQuantMlpIdeal.nD Cert.RowQuantMlpIdeal.τ Cert.RowQuantMlpIdeal.sig) → Buf (Elt Ideal) ℓ) : Prop :=
  True

def Pre_RowQuantMlpRefIdeal (m : (ℓ : Loc Cert.RowQuantMlpRefIdeal.nD Cert.RowQuantMlpRefIdeal.τ Cert.RowQuantMlpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7)
      ∧ r.2.mem ((c.tc : Thread Cert.GateUp.nD Cert.GateUp.τ).loc Cert.GateUp.main_arg8) = m ((c.tc : Thread Cert.GateUp.nD Cert.GateUp.τ).loc Cert.GateUp.main_arg8)
      ∧ r.2.mem ((c.tc : Thread Cert.GateUp.nD Cert.GateUp.τ).loc Cert.GateUp.main_arg9) = m ((c.tc : Thread Cert.GateUp.nD Cert.GateUp.τ).loc Cert.GateUp.main_arg9))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
      ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8)
      ∧ r.2.mem ((c.tc : Thread Cert.GateUpIdeal.nD Cert.GateUpIdeal.τ).loc Cert.GateUpIdeal.main_arg9) = m ((c.tc : Thread Cert.GateUpIdeal.nD Cert.GateUpIdeal.τ).loc Cert.GateUpIdeal.main_arg9))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7)
      ∧ r.2.mem ((c.tc : Thread Cert.GateUpRefIdeal.nD Cert.GateUpRefIdeal.τ).loc Cert.GateUpRefIdeal.main_arg8) = m ((c.tc : Thread Cert.GateUpRefIdeal.nD Cert.GateUpRefIdeal.τ).loc Cert.GateUpRefIdeal.main_arg8)
      ∧ r.2.mem ((c.tc : Thread Cert.GateUpRefIdeal.nD Cert.GateUpRefIdeal.τ).loc Cert.GateUpRefIdeal.main_arg9) = m ((c.tc : Thread Cert.GateUpRefIdeal.nD Cert.GateUpRefIdeal.τ).loc Cert.GateUpRefIdeal.main_arg9))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5)
      ∧ r.2.mem ((c.tc : Thread Cert.OProjRefIdeal.nD Cert.OProjRefIdeal.τ).loc Cert.OProjRefIdeal.main_arg6) = m ((c.tc : Thread Cert.OProjRefIdeal.nD Cert.OProjRefIdeal.τ).loc Cert.OProjRefIdeal.main_arg6))
      ∧ r.2.sem = fun _ => 0)

def quiescent_RmsQuantX [hRmsQuantX : Cert.RmsQuantX.Facts] : Prop :=
  ∀ (m : (ℓ : Loc Cert.RmsQuantX.nD Cert.RmsQuantX.τ Cert.RmsQuantX.sig) → Buf (Elt Bits) ℓ) (g : Dev Cert.RmsQuantX.nD → PrngReg), Pre_RmsQuantX m →
    θ_run (Cert.RmsQuantX.defs (F := Bits)) (onTc (τ := Cert.RmsQuantX.τ) (Cert.RmsQuantX.main (F := Bits))) ⟨m, fun _ => 0, g⟩ (fun r => (∀ c : Dev Cert.RmsQuantX.nD,
      r.2.mem ((c.tc : Thread Cert.RmsQuantX.nD Cert.RmsQuantX.τ).loc Cert.RmsQuantX.main_arg0) = m ((c.tc : Thread Cert.RmsQuantX.nD Cert.RmsQuantX.τ).loc Cert.RmsQuantX.main_arg0)
      ∧ r.2.mem ((c.tc : Thread Cert.RmsQuantX.nD Cert.RmsQuantX.τ).loc Cert.RmsQuantX.main_arg1) = m ((c.tc : Thread Cert.RmsQuantX.nD Cert.RmsQuantX.τ).loc Cert.RmsQuantX.main_arg1))
      ∧ r.2.sem = fun _ => 0)

def quiescent_RmsQuantXIdeal [hRmsQuantXIdeal : Cert.RmsQuantXIdeal.Facts] : Prop :=
  ∀ (m : (ℓ : Loc Cert.RmsQuantXIdeal.nD Cert.RmsQuantXIdeal.τ Cert.RmsQuantXIdeal.sig) → Buf (Elt Ideal) ℓ) (g : Dev Cert.RmsQuantXIdeal.nD → PrngReg), Pre_RmsQuantXIdeal m →
    θ_run (Cert.RmsQuantXIdeal.defs (F := Ideal)) (onTc (τ := Cert.RmsQuantXIdeal.τ) (Cert.RmsQuantXIdeal.main (F := Ideal))) ⟨m, fun _ => 0, g⟩ (fun r => (∀ c : Dev Cert.RmsQuantXIdeal.nD,
      r.2.mem ((c.tc : Thread Cert.RmsQuantXIdeal.nD Cert.RmsQuantXIdeal.τ).loc Cert.RmsQuantXIdeal.main_arg0) = m ((c.tc : Thread Cert.RmsQuantXIdeal.nD Cert.RmsQuantXIdeal.τ).loc Cert.RmsQuantXIdeal.main_arg0)
      ∧ r.2.mem ((c.tc : Thread Cert.RmsQuantXIdeal.nD Cert.RmsQuantXIdeal.τ).loc Cert.RmsQuantXIdeal.main_arg1) = m ((c.tc : Thread Cert.RmsQuantXIdeal.nD Cert.RmsQuantXIdeal.τ).loc Cert.RmsQuantXIdeal.main_arg1))
      ∧ r.2.sem = fun _ => 0)

def quiescent_RmsQuantXRefIdeal [hRmsQuantXRefIdeal : Cert.RmsQuantXRefIdeal.Facts] : Prop :=
  ∀ (m : (ℓ : Loc Cert.RmsQuantXRefIdeal.nD Cert.RmsQuantXRefIdeal.τ Cert.RmsQuantXRefIdeal.sig) → Buf (Elt Ideal) ℓ) (g : Dev Cert.RmsQuantXRefIdeal.nD → PrngReg), Pre_RmsQuantXRefIdeal m →
    θ_run (Cert.RmsQuantXRefIdeal.defs (F := Ideal)) (onTc (τ := Cert.RmsQuantXRefIdeal.τ) (Cert.RmsQuantXRefIdeal.main (F := Ideal))) ⟨m, fun _ => 0, g⟩ (fun r => (∀ c : Dev Cert.RmsQuantXRefIdeal.nD,
      r.2.mem ((c.tc : Thread Cert.RmsQuantXRefIdeal.nD Cert.RmsQuantXRefIdeal.τ).loc Cert.RmsQuantXRefIdeal.main_arg0) = m ((c.tc : Thread Cert.RmsQuantXRefIdeal.nD Cert.RmsQuantXRefIdeal.τ).loc Cert.RmsQuantXRefIdeal.main_arg0)
      ∧ r.2.mem ((c.tc : Thread Cert.RmsQuantXRefIdeal.nD Cert.RmsQuantXRefIdeal.τ).loc Cert.RmsQuantXRefIdeal.main_arg1) = m ((c.tc : Thread Cert.RmsQuantXRefIdeal.nD Cert.RmsQuantXRefIdeal.τ).loc Cert.RmsQuantXRefIdeal.main_arg1))
      ∧ r.2.sem = fun _ => 0)

def quiescent_RmsQuantH [hRmsQuantH : Cert.RmsQuantH.Facts] : Prop :=
  ∀ (m : (ℓ : Loc Cert.RmsQuantH.nD Cert.RmsQuantH.τ Cert.RmsQuantH.sig) → Buf (Elt Bits) ℓ) (g : Dev Cert.RmsQuantH.nD → PrngReg), Pre_RmsQuantH m →
    θ_run (Cert.RmsQuantH.defs (F := Bits)) (onTc (τ := Cert.RmsQuantH.τ) (Cert.RmsQuantH.main (F := Bits))) ⟨m, fun _ => 0, g⟩ (fun r => (∀ c : Dev Cert.RmsQuantH.nD,
      r.2.mem ((c.tc : Thread Cert.RmsQuantH.nD Cert.RmsQuantH.τ).loc Cert.RmsQuantH.main_arg0) = m ((c.tc : Thread Cert.RmsQuantH.nD Cert.RmsQuantH.τ).loc Cert.RmsQuantH.main_arg0)
      ∧ r.2.mem ((c.tc : Thread Cert.RmsQuantH.nD Cert.RmsQuantH.τ).loc Cert.RmsQuantH.main_arg1) = m ((c.tc : Thread Cert.RmsQuantH.nD Cert.RmsQuantH.τ).loc Cert.RmsQuantH.main_arg1))
      ∧ r.2.sem = fun _ => 0)

def quiescent_RmsQuantHIdeal [hRmsQuantHIdeal : Cert.RmsQuantHIdeal.Facts] : Prop :=
  ∀ (m : (ℓ : Loc Cert.RmsQuantHIdeal.nD Cert.RmsQuantHIdeal.τ Cert.RmsQuantHIdeal.sig) → Buf (Elt Ideal) ℓ) (g : Dev Cert.RmsQuantHIdeal.nD → PrngReg), Pre_RmsQuantHIdeal m →
    θ_run (Cert.RmsQuantHIdeal.defs (F := Ideal)) (onTc (τ := Cert.RmsQuantHIdeal.τ) (Cert.RmsQuantHIdeal.main (F := Ideal))) ⟨m, fun _ => 0, g⟩ (fun r => (∀ c : Dev Cert.RmsQuantHIdeal.nD,
      r.2.mem ((c.tc : Thread Cert.RmsQuantHIdeal.nD Cert.RmsQuantHIdeal.τ).loc Cert.RmsQuantHIdeal.main_arg0) = m ((c.tc : Thread Cert.RmsQuantHIdeal.nD Cert.RmsQuantHIdeal.τ).loc Cert.RmsQuantHIdeal.main_arg0)
      ∧ r.2.mem ((c.tc : Thread Cert.RmsQuantHIdeal.nD Cert.RmsQuantHIdeal.τ).loc Cert.RmsQuantHIdeal.main_arg1) = m ((c.tc : Thread Cert.RmsQuantHIdeal.nD Cert.RmsQuantHIdeal.τ).loc Cert.RmsQuantHIdeal.main_arg1))
      ∧ r.2.sem = fun _ => 0)

def quiescent_RmsQuantHRefIdeal [hRmsQuantHRefIdeal : Cert.RmsQuantHRefIdeal.Facts] : Prop :=
  ∀ (m : (ℓ : Loc Cert.RmsQuantHRefIdeal.nD Cert.RmsQuantHRefIdeal.τ Cert.RmsQuantHRefIdeal.sig) → Buf (Elt Ideal) ℓ) (g : Dev Cert.RmsQuantHRefIdeal.nD → PrngReg), Pre_RmsQuantHRefIdeal m →
    θ_run (Cert.RmsQuantHRefIdeal.defs (F := Ideal)) (onTc (τ := Cert.RmsQuantHRefIdeal.τ) (Cert.RmsQuantHRefIdeal.main (F := Ideal))) ⟨m, fun _ => 0, g⟩ (fun r => (∀ c : Dev Cert.RmsQuantHRefIdeal.nD,
      r.2.mem ((c.tc : Thread Cert.RmsQuantHRefIdeal.nD Cert.RmsQuantHRefIdeal.τ).loc Cert.RmsQuantHRefIdeal.main_arg0) = m ((c.tc : Thread Cert.RmsQuantHRefIdeal.nD Cert.RmsQuantHRefIdeal.τ).loc Cert.RmsQuantHRefIdeal.main_arg0)
      ∧ r.2.mem ((c.tc : Thread Cert.RmsQuantHRefIdeal.nD Cert.RmsQuantHRefIdeal.τ).loc Cert.RmsQuantHRefIdeal.main_arg1) = m ((c.tc : Thread Cert.RmsQuantHRefIdeal.nD Cert.RmsQuantHRefIdeal.τ).loc Cert.RmsQuantHRefIdeal.main_arg1))
      ∧ r.2.sem = fun _ => 0)

def quiescent_RowQuantAttn [hRowQuantAttn : Cert.RowQuantAttn.Facts] : Prop :=
  ∀ (m : (ℓ : Loc Cert.RowQuantAttn.nD Cert.RowQuantAttn.τ Cert.RowQuantAttn.sig) → Buf (Elt Bits) ℓ) (g : Dev Cert.RowQuantAttn.nD → PrngReg), Pre_RowQuantAttn m →
    θ_run (Cert.RowQuantAttn.defs (F := Bits)) (onTc (τ := Cert.RowQuantAttn.τ) (Cert.RowQuantAttn.main (F := Bits))) ⟨m, fun _ => 0, g⟩ (fun r => (∀ c : Dev Cert.RowQuantAttn.nD,
      r.2.mem ((c.tc : Thread Cert.RowQuantAttn.nD Cert.RowQuantAttn.τ).loc Cert.RowQuantAttn.main_arg0) = m ((c.tc : Thread Cert.RowQuantAttn.nD Cert.RowQuantAttn.τ).loc Cert.RowQuantAttn.main_arg0))
      ∧ r.2.sem = fun _ => 0)

def quiescent_RowQuantAttnIdeal [hRowQuantAttnIdeal : Cert.RowQuantAttnIdeal.Facts] : Prop :=
  ∀ (m : (ℓ : Loc Cert.RowQuantAttnIdeal.nD Cert.RowQuantAttnIdeal.τ Cert.RowQuantAttnIdeal.sig) → Buf (Elt Ideal) ℓ) (g : Dev Cert.RowQuantAttnIdeal.nD → PrngReg), Pre_RowQuantAttnIdeal m →
    θ_run (Cert.RowQuantAttnIdeal.defs (F := Ideal)) (onTc (τ := Cert.RowQuantAttnIdeal.τ) (Cert.RowQuantAttnIdeal.main (F := Ideal))) ⟨m, fun _ => 0, g⟩ (fun r => (∀ c : Dev Cert.RowQuantAttnIdeal.nD,
      r.2.mem ((c.tc : Thread Cert.RowQuantAttnIdeal.nD Cert.RowQuantAttnIdeal.τ).loc Cert.RowQuantAttnIdeal.main_arg0) = m ((c.tc : Thread Cert.RowQuantAttnIdeal.nD Cert.RowQuantAttnIdeal.τ).loc Cert.RowQuantAttnIdeal.main_arg0))
      ∧ r.2.sem = fun _ => 0)

def quiescent_RowQuantAttnRefIdeal [hRowQuantAttnRefIdeal : Cert.RowQuantAttnRefIdeal.Facts] : Prop :=
  ∀ (m : (ℓ : Loc Cert.RowQuantAttnRefIdeal.nD Cert.RowQuantAttnRefIdeal.τ Cert.RowQuantAttnRefIdeal.sig) → Buf (Elt Ideal) ℓ) (g : Dev Cert.RowQuantAttnRefIdeal.nD → PrngReg), Pre_RowQuantAttnRefIdeal m →
    θ_run (Cert.RowQuantAttnRefIdeal.defs (F := Ideal)) (onTc (τ := Cert.RowQuantAttnRefIdeal.τ) (Cert.RowQuantAttnRefIdeal.main (F := Ideal))) ⟨m, fun _ => 0, g⟩ (fun r => (∀ c : Dev Cert.RowQuantAttnRefIdeal.nD,
      r.2.mem ((c.tc : Thread Cert.RowQuantAttnRefIdeal.nD Cert.RowQuantAttnRefIdeal.τ).loc Cert.RowQuantAttnRefIdeal.main_arg0) = m ((c.tc : Thread Cert.RowQuantAttnRefIdeal.nD Cert.RowQuantAttnRefIdeal.τ).loc Cert.RowQuantAttnRefIdeal.main_arg0))
      ∧ r.2.sem = fun _ => 0)

def quiescent_RowQuantMlp [hRowQuantMlp : Cert.RowQuantMlp.Facts] : Prop :=
  ∀ (m : (ℓ : Loc Cert.RowQuantMlp.nD Cert.RowQuantMlp.τ Cert.RowQuantMlp.sig) → Buf (Elt Bits) ℓ) (g : Dev Cert.RowQuantMlp.nD → PrngReg), Pre_RowQuantMlp m →
    θ_run (Cert.RowQuantMlp.defs (F := Bits)) (onTc (τ := Cert.RowQuantMlp.τ) (Cert.RowQuantMlp.main (F := Bits))) ⟨m, fun _ => 0, g⟩ (fun r => (∀ c : Dev Cert.RowQuantMlp.nD,
      r.2.mem ((c.tc : Thread Cert.RowQuantMlp.nD Cert.RowQuantMlp.τ).loc Cert.RowQuantMlp.main_arg0) = m ((c.tc : Thread Cert.RowQuantMlp.nD Cert.RowQuantMlp.τ).loc Cert.RowQuantMlp.main_arg0))
      ∧ r.2.sem = fun _ => 0)

def quiescent_RowQuantMlpIdeal [hRowQuantMlpIdeal : Cert.RowQuantMlpIdeal.Facts] : Prop :=
  ∀ (m : (ℓ : Loc Cert.RowQuantMlpIdeal.nD Cert.RowQuantMlpIdeal.τ Cert.RowQuantMlpIdeal.sig) → Buf (Elt Ideal) ℓ) (g : Dev Cert.RowQuantMlpIdeal.nD → PrngReg), Pre_RowQuantMlpIdeal m →
    θ_run (Cert.RowQuantMlpIdeal.defs (F := Ideal)) (onTc (τ := Cert.RowQuantMlpIdeal.τ) (Cert.RowQuantMlpIdeal.main (F := Ideal))) ⟨m, fun _ => 0, g⟩ (fun r => (∀ c : Dev Cert.RowQuantMlpIdeal.nD,
      r.2.mem ((c.tc : Thread Cert.RowQuantMlpIdeal.nD Cert.RowQuantMlpIdeal.τ).loc Cert.RowQuantMlpIdeal.main_arg0) = m ((c.tc : Thread Cert.RowQuantMlpIdeal.nD Cert.RowQuantMlpIdeal.τ).loc Cert.RowQuantMlpIdeal.main_arg0))
      ∧ r.2.sem = fun _ => 0)

def quiescent_RowQuantMlpRefIdeal [hRowQuantMlpRefIdeal : Cert.RowQuantMlpRefIdeal.Facts] : Prop :=
  ∀ (m : (ℓ : Loc Cert.RowQuantMlpRefIdeal.nD Cert.RowQuantMlpRefIdeal.τ Cert.RowQuantMlpRefIdeal.sig) → Buf (Elt Ideal) ℓ) (g : Dev Cert.RowQuantMlpRefIdeal.nD → PrngReg), Pre_RowQuantMlpRefIdeal m →
    θ_run (Cert.RowQuantMlpRefIdeal.defs (F := Ideal)) (onTc (τ := Cert.RowQuantMlpRefIdeal.τ) (Cert.RowQuantMlpRefIdeal.main (F := Ideal))) ⟨m, fun _ => 0, g⟩ (fun r => (∀ c : Dev Cert.RowQuantMlpRefIdeal.nD,
      r.2.mem ((c.tc : Thread Cert.RowQuantMlpRefIdeal.nD Cert.RowQuantMlpRefIdeal.τ).loc Cert.RowQuantMlpRefIdeal.main_arg0) = m ((c.tc : Thread Cert.RowQuantMlpRefIdeal.nD Cert.RowQuantMlpRefIdeal.τ).loc Cert.RowQuantMlpRefIdeal.main_arg0))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)
      ∧ m' ((c.tc : Thread Cert.GateUpRefIdeal.nD Cert.GateUpRefIdeal.τ).loc Cert.GateUpRefIdeal.main_arg8) = m ((c.tc : Thread Cert.GateUpIdeal.nD Cert.GateUpIdeal.τ).loc Cert.GateUpIdeal.main_arg8)
      ∧ m' ((c.tc : Thread Cert.GateUpRefIdeal.nD Cert.GateUpRefIdeal.τ).loc Cert.GateUpRefIdeal.main_arg9) = m ((c.tc : Thread Cert.GateUpIdeal.nD Cert.GateUpIdeal.τ).loc Cert.GateUpIdeal.main_arg9)) →
    ∃ (v0 : (c : Dev Cert.GateUpIdeal.nD) → Buf (Elt Ideal) ((c.tc : Thread Cert.GateUpIdeal.nD Cert.GateUpIdeal.τ).loc Cert.GateUpIdeal.main_v2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
          ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8)
          ∧ r.2.mem ((c.tc : Thread Cert.GateUpIdeal.nD Cert.GateUpIdeal.τ).loc Cert.GateUpIdeal.main_arg9) = m ((c.tc : Thread Cert.GateUpIdeal.nD Cert.GateUpIdeal.τ).loc Cert.GateUpIdeal.main_arg9))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v91) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7)
          ∧ r.2.mem ((c.tc : Thread Cert.GateUpRefIdeal.nD Cert.GateUpRefIdeal.τ).loc Cert.GateUpRefIdeal.main_arg8) = m' ((c.tc : Thread Cert.GateUpRefIdeal.nD Cert.GateUpRefIdeal.τ).loc Cert.GateUpRefIdeal.main_arg8)
          ∧ r.2.mem ((c.tc : Thread Cert.GateUpRefIdeal.nD Cert.GateUpRefIdeal.τ).loc Cert.GateUpRefIdeal.main_arg9) = m' ((c.tc : Thread Cert.GateUpRefIdeal.nD Cert.GateUpRefIdeal.τ).loc Cert.GateUpRefIdeal.main_arg9))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v43) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)
      ∧ m' ((c.tc : Thread Cert.OProjRefIdeal.nD Cert.OProjRefIdeal.τ).loc Cert.OProjRefIdeal.main_arg6) = m ((c.tc : Thread Cert.OProjIdeal.nD Cert.OProjIdeal.τ).loc Cert.OProjIdeal.main_arg6)) →
    ∃ (v0 : (c : Dev Cert.OProjIdeal.nD) → Buf (Elt Ideal) ((c.tc : Thread Cert.OProjIdeal.nD Cert.OProjIdeal.τ).loc Cert.OProjIdeal.main_v1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v1) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v43) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5)
          ∧ r.2.mem ((c.tc : Thread Cert.OProjRefIdeal.nD Cert.OProjRefIdeal.τ).loc Cert.OProjRefIdeal.main_arg6) = m' ((c.tc : Thread Cert.OProjRefIdeal.nD Cert.OProjRefIdeal.τ).loc Cert.OProjRefIdeal.main_arg6))

def preserves_RmsQuantX_RmsQuantXIdeal : Prop :=
  True

def algebraic_RmsQuantXIdeal_RmsQuantXRefIdeal [hRmsQuantXIdeal : Cert.RmsQuantXIdeal.Facts] [hRmsQuantXRefIdeal : Cert.RmsQuantXRefIdeal.Facts] : Prop :=
  ∀ (m : (ℓ : Loc Cert.RmsQuantXIdeal.nD Cert.RmsQuantXIdeal.τ Cert.RmsQuantXIdeal.sig) → Buf (Elt Ideal) ℓ) (g : Dev Cert.RmsQuantXIdeal.nD → PrngReg)
    (m' : (ℓ : Loc Cert.RmsQuantXRefIdeal.nD Cert.RmsQuantXRefIdeal.τ Cert.RmsQuantXRefIdeal.sig) → Buf (Elt Ideal) ℓ) (g' : Dev Cert.RmsQuantXRefIdeal.nD → PrngReg), Pre_RmsQuantXIdeal m →
    (∀ c : Dev Cert.RmsQuantXIdeal.nD,
      m' ((c.tc : Thread Cert.RmsQuantXRefIdeal.nD Cert.RmsQuantXRefIdeal.τ).loc Cert.RmsQuantXRefIdeal.main_arg0) = m ((c.tc : Thread Cert.RmsQuantXIdeal.nD Cert.RmsQuantXIdeal.τ).loc Cert.RmsQuantXIdeal.main_arg0)
      ∧ m' ((c.tc : Thread Cert.RmsQuantXRefIdeal.nD Cert.RmsQuantXRefIdeal.τ).loc Cert.RmsQuantXRefIdeal.main_arg1) = m ((c.tc : Thread Cert.RmsQuantXIdeal.nD Cert.RmsQuantXIdeal.τ).loc Cert.RmsQuantXIdeal.main_arg1)) →
    ∃ (v0 : (c : Dev Cert.RmsQuantXIdeal.nD) → Buf (Elt Ideal) ((c.tc : Thread Cert.RmsQuantXIdeal.nD Cert.RmsQuantXIdeal.τ).loc Cert.RmsQuantXIdeal.main_v1_0)) (v1 : (c : Dev Cert.RmsQuantXIdeal.nD) → Buf (Elt Ideal) ((c.tc : Thread Cert.RmsQuantXIdeal.nD Cert.RmsQuantXIdeal.τ).loc Cert.RmsQuantXIdeal.main_v1_1)),
      θ_run (Cert.RmsQuantXIdeal.defs (F := Ideal)) (onTc (τ := Cert.RmsQuantXIdeal.τ) (Cert.RmsQuantXIdeal.main (F := Ideal))) ⟨m, fun _ => 0, g⟩ (fun r => ∀ c : Dev Cert.RmsQuantXIdeal.nD,
          r.2.mem ((c.tc : Thread Cert.RmsQuantXIdeal.nD Cert.RmsQuantXIdeal.τ).loc Cert.RmsQuantXIdeal.main_v1_0) = v0 c
          ∧ r.2.mem ((c.tc : Thread Cert.RmsQuantXIdeal.nD Cert.RmsQuantXIdeal.τ).loc Cert.RmsQuantXIdeal.main_v1_1) = v1 c
          ∧ r.2.mem ((c.tc : Thread Cert.RmsQuantXIdeal.nD Cert.RmsQuantXIdeal.τ).loc Cert.RmsQuantXIdeal.main_arg0) = m ((c.tc : Thread Cert.RmsQuantXIdeal.nD Cert.RmsQuantXIdeal.τ).loc Cert.RmsQuantXIdeal.main_arg0)
          ∧ r.2.mem ((c.tc : Thread Cert.RmsQuantXIdeal.nD Cert.RmsQuantXIdeal.τ).loc Cert.RmsQuantXIdeal.main_arg1) = m ((c.tc : Thread Cert.RmsQuantXIdeal.nD Cert.RmsQuantXIdeal.τ).loc Cert.RmsQuantXIdeal.main_arg1))
      ∧ θ_run (Cert.RmsQuantXRefIdeal.defs (F := Ideal)) (onTc (τ := Cert.RmsQuantXRefIdeal.τ) (Cert.RmsQuantXRefIdeal.main (F := Ideal))) ⟨m', fun _ => 0, g'⟩ (fun r => ∀ c : Dev Cert.RmsQuantXRefIdeal.nD,
          r.2.mem ((c.tc : Thread Cert.RmsQuantXRefIdeal.nD Cert.RmsQuantXRefIdeal.τ).loc Cert.RmsQuantXRefIdeal.main_v27) = v0 c
          ∧ r.2.mem ((c.tc : Thread Cert.RmsQuantXRefIdeal.nD Cert.RmsQuantXRefIdeal.τ).loc Cert.RmsQuantXRefIdeal.main_v28) = v1 c
          ∧ r.2.mem ((c.tc : Thread Cert.RmsQuantXRefIdeal.nD Cert.RmsQuantXRefIdeal.τ).loc Cert.RmsQuantXRefIdeal.main_arg0) = m' ((c.tc : Thread Cert.RmsQuantXRefIdeal.nD Cert.RmsQuantXRefIdeal.τ).loc Cert.RmsQuantXRefIdeal.main_arg0)
          ∧ r.2.mem ((c.tc : Thread Cert.RmsQuantXRefIdeal.nD Cert.RmsQuantXRefIdeal.τ).loc Cert.RmsQuantXRefIdeal.main_arg1) = m' ((c.tc : Thread Cert.RmsQuantXRefIdeal.nD Cert.RmsQuantXRefIdeal.τ).loc Cert.RmsQuantXRefIdeal.main_arg1))

def preserves_RmsQuantH_RmsQuantHIdeal : Prop :=
  True

def algebraic_RmsQuantHIdeal_RmsQuantHRefIdeal [hRmsQuantHIdeal : Cert.RmsQuantHIdeal.Facts] [hRmsQuantHRefIdeal : Cert.RmsQuantHRefIdeal.Facts] : Prop :=
  ∀ (m : (ℓ : Loc Cert.RmsQuantHIdeal.nD Cert.RmsQuantHIdeal.τ Cert.RmsQuantHIdeal.sig) → Buf (Elt Ideal) ℓ) (g : Dev Cert.RmsQuantHIdeal.nD → PrngReg)
    (m' : (ℓ : Loc Cert.RmsQuantHRefIdeal.nD Cert.RmsQuantHRefIdeal.τ Cert.RmsQuantHRefIdeal.sig) → Buf (Elt Ideal) ℓ) (g' : Dev Cert.RmsQuantHRefIdeal.nD → PrngReg), Pre_RmsQuantHIdeal m →
    (∀ c : Dev Cert.RmsQuantHIdeal.nD,
      m' ((c.tc : Thread Cert.RmsQuantHRefIdeal.nD Cert.RmsQuantHRefIdeal.τ).loc Cert.RmsQuantHRefIdeal.main_arg0) = m ((c.tc : Thread Cert.RmsQuantHIdeal.nD Cert.RmsQuantHIdeal.τ).loc Cert.RmsQuantHIdeal.main_arg0)
      ∧ m' ((c.tc : Thread Cert.RmsQuantHRefIdeal.nD Cert.RmsQuantHRefIdeal.τ).loc Cert.RmsQuantHRefIdeal.main_arg1) = m ((c.tc : Thread Cert.RmsQuantHIdeal.nD Cert.RmsQuantHIdeal.τ).loc Cert.RmsQuantHIdeal.main_arg1)) →
    ∃ (v0 : (c : Dev Cert.RmsQuantHIdeal.nD) → Buf (Elt Ideal) ((c.tc : Thread Cert.RmsQuantHIdeal.nD Cert.RmsQuantHIdeal.τ).loc Cert.RmsQuantHIdeal.main_v1_0)) (v1 : (c : Dev Cert.RmsQuantHIdeal.nD) → Buf (Elt Ideal) ((c.tc : Thread Cert.RmsQuantHIdeal.nD Cert.RmsQuantHIdeal.τ).loc Cert.RmsQuantHIdeal.main_v1_1)),
      θ_run (Cert.RmsQuantHIdeal.defs (F := Ideal)) (onTc (τ := Cert.RmsQuantHIdeal.τ) (Cert.RmsQuantHIdeal.main (F := Ideal))) ⟨m, fun _ => 0, g⟩ (fun r => ∀ c : Dev Cert.RmsQuantHIdeal.nD,
          r.2.mem ((c.tc : Thread Cert.RmsQuantHIdeal.nD Cert.RmsQuantHIdeal.τ).loc Cert.RmsQuantHIdeal.main_v1_0) = v0 c
          ∧ r.2.mem ((c.tc : Thread Cert.RmsQuantHIdeal.nD Cert.RmsQuantHIdeal.τ).loc Cert.RmsQuantHIdeal.main_v1_1) = v1 c
          ∧ r.2.mem ((c.tc : Thread Cert.RmsQuantHIdeal.nD Cert.RmsQuantHIdeal.τ).loc Cert.RmsQuantHIdeal.main_arg0) = m ((c.tc : Thread Cert.RmsQuantHIdeal.nD Cert.RmsQuantHIdeal.τ).loc Cert.RmsQuantHIdeal.main_arg0)
          ∧ r.2.mem ((c.tc : Thread Cert.RmsQuantHIdeal.nD Cert.RmsQuantHIdeal.τ).loc Cert.RmsQuantHIdeal.main_arg1) = m ((c.tc : Thread Cert.RmsQuantHIdeal.nD Cert.RmsQuantHIdeal.τ).loc Cert.RmsQuantHIdeal.main_arg1))
      ∧ θ_run (Cert.RmsQuantHRefIdeal.defs (F := Ideal)) (onTc (τ := Cert.RmsQuantHRefIdeal.τ) (Cert.RmsQuantHRefIdeal.main (F := Ideal))) ⟨m', fun _ => 0, g'⟩ (fun r => ∀ c : Dev Cert.RmsQuantHRefIdeal.nD,
          r.2.mem ((c.tc : Thread Cert.RmsQuantHRefIdeal.nD Cert.RmsQuantHRefIdeal.τ).loc Cert.RmsQuantHRefIdeal.main_v26) = v0 c
          ∧ r.2.mem ((c.tc : Thread Cert.RmsQuantHRefIdeal.nD Cert.RmsQuantHRefIdeal.τ).loc Cert.RmsQuantHRefIdeal.main_v27) = v1 c
          ∧ r.2.mem ((c.tc : Thread Cert.RmsQuantHRefIdeal.nD Cert.RmsQuantHRefIdeal.τ).loc Cert.RmsQuantHRefIdeal.main_arg0) = m' ((c.tc : Thread Cert.RmsQuantHRefIdeal.nD Cert.RmsQuantHRefIdeal.τ).loc Cert.RmsQuantHRefIdeal.main_arg0)
          ∧ r.2.mem ((c.tc : Thread Cert.RmsQuantHRefIdeal.nD Cert.RmsQuantHRefIdeal.τ).loc Cert.RmsQuantHRefIdeal.main_arg1) = m' ((c.tc : Thread Cert.RmsQuantHRefIdeal.nD Cert.RmsQuantHRefIdeal.τ).loc Cert.RmsQuantHRefIdeal.main_arg1))

def preserves_RowQuantAttn_RowQuantAttnIdeal : Prop :=
  True

def algebraic_RowQuantAttnIdeal_RowQuantAttnRefIdeal [hRowQuantAttnIdeal : Cert.RowQuantAttnIdeal.Facts] [hRowQuantAttnRefIdeal : Cert.RowQuantAttnRefIdeal.Facts] : Prop :=
  ∀ (m : (ℓ : Loc Cert.RowQuantAttnIdeal.nD Cert.RowQuantAttnIdeal.τ Cert.RowQuantAttnIdeal.sig) → Buf (Elt Ideal) ℓ) (g : Dev Cert.RowQuantAttnIdeal.nD → PrngReg)
    (m' : (ℓ : Loc Cert.RowQuantAttnRefIdeal.nD Cert.RowQuantAttnRefIdeal.τ Cert.RowQuantAttnRefIdeal.sig) → Buf (Elt Ideal) ℓ) (g' : Dev Cert.RowQuantAttnRefIdeal.nD → PrngReg), Pre_RowQuantAttnIdeal m →
    (∀ c : Dev Cert.RowQuantAttnIdeal.nD,
      m' ((c.tc : Thread Cert.RowQuantAttnRefIdeal.nD Cert.RowQuantAttnRefIdeal.τ).loc Cert.RowQuantAttnRefIdeal.main_arg0) = m ((c.tc : Thread Cert.RowQuantAttnIdeal.nD Cert.RowQuantAttnIdeal.τ).loc Cert.RowQuantAttnIdeal.main_arg0)) →
    ∃ (v0 : (c : Dev Cert.RowQuantAttnIdeal.nD) → Buf (Elt Ideal) ((c.tc : Thread Cert.RowQuantAttnIdeal.nD Cert.RowQuantAttnIdeal.τ).loc Cert.RowQuantAttnIdeal.main_v0_0)) (v1 : (c : Dev Cert.RowQuantAttnIdeal.nD) → Buf (Elt Ideal) ((c.tc : Thread Cert.RowQuantAttnIdeal.nD Cert.RowQuantAttnIdeal.τ).loc Cert.RowQuantAttnIdeal.main_v0_1)),
      θ_run (Cert.RowQuantAttnIdeal.defs (F := Ideal)) (onTc (τ := Cert.RowQuantAttnIdeal.τ) (Cert.RowQuantAttnIdeal.main (F := Ideal))) ⟨m, fun _ => 0, g⟩ (fun r => ∀ c : Dev Cert.RowQuantAttnIdeal.nD,
          r.2.mem ((c.tc : Thread Cert.RowQuantAttnIdeal.nD Cert.RowQuantAttnIdeal.τ).loc Cert.RowQuantAttnIdeal.main_v0_0) = v0 c
          ∧ r.2.mem ((c.tc : Thread Cert.RowQuantAttnIdeal.nD Cert.RowQuantAttnIdeal.τ).loc Cert.RowQuantAttnIdeal.main_v0_1) = v1 c
          ∧ r.2.mem ((c.tc : Thread Cert.RowQuantAttnIdeal.nD Cert.RowQuantAttnIdeal.τ).loc Cert.RowQuantAttnIdeal.main_arg0) = m ((c.tc : Thread Cert.RowQuantAttnIdeal.nD Cert.RowQuantAttnIdeal.τ).loc Cert.RowQuantAttnIdeal.main_arg0))
      ∧ θ_run (Cert.RowQuantAttnRefIdeal.defs (F := Ideal)) (onTc (τ := Cert.RowQuantAttnRefIdeal.τ) (Cert.RowQuantAttnRefIdeal.main (F := Ideal))) ⟨m', fun _ => 0, g'⟩ (fun r => ∀ c : Dev Cert.RowQuantAttnRefIdeal.nD,
          r.2.mem ((c.tc : Thread Cert.RowQuantAttnRefIdeal.nD Cert.RowQuantAttnRefIdeal.τ).loc Cert.RowQuantAttnRefIdeal.main_v13) = v0 c
          ∧ r.2.mem ((c.tc : Thread Cert.RowQuantAttnRefIdeal.nD Cert.RowQuantAttnRefIdeal.τ).loc Cert.RowQuantAttnRefIdeal.main_v14) = v1 c
          ∧ r.2.mem ((c.tc : Thread Cert.RowQuantAttnRefIdeal.nD Cert.RowQuantAttnRefIdeal.τ).loc Cert.RowQuantAttnRefIdeal.main_arg0) = m' ((c.tc : Thread Cert.RowQuantAttnRefIdeal.nD Cert.RowQuantAttnRefIdeal.τ).loc Cert.RowQuantAttnRefIdeal.main_arg0))

def preserves_RowQuantMlp_RowQuantMlpIdeal : Prop :=
  True

def algebraic_RowQuantMlpIdeal_RowQuantMlpRefIdeal [hRowQuantMlpIdeal : Cert.RowQuantMlpIdeal.Facts] [hRowQuantMlpRefIdeal : Cert.RowQuantMlpRefIdeal.Facts] : Prop :=
  ∀ (m : (ℓ : Loc Cert.RowQuantMlpIdeal.nD Cert.RowQuantMlpIdeal.τ Cert.RowQuantMlpIdeal.sig) → Buf (Elt Ideal) ℓ) (g : Dev Cert.RowQuantMlpIdeal.nD → PrngReg)
    (m' : (ℓ : Loc Cert.RowQuantMlpRefIdeal.nD Cert.RowQuantMlpRefIdeal.τ Cert.RowQuantMlpRefIdeal.sig) → Buf (Elt Ideal) ℓ) (g' : Dev Cert.RowQuantMlpRefIdeal.nD → PrngReg), Pre_RowQuantMlpIdeal m →
    (∀ c : Dev Cert.RowQuantMlpIdeal.nD,
      m' ((c.tc : Thread Cert.RowQuantMlpRefIdeal.nD Cert.RowQuantMlpRefIdeal.τ).loc Cert.RowQuantMlpRefIdeal.main_arg0) = m ((c.tc : Thread Cert.RowQuantMlpIdeal.nD Cert.RowQuantMlpIdeal.τ).loc Cert.RowQuantMlpIdeal.main_arg0)) →
    ∃ (v0 : (c : Dev Cert.RowQuantMlpIdeal.nD) → Buf (Elt Ideal) ((c.tc : Thread Cert.RowQuantMlpIdeal.nD Cert.RowQuantMlpIdeal.τ).loc Cert.RowQuantMlpIdeal.main_v0_0)) (v1 : (c : Dev Cert.RowQuantMlpIdeal.nD) → Buf (Elt Ideal) ((c.tc : Thread Cert.RowQuantMlpIdeal.nD Cert.RowQuantMlpIdeal.τ).loc Cert.RowQuantMlpIdeal.main_v0_1)),
      θ_run (Cert.RowQuantMlpIdeal.defs (F := Ideal)) (onTc (τ := Cert.RowQuantMlpIdeal.τ) (Cert.RowQuantMlpIdeal.main (F := Ideal))) ⟨m, fun _ => 0, g⟩ (fun r => ∀ c : Dev Cert.RowQuantMlpIdeal.nD,
          r.2.mem ((c.tc : Thread Cert.RowQuantMlpIdeal.nD Cert.RowQuantMlpIdeal.τ).loc Cert.RowQuantMlpIdeal.main_v0_0) = v0 c
          ∧ r.2.mem ((c.tc : Thread Cert.RowQuantMlpIdeal.nD Cert.RowQuantMlpIdeal.τ).loc Cert.RowQuantMlpIdeal.main_v0_1) = v1 c
          ∧ r.2.mem ((c.tc : Thread Cert.RowQuantMlpIdeal.nD Cert.RowQuantMlpIdeal.τ).loc Cert.RowQuantMlpIdeal.main_arg0) = m ((c.tc : Thread Cert.RowQuantMlpIdeal.nD Cert.RowQuantMlpIdeal.τ).loc Cert.RowQuantMlpIdeal.main_arg0))
      ∧ θ_run (Cert.RowQuantMlpRefIdeal.defs (F := Ideal)) (onTc (τ := Cert.RowQuantMlpRefIdeal.τ) (Cert.RowQuantMlpRefIdeal.main (F := Ideal))) ⟨m', fun _ => 0, g'⟩ (fun r => ∀ c : Dev Cert.RowQuantMlpRefIdeal.nD,
          r.2.mem ((c.tc : Thread Cert.RowQuantMlpRefIdeal.nD Cert.RowQuantMlpRefIdeal.τ).loc Cert.RowQuantMlpRefIdeal.main_v13) = v0 c
          ∧ r.2.mem ((c.tc : Thread Cert.RowQuantMlpRefIdeal.nD Cert.RowQuantMlpRefIdeal.τ).loc Cert.RowQuantMlpRefIdeal.main_v14) = v1 c
          ∧ r.2.mem ((c.tc : Thread Cert.RowQuantMlpRefIdeal.nD Cert.RowQuantMlpRefIdeal.τ).loc Cert.RowQuantMlpRefIdeal.main_arg0) = m' ((c.tc : Thread Cert.RowQuantMlpRefIdeal.nD Cert.RowQuantMlpRefIdeal.τ).loc Cert.RowQuantMlpRefIdeal.main_arg0))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v11_0)) (v1 : (c : Dev Cert.QkvIdeal.nD) → Buf (Elt Ideal) ((c.tc : Thread Cert.QkvIdeal.nD Cert.QkvIdeal.τ).loc Cert.QkvIdeal.main_v11_1)) (v2 : (c : Dev Cert.QkvIdeal.nD) → Buf (Elt Ideal) ((c.tc : Thread Cert.QkvIdeal.nD Cert.QkvIdeal.τ).loc Cert.QkvIdeal.main_v11_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v11_0) = v0 c
          ∧ r.2.mem ((c.tc : Thread Cert.QkvIdeal.nD Cert.QkvIdeal.τ).loc Cert.QkvIdeal.main_v11_1) = v1 c
          ∧ r.2.mem ((c.tc : Thread Cert.QkvIdeal.nD Cert.QkvIdeal.τ).loc Cert.QkvIdeal.main_v11_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v122) = v0 c
          ∧ r.2.mem ((c.tc : Thread Cert.QkvRefIdeal.nD Cert.QkvRefIdeal.τ).loc Cert.QkvRefIdeal.main_v125) = v1 c
          ∧ r.2.mem ((c.tc : Thread Cert.QkvRefIdeal.nD Cert.QkvRefIdeal.τ).loc Cert.QkvRefIdeal.main_v128) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOProj : Cert.OProj.Facts) (hOProjIdeal : Cert.OProjIdeal.Facts) (hOProjRefIdeal : Cert.OProjRefIdeal.Facts) (hRmsQuantX : Cert.RmsQuantX.Facts) (hRmsQuantXIdeal : Cert.RmsQuantXIdeal.Facts) (hRmsQuantXRefIdeal : Cert.RmsQuantXRefIdeal.Facts) (hRmsQuantH : Cert.RmsQuantH.Facts) (hRmsQuantHIdeal : Cert.RmsQuantHIdeal.Facts) (hRmsQuantHRefIdeal : Cert.RmsQuantHRefIdeal.Facts) (hRowQuantAttn : Cert.RowQuantAttn.Facts) (hRowQuantAttnIdeal : Cert.RowQuantAttnIdeal.Facts) (hRowQuantAttnRefIdeal : Cert.RowQuantAttnRefIdeal.Facts) (hRowQuantMlp : Cert.RowQuantMlp.Facts) (hRowQuantMlpIdeal : Cert.RowQuantMlpIdeal.Facts) (hRowQuantMlpRefIdeal : Cert.RowQuantMlpRefIdeal.Facts) (hQkv : Cert.Qkv.Facts) (hQkvIdeal : Cert.QkvIdeal.Facts) (hQkvRefIdeal : Cert.QkvRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_OProj (hOProj := hOProj)
    ∧ quiescent_OProjIdeal (hOProjIdeal := hOProjIdeal)
    ∧ quiescent_OProjRefIdeal (hOProjRefIdeal := hOProjRefIdeal)
    ∧ quiescent_RmsQuantX (hRmsQuantX := hRmsQuantX)
    ∧ quiescent_RmsQuantXIdeal (hRmsQuantXIdeal := hRmsQuantXIdeal)
    ∧ quiescent_RmsQuantXRefIdeal (hRmsQuantXRefIdeal := hRmsQuantXRefIdeal)
    ∧ quiescent_RmsQuantH (hRmsQuantH := hRmsQuantH)
    ∧ quiescent_RmsQuantHIdeal (hRmsQuantHIdeal := hRmsQuantHIdeal)
    ∧ quiescent_RmsQuantHRefIdeal (hRmsQuantHRefIdeal := hRmsQuantHRefIdeal)
    ∧ quiescent_RowQuantAttn (hRowQuantAttn := hRowQuantAttn)
    ∧ quiescent_RowQuantAttnIdeal (hRowQuantAttnIdeal := hRowQuantAttnIdeal)
    ∧ quiescent_RowQuantAttnRefIdeal (hRowQuantAttnRefIdeal := hRowQuantAttnRefIdeal)
    ∧ quiescent_RowQuantMlp (hRowQuantMlp := hRowQuantMlp)
    ∧ quiescent_RowQuantMlpIdeal (hRowQuantMlpIdeal := hRowQuantMlpIdeal)
    ∧ quiescent_RowQuantMlpRefIdeal (hRowQuantMlpRefIdeal := hRowQuantMlpRefIdeal)
    ∧ quiescent_Qkv (hQkv := hQkv)
    ∧ quiescent_QkvIdeal (hQkvIdeal := hQkvIdeal)
    ∧ quiescent_QkvRefIdeal (hQkvRefIdeal := hQkvRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_OProj_OProjIdeal
    ∧ algebraic_OProjIdeal_OProjRefIdeal (hOProjIdeal := hOProjIdeal) (hOProjRefIdeal := hOProjRefIdeal)
    ∧ preserves_RmsQuantX_RmsQuantXIdeal
    ∧ algebraic_RmsQuantXIdeal_RmsQuantXRefIdeal (hRmsQuantXIdeal := hRmsQuantXIdeal) (hRmsQuantXRefIdeal := hRmsQuantXRefIdeal)
    ∧ preserves_RmsQuantH_RmsQuantHIdeal
    ∧ algebraic_RmsQuantHIdeal_RmsQuantHRefIdeal (hRmsQuantHIdeal := hRmsQuantHIdeal) (hRmsQuantHRefIdeal := hRmsQuantHRefIdeal)
    ∧ preserves_RowQuantAttn_RowQuantAttnIdeal
    ∧ algebraic_RowQuantAttnIdeal_RowQuantAttnRefIdeal (hRowQuantAttnIdeal := hRowQuantAttnIdeal) (hRowQuantAttnRefIdeal := hRowQuantAttnRefIdeal)
    ∧ preserves_RowQuantMlp_RowQuantMlpIdeal
    ∧ algebraic_RowQuantMlpIdeal_RowQuantMlpRefIdeal (hRowQuantMlpIdeal := hRowQuantMlpIdeal) (hRowQuantMlpRefIdeal := hRowQuantMlpRefIdeal)
    ∧ preserves_Qkv_QkvIdeal
    ∧ algebraic_QkvIdeal_QkvRefIdeal (hQkvIdeal := hQkvIdeal) (hQkvRefIdeal := hQkvRefIdeal)
-- ==== GateUp.lean ====
abbrev S1152x4096 : Shape := ⟨2, ![1152, 4096]⟩
abbrev S1152x1 : Shape := ⟨2, ![1152, 1]⟩
abbrev S2048x14336 : Shape := ⟨2, ![2048, 14336]⟩
abbrev S32x14336 : Shape := ⟨2, ![32, 14336]⟩
abbrev S14336 : Shape := ⟨1, ![14336]⟩
abbrev S1x14336 : Shape := ⟨2, ![1, 14336]⟩
abbrev S1152x14336 : Shape := ⟨2, ![1152, 14336]⟩
abbrev S2048x256 : Shape := ⟨2, ![2048, 256]⟩
abbrev S32x256 : Shape := ⟨2, ![32, 256]⟩
abbrev S1x256 : Shape := ⟨2, ![1, 256]⟩
abbrev S1152x256 : Shape := ⟨2, ![1152, 256]⟩
abbrev S4096x256 : Shape := ⟨2, ![4096, 256]⟩
abbrev S64x256 : Shape := ⟨2, ![64, 256]⟩
abbrev S128x256 : Shape := ⟨2, ![128, 256]⟩

abbrev nBuf : Space → Nat
  | .hbm => 13
  | .vmem => 23
  | .smem => 0
  | _ => 0

abbrev bufTy : (tb : Table) → Fin (tcTables nBuf tb) → BufTy
  | .hbm, ⟨0, _⟩ => ⟨S1152x4096, .i8⟩
  | .hbm, ⟨1, _⟩ => ⟨S1152x1, .f32⟩
  | .hbm, ⟨2, _⟩ => ⟨S2048x14336, .i8⟩
  | .hbm, ⟨3, _⟩ => ⟨S32x14336, .i8⟩
  | .hbm, ⟨4, _⟩ => ⟨S32x14336, .i8⟩
  | .hbm, ⟨5, _⟩ => ⟨S14336, .f32⟩
  | .hbm, ⟨6, _⟩ => ⟨S2048x14336, .i8⟩
  | .hbm, ⟨7, _⟩ => ⟨S32x14336, .i8⟩
  | .hbm, ⟨8, _⟩ => ⟨S32x14336, .i8⟩
  | .hbm, ⟨9, _⟩ => ⟨S14336, .f32⟩
  | .hbm, ⟨10, _⟩ => ⟨S1x14336, .f32⟩
  | .hbm, ⟨11, _⟩ => ⟨S1x14336, .f32⟩
  | .hbm, ⟨12, _⟩ => ⟨S1152x14336, .f32⟩
  | .local _ .vmem, ⟨0, _⟩ => ⟨S1152x4096, .i8⟩
  | .local _ .vmem, ⟨1, _⟩ => ⟨S1152x1, .f32⟩
  | .local _ .vmem, ⟨2, _⟩ => ⟨S2048x256, .i8⟩
  | .local _ .vmem, ⟨3, _⟩ => ⟨S2048x256, .i8⟩
  | .local _ .vmem, ⟨4, _⟩ => ⟨S32x256, .i8⟩
  | .local _ .vmem, ⟨5, _⟩ => ⟨S32x256, .i8⟩
  | .local _ .vmem, ⟨6, _⟩ => ⟨S32x256, .i8⟩
  | .local _ .vmem, ⟨7, _⟩ => ⟨S32x256, .i8⟩
  | .local _ .vmem, ⟨8, _⟩ => ⟨S1x256, .f32⟩
  | .local _ .vmem, ⟨9, _⟩ => ⟨S1x256, .f32⟩
  | .local _ .vmem, ⟨10, _⟩ => ⟨S2048x256, .i8⟩
  | .local _ .vmem, ⟨11, _⟩ => ⟨S2048x256, .i8⟩
  | .local _ .vmem, ⟨12, _⟩ => ⟨S32x256, .i8⟩
  | .local _ .vmem, ⟨13, _⟩ => ⟨S32x256, .i8⟩
  | .local _ .vmem, ⟨14, _⟩ => ⟨S32x256, .i8⟩
  | .local _ .vmem, ⟨15, _⟩ => ⟨S32x256, .i8⟩
  | .local _ .vmem, ⟨16, _⟩ => ⟨S1x256, .f32⟩
  | .local _ .vmem, ⟨17, _⟩ => ⟨S1x256, .f32⟩
  | .local _ .vmem, ⟨18, _⟩ => ⟨S1152x256, .f32⟩
  | .local _ .vmem, ⟨19, _⟩ => ⟨S1152x256, .f32⟩
  | .local _ .vmem, ⟨20, _⟩ => ⟨S4096x256, .bf16⟩
  | .local _ .vmem, ⟨21, _⟩ => ⟨S4096x256, .bf16⟩
  | .local _ .vmem, ⟨22, _⟩ => ⟨S1152x4096, .bf16⟩
  | _, _ => ⟨S1152x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1152x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateUpRefIdeal.lean ====
abbrev S1152x4096 : Shape := ⟨2, ![1152, 4096]⟩
abbrev S1152x1 : Shape := ⟨2, ![1152, 1]⟩
abbrev S2048x14336 : Shape := ⟨2, ![2048, 14336]⟩
abbrev S32x14336 : Shape := ⟨2, ![32, 14336]⟩
abbrev S14336 : Shape := ⟨1, ![14336]⟩
abbrev S32x1x14336 : Shape := ⟨3, ![32, 1, 14336]⟩
abbrev S_ : Shape := ⟨0, ![]⟩
abbrev S32x64x14336 : Shape := ⟨3, ![32, 64, 14336]⟩
abbrev S1152x2048 : Shape := ⟨2, ![1152, 2048]⟩
abbrev S1152x14336 : Shape := ⟨2, ![1152, 14336]⟩
abbrev S1x14336 : Shape := ⟨2, ![1, 14336]⟩

abbrev nBuf : Space → Nat
  | .hbm => 108
  | .vmem => 0
  | .smem => 0
  | _ => 0

abbrev bufTy : (tb : Table) → Fin (tcTables nBuf tb) → BufTy
  | .hbm, ⟨0, _⟩ => ⟨S1152x4096, .i8⟩
  | .hbm, ⟨1, _⟩ => ⟨S1152x1, .f32⟩
  | .hbm, ⟨2, _⟩ => ⟨S2048x14336, .i8⟩
  | .hbm, ⟨3, _⟩ => ⟨S32x14336, .i8⟩
  | .hbm, ⟨4, _⟩ => ⟨S32x14336, .i8⟩
  | .hbm, ⟨5, _⟩ => ⟨S14336, .f32⟩
  | .hbm, ⟨6, _⟩ => ⟨S2048x14336, .i8⟩
  | .hbm, ⟨7, _⟩ => ⟨S32x14336, .i8⟩
  | .hbm, ⟨8, _⟩ => ⟨S32x14336, .i8⟩
  | .hbm, ⟨9, _⟩ => ⟨S14336, .f32⟩
  | .hbm, ⟨10, _⟩ => ⟨S32x14336, .i32⟩
  | .hbm, ⟨11, _⟩ => ⟨S32x1x14336, .i32⟩
  | .hbm, ⟨12, _⟩ => ⟨S32x14336, .i32⟩
  | .hbm, ⟨13, _⟩ => ⟨S32x1x14336, .i32⟩
  | .hbm, ⟨14, _⟩ => ⟨S2048x14336, .i32⟩
  | .hbm, ⟨15, _⟩ => ⟨S_, .i32⟩
  | .hbm, ⟨16, _⟩ => ⟨S2048x14336, .i32⟩
  | .hbm, ⟨17, _⟩ => ⟨S2048x14336, .i32⟩
  | .hbm, ⟨18, _⟩ => ⟨S32x64x14336, .i32⟩
  | .hbm, ⟨19, _⟩ => ⟨S32x64x14336, .i32⟩
  | .hbm, ⟨20, _⟩ => ⟨S32x64x14336, .i32⟩
  | .hbm, ⟨21, _⟩ => ⟨S32x64x14336, .i32⟩
  | .hbm, ⟨22, _⟩ => ⟨S32x64x14336, .i32⟩
  | .hbm, ⟨23, _⟩ => ⟨S32x64x14336, .i8⟩
  | .hbm, ⟨24, _⟩ => ⟨S2048x14336, .i8⟩
  | .hbm, ⟨25, _⟩ => ⟨S2048x14336, .i32⟩
  | .hbm, ⟨26, _⟩ => ⟨S_, .i32⟩
  | .hbm, ⟨27, _⟩ => ⟨S2048x14336, .i32⟩
  | .hbm, ⟨28, _⟩ => ⟨S2048x14336, .i32⟩
  | .hbm, ⟨29, _⟩ => ⟨S32x64x14336, .i32⟩
  | .hbm, ⟨30, _⟩ => ⟨S32x64x14336, .i32⟩
  | .hbm, ⟨31, _⟩ => ⟨S32x64x14336, .i32⟩
  | .hbm, ⟨32, _⟩ => ⟨S32x64x14336, .i32⟩
  | .hbm, ⟨33, _⟩ => ⟨S32x64x14336, .i32⟩
  | .hbm, ⟨34, _⟩ => ⟨S32x64x14336, .i8⟩
  | .hbm, ⟨35, _⟩ => ⟨S2048x14336, .i8⟩
  | .hbm, ⟨36, _⟩ => ⟨S1152x2048, .i8⟩
  | .hbm, ⟨37, _⟩ => ⟨S1152x2048, .i32⟩
  | .hbm, ⟨38, _⟩ => ⟨S1152x2048, .f32⟩
  | .hbm, ⟨39, _⟩ => ⟨S2048x14336, .i32⟩
  | .hbm, ⟨40, _⟩ => ⟨S2048x14336, .f32⟩
  | .hbm, ⟨41, _⟩ => ⟨S1152x14336, .f32⟩
  | .hbm, ⟨42, _⟩ => ⟨S1152x2048, .i8⟩
  | .hbm, ⟨43, _⟩ => ⟨S1152x2048, .i32⟩
  | .hbm, ⟨44, _⟩ => ⟨S1152x2048, .f32⟩
  | .hbm, ⟨45, _⟩ => ⟨S2048x14336, .i32⟩
  | .hbm, ⟨46, _⟩ => ⟨S2048x14336, .f32⟩
  | .hbm, ⟨47, _⟩ => ⟨S1152x14336, .f32⟩
  | .hbm, ⟨48, _⟩ => ⟨S1152x14336, .f32⟩
  | .hbm, ⟨49, _⟩ => ⟨S1152x14336, .f32⟩
  | .hbm, ⟨50, _⟩ => ⟨S1152x14336, .f32⟩
  | .hbm, ⟨51, _⟩ => ⟨S1x14336, .f32⟩
  | .hbm, ⟨52, _⟩ => ⟨S1152x14336, .f32⟩
  | .hbm, ⟨53, _⟩ => ⟨S1152x14336, .f32⟩
  | .hbm, ⟨54, _⟩ => ⟨S32x14336, .i32⟩
  | .hbm, ⟨55, _⟩ => ⟨S32x1x14336, .i32⟩
  | .hbm, ⟨56, _⟩ => ⟨S32x14336, .i32⟩
  | .hbm, ⟨57, _⟩ => ⟨S32x1x14336, .i32⟩
  | .hbm, ⟨58, _⟩ => ⟨S2048x14336, .i32⟩
  | .hbm, ⟨59, _⟩ => ⟨S_, .i32⟩
  | .hbm, ⟨60, _⟩ => ⟨S2048x14336, .i32⟩
  | .hbm, ⟨61, _⟩ => ⟨S2048x14336, .i32⟩
  | .hbm, ⟨62, _⟩ => ⟨S32x64x14336, .i32⟩
  | .hbm, ⟨63, _⟩ => ⟨S32x64x14336, .i32⟩
  | .hbm, ⟨64, _⟩ => ⟨S32x64x14336, .i32⟩
  | .hbm, ⟨65, _⟩ => ⟨S32x64x14336, .i32⟩
  | .hbm, ⟨66, _⟩ => ⟨S32x64x14336, .i32⟩
  | .hbm, ⟨67, _⟩ => ⟨S32x64x14336, .i8⟩
  | .hbm, ⟨68, _⟩ => ⟨S2048x14336, .i8⟩
  | .hbm, ⟨69, _⟩ => ⟨S2048x14336, .i32⟩
  | .hbm, ⟨70, _⟩ => ⟨S_, .i32⟩
  | .hbm, ⟨71, _⟩ => ⟨S2048x14336, .i32⟩
  | .hbm, ⟨72, _⟩ => ⟨S2048x14336, .i32⟩
  | .hbm, ⟨73, _⟩ => ⟨S32x64x14336, .i32⟩
  | .hbm, ⟨74, _⟩ => ⟨S32x64x14336, .i32⟩
  | .hbm, ⟨75, _⟩ => ⟨S32x64x14336, .i32⟩
  | .hbm, ⟨76, _⟩ => ⟨S32x64x14336, .i32⟩
  | .hbm, ⟨77, _⟩ => ⟨S32x64x14336, .i32⟩
  | .hbm, ⟨78, _⟩ => ⟨S32x64x14336, .i8⟩
  | .hbm, ⟨79, _⟩ => ⟨S2048x14336, .i8⟩
  | .hbm, ⟨80, _⟩ => ⟨S1152x2048, .i8⟩
  | .hbm, ⟨81, _⟩ => ⟨S1152x2048, .i32⟩
  | .hbm, ⟨82, _⟩ => ⟨S1152x2048, .f32⟩
  | .hbm, ⟨83, _⟩ => ⟨S2048x14336, .i32⟩
  | .hbm, ⟨84, _⟩ => ⟨S2048x14336, .f32⟩
  | .hbm, ⟨85, _⟩ => ⟨S1152x14336, .f32⟩
  | .hbm, ⟨86, _⟩ => ⟨S1152x2048, .i8⟩
  | .hbm, ⟨87, _⟩ => ⟨S1152x2048, .i32⟩
  | .hbm, ⟨88, _⟩ => ⟨S1152x2048, .f32⟩
  | .hbm, ⟨89, _⟩ => ⟨S2048x14336, .i32⟩
  | .hbm, ⟨90, _⟩ => ⟨S2048x14336, .f32⟩
  | .hbm, ⟨91, _⟩ => ⟨S1152x14336, .f32⟩
  | .hbm, ⟨92, _⟩ => ⟨S1152x14336, .f32⟩
  | .hbm, ⟨93, _⟩ => ⟨S1152x14336, .f32⟩
  | .hbm, ⟨94, _⟩ => ⟨S1152x14336, .f32⟩
  | .hbm, ⟨95, _⟩ => ⟨S1x14336, .f32⟩
  | .hbm, ⟨96, _⟩ => ⟨S1152x14336, .f32⟩
  | .hbm, ⟨97, _⟩ => ⟨S1152x14336, .f32⟩
  | .hbm, ⟨98, _⟩ => ⟨S1152x14336, .f32⟩
  | .hbm, ⟨99, _⟩ => ⟨S1152x14336, .f32⟩
  | .hbm, ⟨100, _⟩ => ⟨S_, .f32⟩
  | .hbm, ⟨101, _⟩ => ⟨S1152x14336, .f32⟩
  | .hbm, ⟨102, _⟩ => ⟨S1152x14336, .f32⟩
  | .hbm, ⟨103, _⟩ => ⟨S_, .f32⟩
  | .hbm, ⟨104, _⟩ => ⟨S1152x14336, .f32⟩
  | .hbm, ⟨105, _⟩ => ⟨S1152x14336, .f32⟩
  | .hbm, ⟨106, _⟩ => ⟨S1152x14336, .f32⟩
  | .hbm, ⟨107, _⟩ => ⟨S1152x14336, .f32⟩
  | _, _ => ⟨S1152x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_1 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_2 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst : Ref sig .tc := ⟨.hbm, 100, rfl⟩
abbrev main_v86 : Ref sig .tc := ⟨.hbm, 101, rfl⟩
abbrev main_v87 : Ref sig .tc := ⟨.hbm, 102, rfl⟩
abbrev main_cst_3 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩

abbrev nD : Nat := 1
abbrev τ : Topo := Topo.v7x

variable {F : FTy → Type} [FloatOps F]
-- ==== Down.lean ====
abbrev S1152x14336 : Shape := ⟨2, ![1152, 14336]⟩
abbrev S1152x1 : Shape := ⟨2, ![1152, 1]⟩
abbrev S1152x4096 : Shape := ⟨2, ![1152, 4096]⟩
abbrev S7168x4096 : Shape := ⟨2, ![7168, 4096]⟩
abbrev S112x4096 : Shape := ⟨2, ![112, 4096]⟩
abbrev S4096 : Shape := ⟨1, ![4096]⟩
abbrev S1x4096 : Shape := ⟨2, ![1, 4096]⟩
abbrev S1152x2048 : Shape := ⟨2, ![1152, 2048]⟩
abbrev S1152x512 : Shape := ⟨2, ![1152, 512]⟩
abbrev S1024x512 : Shape := ⟨2, ![1024, 512]⟩
abbrev S112x512 : Shape := ⟨2, ![112, 512]⟩
abbrev S1x512 : Shape := ⟨2, ![1, 512]⟩
abbrev S2048x512 : Shape := ⟨2, ![2048, 512]⟩
abbrev S16x512 : Shape := ⟨2, ![16, 512]⟩
abbrev S64x512 : Shape := ⟨2, ![64, 512]⟩
abbrev S128x512 : Shape := ⟨2, ![128, 512]⟩

abbrev nBuf : Space → Nat
  | .hbm => 11
  | .vmem => 17
  | .smem => 0
  | _ => 0

abbrev bufTy : (tb : Table) → Fin (tcTables nBuf tb) → BufTy
  | .hbm, ⟨0, _⟩ => ⟨S1152x14336, .i8⟩
  | .hbm, ⟨1, _⟩ => ⟨S1152x1, .f32⟩
  | .hbm, ⟨2, _⟩ => ⟨S1152x4096, .f32⟩
  | .hbm, ⟨3, _⟩ => ⟨S7168x4096, .i8⟩
  | .hbm, ⟨4, _⟩ => ⟨S112x4096, .i8⟩
  | .hbm, ⟨5, _⟩ => ⟨S112x4096, .i8⟩
  | .hbm, ⟨6, _⟩ => ⟨S4096, .f32⟩
  | .hbm, ⟨7, _⟩ => ⟨S1x4096, .f32⟩
  | .hbm, ⟨8, _⟩ => ⟨S112x4096, .i32⟩
  | .hbm, ⟨9, _⟩ => ⟨S112x4096, .i32⟩
  | .hbm, ⟨10, _⟩ => ⟨S1152x4096, .bf16⟩
  | .local _ .vmem, ⟨0, _⟩ => ⟨S1152x2048, .i8⟩
  | .local _ .vmem, ⟨1, _⟩ => ⟨S1152x2048, .i8⟩
  | .local _ .vmem, ⟨2, _⟩ => ⟨S1152x1, .f32⟩
  | .local _ .vmem, ⟨3, _⟩ => ⟨S1152x512, .f32⟩
  | .local _ .vmem, ⟨4, _⟩ => ⟨S1152x512, .f32⟩
  | .local _ .vmem, ⟨5, _⟩ => ⟨S1024x512, .i8⟩
  | .local _ .vmem, ⟨6, _⟩ => ⟨S1024x512, .i8⟩
  | .local _ .vmem, ⟨7, _⟩ => ⟨S112x512, .i32⟩
  | .local _ .vmem, ⟨8, _⟩ => ⟨S112x512, .i32⟩
  | .local _ .vmem, ⟨9, _⟩ => ⟨S112x512, .i32⟩
  | .local _ .vmem, ⟨10, _⟩ => ⟨S112x512, .i32⟩
  | .local _ .vmem, ⟨11, _⟩ => ⟨S1x512, .f32⟩
  | .local _ .vmem, ⟨12, _⟩ => ⟨S1x512, .f32⟩
  | .local _ .vmem, ⟨13, _⟩ => ⟨S1152x512, .bf16⟩
  | .local _ .vmem, ⟨14, _⟩ => ⟨S1152x512, .bf16⟩
  | .local _ .vmem, ⟨15, _⟩ => ⟨S2048x512, .bf16⟩
  | .local _ .vmem, ⟨16, _⟩ => ⟨S1152x512, .f32⟩
  | _, _ => ⟨S1152x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 7], ![false, false]⟩

def k0_off1 (i : grid0.Coords) : Fin 2 → Nat :=
  let arg1 : BitVec 32 := BitVec.ofNat 32 (i 1).val
  let c16_i32 : BitVec 32 := 16#32
  let v0 : BitVec 32 := Scalar.muli arg1 c16_i32
  let v1 : Index := Scalar.indexCast v0
  let c0 : Index := 0#32
  ![v1.toNat, 0]
def k0_cond3 (i : grid0.Coords) : BitVec 1 :=
  let arg1 : BitVec 32 := BitVec.ofNat 32 (i 1).val
  let c6_i32 : BitVec 32 := 6#32
  let v460 : BitVec 1 := Scalar.cmpi .eq arg1 c6_i32
  let v461 : BitVec 32 := Scalar.extui v460
  let c0_i32_144 : BitVec 32 := 0#32
  let v462 : BitVec 1 := Scalar.cmpi .ne v461 c0_i32_144
  v462

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1152x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S112x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S112x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1152x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownRefIdeal.lean ====
abbrev S1152x14336 : Shape := ⟨2, ![1152, 14336]⟩
abbrev S1152x1 : Shape := ⟨2, ![1152, 1]⟩
abbrev S1152x4096 : Shape := ⟨2, ![1152, 4096]⟩
abbrev S7168x4096 : Shape := ⟨2, ![7168, 4096]⟩
abbrev S112x4096 : Shape := ⟨2, ![112, 4096]⟩
abbrev S4096 : Shape := ⟨1, ![4096]⟩
abbrev S112x1x4096 : Shape := ⟨3, ![112, 1, 4096]⟩
abbrev S_ : Shape := ⟨0, ![]⟩
abbrev S112x64x4096 : Shape := ⟨3, ![112, 64, 4096]⟩
abbrev S1152x7168 : Shape := ⟨2, ![1152, 7168]⟩
abbrev S1x4096 : Shape := ⟨2, ![1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S1152x14336, .i8⟩
  | .hbm, ⟨1, _⟩ => ⟨S1152x1, .f32⟩
  | .hbm, ⟨2, _⟩ => ⟨S1152x4096, .f32⟩
  | .hbm, ⟨3, _⟩ => ⟨S7168x4096, .i8⟩
  | .hbm, ⟨4, _⟩ => ⟨S112x4096, .i8⟩
  | .hbm, ⟨5, _⟩ => ⟨S112x4096, .i8⟩
  | .hbm, ⟨6, _⟩ => ⟨S4096, .f32⟩
  | .hbm, ⟨7, _⟩ => ⟨S112x4096, .i32⟩
  | .hbm, ⟨8, _⟩ => ⟨S112x1x4096, .i32⟩
  | .hbm, ⟨9, _⟩ => ⟨S112x4096, .i32⟩
  | .hbm, ⟨10, _⟩ => ⟨S112x1x4096, .i32⟩
  | .hbm, ⟨11, _⟩ => ⟨S7168x4096, .i32⟩
  | .hbm, ⟨12, _⟩ => ⟨S_, .i32⟩
  | .hbm, ⟨13, _⟩ => ⟨S7168x4096, .i32⟩
  | .hbm, ⟨14, _⟩ => ⟨S7168x4096, .i32⟩
  | .hbm, ⟨15, _⟩ => ⟨S112x64x4096, .i32⟩
  | .hbm, ⟨16, _⟩ => ⟨S112x64x4096, .i32⟩
  | .hbm, ⟨17, _⟩ => ⟨S112x64x4096, .i32⟩
  | .hbm, ⟨18, _⟩ => ⟨S112x64x4096, .i32⟩
  | .hbm, ⟨19, _⟩ => ⟨S112x64x4096, .i32⟩
  | .hbm, ⟨20, _⟩ => ⟨S112x64x4096, .i8⟩
  | .hbm, ⟨21, _⟩ => ⟨S7168x4096, .i8⟩
  | .hbm, ⟨22, _⟩ => ⟨S7168x4096, .i32⟩
  | .hbm, ⟨23, _⟩ => ⟨S_, .i32⟩
  | .hbm, ⟨24, _⟩ => ⟨S7168x4096, .i32⟩
  | .hbm, ⟨25, _⟩ => ⟨S7168x4096, .i32⟩
  | .hbm, ⟨26, _⟩ => ⟨S112x64x4096, .i32⟩
  | .hbm, ⟨27, _⟩ => ⟨S112x64x4096, .i32⟩
  | .hbm, ⟨28, _⟩ => ⟨S112x64x4096, .i32⟩
  | .hbm, ⟨29, _⟩ => ⟨S112x64x4096, .i32⟩
  | .hbm, ⟨30, _⟩ => ⟨S112x64x4096, .i32⟩
  | .hbm, ⟨31, _⟩ => ⟨S112x64x4096, .i8⟩
  | .hbm, ⟨32, _⟩ => ⟨S7168x4096, .i8⟩
  | .hbm, ⟨33, _⟩ => ⟨S1152x7168, .i8⟩
  | .hbm, ⟨34, _⟩ => ⟨S1152x7168, .i32⟩
  | .hbm, ⟨35, _⟩ => ⟨S1152x7168, .f32⟩
  | .hbm, ⟨36, _⟩ => ⟨S7168x4096, .i32⟩
  | .hbm, ⟨37, _⟩ => ⟨S7168x4096, .f32⟩
  | .hbm, ⟨38, _⟩ => ⟨S1152x4096, .f32⟩
  | .hbm, ⟨39, _⟩ => ⟨S1152x7168, .i8⟩
  | .hbm, ⟨40, _⟩ => ⟨S1152x7168, .i32⟩
  | .hbm, ⟨41, _⟩ => ⟨S1152x7168, .f32⟩
  | .hbm, ⟨42, _⟩ => ⟨S7168x4096, .i32⟩
  | .hbm, ⟨43, _⟩ => ⟨S7168x4096, .f32⟩
  | .hbm, ⟨44, _⟩ => ⟨S1152x4096, .f32⟩
  | .hbm, ⟨45, _⟩ => ⟨S1152x4096, .f32⟩
  | .hbm, ⟨46, _⟩ => ⟨S1152x4096, .f32⟩
  | .hbm, ⟨47, _⟩ => ⟨S1152x4096, .f32⟩
  | .hbm, ⟨48, _⟩ => ⟨S1x4096, .f32⟩
  | .hbm, ⟨49, _⟩ => ⟨S1152x4096, .f32⟩
  | .hbm, ⟨50, _⟩ => ⟨S1152x4096, .f32⟩
  | .hbm, ⟨51, _⟩ => ⟨S1152x4096, .f32⟩
  | .hbm, ⟨52, _⟩ => ⟨S1152x4096, .bf16⟩
  | _, _ => ⟨S1152x14336, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== OProj.lean ====
abbrev S1152x4096 : Shape := ⟨2, ![1152, 4096]⟩
abbrev S1152x1 : Shape := ⟨2, ![1152, 1]⟩
abbrev S2048x4096 : Shape := ⟨2, ![2048, 4096]⟩
abbrev S32x4096 : Shape := ⟨2, ![32, 4096]⟩
abbrev S4096 : Shape := ⟨1, ![4096]⟩
abbrev S1x4096 : Shape := ⟨2, ![1, 4096]⟩
abbrev S1152x512 : Shape := ⟨2, ![1152, 512]⟩
abbrev S2048x512 : Shape := ⟨2, ![2048, 512]⟩
abbrev S32x512 : Shape := ⟨2, ![32, 512]⟩
abbrev S1x512 : Shape := ⟨2, ![1, 512]⟩
abbrev S4096x512 : Shape := ⟨2, ![4096, 512]⟩
abbrev S64x512 : Shape := ⟨2, ![64, 512]⟩
abbrev S128x512 : Shape := ⟨2, ![128, 512]⟩

abbrev nBuf : Space → Nat
  | .hbm => 9
  | .vmem => 16
  | .smem => 0
  | _ => 0

abbrev bufTy : (tb : Table) → Fin (tcTables nBuf tb) → BufTy
  | .hbm, ⟨0, _⟩ => ⟨S1152x4096, .i8⟩
  | .hbm, ⟨1, _⟩ => ⟨S1152x1, .f32⟩
  | .hbm, ⟨2, _⟩ => ⟨S1152x4096, .bf16⟩
  | .hbm, ⟨3, _⟩ => ⟨S2048x4096, .i8⟩
  | .hbm, ⟨4, _⟩ => ⟨S32x4096, .i8⟩
  | .hbm, ⟨5, _⟩ => ⟨S32x4096, .i8⟩
  | .hbm, ⟨6, _⟩ => ⟨S4096, .f32⟩
  | .hbm, ⟨7, _⟩ => ⟨S1x4096, .f32⟩
  | .hbm, ⟨8, _⟩ => ⟨S1152x4096, .f32⟩
  | .local _ .vmem, ⟨0, _⟩ => ⟨S1152x4096, .i8⟩
  | .local _ .vmem, ⟨1, _⟩ => ⟨S1152x1, .f32⟩
  | .local _ .vmem, ⟨2, _⟩ => ⟨S1152x512, .bf16⟩
  | .local _ .vmem, ⟨3, _⟩ => ⟨S1152x512, .bf16⟩
  | .local _ .vmem, ⟨4, _⟩ => ⟨S2048x512, .i8⟩
  | .local _ .vmem, ⟨5, _⟩ => ⟨S2048x512, .i8⟩
  | .local _ .vmem, ⟨6, _⟩ => ⟨S32x512, .i8⟩
  | .local _ .vmem, ⟨7, _⟩ => ⟨S32x512, .i8⟩
  | .local _ .vmem, ⟨8, _⟩ => ⟨S32x512, .i8⟩
  | .local _ .vmem, ⟨9, _⟩ => ⟨S32x512, .i8⟩
  | .local _ .vmem, ⟨10, _⟩ => ⟨S1x512, .f32⟩
  | .local _ .vmem, ⟨11, _⟩ => ⟨S1x512, .f32⟩
  | .local _ .vmem, ⟨12, _⟩ => ⟨S1152x512, .f32⟩
  | .local _ .vmem, ⟨13, _⟩ => ⟨S1152x512, .f32⟩
  | .local _ .vmem, ⟨14, _⟩ => ⟨S4096x512, .bf16⟩
  | .local _ .vmem, ⟨15, _⟩ => ⟨S1152x4096, .bf16⟩
  | _, _ => ⟨S1152x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OProjRefIdeal.lean ====
abbrev S1152x4096 : Shape := ⟨2, ![1152, 4096]⟩
abbrev S1152x1 : Shape := ⟨2, ![1152, 1]⟩
abbrev S2048x4096 : Shape := ⟨2, ![2048, 4096]⟩
abbrev S32x4096 : Shape := ⟨2, ![32, 4096]⟩
abbrev S4096 : Shape := ⟨1, ![4096]⟩
abbrev S32x1x4096 : Shape := ⟨3, ![32, 1, 4096]⟩
abbrev S_ : Shape := ⟨0, ![]⟩
abbrev S32x64x4096 : Shape := ⟨3, ![32, 64, 4096]⟩
abbrev S1152x2048 : Shape := ⟨2, ![1152, 2048]⟩
abbrev S1x4096 : Shape := ⟨2, ![1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S1152x4096, .i8⟩
  | .hbm, ⟨1, _⟩ => ⟨S1152x1, .f32⟩
  | .hbm, ⟨2, _⟩ => ⟨S1152x4096, .bf16⟩
  | .hbm, ⟨3, _⟩ => ⟨S2048x4096, .i8⟩
  | .hbm, ⟨4, _⟩ => ⟨S32x4096, .i8⟩
  | .hbm, ⟨5, _⟩ => ⟨S32x4096, .i8⟩
  | .hbm, ⟨6, _⟩ => ⟨S4096, .f32⟩
  | .hbm, ⟨7, _⟩ => ⟨S1152x4096, .f32⟩
  | .hbm, ⟨8, _⟩ => ⟨S32x4096, .i32⟩
  | .hbm, ⟨9, _⟩ => ⟨S32x1x4096, .i32⟩
  | .hbm, ⟨10, _⟩ => ⟨S32x4096, .i32⟩
  | .hbm, ⟨11, _⟩ => ⟨S32x1x4096, .i32⟩
  | .hbm, ⟨12, _⟩ => ⟨S2048x4096, .i32⟩
  | .hbm, ⟨13, _⟩ => ⟨S_, .i32⟩
  | .hbm, ⟨14, _⟩ => ⟨S2048x4096, .i32⟩
  | .hbm, ⟨15, _⟩ => ⟨S2048x4096, .i32⟩
  | .hbm, ⟨16, _⟩ => ⟨S32x64x4096, .i32⟩
  | .hbm, ⟨17, _⟩ => ⟨S32x64x4096, .i32⟩
  | .hbm, ⟨18, _⟩ => ⟨S32x64x4096, .i32⟩
  | .hbm, ⟨19, _⟩ => ⟨S32x64x4096, .i32⟩
  | .hbm, ⟨20, _⟩ => ⟨S32x64x4096, .i32⟩
  | .hbm, ⟨21, _⟩ => ⟨S32x64x4096, .i8⟩
  | .hbm, ⟨22, _⟩ => ⟨S2048x4096, .i8⟩
  | .hbm, ⟨23, _⟩ => ⟨S2048x4096, .i32⟩
  | .hbm, ⟨24, _⟩ => ⟨S_, .i32⟩
  | .hbm, ⟨25, _⟩ => ⟨S2048x4096, .i32⟩
  | .hbm, ⟨26, _⟩ => ⟨S2048x4096, .i32⟩
  | .hbm, ⟨27, _⟩ => ⟨S32x64x4096, .i32⟩
  | .hbm, ⟨28, _⟩ => ⟨S32x64x4096, .i32⟩
  | .hbm, ⟨29, _⟩ => ⟨S32x64x4096, .i32⟩
  | .hbm, ⟨30, _⟩ => ⟨S32x64x4096, .i32⟩
  | .hbm, ⟨31, _⟩ => ⟨S32x64x4096, .i32⟩
  | .hbm, ⟨32, _⟩ => ⟨S32x64x4096, .i8⟩
  | .hbm, ⟨33, _⟩ => ⟨S2048x4096, .i8⟩
  | .hbm, ⟨34, _⟩ => ⟨S1152x2048, .i8⟩
  | .hbm, ⟨35, _⟩ => ⟨S1152x2048, .i32⟩
  | .hbm, ⟨36, _⟩ => ⟨S1152x2048, .f32⟩
  | .hbm, ⟨37, _⟩ => ⟨S2048x4096, .i32⟩
  | .hbm, ⟨38, _⟩ => ⟨S2048x4096, .f32⟩
  | .hbm, ⟨39, _⟩ => ⟨S1152x4096, .f32⟩
  | .hbm, ⟨40, _⟩ => ⟨S1152x2048, .i8⟩
  | .hbm, ⟨41, _⟩ => ⟨S1152x2048, .i32⟩
  | .hbm, ⟨42, _⟩ => ⟨S1152x2048, .f32⟩
  | .hbm, ⟨43, _⟩ => ⟨S2048x4096, .i32⟩
  | .hbm, ⟨44, _⟩ => ⟨S2048x4096, .f32⟩
  | .hbm, ⟨45, _⟩ => ⟨S1152x4096, .f32⟩
  | .hbm, ⟨46, _⟩ => ⟨S1152x4096, .f32⟩
  | .hbm, ⟨47, _⟩ => ⟨S1152x4096, .f32⟩
  | .hbm, ⟨48, _⟩ => ⟨S1152x4096, .f32⟩
  | .hbm, ⟨49, _⟩ => ⟨S1x4096, .f32⟩
  | .hbm, ⟨50, _⟩ => ⟨S1152x4096, .f32⟩
  | .hbm, ⟨51, _⟩ => ⟨S1152x4096, .f32⟩
  | .hbm, ⟨52, _⟩ => ⟨S1152x4096, .f32⟩
  | _, _ => ⟨S1152x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== RmsQuantX.lean ====
abbrev S1152x4096 : Shape := ⟨2, ![1152, 4096]⟩
abbrev S4096 : Shape := ⟨1, ![4096]⟩
abbrev S1x4096 : Shape := ⟨2, ![1, 4096]⟩
abbrev S1152x1 : Shape := ⟨2, ![1152, 1]⟩
abbrev S128x4096 : Shape := ⟨2, ![128, 4096]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S1152x4096, .bf16⟩
  | .hbm, ⟨1, _⟩ => ⟨S4096, .f32⟩
  | .hbm, ⟨2, _⟩ => ⟨S1x4096, .f32⟩
  | .hbm, ⟨3, _⟩ => ⟨S1152x4096, .i8⟩
  | .hbm, ⟨4, _⟩ => ⟨S1152x1, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S128x4096, .i8⟩
  | .local _ .vmem, ⟨4, _⟩ => ⟨S128x4096, .i8⟩
  | .local _ .vmem, ⟨5, _⟩ => ⟨S128x1, .f32⟩
  | .local _ .vmem, ⟨6, _⟩ => ⟨S128x1, .f32⟩
  | _, _ => ⟨S1152x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsQuantXIdeal.lean ====
abbrev S1152x4096 : Shape := ⟨2, ![1152, 4096]⟩
abbrev S4096 : Shape := ⟨1, ![4096]⟩
abbrev S1x4096 : Shape := ⟨2, ![1, 4096]⟩
abbrev S1152x1 : Shape := ⟨2, ![1152, 1]⟩
abbrev S128x4096 : Shape := ⟨2, ![128, 4096]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S1152x4096, .bf16⟩
  | .hbm, ⟨1, _⟩ => ⟨S4096, .f32⟩
  | .hbm, ⟨2, _⟩ => ⟨S1x4096, .f32⟩
  | .hbm, ⟨3, _⟩ => ⟨S1152x4096, .i8⟩
  | .hbm, ⟨4, _⟩ => ⟨S1152x1, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S128x4096, .i8⟩
  | .local _ .vmem, ⟨4, _⟩ => ⟨S128x4096, .i8⟩
  | .local _ .vmem, ⟨5, _⟩ => ⟨S128x1, .f32⟩
  | .local _ .vmem, ⟨6, _⟩ => ⟨S128x1, .f32⟩
  | _, _ => ⟨S1152x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsQuantXRefIdeal.lean ====
abbrev S1152x4096 : Shape := ⟨2, ![1152, 4096]⟩
abbrev S4096 : Shape := ⟨1, ![4096]⟩
abbrev S_ : Shape := ⟨0, ![]⟩
abbrev S1152 : Shape := ⟨1, ![1152]⟩
abbrev S1152x1 : Shape := ⟨2, ![1152, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S1152x4096, .bf16⟩
  | .hbm, ⟨1, _⟩ => ⟨S4096, .f32⟩
  | .hbm, ⟨2, _⟩ => ⟨S1152x4096, .f32⟩
  | .hbm, ⟨3, _⟩ => ⟨S1152x4096, .f32⟩
  | .hbm, ⟨4, _⟩ => ⟨S_, .f32⟩
  | .hbm, ⟨5, _⟩ => ⟨S1152, .f32⟩
  | .hbm, ⟨6, _⟩ => ⟨S1152x1, .f32⟩
  | .hbm, ⟨7, _⟩ => ⟨S_, .f32⟩
  | .hbm, ⟨8, _⟩ => ⟨S1152x1, .f32⟩
  | .hbm, ⟨9, _⟩ => ⟨S1152x1, .f32⟩
  | .hbm, ⟨10, _⟩ => ⟨S_, .f32⟩
  | .hbm, ⟨11, _⟩ => ⟨S1152x1, .f32⟩
  | .hbm, ⟨12, _⟩ => ⟨S1152x1, .f32⟩
  | .hbm, ⟨13, _⟩ => ⟨S1152x1, .f32⟩
  | .hbm, ⟨14, _⟩ => ⟨S1152x4096, .f32⟩
  | .hbm, ⟨15, _⟩ => ⟨S1152x4096, .f32⟩
  | .hbm, ⟨16, _⟩ => ⟨S1x4096, .f32⟩
  | .hbm, ⟨17, _⟩ => ⟨S1152x4096, .f32⟩
  | .hbm, ⟨18, _⟩ => ⟨S1152x4096, .f32⟩
  | .hbm, ⟨19, _⟩ => ⟨S1152x4096, .f32⟩
  | .hbm, ⟨20, _⟩ => ⟨S_, .f32⟩
  | .hbm, ⟨21, _⟩ => ⟨S1152, .f32⟩
  | .hbm, ⟨22, _⟩ => ⟨S_, .f32⟩
  | .hbm, ⟨23, _⟩ => ⟨S1152, .f32⟩
  | .hbm, ⟨24, _⟩ => ⟨S1152, .i1⟩
  | .hbm, ⟨25, _⟩ => ⟨S_, .f32⟩
  | .hbm, ⟨26, _⟩ => ⟨S1152, .f32⟩
  | .hbm, ⟨27, _⟩ => ⟨S1152, .f32⟩
  | .hbm, ⟨28, _⟩ => ⟨S_, .f32⟩
  | .hbm, ⟨29, _⟩ => ⟨S_, .f32⟩
  | .hbm, ⟨30, _⟩ => ⟨S1152, .f32⟩
  | .hbm, ⟨31, _⟩ => ⟨S1152, .f32⟩
  | .hbm, ⟨32, _⟩ => ⟨S1152x1, .f32⟩
  | .hbm, ⟨33, _⟩ => ⟨S1152x4096, .f32⟩
  | .hbm, ⟨34, _⟩ => ⟨S1152x4096, .f32⟩
  | .hbm, ⟨35, _⟩ => ⟨S1152x4096, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S1152x4096, .f32⟩
  | .hbm, ⟨40, _⟩ => ⟨S1152x4096, .f32⟩
  | .hbm, ⟨41, _⟩ => ⟨S_, .f32⟩
  | .hbm, ⟨42, _⟩ => ⟨S1152x4096, .f32⟩
  | .hbm, ⟨43, _⟩ => ⟨S1152x4096, .f32⟩
  | .hbm, ⟨44, _⟩ => ⟨S1152x4096, .i32⟩
  | .hbm, ⟨45, _⟩ => ⟨S1152x4096, .i8⟩
  | .hbm, ⟨46, _⟩ => ⟨S1152x1, .f32⟩
  | _, _ => ⟨S1152x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== RmsQuantH.lean ====
abbrev S1152x4096 : Shape := ⟨2, ![1152, 4096]⟩
abbrev S4096 : Shape := ⟨1, ![4096]⟩
abbrev S1x4096 : Shape := ⟨2, ![1, 4096]⟩
abbrev S1152x1 : Shape := ⟨2, ![1152, 1]⟩
abbrev S128x4096 : Shape := ⟨2, ![128, 4096]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S1152x4096, .f32⟩
  | .hbm, ⟨1, _⟩ => ⟨S4096, .f32⟩
  | .hbm, ⟨2, _⟩ => ⟨S1x4096, .f32⟩
  | .hbm, ⟨3, _⟩ => ⟨S1152x4096, .i8⟩
  | .hbm, ⟨4, _⟩ => ⟨S1152x1, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .i8⟩
  | .local _ .vmem, ⟨4, _⟩ => ⟨S128x4096, .i8⟩
  | .local _ .vmem, ⟨5, _⟩ => ⟨S128x1, .f32⟩
  | .local _ .vmem, ⟨6, _⟩ => ⟨S128x1, .f32⟩
  | _, _ => ⟨S1152x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsQuantHRefIdeal.lean ====
abbrev S1152x4096 : Shape := ⟨2, ![1152, 4096]⟩
abbrev S4096 : Shape := ⟨1, ![4096]⟩
abbrev S_ : Shape := ⟨0, ![]⟩
abbrev S1152 : Shape := ⟨1, ![1152]⟩
abbrev S1152x1 : Shape := ⟨2, ![1152, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S1152x4096, .f32⟩
  | .hbm, ⟨1, _⟩ => ⟨S4096, .f32⟩
  | .hbm, ⟨2, _⟩ => ⟨S1152x4096, .f32⟩
  | .hbm, ⟨3, _⟩ => ⟨S_, .f32⟩
  | .hbm, ⟨4, _⟩ => ⟨S1152, .f32⟩
  | .hbm, ⟨5, _⟩ => ⟨S1152x1, .f32⟩
  | .hbm, ⟨6, _⟩ => ⟨S_, .f32⟩
  | .hbm, ⟨7, _⟩ => ⟨S1152x1, .f32⟩
  | .hbm, ⟨8, _⟩ => ⟨S1152x1, .f32⟩
  | .hbm, ⟨9, _⟩ => ⟨S_, .f32⟩
  | .hbm, ⟨10, _⟩ => ⟨S1152x1, .f32⟩
  | .hbm, ⟨11, _⟩ => ⟨S1152x1, .f32⟩
  | .hbm, ⟨12, _⟩ => ⟨S1152x1, .f32⟩
  | .hbm, ⟨13, _⟩ => ⟨S1152x4096, .f32⟩
  | .hbm, ⟨14, _⟩ => ⟨S1152x4096, .f32⟩
  | .hbm, ⟨15, _⟩ => ⟨S1x4096, .f32⟩
  | .hbm, ⟨16, _⟩ => ⟨S1152x4096, .f32⟩
  | .hbm, ⟨17, _⟩ => ⟨S1152x4096, .f32⟩
  | .hbm, ⟨18, _⟩ => ⟨S1152x4096, .f32⟩
  | .hbm, ⟨19, _⟩ => ⟨S_, .f32⟩
  | .hbm, ⟨20, _⟩ => ⟨S1152, .f32⟩
  | .hbm, ⟨21, _⟩ => ⟨S_, .f32⟩
  | .hbm, ⟨22, _⟩ => ⟨S1152, .f32⟩
  | .hbm, ⟨23, _⟩ => ⟨S1152, .i1⟩
  | .hbm, ⟨24, _⟩ => ⟨S_, .f32⟩
  | .hbm, ⟨25, _⟩ => ⟨S1152, .f32⟩
  | .hbm, ⟨26, _⟩ => ⟨S1152, .f32⟩
  | .hbm, ⟨27, _⟩ => ⟨S_, .f32⟩
  | .hbm, ⟨28, _⟩ => ⟨S_, .f32⟩
  | .hbm, ⟨29, _⟩ => ⟨S1152, .f32⟩
  | .hbm, ⟨30, _⟩ => ⟨S1152, .f32⟩
  | .hbm, ⟨31, _⟩ => ⟨S1152x1, .f32⟩
  | .hbm, ⟨32, _⟩ => ⟨S1152x4096, .f32⟩
  | .hbm, ⟨33, _⟩ => ⟨S1152x4096, .f32⟩
  | .hbm, ⟨34, _⟩ => ⟨S1152x4096, .f32⟩
  | .hbm, ⟨35, _⟩ => ⟨S_, .i32⟩
  | .hbm, ⟨36, _⟩ => ⟨S_, .i32⟩
  | .hbm, ⟨37, _⟩ => ⟨S_, .f32⟩
  | .hbm, ⟨38, _⟩ => ⟨S1152x4096, .f32⟩
  | .hbm, ⟨39, _⟩ => ⟨S1152x4096, .f32⟩
  | .hbm, ⟨40, _⟩ => ⟨S_, .f32⟩
  | .hbm, ⟨41, _⟩ => ⟨S1152x4096, .f32⟩
  | .hbm, ⟨42, _⟩ => ⟨S1152x4096, .f32⟩
  | .hbm, ⟨43, _⟩ => ⟨S1152x4096, .i32⟩
  | .hbm, ⟨44, _⟩ => ⟨S1152x4096, .i8⟩
  | .hbm, ⟨45, _⟩ => ⟨S1152x1, .f32⟩
  | _, _ => ⟨S1152x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_c_6 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== RowQuantAttn.lean ====
abbrev S1152x4096 : Shape := ⟨2, ![1152, 4096]⟩
abbrev S1152x1 : Shape := ⟨2, ![1152, 1]⟩
abbrev S128x4096 : Shape := ⟨2, ![128, 4096]⟩
abbrev S128x1 : Shape := ⟨2, ![128, 1]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S1152x4096, .f32⟩
  | .hbm, ⟨1, _⟩ => ⟨S1152x4096, .i8⟩
  | .hbm, ⟨2, _⟩ => ⟨S1152x1, .f32⟩
  | .local _ .vmem, ⟨0, _⟩ => ⟨S128x4096, .f32⟩
  | .local _ .vmem, ⟨1, _⟩ => ⟨S128x4096, .f32⟩
  | .local _ .vmem, ⟨2, _⟩ => ⟨S128x4096, .i8⟩
  | .local _ .vmem, ⟨3, _⟩ => ⟨S128x4096, .i8⟩
  | .local _ .vmem, ⟨4, _⟩ => ⟨S128x1, .f32⟩
  | .local _ .vmem, ⟨5, _⟩ => ⟨S128x1, .f32⟩
  | _, _ => ⟨S1152x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowQuantAttnRefIdeal.lean ====
abbrev S1152x4096 : Shape := ⟨2, ![1152, 4096]⟩
abbrev S_ : Shape := ⟨0, ![]⟩
abbrev S1152 : Shape := ⟨1, ![1152]⟩
abbrev S1152x1 : Shape := ⟨2, ![1152, 1]⟩

abbrev nBuf : Space → Nat
  | .hbm => 29
  | .vmem => 0
  | .smem => 0
  | _ => 0

abbrev bufTy : (tb : Table) → Fin (tcTables nBuf tb) → BufTy
  | .hbm, ⟨0, _⟩ => ⟨S1152x4096, .f32⟩
  | .hbm, ⟨1, _⟩ => ⟨S1152x4096, .f32⟩
  | .hbm, ⟨2, _⟩ => ⟨S_, .f32⟩
  | .hbm, ⟨3, _⟩ => ⟨S1152, .f32⟩
  | .hbm, ⟨4, _⟩ => ⟨S_, .f32⟩
  | .hbm, ⟨5, _⟩ => ⟨S1152, .f32⟩
  | .hbm, ⟨6, _⟩ => ⟨S1152, .i1⟩
  | .hbm, ⟨7, _⟩ => ⟨S_, .f32⟩
  | .hbm, ⟨8, _⟩ => ⟨S1152, .f32⟩
  | .hbm, ⟨9, _⟩ => ⟨S1152, .f32⟩
  | .hbm, ⟨10, _⟩ => ⟨S_, .f32⟩
  | .hbm, ⟨11, _⟩ => ⟨S_, .f32⟩
  | .hbm, ⟨12, _⟩ => ⟨S1152, .f32⟩
  | .hbm, ⟨13, _⟩ => ⟨S1152, .f32⟩
  | .hbm, ⟨14, _⟩ => ⟨S1152x1, .f32⟩
  | .hbm, ⟨15, _⟩ => ⟨S1152x4096, .f32⟩
  | .hbm, ⟨16, _⟩ => ⟨S1152x4096, .f32⟩
  | .hbm, ⟨17, _⟩ => ⟨S1152x4096, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S1152x4096, .f32⟩
  | .hbm, ⟨22, _⟩ => ⟨S1152x4096, .f32⟩
  | .hbm, ⟨23, _⟩ => ⟨S_, .f32⟩
  | .hbm, ⟨24, _⟩ => ⟨S1152x4096, .f32⟩
  | .hbm, ⟨25, _⟩ => ⟨S1152x4096, .f32⟩
  | .hbm, ⟨26, _⟩ => ⟨S1152x4096, .i32⟩
  | .hbm, ⟨27, _⟩ => ⟨S1152x4096, .i8⟩
  | .hbm, ⟨28, _⟩ => ⟨S1152x1, .f32⟩
  | _, _ => ⟨S1152x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_c_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== RowQuantMlp.lean ====
abbrev S1152x14336 : Shape := ⟨2, ![1152, 14336]⟩
abbrev S1152x1 : Shape := ⟨2, ![1152, 1]⟩
abbrev S64x14336 : Shape := ⟨2, ![64, 14336]⟩
abbrev S64x1 : Shape := ⟨2, ![64, 1]⟩
abbrev S64 : Shape := ⟨1, ![64]⟩

abbrev nBuf : Space → Nat
  | .hbm => 3
  | .vmem => 6
  | .smem => 0
  | _ => 0

abbrev bufTy : (tb : Table) → Fin (tcTables nBuf tb) → BufTy
  | .hbm, ⟨0, _⟩ => ⟨S1152x14336, .f32⟩
  | .hbm, ⟨1, _⟩ => ⟨S1152x14336, .i8⟩
  | .hbm, ⟨2, _⟩ => ⟨S1152x1, .f32⟩
  | .local _ .vmem, ⟨0, _⟩ => ⟨S64x14336, .f32⟩
  | .local _ .vmem, ⟨1, _⟩ => ⟨S64x14336, .f32⟩
  | .local _ .vmem, ⟨2, _⟩ => ⟨S64x14336, .i8⟩
  | .local _ .vmem, ⟨3, _⟩ => ⟨S64x14336, .i8⟩
  | .local _ .vmem, ⟨4, _⟩ => ⟨S64x1, .f32⟩
  | .local _ .vmem, ⟨5, _⟩ => ⟨S64x1, .f32⟩
  | _, _ => ⟨S1152x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x14336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x14336 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowQuantMlpRefIdeal.lean ====
abbrev S1152x14336 : Shape := ⟨2, ![1152, 14336]⟩
abbrev S_ : Shape := ⟨0, ![]⟩
abbrev S1152 : Shape := ⟨1, ![1152]⟩
abbrev S1152x1 : Shape := ⟨2, ![1152, 1]⟩

abbrev nBuf : Space → Nat
  | .hbm => 29
  | .vmem => 0
  | .smem => 0
  | _ => 0

abbrev bufTy : (tb : Table) → Fin (tcTables nBuf tb) → BufTy
  | .hbm, ⟨0, _⟩ => ⟨S1152x14336, .f32⟩
  | .hbm, ⟨1, _⟩ => ⟨S1152x14336, .f32⟩
  | .hbm, ⟨2, _⟩ => ⟨S_, .f32⟩
  | .hbm, ⟨3, _⟩ => ⟨S1152, .f32⟩
  | .hbm, ⟨4, _⟩ => ⟨S_, .f32⟩
  | .hbm, ⟨5, _⟩ => ⟨S1152, .f32⟩
  | .hbm, ⟨6, _⟩ => ⟨S1152, .i1⟩
  | .hbm, ⟨7, _⟩ => ⟨S_, .f32⟩
  | .hbm, ⟨8, _⟩ => ⟨S1152, .f32⟩
  | .hbm, ⟨9, _⟩ => ⟨S1152, .f32⟩
  | .hbm, ⟨10, _⟩ => ⟨S_, .f32⟩
  | .hbm, ⟨11, _⟩ => ⟨S_, .f32⟩
  | .hbm, ⟨12, _⟩ => ⟨S1152, .f32⟩
  | .hbm, ⟨13, _⟩ => ⟨S1152, .f32⟩
  | .hbm, ⟨14, _⟩ => ⟨S1152x1, .f32⟩
  | .hbm, ⟨15, _⟩ => ⟨S1152x14336, .f32⟩
  | .hbm, ⟨16, _⟩ => ⟨S1152x14336, .f32⟩
  | .hbm, ⟨17, _⟩ => ⟨S1152x14336, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S1152x14336, .f32⟩
  | .hbm, ⟨22, _⟩ => ⟨S1152x14336, .f32⟩
  | .hbm, ⟨23, _⟩ => ⟨S_, .f32⟩
  | .hbm, ⟨24, _⟩ => ⟨S1152x14336, .f32⟩
  | .hbm, ⟨25, _⟩ => ⟨S1152x14336, .f32⟩
  | .hbm, ⟨26, _⟩ => ⟨S1152x14336, .i32⟩
  | .hbm, ⟨27, _⟩ => ⟨S1152x14336, .i8⟩
  | .hbm, ⟨28, _⟩ => ⟨S1152x1, .f32⟩
  | _, _ => ⟨S1152x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_c_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Qkv.lean ====
abbrev S1152x4096 : Shape := ⟨2, ![1152, 4096]⟩
abbrev S1152x1 : Shape := ⟨2, ![1152, 1]⟩
abbrev S1152x64 : Shape := ⟨2, ![1152, 64]⟩
abbrev S8x128 : Shape := ⟨2, ![8, 128]⟩
abbrev S2048x6144 : Shape := ⟨2, ![2048, 6144]⟩
abbrev S32x6144 : Shape := ⟨2, ![32, 6144]⟩
abbrev S6144 : Shape := ⟨1, ![6144]⟩
abbrev S1152x128 : Shape := ⟨2, ![1152, 128]⟩
abbrev S8x4x128 : Shape := ⟨3, ![8, 4, 128]⟩
abbrev S32x128 : Shape := ⟨2, ![32, 128]⟩
abbrev S4096 : Shape := ⟨1, ![4096]⟩
abbrev S1024 : Shape := ⟨1, ![1024]⟩
abbrev S_ : Shape := ⟨0, ![]⟩
abbrev S1x6144 : Shape := ⟨2, ![1, 6144]⟩
abbrev S1152x6144 : Shape := ⟨2, ![1152, 6144]⟩
abbrev S1152x2048 : Shape := ⟨2, ![1152, 2048]⟩
abbrev S4x1152x4 : Shape := ⟨3, ![4, 1152, 4]⟩
abbrev S1x512 : Shape := ⟨2, ![1, 512]⟩
abbrev S2048x512 : Shape := ⟨2, ![2048, 512]⟩
abbrev S32x512 : Shape := ⟨2, ![32, 512]⟩
abbrev S1152x512 : Shape := ⟨2, ![1152, 512]⟩
abbrev S1x1152x4 : Shape := ⟨3, ![1, 1152, 4]⟩
abbrev S4096x512 : Shape := ⟨2, ![4096, 512]⟩
abbrev S64x512 : Shape := ⟨2, ![64, 512]⟩
abbrev S128x512 : Shape := ⟨2, ![128, 512]⟩
abbrev S1x128 : Shape := ⟨2, ![1, 128]⟩
abbrev S1152 : Shape := ⟨1, ![1152]⟩
abbrev S1x1152x1 : Shape := ⟨3, ![1, 1152, 1]⟩

abbrev nBuf : Space → Nat
  | .hbm => 24
  | .vmem => 22
  | .smem => 0
  | _ => 0

abbrev bufTy : (tb : Table) → Fin (tcTables nBuf tb) → BufTy
  | .hbm, ⟨0, _⟩ => ⟨S1152x4096, .i8⟩
  | .hbm, ⟨1, _⟩ => ⟨S1152x1, .f32⟩
  | .hbm, ⟨2, _⟩ => ⟨S1152x64, .f32⟩
  | .hbm, ⟨3, _⟩ => ⟨S1152x64, .f32⟩
  | .hbm, ⟨4, _⟩ => ⟨S8x128, .f32⟩
  | .hbm, ⟨5, _⟩ => ⟨S2048x6144, .i8⟩
  | .hbm, ⟨6, _⟩ => ⟨S32x6144, .i8⟩
  | .hbm, ⟨7, _⟩ => ⟨S32x6144, .i8⟩
  | .hbm, ⟨8, _⟩ => ⟨S6144, .f32⟩
  | .hbm, ⟨9, _⟩ => ⟨S1152x128, .f32⟩
  | .hbm, ⟨10, _⟩ => ⟨S1152x64, .f32⟩
  | .hbm, ⟨11, _⟩ => ⟨S1152x128, .f32⟩
  | .hbm, ⟨12, _⟩ => ⟨S8x4x128, .f32⟩
  | .hbm, ⟨13, _⟩ => ⟨S32x128, .f32⟩
  | .hbm, ⟨14, _⟩ => ⟨S4096, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S6144, .f32⟩
  | .hbm, ⟨19, _⟩ => ⟨S1x6144, .f32⟩
  | .hbm, ⟨20, _⟩ => ⟨S1x6144, .f32⟩
  | .hbm, ⟨21, _⟩ => ⟨S1152x6144, .bf16⟩
  | .hbm, ⟨22, _⟩ => ⟨S1152x2048, .i8⟩
  | .hbm, ⟨23, _⟩ => ⟨S4x1152x4, .f32⟩
  | .local _ .vmem, ⟨0, _⟩ => ⟨S1152x4096, .i8⟩
  | .local _ .vmem, ⟨1, _⟩ => ⟨S1152x1, .f32⟩
  | .local _ .vmem, ⟨2, _⟩ => ⟨S1152x128, .f32⟩
  | .local _ .vmem, ⟨3, _⟩ => ⟨S1152x128, .f32⟩
  | .local _ .vmem, ⟨4, _⟩ => ⟨S1x512, .f32⟩
  | .local _ .vmem, ⟨5, _⟩ => ⟨S1x512, .f32⟩
  | .local _ .vmem, ⟨6, _⟩ => ⟨S2048x512, .i8⟩
  | .local _ .vmem, ⟨7, _⟩ => ⟨S2048x512, .i8⟩
  | .local _ .vmem, ⟨8, _⟩ => ⟨S32x512, .i8⟩
  | .local _ .vmem, ⟨9, _⟩ => ⟨S32x512, .i8⟩
  | .local _ .vmem, ⟨10, _⟩ => ⟨S32x512, .i8⟩
  | .local _ .vmem, ⟨11, _⟩ => ⟨S32x512, .i8⟩
  | .local _ .vmem, ⟨12, _⟩ => ⟨S1x512, .f32⟩
  | .local _ .vmem, ⟨13, _⟩ => ⟨S1x512, .f32⟩
  | .local _ .vmem, ⟨14, _⟩ => ⟨S1152x512, .bf16⟩
  | .local _ .vmem, ⟨15, _⟩ => ⟨S1152x512, .bf16⟩
  | .local _ .vmem, ⟨16, _⟩ => ⟨S1152x512, .i8⟩
  | .local _ .vmem, ⟨17, _⟩ => ⟨S1152x512, .i8⟩
  | .local _ .vmem, ⟨18, _⟩ => ⟨S1x1152x4, .f32⟩
  | .local _ .vmem, ⟨19, _⟩ => ⟨S1x1152x4, .f32⟩
  | .local _ .vmem, ⟨20, _⟩ => ⟨S4096x512, .bf16⟩
  | .local _ .vmem, ⟨21, _⟩ => ⟨S1152x4096, .bf16⟩
  | _, _ => ⟨S1152x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c8_i32 : BitVec 32 := 8#32
  let v894 : BitVec 1 := Scalar.cmpi .slt arg0 c8_i32
  let v895 : BitVec 32 := Scalar.extui v894
  let c0_i32_284 : BitVec 32 := 0#32
  let v896 : BitVec 1 := Scalar.cmpi .ne v895 c0_i32_284
  v896

def k0_cond3 (i : grid0.Coords) : BitVec 1 :=
  let arg0 : BitVec 32 := BitVec.ofNat 32 (i 0).val
  let c8_i32_285 : BitVec 32 := 8#32
  let v897 : BitVec 1 := Scalar.cmpi .sge arg0 c8_i32_285
  let c10_i32 : BitVec 32 := 10#32
  let v898 : BitVec 1 := Scalar.cmpi .slt arg0 c10_i32
  let v899 : BitVec 1 := Scalar.andi v897 v898
  let v900 : BitVec 32 := Scalar.extui v899
  let c0_i32_286 : BitVec 32 := 0#32
  let v901 : BitVec 1 := Scalar.cmpi .ne v900 c0_i32_286
  v901

def k0_cond4 (i : grid0.Coords) : BitVec 1 :=
  let arg0 : BitVec 32 := BitVec.ofNat 32 (i 0).val
  let c10_i32_287 : BitVec 32 := 10#32
  let v902 : BitVec 1 := Scalar.cmpi .sge arg0 c10_i32_287
  let v903 : BitVec 32 := Scalar.extui v902
  let c0_i32_288 : BitVec 32 := 0#32
  let v904 : BitVec 1 := Scalar.cmpi .ne v903 c0_i32_288
  v904

def k0_cond5 (i : grid0.Coords) : BitVec 1 :=
  let arg0 : BitVec 32 := BitVec.ofNat 32 (i 0).val
  let c8_i32_291 : BitVec 32 := 8#32
  let v908 : BitVec 1 := Scalar.cmpi .slt arg0 c8_i32_291
  let v909 : BitVec 32 := Scalar.extui v908
  let c0_i32_292 : BitVec 32 := 0#32
  let v910 : BitVec 1 := Scalar.cmpi .ne v909 c0_i32_292
  v910

def k0_cond6 (i : grid0.Coords) : BitVec 1 :=
  let arg0 : BitVec 32 := BitVec.ofNat 32 (i 0).val
  let c8_i32_293 : BitVec 32 := 8#32
  let v911 : BitVec 1 := Scalar.cmpi .sge arg0 c8_i32_293
  let c10_i32_294 : BitVec 32 := 10#32
  let v912 : BitVec 1 := Scalar.cmpi .slt arg0 c10_i32_294
  let v913 : BitVec 1 := Scalar.andi v911 v912
  let v914 : BitVec 32 := Scalar.extui v913
  let c0_i32_295 : BitVec 32 := 0#32
  let v915 : BitVec 1 := Scalar.cmpi .ne v914 c0_i32_295
  v915

def k0_cond7 (i : grid0.Coords) : BitVec 1 :=
  let arg0 : BitVec 32 := BitVec.ofNat 32 (i 0).val
  let c10_i32_296 : BitVec 32 := 10#32
  let v916 : BitVec 1 := Scalar.cmpi .sge arg0 c10_i32_296
  let v917 : BitVec 32 := Scalar.extui v916
  let c0_i32_297 : BitVec 32 := 0#32
  let v918 : BitVec 1 := Scalar.cmpi .ne v917 c0_i32_297
  v918

def k0_cond8 (i : grid0.Coords) : BitVec 1 :=
  let arg0 : BitVec 32 := BitVec.ofNat 32 (i 0).val
  let c8_i32_300 : BitVec 32 := 8#32
  let v922 : BitVec 1 := Scalar.cmpi .slt arg0 c8_i32_300
  let v923 : BitVec 32 := Scalar.extui v922
  let c0_i32_301 : BitVec 32 := 0#32
  let v924 : BitVec 1 := Scalar.cmpi .ne v923 c0_i32_301
  v924

def k0_cond9 (i : grid0.Coords) : BitVec 1 :=
  let arg0 : BitVec 32 := BitVec.ofNat 32 (i 0).val
  let c8_i32_302 : BitVec 32 := 8#32
  let v925 : BitVec 1 := Scalar.cmpi .sge arg0 c8_i32_302
  let c10_i32_303 : BitVec 32 := 10#32
  let v926 : BitVec 1 := Scalar.cmpi .slt arg0 c10_i32_303
  let v927 : BitVec 1 := Scalar.andi v925 v926
  let v928 : BitVec 32 := Scalar.extui v927
  let c0_i32_304 : BitVec 32 := 0#32
  let v929 : BitVec 1 := Scalar.cmpi .ne v928 c0_i32_304
  v929

def k0_cond10 (i : grid0.Coords) : BitVec 1 :=
  let arg0 : BitVec 32 := BitVec.ofNat 32 (i 0).val
  let c10_i32_305 : BitVec 32 := 10#32
  let v930 : BitVec 1 := Scalar.cmpi .sge arg0 c10_i32_305
  let v931 : BitVec 32 := Scalar.extui v930
  let c0_i32_306 : BitVec 32 := 0#32
  let v932 : BitVec 1 := Scalar.cmpi .ne v931 c0_i32_306
  v932

def k0_cond11 (i : grid0.Coords) : BitVec 1 :=
  let arg0 : BitVec 32 := BitVec.ofNat 32 (i 0).val
  let c8_i32_309 : BitVec 32 := 8#32
  let v936 : BitVec 1 := Scalar.cmpi .slt arg0 c8_i32_309
  let v937 : BitVec 32 := Scalar.extui v936
  let c0_i32_310 : BitVec 32 := 0#32
  let v938 : BitVec 1 := Scalar.cmpi .ne v937 c0_i32_310
  v938

def k0_cond12 (i : grid0.Coords) : BitVec 1 :=
  let arg0 : BitVec 32 := BitVec.ofNat 32 (i 0).val
  let c8_i32_311 : BitVec 32 := 8#32
  let v939 : BitVec 1 := Scalar.cmpi .sge arg0 c8_i32_311
  let c10_i32_312 : BitVec 32 := 10#32
  let v940 : BitVec 1 := Scalar.cmpi .slt arg0 c10_i32_312
  let v941 : BitVec 1 := Scalar.andi v939 v940
  let v942 : BitVec 32 := Scalar.extui v941
  let c0_i32_313 : BitVec 32 := 0#32
  let v943 : BitVec 1 := Scalar.cmpi .ne v942 c0_i32_313
  v943

def k0_cond13 (i : grid0.Coords) : BitVec 1 :=
  let arg0 : BitVec 32 := BitVec.ofNat 32 (i 0).val
  let c10_i32_314 : BitVec 32 := 10#32
  let v944 : BitVec 1 := Scalar.cmpi .sge arg0 c10_i32_314
  let v945 : BitVec 32 := Scalar.extui v944
  let c0_i32_315 : BitVec 32 := 0#32
  let v946 : BitVec 1 := Scalar.cmpi .ne v945 c0_i32_315
  v946

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S1152x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1152x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1152x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1152x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S1152x4096 : Shape := ⟨2, ![1152, 4096]⟩
abbrev S1152x1 : Shape := ⟨2, ![1152, 1]⟩
abbrev S1152x64 : Shape := ⟨2, ![1152, 64]⟩
abbrev S8x128 : Shape := ⟨2, ![8, 128]⟩
abbrev S2048x6144 : Shape := ⟨2, ![2048, 6144]⟩
abbrev S32x6144 : Shape := ⟨2, ![32, 6144]⟩
abbrev S6144 : Shape := ⟨1, ![6144]⟩
abbrev S32x1x6144 : Shape := ⟨3, ![32, 1, 6144]⟩
abbrev S_ : Shape := ⟨0, ![]⟩
abbrev S32x64x6144 : Shape := ⟨3, ![32, 64, 6144]⟩
abbrev S1152x2048 : Shape := ⟨2, ![1152, 2048]⟩
abbrev S1152x6144 : Shape := ⟨2, ![1152, 6144]⟩
abbrev S1x6144 : Shape := ⟨2, ![1, 6144]⟩
abbrev S1152x32x128 : Shape := ⟨3, ![1152, 32, 128]⟩
abbrev S1152x1024 : Shape := ⟨2, ![1152, 1024]⟩
abbrev S1152x8x128 : Shape := ⟨3, ![1152, 8, 128]⟩
abbrev S1152x1x64 : Shape := ⟨3, ![1152, 1, 64]⟩
abbrev S1152x32x64 : Shape := ⟨3, ![1152, 32, 64]⟩
abbrev S8x4x128 : Shape := ⟨3, ![8, 4, 128]⟩
abbrev S32x128 : Shape := ⟨2, ![32, 128]⟩
abbrev S1x32x128 : Shape := ⟨3, ![1, 32, 128]⟩
abbrev S1152x8x64 : Shape := ⟨3, ![1152, 8, 64]⟩
abbrev S1x8x128 : Shape := ⟨3, ![1, 8, 128]⟩
abbrev S1152x8 : Shape := ⟨2, ![1152, 8]⟩
abbrev S1152x8x1 : Shape := ⟨3, ![1152, 8, 1]⟩
abbrev S1152x16 : Shape := ⟨2, ![1152, 16]⟩
abbrev S1152x4x4 : Shape := ⟨3, ![1152, 4, 4]⟩
abbrev S4x1152x4 : Shape := ⟨3, ![4, 1152, 4]⟩

abbrev nBuf : Space → Nat
  | .hbm => 174
  | .vmem => 0
  | .smem => 0
  | _ => 0

abbrev hbmTy0_0 (i : Nat) : BufTy := match i % 128 with
  | 0 => ⟨S1152x4096, .i8⟩
  | 1 => ⟨S1152x1, .f32⟩
  | 2 => ⟨S1152x64, .f32⟩
  | 3 => ⟨S1152x64, .f32⟩
  | 4 => ⟨S8x128, .f32⟩
  | 5 => ⟨S2048x6144, .i8⟩
  | 6 => ⟨S32x6144, .i8⟩
  | 7 => ⟨S32x6144, .i8⟩
  | 8 => ⟨S6144, .f32⟩
  | 9 => ⟨S32x6144, .i32⟩
  | 10 => ⟨S32x1x6144, .i32⟩
  | 11 => ⟨S32x6144, .i32⟩
  | 12 => ⟨S32x1x6144, .i32⟩
  | 13 => ⟨S2048x6144, .i32⟩
  | 14 => ⟨S_, .i32⟩
  | 15 => ⟨S2048x6144, .i32⟩
  | 16 => ⟨S2048x6144, .i32⟩
  | 17 => ⟨S32x64x6144, .i32⟩
  | 18 => ⟨S32x64x6144, .i32⟩
  | 19 => ⟨S32x64x6144, .i32⟩
  | 20 => ⟨S32x64x6144, .i32⟩
  | 21 => ⟨S32x64x6144, .i32⟩
  | 22 => ⟨S32x64x6144, .i8⟩
  | 23 => ⟨S2048x6144, .i8⟩
  | 24 => ⟨S2048x6144, .i32⟩
  | 25 => ⟨S_, .i32⟩
  | 26 => ⟨S2048x6144, .i32⟩
  | 27 => ⟨S2048x6144, .i32⟩
  | 28 => ⟨S32x64x6144, .i32⟩
  | 29 => ⟨S32x64x6144, .i32⟩
  | 30 => ⟨S32x64x6144, .i32⟩
  | 31 => ⟨S32x64x6144, .i32⟩
  | 32 => ⟨S32x64x6144, .i32⟩
  | 33 => ⟨S32x64x6144, .i8⟩
  | 34 => ⟨S2048x6144, .i8⟩
  | 35 => ⟨S1152x2048, .i8⟩
  | 36 => ⟨S1152x2048, .i32⟩
  | 37 => ⟨S1152x2048, .f32⟩
  | 38 => ⟨S2048x6144, .i32⟩
  | 39 => ⟨S2048x6144, .f32⟩
  | 40 => ⟨S1152x6144, .f32⟩
  | 41 => ⟨S1152x2048, .i8⟩
  | 42 => ⟨S1152x2048, .i32⟩
  | 43 => ⟨S1152x2048, .f32⟩
  | 44 => ⟨S2048x6144, .i32⟩
  | 45 => ⟨S2048x6144, .f32⟩
  | 46 => ⟨S1152x6144, .f32⟩
  | 47 => ⟨S1152x6144, .f32⟩
  | 48 => ⟨S1152x6144, .f32⟩
  | 49 => ⟨S1152x6144, .f32⟩
  | 50 => ⟨S1x6144, .f32⟩
  | 51 => ⟨S1152x6144, .f32⟩
  | 52 => ⟨S1152x6144, .f32⟩
  | 53 => ⟨S1152x4096, .f32⟩
  | 54 => ⟨S1152x32x128, .f32⟩
  | 55 => ⟨S1152x1024, .f32⟩
  | 56 => ⟨S1152x8x128, .f32⟩
  | 57 => ⟨S1152x1024, .f32⟩
  | 58 => ⟨S1152x8x128, .f32⟩
  | 59 => ⟨S1152x1x64, .f32⟩
  | 60 => ⟨S1152x1x64, .f32⟩
  | 61 => ⟨S1152x32x64, .f32⟩
  | 62 => ⟨S1152x32x64, .f32⟩
  | 63 => ⟨S1152x32x64, .f32⟩
  | 64 => ⟨S1152x32x64, .f32⟩
  | 65 => ⟨S1152x32x64, .f32⟩
  | 66 => ⟨S1152x32x64, .f32⟩
  | 67 => ⟨S1152x32x64, .f32⟩
  | 68 => ⟨S1152x32x64, .f32⟩
  | 69 => ⟨S1152x32x64, .f32⟩
  | 70 => ⟨S1152x32x64, .f32⟩
  | 71 => ⟨S1152x32x64, .f32⟩
  | 72 => ⟨S1152x32x64, .f32⟩
  | 73 => ⟨S1152x32x128, .f32⟩
  | 74 => ⟨S8x4x128, .f32⟩
  | 75 => ⟨S32x128, .f32⟩
  | 76 => ⟨S1x32x128, .f32⟩
  | 77 => ⟨S1152x32x128, .f32⟩
  | 78 => ⟨S1152x32x128, .f32⟩
  | 79 => ⟨S1152x8x64, .f32⟩
  | 80 => ⟨S1152x8x64, .f32⟩
  | 81 => ⟨S1152x8x64, .f32⟩
  | 82 => ⟨S1152x8x64, .f32⟩
  | 83 => ⟨S1152x8x64, .f32⟩
  | 84 => ⟨S1152x8x64, .f32⟩
  | 85 => ⟨S1152x8x64, .f32⟩
  | 86 => ⟨S1152x8x64, .f32⟩
  | 87 => ⟨S1152x8x64, .f32⟩
  | 88 => ⟨S1152x8x64, .f32⟩
  | 89 => ⟨S1152x8x64, .f32⟩
  | 90 => ⟨S1152x8x64, .f32⟩
  | 91 => ⟨S1152x8x128, .f32⟩
  | 92 => ⟨S1x8x128, .f32⟩
  | 93 => ⟨S1152x8x128, .f32⟩
  | 94 => ⟨S1152x8x128, .f32⟩
  | 95 => ⟨S1152x8x128, .f32⟩
  | 96 => ⟨S_, .f32⟩
  | 97 => ⟨S1152x8, .f32⟩
  | 98 => ⟨S_, .f32⟩
  | 99 => ⟨S1152x8, .f32⟩
  | 100 => ⟨S1152x8, .i1⟩
  | 101 => ⟨S_, .f32⟩
  | 102 => ⟨S1152x8, .f32⟩
  | 103 => ⟨S1152x8, .f32⟩
  | 104 => ⟨S_, .f32⟩
  | 105 => ⟨S_, .f32⟩
  | 106 => ⟨S1152x8, .f32⟩
  | 107 => ⟨S1152x8, .f32⟩
  | 108 => ⟨S_, .f32⟩
  | 109 => ⟨S1152x8, .f32⟩
  | 110 => ⟨S1152x8, .i1⟩
  | 111 => ⟨S_, .f32⟩
  | 112 => ⟨S_, .f32⟩
  | 113 => ⟨S1152x8, .f32⟩
  | 114 => ⟨S1152x8, .f32⟩
  | 115 => ⟨S1152x8x1, .f32⟩
  | 116 => ⟨S1152x8x128, .f32⟩
  | 117 => ⟨S1152x8x128, .f32⟩
  | 118 => ⟨S1152x8x128, .f32⟩
  | 119 => ⟨S_, .i32⟩
  | 120 => ⟨S_, .i32⟩
  | 121 => ⟨S_, .f32⟩
  | 122 => ⟨S1152x8x128, .f32⟩
  | 123 => ⟨S1152x8x128, .f32⟩
  | 124 => ⟨S_, .f32⟩
  | 125 => ⟨S1152x8x128, .f32⟩
  | 126 => ⟨S1152x8x128, .f32⟩
  | 127 => ⟨S1152x8x128, .i32⟩
  | _ => ⟨S1152x4096, .i8⟩

abbrev hbmTy0_1 (i : Nat) : BufTy := match i % 128 with
  | 0 => ⟨S1152x8x128, .i8⟩
  | 1 => ⟨S1152x8x128, .f32⟩
  | 2 => ⟨S_, .f32⟩
  | 3 => ⟨S1152x8, .f32⟩
  | 4 => ⟨S_, .f32⟩
  | 5 => ⟨S1152x8, .f32⟩
  | 6 => ⟨S1152x8, .i1⟩
  | 7 => ⟨S_, .f32⟩
  | 8 => ⟨S1152x8, .f32⟩
  | 9 => ⟨S1152x8, .f32⟩
  | 10 => ⟨S_, .f32⟩
  | 11 => ⟨S_, .f32⟩
  | 12 => ⟨S1152x8, .f32⟩
  | 13 => ⟨S1152x8, .f32⟩
  | 14 => ⟨S_, .f32⟩
  | 15 => ⟨S1152x8, .f32⟩
  | 16 => ⟨S1152x8, .i1⟩
  | 17 => ⟨S_, .f32⟩
  | 18 => ⟨S_, .f32⟩
  | 19 => ⟨S1152x8, .f32⟩
  | 20 => ⟨S1152x8, .f32⟩
  | 21 => ⟨S1152x8x1, .f32⟩
  | 22 => ⟨S1152x8x128, .f32⟩
  | 23 => ⟨S1152x8x128, .f32⟩
  | 24 => ⟨S1152x8x128, .f32⟩
  | 25 => ⟨S_, .i32⟩
  | 26 => ⟨S_, .i32⟩
  | 27 => ⟨S_, .f32⟩
  | 28 => ⟨S1152x8x128, .f32⟩
  | 29 => ⟨S1152x8x128, .f32⟩
  | 30 => ⟨S_, .f32⟩
  | 31 => ⟨S1152x8x128, .f32⟩
  | 32 => ⟨S1152x8x128, .f32⟩
  | 33 => ⟨S1152x8x128, .i32⟩
  | 34 => ⟨S1152x8x128, .i8⟩
  | 35 => ⟨S1152x4096, .f32⟩
  | 36 => ⟨S1152x1024, .f32⟩
  | 37 => ⟨S1152x1024, .f32⟩
  | 38 => ⟨S1152x6144, .f32⟩
  | 39 => ⟨S1152x6144, .bf16⟩
  | 40 => ⟨S1152x1024, .i8⟩
  | 41 => ⟨S1152x1024, .i8⟩
  | 42 => ⟨S1152x2048, .i8⟩
  | 43 => ⟨S1152x16, .f32⟩
  | 44 => ⟨S1152x4x4, .f32⟩
  | 45 => ⟨S4x1152x4, .f32⟩
  | _ => ⟨S1152x4096, .i8⟩

abbrev hbmTy (i : Nat) : BufTy := match i / 128 with
  | 0 => hbmTy0_0 i
  | 1 => hbmTy0_1 i
  | _ => ⟨S1152x4096, .i8⟩

abbrev bufTy : (tb : Table) → Fin (tcTables nBuf tb) → BufTy
  | .hbm, ⟨i, _⟩ => hbmTy i
  | _, _ => ⟨S1152x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst : Ref sig .tc := ⟨.hbm, 96, rfl⟩
abbrev main_v85 : Ref sig .tc := ⟨.hbm, 97, rfl⟩
abbrev main_cst_1 : Ref sig .tc := ⟨.hbm, 98, rfl⟩
abbrev main_v86 : Ref sig .tc := ⟨.hbm, 99, rfl⟩
abbrev main_v87 : Ref sig .tc := ⟨.hbm, 100, rfl⟩
abbrev main_cst_2 : Ref sig .tc := ⟨.hbm, 101, rfl⟩
abbrev main_v88 : Ref sig .tc := ⟨.hbm, 102, rfl⟩
abbrev main_v89 : Ref sig .tc := ⟨.hbm, 103, rfl⟩
abbrev main_cst_3 : Ref sig .tc := ⟨.hbm, 104, rfl⟩
abbrev main_call0_v0 : Ref sig .tc := ⟨.hbm, 105, rfl⟩
abbrev main_call0_v1 : Ref sig .tc := ⟨.hbm, 106, rfl⟩
abbrev main_v90 : Ref sig .tc := ⟨.hbm, 107, rfl⟩
abbrev main_cst_4 : Ref sig .tc := ⟨.hbm, 108, rfl⟩
abbrev main_v91 : Ref sig .tc := ⟨.hbm, 109, rfl⟩
abbrev main_v92 : Ref sig .tc := ⟨.hbm, 110, rfl⟩
abbrev main_cst_5 : Ref sig .tc := ⟨.hbm, 111, rfl⟩
abbrev main_call1_v0 : Ref sig .tc := ⟨.hbm, 112, rfl⟩
abbrev main_call1_v1 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_c_6 : Ref sig .tc := ⟨.hbm, 119, rfl⟩
abbrev main_c_7 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_8 : Ref sig .tc := ⟨.hbm, 130, rfl⟩
abbrev main_v102 : Ref sig .tc := ⟨.hbm, 131, rfl⟩
abbrev main_cst_9 : Ref sig .tc := ⟨.hbm, 132, rfl⟩
abbrev main_v103 : Ref sig .tc := ⟨.hbm, 133, rfl⟩
abbrev main_v104 : Ref sig .tc := ⟨.hbm, 134, rfl⟩
abbrev main_cst_10 : Ref sig .tc := ⟨.hbm, 135, rfl⟩
abbrev main_v105 : Ref sig .tc := ⟨.hbm, 136, rfl⟩
abbrev main_v106 : Ref sig .tc := ⟨.hbm, 137, rfl⟩
abbrev main_cst_11 : Ref sig .tc := ⟨.hbm, 138, rfl⟩
abbrev main_call4_v0 : Ref sig .tc := ⟨.hbm, 139, rfl⟩
abbrev main_call4_v1 : Ref sig .tc := ⟨.hbm, 140, rfl⟩
abbrev main_v107 : Ref sig .tc := ⟨.hbm, 141, rfl⟩
abbrev main_cst_12 : Ref sig .tc := ⟨.hbm, 142, rfl⟩
abbrev main_v108 : Ref sig .tc := ⟨.hbm, 143, rfl⟩
abbrev main_v109 : Ref sig .tc := ⟨.hbm, 144, rfl⟩
abbrev main_cst_13 : Ref sig .tc := ⟨.hbm, 145, rfl⟩
abbrev main_call5_v0 : Ref sig .tc := ⟨.hbm, 146, rfl⟩
abbrev main_call5_v1 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_14 : Ref sig .tc := ⟨.hbm, 153, rfl⟩
abbrev main_c_15 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]
-- ==== Proof.Word.lean ====
/- One weight code, word by word: what the kernel's integer arithmetic leaves in the two halves of a
   32-bit word, and the weight that the two bfloat16 patterns made from a half denote. -/
module

public import Idealize.ShloMosaic.Lib.IdealHost
public import Idealize.ShloMosaic.PureOps
public import Mathlib.Data.BitVec

@[expose] public section

namespace Cert.W4

open Idealize.ShloMosaic

/-- The pattern `0x4300 | (b & 0x7f)` denotes `128 + (b mod 128)`: bfloat16 has seven fraction bits, and
    128 is the power of two at which its unit in the last place is one. -/
theorem ofBits_low (b : BitVec 16) :
    Ideal.ofBits .bf16 (b &&& 0x007F#16 ||| 0x4300#16) = ((128 + (b.toNat % 128 : ℕ) : ℝ) : EReal) := by
  have h1 : (b &&& 0x007F#16 ||| 0x4300#16).extractLsb' 15 1 = 0#1 := by
    ext i hi; have : i = 0 := by omega
    subst this; simp
  have h2 : (b &&& 0x007F#16 ||| 0x4300#16).extractLsb' 7 8 = 0x86#8 := by
    ext i hi
    interval_cases i <;> simp
  have h3 : ((b &&& 0x007F#16 ||| 0x4300#16).extractLsb' 0 7).toNat = b.toNat % 128 := by
    have : (b &&& 0x007F#16 ||| 0x4300#16).extractLsb' 0 7 = b.extractLsb' 0 7 := by
      ext i hi
      interval_cases i <;> simp
    rw [this, BitVec.extractLsb'_toNat]; simp
  simp only [Ideal.ofBits, Ideal.ieee, h1, h2, h3]
  norm_num

/-- The pattern `0x4300 | (b & 0x80)` denotes 128 or, with the sign bit of the byte set, 256. -/
theorem ofBits_high (b : BitVec 16) :
    Ideal.ofBits .bf16 (b &&& 0x0080#16 ||| 0x4300#16) = ((128 + 128 * (b.toNat / 128 % 2 : ℕ) : ℝ) : EReal) := by
  have h1 : (b &&& 0x0080#16 ||| 0x4300#16).extractLsb' 15 1 = 0#1 := by
    ext i hi; have : i = 0 := by omega
    subst this; simp
  have h3 : (b &&& 0x0080#16 ||| 0x4300#16).extractLsb' 0 7 = 0#7 := by
    ext i hi
    interval_cases i <;> simp
  have hb : b.toNat / 128 % 2 = (b.getLsbD 7).toNat := by
    rw [BitVec.getLsbD, Nat.testBit_eq_decide_div_mod_eq]
    rcases Nat.mod_two_eq_zero_or_one (b.toNat / 128) with h | h <;> simp [h]
  rw [hb]
  have h2 : (b &&& 0x0080#16 ||| 0x4300#16).extractLsb' 7 8 = if b.getLsbD 7 then 0x87#8 else 0x86#8 := by
    cases h : b.getLsbD 7
    · ext i hi
      interval_cases i <;> simp_all
    · ext i hi
      interval_cases i <;> simp_all
  cases h : b.getLsbD 7
  · simp only [Ideal.ofBits, Ideal.ieee, h1, h2, h3, h]
    norm_num
  · simp only [Ideal.ofBits, Ideal.ieee, h1, h2, h3, h]
    norm_num

/-- The difference of the two patterns is the byte read as a signed integer. -/
theorem ofBits_sub (b : BitVec 16) :
    (Ideal.ofBits .bf16 (b &&& 0x007F#16 ||| 0x4300#16) : EReal) - Ideal.ofBits .bf16 (b &&& 0x0080#16 ||| 0x4300#16)
      = (((b.setWidth 8).toInt : ℝ) : EReal) := by
  rw [ofBits_low, ofBits_high, ← EReal.coe_sub, EReal.coe_eq_coe_iff]
  have h : (b.setWidth 8).toInt = (b.toNat % 128 : ℕ) - 128 * (b.toNat / 128 % 2 : ℕ) := by
    rw [BitVec.toInt_eq_toNat_cond, BitVec.toNat_setWidth]
    split <;> push_cast <;> omega
  rw [h]
  generalize b.toNat % 128 = u
  generalize b.toNat / 128 % 2 = v
  push_cast; ring

/-- The weight of one nibble: `(nibble - zero) * scale` at eight bits, the zero point and the scale of its group. -/
def weight (nib : BitVec 32) (s z : BitVec 8) : BitVec 8 :=
  ((nib - z.signExtend 32) * s.signExtend 32).setWidth 8

/-- The word the kernel computes from a code byte: both nibbles, sixteen bits apart, times the scale's low
    byte, plus the negated product of zero point and scale in both halves. -/
def word (c s z : BitVec 8) : BitVec 32 :=
  (((c.setWidth 32 ||| c.setWidth 32 <<< (12 : ℕ)) &&& 0x000F000F#32) * (s.signExtend 32 &&& 255#32))
    + (((0#32 - z.signExtend 32 * s.signExtend 32) &&& 255#32)
        ||| ((0#32 - z.signExtend 32 * s.signExtend 32) &&& 255#32) <<< (16 : ℕ))

theorem nibbles (c : BitVec 8) :
    ((c.setWidth 32 ||| c.setWidth 32 <<< (12 : ℕ)) &&& 0x000F000F#32).toNat = c.toNat % 16 + 65536 * (c.toNat / 16) := by
  revert c; decide +kernel

theorem or_shift (q : BitVec 32) (h : q.toNat < 256) : (q ||| q <<< (16 : ℕ)).toNat = q.toNat + 65536 * q.toNat := by
  have hq : q = (q.setWidth 8).setWidth 32 := by
    apply BitVec.eq_of_toNat_eq
    simp only [BitVec.toNat_setWidth]; omega
  rw [hq]
  generalize q.setWidth 8 = b
  revert b; decide +kernel

/-- The two halves of the word do not disturb each other: the low sixteen bits hold the low nibble's product. -/
theorem word_toNat (c s z : BitVec 8) : (word c s z).toNat
    = (c.toNat % 16 * (s.signExtend 32 &&& 255#32).toNat + ((0#32 - z.signExtend 32 * s.signExtend 32) &&& 255#32).toNat)
      + 65536 * (c.toNat / 16 * (s.signExtend 32 &&& 255#32).toNat
        + ((0#32 - z.signExtend 32 * s.signExtend 32) &&& 255#32).toNat) := by
  have hs : (s.signExtend 32 &&& 255#32).toNat < 256 := by
    rw [BitVec.toNat_and]; exact lt_of_le_of_lt Nat.and_le_right (by decide)
  have hq : ((0#32 - z.signExtend 32 * s.signExtend 32) &&& 255#32).toNat < 256 := by
    rw [BitVec.toNat_and]; exact lt_of_le_of_lt Nat.and_le_right (by decide)
  have hc := c.isLt
  rw [word, BitVec.toNat_add, BitVec.toNat_mul, nibbles, or_shift _ hq]
  set S := (s.signExtend 32 &&& 255#32).toNat
  set Q := ((0#32 - z.signExtend 32 * s.signExtend 32) &&& 255#32).toNat
  have ha : c.toNat % 16 * S ≤ 15 * 255 := Nat.mul_le_mul (by omega) (by omega)
  have hb : c.toNat / 16 * S ≤ 15 * 255 := Nat.mul_le_mul (by omega) (by omega)
  have e : (c.toNat % 16 + 65536 * (c.toNat / 16)) * S = c.toNat % 16 * S + 65536 * (c.toNat / 16 * S) := by ring
  rw [e]; omega

theorem and255 (x : BitVec 32) : (x &&& 255#32).toNat = x.toNat % 256 := by
  rw [BitVec.toNat_and]; exact Nat.and_two_pow_sub_one_eq_mod x.toNat 8

/-- Modulo 256 a half of the word is the nibble's weight. -/
theorem half_mod (n : ℕ) (s z : BitVec 8) :
    (n * (s.signExtend 32 &&& 255#32).toNat + ((0#32 - z.signExtend 32 * s.signExtend 32) &&& 255#32).toNat) % 256
      = (weight (BitVec.ofNat 32 n) s z).toNat := by
  have e : weight (BitVec.ofNat 32 n) s z
      = (BitVec.ofNat 32 n * s.signExtend 32 + (0#32 - z.signExtend 32 * s.signExtend 32)).setWidth 8 := by
    rw [weight, BitVec.zero_sub]; congr 1; ring
  rw [e, and255, and255, BitVec.toNat_setWidth, BitVec.toNat_add, BitVec.toNat_mul, BitVec.toNat_ofNat]
  generalize (s.signExtend 32).toNat = S
  generalize (0#32 - z.signExtend 32 * s.signExtend 32).toNat = Q
  have h : (256 : ℕ) ∣ 2 ^ 32 := by decide
  rw [Nat.mod_mod_of_dvd _ h, Nat.add_mod, Nat.mul_mod, Nat.mod_mod, Nat.mod_mod, ← Nat.mul_mod, ← Nat.add_mod]
  rw [Nat.add_mod (n % 2 ^ 32 * S % 2 ^ 32), Nat.mod_mod_of_dvd _ h, Nat.mul_mod (n % 2 ^ 32),
    Nat.mod_mod_of_dvd _ h, ← Nat.mul_mod, ← Nat.add_mod]

theorem word_low (c s z : BitVec 8) :
    ((word c s z).extractLsb' 0 16).setWidth 8 = weight (c.setWidth 32 &&& 15#32) s z := by
  have e : c.setWidth 32 &&& 15#32 = BitVec.ofNat 32 (c.toNat % 16) := by
    apply BitVec.eq_of_toNat_eq; rw [BitVec.toNat_and, BitVec.toNat_setWidth, BitVec.toNat_ofNat]
    have := c.isLt
    rw [show c.toNat % 2 ^ 32 = c.toNat by omega, show 15 % 2 ^ 32 = 2 ^ 4 - 1 from rfl,
      Nat.and_two_pow_sub_one_eq_mod, BitVec.toNat_ofNat]; omega
  apply BitVec.eq_of_toNat_eq
  rw [e, ← half_mod, BitVec.toNat_setWidth, BitVec.extractLsb'_toNat, word_toNat]
  omega

theorem word_high (c s z : BitVec 8) :
    ((word c s z).extractLsb' 16 16).setWidth 8 = weight (c.setWidth 32 >>> (4 : ℕ)) s z := by
  have e : c.setWidth 32 >>> (4 : ℕ) = BitVec.ofNat 32 (c.toNat / 16) := by
    apply BitVec.eq_of_toNat_eq; rw [BitVec.toNat_ushiftRight, BitVec.toNat_setWidth, BitVec.toNat_ofNat]
    have := c.isLt
    rw [show c.toNat % 2 ^ 32 = c.toNat by omega, Nat.shiftRight_eq_div_pow]; omega
  have hs : (s.signExtend 32 &&& 255#32).toNat < 256 := by rw [and255]; omega
  have hq : ((0#32 - z.signExtend 32 * s.signExtend 32) &&& 255#32).toNat < 256 := by rw [and255]; omega
  have ha : c.toNat % 16 * (s.signExtend 32 &&& 255#32).toNat ≤ 15 * 255 := Nat.mul_le_mul (by omega) (by omega)
  apply BitVec.eq_of_toNat_eq
  rw [e, ← half_mod, BitVec.toNat_setWidth, BitVec.extractLsb'_toNat, word_toNat, Nat.shiftRight_eq_div_pow]
  have hb : c.toNat / 16 * (s.signExtend 32 &&& 255#32).toNat ≤ 15 * 255 :=
    Nat.mul_le_mul (by have := c.isLt; omega) (by omega)
  generalize c.toNat % 16 * (s.signExtend 32 &&& 255#32).toNat = x at *
  generalize c.toNat / 16 * (s.signExtend 32 &&& 255#32).toNat = y at *
  generalize ((0#32 - z.signExtend 32 * s.signExtend 32) &&& 255#32).toNat = q at *
  have h1 : (x + q + 65536 * (y + q)) / 2 ^ 16 = y + q := by omega
  rw [h1]; omega

/-- A half of `(p & 0x7F007F) | 0x43004300` is the half of `p` treated alone. -/
theorem half_lo (p : BitVec 32) (k : ℕ) (hk : k = 0 ∨ k = 16) :
    (p &&& 0x007F007F#32 ||| 0x43004300#32).extractLsb' k 16 = p.extractLsb' k 16 &&& 0x007F#16 ||| 0x4300#16 := by
  rcases hk with rfl | rfl <;> (ext i hi; interval_cases i <;> simp)

theorem half_hi (p : BitVec 32) (k : ℕ) (hk : k = 0 ∨ k = 16) :
    (p &&& 0x00800080#32 ||| 0x43004300#32).extractLsb' k 16 = p.extractLsb' k 16 &&& 0x0080#16 ||| 0x4300#16 := by
  rcases hk with rfl | rfl <;> (ext i hi; interval_cases i <;> simp)

/-- The even row's weight: what the low halves of the kernel's two words denote, subtracted. -/
theorem value_low (c s z : BitVec 8) :
    (Ideal.ofBits .bf16 ((word c s z &&& 0x007F007F#32 ||| 0x43004300#32).extractLsb' 0 16) : EReal)
      - Ideal.ofBits .bf16 ((word c s z &&& 0x00800080#32 ||| 0x43004300#32).extractLsb' 0 16)
      = (((weight (c.setWidth 32 &&& 15#32) s z).toInt : ℝ) : EReal) := by
  rw [half_lo _ _ (.inl rfl), half_hi _ _ (.inl rfl), ofBits_sub, word_low]

/-- The odd row's weight, from the high halves. -/
theorem value_high (c s z : BitVec 8) :
    (Ideal.ofBits .bf16 ((word c s z &&& 0x007F007F#32 ||| 0x43004300#32).extractLsb' 16 16) : EReal)
      - Ideal.ofBits .bf16 ((word c s z &&& 0x00800080#32 ||| 0x43004300#32).extractLsb' 16 16)
      = (((weight (c.setWidth 32 >>> (4 : ℕ)) s z).toInt : ℝ) : EReal) := by
  rw [half_lo _ _ (.inr rfl), half_hi _ _ (.inr rfl), ofBits_sub, word_high]

end Cert.W4
-- ==== Proof.Tile.lean ====
/- One group of 128 rows of the unpacked weights: the array the kernel computes from 64 rows of code bytes, at an index. -/
module

public import proofs.«01_k».proof.Proof.Word
public import Idealize.ShloMosaic.Lib.BitcastPair
public import Idealize.ShloMosaic.Lib.Pointwise
public import Idealize.ShloMosaic.Lib.Ring
public import Idealize.ShloMosaic.Lib.Pipeline.ValueKit

@[expose] public section

set_option maxRecDepth 16384

noncomputable section

namespace Cert.W4

open Idealize.ShloMosaic

/-- A matrix shape. -/
abbrev Sh (a b : ℕ) : Shape := ⟨2, ![a, b]⟩

/-- The weight that a code byte gives to row parity `k` (0: low nibble, else high nibble). -/
def wval (c s z : BitVec 8) (k : ℕ) : EReal :=
  (((weight (if k = 0 then c.setWidth 32 &&& 15#32 else c.setWidth 32 >>> (4 : ℕ)) s z).toInt : ℝ) : EReal)

/-- The scale's low byte, per group and column. -/
def scaleWord {ng n : ℕ} (s : IVec (Sh ng n) 32) : IVec (Sh ng n) 32 := andi s (broadcast (Sh ng n) 255#32)

/-- The negated product of zero point and scale, in both halves of a word. -/
def zeroWord {ng n : ℕ} (s z : IVec (Sh ng n) 32) : IVec (Sh ng n) 32 :=
  ori (andi (subi (broadcast (Sh ng n) 0#32) (muli z s)) (broadcast (Sh ng n) 255#32))
    (shli (andi (subi (broadcast (Sh ng n) 0#32) (muli z s)) (broadcast (Sh ng n) 255#32)) (broadcast (Sh ng n) 16#32))

/-- The words of one group. -/
def groupWord {ng n : ℕ} (off : Fin 2 → ℕ) (hs : (Sh ng n).Slices off (Sh 1 n)) (hb : (Sh 1 n).Broadcasts (Sh 64 n))
    (S Z : IVec (Sh ng n) 32) (c : IVec (Sh 64 n) 8) : IVec (Sh 64 n) 32 :=
  addi (muli (andi (ori (extui 32 c (by decide)) (shli (extui 32 c (by decide)) (broadcast (Sh 64 n) 12#32))) (broadcast (Sh 64 n) 983055#32))
      (broadcastTo (Sh 64 n) (extractStridedSlice (Sh 1 n) off S hs) hb))
    (broadcastTo (Sh 64 n) (extractStridedSlice (Sh 1 n) off Z hs) hb)

/-- The weights of one group, as the kernel stores them. -/
def tile {ng n : ℕ} (off : Fin 2 → ℕ) (hs : (Sh ng n).Slices off (Sh 1 n)) (hb : (Sh 1 n).Broadcasts (Sh 64 n))
    (hc : (Sh 64 n).Bitcasts 32 (Sh 128 n) 16) (hsc : (Sh 128 n).ShapeCasts (Sh 128 n))
    (S Z : IVec (Sh ng n) 32) (c : IVec (Sh 64 n) 8) : FVec Ideal (Sh 128 n) .bf16 :=
  shapeCast (Sh 128 n) (subf
    (bitcastToFloat .bf16 (bitcast (Sh 128 n) 16 (ori (andi (groupWord off hs hb S Z c) (broadcast (Sh 64 n) 8323199#32)) (broadcast (Sh 64 n) 1124090624#32)) hc))
    (bitcastToFloat .bf16 (bitcast (Sh 128 n) 16 (ori (andi (groupWord off hs hb S Z c) (broadcast (Sh 64 n) 8388736#32)) (broadcast (Sh 64 n) 1124090624#32)) hc))) hsc

theorem groupWord_apply {ng n : ℕ} (off : Fin 2 → ℕ) (hs : (Sh ng n).Slices off (Sh 1 n)) (hb : (Sh 1 n).Broadcasts (Sh 64 n))
    (s z : IVec (Sh ng n) 32) (c : IVec (Sh 64 n) 8) (i : Fin 64) (j : Fin n) (g : Fin ng) (h0 : off 0 = g.val) (h1 : off 1 = 0)
    (sb zb : BitVec 8) (hsb : s (ix2 g j) = sb.signExtend 32) (hzb : z (ix2 g j) = zb.signExtend 32) :
    groupWord off hs hb (scaleWord s) (zeroWord s z) c (ix2 i j) = word (c (ix2 i j)) sb zb := by
  have hread : ∀ X : IVec (Sh ng n) 32, broadcastTo (Sh 64 n) (extractStridedSlice (Sh 1 n) off X hs) hb (ix2 i j) = X (ix2 g j) := by
    intro X
    unfold broadcastTo extractStridedSlice
    refine congrArg X (funext fun a => Fin.ext ?_)
    match a with
    | ⟨0, _⟩ => show off 0 + _ = g.val; rw [h0]; simp
    | ⟨1, _⟩ =>
      show off 1 + _ = j.val
      rw [h1, Nat.zero_add]
      by_cases hn : n = 1
      · subst hn; have := j.isLt; simp
      · simp [hn]
  show IntOp.addi (IntOp.muli _ (broadcastTo (Sh 64 n) (extractStridedSlice (Sh 1 n) off (scaleWord s) hs) hb (ix2 i j)))
    (broadcastTo (Sh 64 n) (extractStridedSlice (Sh 1 n) off (zeroWord s z) hs) hb (ix2 i j)) = _
  rw [hread, hread]
  have e1 : scaleWord s (ix2 g j) = sb.signExtend 32 &&& 255#32 := by
    show s (ix2 g j) &&& 255#32 = _; rw [hsb]
  have e2 : zeroWord s z (ix2 g j) = ((0#32 - zb.signExtend 32 * sb.signExtend 32) &&& 255#32)
        ||| ((0#32 - zb.signExtend 32 * sb.signExtend 32) &&& 255#32) <<< (16 : ℕ) := by
    show ((0#32 - z (ix2 g j) * s (ix2 g j)) &&& 255#32) ||| ((0#32 - z (ix2 g j) * s (ix2 g j)) &&& 255#32) <<< (16 : ℕ) = _
    rw [hsb, hzb]
  rw [e1, e2]
  rfl

/-- Row `i` of the group's tile holds the weight of nibble `i % 2` of the code byte in row `i / 2`. -/
theorem tile_apply {ng n : ℕ} (off : Fin 2 → ℕ) (hs : (Sh ng n).Slices off (Sh 1 n)) (hb : (Sh 1 n).Broadcasts (Sh 64 n))
    (hc : (Sh 64 n).Bitcasts 32 (Sh 128 n) 16) (hsc : (Sh 128 n).ShapeCasts (Sh 128 n))
    (s z : IVec (Sh ng n) 32) (c : IVec (Sh 64 n) 8) (i : Fin 128) (j : Fin n) (g : Fin ng) (h0 : off 0 = g.val) (h1 : off 1 = 0)
    (sb zb : BitVec 8) (hsb : s (ix2 g j) = sb.signExtend 32) (hzb : z (ix2 g j) = zb.signExtend 32) :
    tile off hs hb hc hsc (scaleWord s) (zeroWord s z) c (ix2 i j)
      = wval (c (ix2 (⟨i.val / 2, by omega⟩ : Fin 64) j)) sb zb (i.val % 2) := by
  have hbc : ∀ X : IVec (Sh 64 n) 32, bitcast (Sh 128 n) 16 X hc (ix2 i j)
      = (X (ix2 (⟨i.val / 2, by omega⟩ : Fin 64) j)).extractLsb' (16 * (i.val % 2)) 16 := by
    intro X
    rw [bitcast_32_16]
    have hr : (Sh 128 n).row (ix2 i j) = i.val := rfl
    simp only [hr]
    refine congrArg (fun q => (X q).extractLsb' (16 * (i.val % 2)) 16) (funext fun a => Fin.ext ?_)
    match a with
    | ⟨0, _⟩ => rw [Shape.Bitcasts.srcIdx_row _ _ _ _ _ rfl]; rfl
    | ⟨1, _⟩ => rw [Shape.Bitcasts.srcIdx_other _ _ _ _ _ (by simp)]; rfl
  unfold tile
  rw [shapeCast_self]
  show (FloatOps.ofBits (F := Ideal) .bf16 (bitcast (Sh 128 n) 16 _ hc (ix2 i j)) : EReal)
    - FloatOps.ofBits (F := Ideal) .bf16 (bitcast (Sh 128 n) 16 _ hc (ix2 i j)) = _
  rw [hbc, hbc]
  show (Ideal.ofBits .bf16 ((groupWord off hs hb (scaleWord s) (zeroWord s z) c (ix2 _ j) &&& 8323199#32 ||| 1124090624#32).extractLsb' _ 16) : EReal)
    - Ideal.ofBits .bf16 ((groupWord off hs hb (scaleWord s) (zeroWord s z) c (ix2 _ j) &&& 8388736#32 ||| 1124090624#32).extractLsb' _ 16) = _
  rw [groupWord_apply off hs hb s z c _ j g h0 h1 sb zb hsb hzb]
  unfold wval
  rcases Nat.mod_two_eq_zero_or_one i.val with h | h
  · rw [h, if_pos rfl]; exact value_low _ _ _
  · rw [h, if_neg (by decide)]; exact value_high _ _ _

/-- The unpacked weights from all code bytes, scales and zero points: row `k` is of group `k / 128`. -/
def weights {N kh ng n : ℕ} (hk : ∀ r, r < N → r / 2 < kh ∧ r / 128 < ng) (c : IVec (Sh kh n) 8) (s z : (Sh ng n).Idx → BitVec 8) :
    (Sh N n).Idx → EReal := fun y =>
  wval (c (ix2 (⟨(y 0).val / 2, (hk _ (y 0).isLt).1⟩ : Fin kh) (y 1)))
    (s (ix2 (⟨(y 0).val / 128, (hk _ (y 0).isLt).2⟩ : Fin ng) (y 1))) (z (ix2 (⟨(y 0).val / 128, (hk _ (y 0).isLt).2⟩ : Fin ng) (y 1)))
    ((y 0).val % 2)

/-- Store `g` of the unpacking loop holds rows `128 g ..` of the unpacked weights. -/
theorem piece {N kh ng n : ℕ} (hk : ∀ r, r < N → r / 2 < kh ∧ r / 128 < ng) (g : ℕ) (off : Fin 2 → ℕ) (hs : (Sh ng n).Slices off (Sh 1 n))
    (hb : (Sh 1 n).Broadcasts (Sh 64 n))
    (hc : (Sh 64 n).Bitcasts 32 (Sh 128 n) 16) (hsc : (Sh 128 n).ShapeCasts (Sh 128 n))
    (s z : IVec (Sh ng n) 32) (c : IVec (Sh kh n) 8) (s8 z8 : (Sh ng n).Idx → BitVec 8)
    (hs8 : ∀ i, s i = (s8 i).signExtend 32) (hz8 : ∀ i, z i = (z8 i).signExtend 32)
    (offc offw : Fin 2 → ℕ) (inbc : ∀ a, offc a + (Sh 64 n).size a ≤ (Sh kh n).size a)
    (inbw : ∀ a, offw a + (Sh 128 n).size a ≤ (Sh N n).size a)
    (h0 : off 0 = g) (h1 : off 1 = 0) (hc0 : offc 0 = 64 * g) (hc1 : offc 1 = 0) (hw0 : offw 0 = 128 * g) (hw1 : offw 1 = 0)
    (x : (Sh 128 n).Idx) :
    tile off hs hb hc hsc (scaleWord s) (zeroWord s z) (View.ld (Val := Elt Ideal) (e' := .i8) c (Rect.unit offc (Sh 64 n).size inbc)) x
      = weights hk c s8 z8 ((Rect.unit (s := Sh N n) offw (Sh 128 n).size inbw).emb x) := by
  obtain ⟨i, j, rfl⟩ : ∃ (i : Fin 128) (j : Fin n), x = ix2 i j := ⟨x 0, x 1, eq_ix2 x⟩
  have hgw : 128 * g + 128 ≤ N := by have := inbw 0; rw [hw0] at this; exact this
  have hg : g < ng := by have := (hk (128 * g) (by omega)).2; omega
  have e0 : ((Rect.unit (s := Sh N n) offw (Sh 128 n).size inbw).emb (ix2 i j) 0).val = 128 * g + i.val := by
    show offw 0 + 1 * i.val = _; rw [hw0]; omega
  have e1 : (Rect.unit (s := Sh N n) offw (Sh 128 n).size inbw).emb (ix2 i j) 1 = j := Fin.ext (by
    show offw 1 + 1 * j.val = _; rw [hw1]; omega)
  have hi := i.isLt
  rw [tile_apply off hs hb hc hsc s z _ i j ⟨g, hg⟩ h0 h1 _ _ (hs8 _) (hz8 _)]
  unfold weights
  have eg : (⟨((Rect.unit (s := Sh N n) offw (Sh 128 n).size inbw).emb (ix2 i j) 0).val / 128, (hk _ ((Rect.unit (s := Sh N n) offw (Sh 128 n).size inbw).emb (ix2 i j) 0).isLt).2⟩ : Fin ng) = ⟨g, hg⟩ :=
    Fin.ext (by show _ / 128 = g; rw [e0]; omega)
  have em : ((Rect.unit (s := Sh N n) offw (Sh 128 n).size inbw).emb (ix2 i j) 0).val % 2 = i.val % 2 := by rw [e0]; omega
  have ec : (View.ld (Val := Elt Ideal) (e' := .i8) c (Rect.unit offc (Sh 64 n).size inbc) (ix2 (⟨i.val / 2, by omega⟩ : Fin 64) j) : BitVec 8)
      = c (ix2 (⟨((Rect.unit (s := Sh N n) offw (Sh 128 n).size inbw).emb (ix2 i j) 0).val / 2, (hk _ ((Rect.unit (s := Sh N n) offw (Sh 128 n).size inbw).emb (ix2 i j) 0).isLt).1⟩ : Fin kh) j) := by
    refine congrArg c (funext fun a => Fin.ext ?_)
    match a with
    | ⟨0, _⟩ => show offc 0 + 1 * (i.val / 2) = ((Rect.unit (s := Sh N n) offw (Sh 128 n).size inbw).emb (ix2 i j) 0).val / 2; rw [e0, hc0]; omega
    | ⟨1, _⟩ => show offc 1 + 1 * j.val = j.val; rw [hc1]; omega
  rw [ec, em]
  rw [eg]
  simp only [e1]

theorem sum_range_even_odd {M : Type} [AddCommMonoid M] (f : ℕ → M) (K : ℕ) :
    ∑ k ∈ Finset.range (2 * K), f k = ∑ k ∈ Finset.range K, f (2 * k) + ∑ k ∈ Finset.range K, f (2 * k + 1) := by
  induction K with
  | zero => simp
  | succ K ih =>
    rw [show 2 * (K + 1) = 2 * K + 1 + 1 by ring, Finset.sum_range_succ, Finset.sum_range_succ, ih, Finset.sum_range_succ, Finset.sum_range_succ]
    ac_rfl

/-- A sum over an even number of rows is the sum over the even rows plus the sum over the odd rows. -/
theorem sum_even_odd {M : Type} [AddCommMonoid M] (K N : ℕ) (hN : N = 2 * K) (f : Fin N → M) :
    ∑ k, f k = ∑ k : Fin K, f ⟨2 * k.val, by omega⟩ + ∑ k : Fin K, f ⟨2 * k.val + 1, by omega⟩ := by
  subst hN
  let g : ℕ → M := fun k => if h : k < 2 * K then f ⟨k, h⟩ else 0
  have hg : ∀ k (h : k < 2 * K), g k = f ⟨k, h⟩ := fun k h => dif_pos h
  rw [show ∑ k, f k = ∑ k : Fin (2 * K), g k.val from Finset.sum_congr rfl fun k _ => (hg k.val k.isLt).symm,
    Fin.sum_univ_eq_sum_range g, sum_range_even_odd, ← Fin.sum_univ_eq_sum_range (fun k => g (2 * k)), ← Fin.sum_univ_eq_sum_range (fun k => g (2 * k + 1))]
  congr 1
  · exact Finset.sum_congr rfl fun k _ => hg _ _
  · exact Finset.sum_congr rfl fun k _ => hg _ _

/-- A scratch buffer written in pieces that tile it, each piece holding the values of `G` under it, reads back as `G`. -/
theorem readCov_pieces {Val : EltTy → Type} [∀ e, Nonempty (Val e)] {sig : RefSig} {κ : Kind} {sp : Space} {S : Shape} {e : EltTy}
    (v : View sig κ sp S e) (L : List (View.Piece Val S e)) (size : Fin S.rank → ℕ) (G : S.Idx → Val e)
    {off : Fin S.rank → ℕ} (inb : ∀ a, off a + S.size a ≤ S.size a) (h : off = fun _ => 0)
    (ht : View.Piece.tiledL L size = true) (hp : ∀ p ∈ L, ∀ x : p.1.shape.Idx, p.2 x = G (p.1.emb x)) :
    v.readCov L (Rect.unit off S.size inb).toLoadRect = G := by
  rw [View.readCov_eq_canon_ld v L _ (View.cover_of_tiledL L size ht), View.ld_unit_zero h]
  exact funext fun y => View.canon_apply_of_pieces G L hp y (View.cover_of_tiledL L size ht y)

end Cert.W4

end
-- ==== Proof.GateUpBlock.lean ====
/- What one step of the gate and up products leaves in its block: the gate times its logistic times the up product. -/
module

public import proofs.«01_k».proof.Proof.Tile
public import proofs.«01_k».proof.Proof.Gen.GateUpIdeal.Value
public import Idealize.ShloMosaic.Lib.Pipeline.ValueKit
public import Idealize.ShloMosaic.Lib.Pointwise

@[expose] public section

set_option maxRecDepth 16384

noncomputable section

namespace Cert.GateUpIdeal.Block

open Cert.GateUpIdeal Cert.GateUpIdeal.Gen Idealize.ShloMosaic Idealize.ShloMosaic.TcCoe Idealize.SL.Sem

/-- Row `r` of the weights comes from row `r / 2` of the code bytes and from group `r / 128`. -/
theorem hk : ∀ r, r < 4096 → r / 2 < 2048 ∧ r / 128 < 32 := fun r h => by omega

/-- The block's value from its inputs: the activations as real numbers, then everything else. -/
def blockVal (a : Vec Ideal S1152x4096 .bf16) (x1 : Vec Ideal S1152x1 .f32) (x2 : Vec Ideal S2048x256 .i8) (x3 x4 : Vec Ideal S32x256 .i8) (x5 : Vec Ideal S1x256 .f32)
    (x6 : Vec Ideal S2048x256 .i8) (x7 x8 : Vec Ideal S32x256 .i8) (x9 : Vec Ideal S1x256 .f32) : Vec Ideal S1152x256 .f32 :=
  k0_pay1 (k0_pay139 a (Cert.W4.weights hk x2 x3 x4) x1 x5) (k0_pay140 a (Cert.W4.weights hk x6 x7 x8) x1) (k0_pay141 x9)

/-- At the points after the first one the activations come from the scratch that the first point filled. -/
theorem out_B (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S2048x256 .i8) (harg3 : arg3.IsWhole) (arg4 : Memref sig .tc .vmem S32x256 .i8) (harg4 : arg4.IsWhole) (arg5 : Memref sig .tc .vmem S32x256 .i8) (harg5 : arg5.IsWhole) (arg6 : Memref sig .tc .vmem S1x256 .f32) (harg6 : arg6.IsWhole) (arg7 : Memref sig .tc .vmem S2048x256 .i8) (harg7 : arg7.IsWhole) (arg8 : Memref sig .tc .vmem S32x256 .i8) (harg8 : arg8.IsWhole) (arg9 : Memref sig .tc .vmem S32x256 .i8) (harg9 : arg9.IsWhole) (arg10 : Memref sig .tc .vmem S1x256 .f32) (harg10 : arg10.IsWhole) (arg11 : Memref sig .tc .vmem S1152x256 .f32) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x4096 .bf16) (harg14 : arg14.IsWhole) (hc0 : ¬cond0_0 i)
    (x0 : Vec Ideal S1152x4096 .i8) (x1 : Vec Ideal S1152x1 .f32) (x2 : Vec Ideal S2048x256 .i8) (x3 : Vec Ideal S32x256 .i8) (x4 : Vec Ideal S32x256 .i8) (x5 : Vec Ideal S1x256 .f32) (x6 : Vec Ideal S2048x256 .i8) (x7 : Vec Ideal S32x256 .i8) (x8 : Vec Ideal S32x256 .i8) (x9 : Vec Ideal S1x256 .f32) (xs2 : Vec Ideal S1152x4096 .bf16) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs2 = blockVal xs2 x1 x2 x3 x4 x5 x6 x7 x8 x9 := by
  unfold blockVal
  frame_out
  refine congrArg₂ (fun w u => k0_pay1 (k0_pay139 xs2 w x1 x5) (k0_pay140 xs2 u x1) (k0_pay141 x9)) ?gate ?up
  case gate =>
    refine Cert.W4.readCov_pieces (Val := Elt Ideal) (S := S4096x256) _ _ S128x256.size _ _ ?hz ?ht ?hp
    case hz => exact funext fun a => by match a with | ⟨0, _⟩ => rfl | ⟨1, _⟩ => rfl
    case ht => sl_kernel_rfl
    case hp =>
      refine List.forall_mem_cons.2 ⟨fun x => Cert.W4.piece hk 31 ![31, 0] slices_S32x256_o31_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1984, 0] ![3968, 0] inb_S2048x256_S64x256_1984_0 inb_S4096x256_S128x256_3968_0 rfl rfl rfl rfl rfl rfl x, ?_⟩
      refine List.forall_mem_cons.2 ⟨fun x => Cert.W4.piece hk 30 ![30, 0] slices_S32x256_o30_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1920, 0] ![3840, 0] inb_S2048x256_S64x256_1920_0 inb_S4096x256_S128x256_3840_0 rfl rfl rfl rfl rfl rfl x, ?_⟩
      refine List.forall_mem_cons.2 ⟨fun x => Cert.W4.piece hk 29 ![29, 0] slices_S32x256_o29_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1856, 0] ![3712, 0] inb_S2048x256_S64x256_1856_0 inb_S4096x256_S128x256_3712_0 rfl rfl rfl rfl rfl rfl x, ?_⟩
      refine List.forall_mem_cons.2 ⟨fun x => Cert.W4.piece hk 28 ![28, 0] slices_S32x256_o28_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1792, 0] ![3584, 0] inb_S2048x256_S64x256_1792_0 inb_S4096x256_S128x256_3584_0 rfl rfl rfl rfl rfl rfl x, ?_⟩
      refine List.forall_mem_cons.2 ⟨fun x => Cert.W4.piece hk 27 ![27, 0] slices_S32x256_o27_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1728, 0] ![3456, 0] inb_S2048x256_S64x256_1728_0 inb_S4096x256_S128x256_3456_0 rfl rfl rfl rfl rfl rfl x, ?_⟩
      refine List.forall_mem_cons.2 ⟨fun x => Cert.W4.piece hk 26 ![26, 0] slices_S32x256_o26_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1664, 0] ![3328, 0] inb_S2048x256_S64x256_1664_0 inb_S4096x256_S128x256_3328_0 rfl rfl rfl rfl rfl rfl x, ?_⟩
      refine List.forall_mem_cons.2 ⟨fun x => Cert.W4.piece hk 25 ![25, 0] slices_S32x256_o25_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1600, 0] ![3200, 0] inb_S2048x256_S64x256_1600_0 inb_S4096x256_S128x256_3200_0 rfl rfl rfl rfl rfl rfl x, ?_⟩
      refine List.forall_mem_cons.2 ⟨fun x => Cert.W4.piece hk 24 ![24, 0] slices_S32x256_o24_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1536, 0] ![3072, 0] inb_S2048x256_S64x256_1536_0 inb_S4096x256_S128x256_3072_0 rfl rfl rfl rfl rfl rfl x, ?_⟩
      refine List.forall_mem_cons.2 ⟨fun x => Cert.W4.piece hk 23 ![23, 0] slices_S32x256_o23_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1472, 0] ![2944, 0] inb_S2048x256_S64x256_1472_0 inb_S4096x256_S128x256_2944_0 rfl rfl rfl rfl rfl rfl x, ?_⟩
      refine List.forall_mem_cons.2 ⟨fun x => Cert.W4.piece hk 22 ![22, 0] slices_S32x256_o22_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1408, 0] ![2816, 0] inb_S2048x256_S64x256_1408_0 inb_S4096x256_S128x256_2816_0 rfl rfl rfl rfl rfl rfl x, ?_⟩
      refine List.forall_mem_cons.2 ⟨fun x => Cert.W4.piece hk 21 ![21, 0] slices_S32x256_o21_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1344, 0] ![2688, 0] inb_S2048x256_S64x256_1344_0 inb_S4096x256_S128x256_2688_0 rfl rfl rfl rfl rfl rfl x, ?_⟩
      refine List.forall_mem_cons.2 ⟨fun x => Cert.W4.piece hk 20 ![20, 0] slices_S32x256_o20_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1280, 0] ![2560, 0] inb_S2048x256_S64x256_1280_0 inb_S4096x256_S128x256_2560_0 rfl rfl rfl rfl rfl rfl x, ?_⟩
      refine List.forall_mem_cons.2 ⟨fun x => Cert.W4.piece hk 19 ![19, 0] slices_S32x256_o19_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1216, 0] ![2432, 0] inb_S2048x256_S64x256_1216_0 inb_S4096x256_S128x256_2432_0 rfl rfl rfl rfl rfl rfl x, ?_⟩
      refine List.forall_mem_cons.2 ⟨fun x => Cert.W4.piece hk 18 ![18, 0] slices_S32x256_o18_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1152, 0] ![2304, 0] inb_S2048x256_S64x256_1152_0 inb_S4096x256_S128x256_2304_0 rfl rfl rfl rfl rfl rfl x, ?_⟩
      refine List.forall_mem_cons.2 ⟨fun x => Cert.W4.piece hk 17 ![17, 0] slices_S32x256_o17_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1088, 0] ![2176, 0] inb_S2048x256_S64x256_1088_0 inb_S4096x256_S128x256_2176_0 rfl rfl rfl rfl rfl rfl x, ?_⟩
      refine List.forall_mem_cons.2 ⟨fun x => Cert.W4.piece hk 16 ![16, 0] slices_S32x256_o16_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1024, 0] ![2048, 0] inb_S2048x256_S64x256_1024_0 inb_S4096x256_S128x256_2048_0 rfl rfl rfl rfl rfl rfl x, ?_⟩
      refine List.forall_mem_cons.2 ⟨fun x => Cert.W4.piece hk 15 ![15, 0] slices_S32x256_o15_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![960, 0] ![1920, 0] inb_S2048x256_S64x256_960_0 inb_S4096x256_S128x256_1920_0 rfl rfl rfl rfl rfl rfl x, ?_⟩
      refine List.forall_mem_cons.2 ⟨fun x => Cert.W4.piece hk 14 ![14, 0] slices_S32x256_o14_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![896, 0] ![1792, 0] inb_S2048x256_S64x256_896_0 inb_S4096x256_S128x256_1792_0 rfl rfl rfl rfl rfl rfl x, ?_⟩
      refine List.forall_mem_cons.2 ⟨fun x => Cert.W4.piece hk 13 ![13, 0] slices_S32x256_o13_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![832, 0] ![1664, 0] inb_S2048x256_S64x256_832_0 inb_S4096x256_S128x256_1664_0 rfl rfl rfl rfl rfl rfl x, ?_⟩
      refine List.forall_mem_cons.2 ⟨fun x => Cert.W4.piece hk 12 ![12, 0] slices_S32x256_o12_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![768, 0] ![1536, 0] inb_S2048x256_S64x256_768_0 inb_S4096x256_S128x256_1536_0 rfl rfl rfl rfl rfl rfl x, ?_⟩
      refine List.forall_mem_cons.2 ⟨fun x => Cert.W4.piece hk 11 ![11, 0] slices_S32x256_o11_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![704, 0] ![1408, 0] inb_S2048x256_S64x256_704_0 inb_S4096x256_S128x256_1408_0 rfl rfl rfl rfl rfl rfl x, ?_⟩
      refine List.forall_mem_cons.2 ⟨fun x => Cert.W4.piece hk 10 ![10, 0] slices_S32x256_o10_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![640, 0] ![1280, 0] inb_S2048x256_S64x256_640_0 inb_S4096x256_S128x256_1280_0 rfl rfl rfl rfl rfl rfl x, ?_⟩
      refine List.forall_mem_cons.2 ⟨fun x => Cert.W4.piece hk 9 ![9, 0] slices_S32x256_o9_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![576, 0] ![1152, 0] inb_S2048x256_S64x256_576_0 inb_S4096x256_S128x256_1152_0 rfl rfl rfl rfl rfl rfl x, ?_⟩
      refine List.forall_mem_cons.2 ⟨fun x => Cert.W4.piece hk 8 ![8, 0] slices_S32x256_o8_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![512, 0] ![1024, 0] inb_S2048x256_S64x256_512_0 inb_S4096x256_S128x256_1024_0 rfl rfl rfl rfl rfl rfl x, ?_⟩
      refine List.forall_mem_cons.2 ⟨fun x => Cert.W4.piece hk 7 ![7, 0] slices_S32x256_o7_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![448, 0] ![896, 0] inb_S2048x256_S64x256_448_0 inb_S4096x256_S128x256_896_0 rfl rfl rfl rfl rfl rfl x, ?_⟩
      refine List.forall_mem_cons.2 ⟨fun x => Cert.W4.piece hk 6 ![6, 0] slices_S32x256_o6_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![384, 0] ![768, 0] inb_S2048x256_S64x256_384_0 inb_S4096x256_S128x256_768_0 rfl rfl rfl rfl rfl rfl x, ?_⟩
      refine List.forall_mem_cons.2 ⟨fun x => Cert.W4.piece hk 5 ![5, 0] slices_S32x256_o5_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![320, 0] ![640, 0] inb_S2048x256_S64x256_320_0 inb_S4096x256_S128x256_640_0 rfl rfl rfl rfl rfl rfl x, ?_⟩
      refine List.forall_mem_cons.2 ⟨fun x => Cert.W4.piece hk 4 ![4, 0] slices_S32x256_o4_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![256, 0] ![512, 0] inb_S2048x256_S64x256_256_0 inb_S4096x256_S128x256_512_0 rfl rfl rfl rfl rfl rfl x, ?_⟩
      refine List.forall_mem_cons.2 ⟨fun x => Cert.W4.piece hk 3 ![3, 0] slices_S32x256_o3_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![192, 0] ![384, 0] inb_S2048x256_S64x256_192_0 inb_S4096x256_S128x256_384_0 rfl rfl rfl rfl rfl rfl x, ?_⟩
      refine List.forall_mem_cons.2 ⟨fun x => Cert.W4.piece hk 2 ![2, 0] slices_S32x256_o2_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![128, 0] ![256, 0] inb_S2048x256_S64x256_128_0 inb_S4096x256_S128x256_256_0 rfl rfl rfl rfl rfl rfl x, ?_⟩
      refine List.forall_mem_cons.2 ⟨fun x => Cert.W4.piece hk 1 ![1, 0] slices_S32x256_o1_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![64, 0] ![128, 0] inb_S2048x256_S64x256_64_0 inb_S4096x256_S128x256_128_0 rfl rfl rfl rfl rfl rfl x, ?_⟩
      refine List.forall_mem_cons.2 ⟨fun x => Cert.W4.piece hk 0 ![0, 0] slices_S32x256_o0_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![0, 0] ![0, 0] inb_S2048x256_S64x256_0_0 inb_S4096x256_S128x256_0_0 rfl rfl rfl rfl rfl rfl x, ?_⟩
      exact fun p hp => absurd hp List.not_mem_nil
  case up =>
    refine Cert.W4.readCov_pieces (Val := Elt Ideal) (S := S4096x256) _ _ S128x256.size _ _ ?hz ?ht ?hp
    case hz => exact funext fun a => by match a with | ⟨0, _⟩ => rfl | ⟨1, _⟩ => rfl
    case ht => sl_kernel_rfl
    case hp =>
      refine List.forall_mem_cons.2 ⟨fun x => Cert.W4.piece hk 31 ![31, 0] slices_S32x256_o31_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1984, 0] ![3968, 0] inb_S2048x256_S64x256_1984_0 inb_S4096x256_S128x256_3968_0 rfl rfl rfl rfl rfl rfl x, ?_⟩
      refine List.forall_mem_cons.2 ⟨fun x => Cert.W4.piece hk 30 ![30, 0] slices_S32x256_o30_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1920, 0] ![3840, 0] inb_S2048x256_S64x256_1920_0 inb_S4096x256_S128x256_3840_0 rfl rfl rfl rfl rfl rfl x, ?_⟩
      refine List.forall_mem_cons.2 ⟨fun x => Cert.W4.piece hk 29 ![29, 0] slices_S32x256_o29_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1856, 0] ![3712, 0] inb_S2048x256_S64x256_1856_0 inb_S4096x256_S128x256_3712_0 rfl rfl rfl rfl rfl rfl x, ?_⟩
      refine List.forall_mem_cons.2 ⟨fun x => Cert.W4.piece hk 28 ![28, 0] slices_S32x256_o28_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1792, 0] ![3584, 0] inb_S2048x256_S64x256_1792_0 inb_S4096x256_S128x256_3584_0 rfl rfl rfl rfl rfl rfl x, ?_⟩
      refine List.forall_mem_cons.2 ⟨fun x => Cert.W4.piece hk 27 ![27, 0] slices_S32x256_o27_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1728, 0] ![3456, 0] inb_S2048x256_S64x256_1728_0 inb_S4096x256_S128x256_3456_0 rfl rfl rfl rfl rfl rfl x, ?_⟩
      refine List.forall_mem_cons.2 ⟨fun x => Cert.W4.piece hk 26 ![26, 0] slices_S32x256_o26_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1664, 0] ![3328, 0] inb_S2048x256_S64x256_1664_0 inb_S4096x256_S128x256_3328_0 rfl rfl rfl rfl rfl rfl x, ?_⟩
      refine List.forall_mem_cons.2 ⟨fun x => Cert.W4.piece hk 25 ![25, 0] slices_S32x256_o25_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1600, 0] ![3200, 0] inb_S2048x256_S64x256_1600_0 inb_S4096x256_S128x256_3200_0 rfl rfl rfl rfl rfl rfl x, ?_⟩
      refine List.forall_mem_cons.2 ⟨fun x => Cert.W4.piece hk 24 ![24, 0] slices_S32x256_o24_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1536, 0] ![3072, 0] inb_S2048x256_S64x256_1536_0 inb_S4096x256_S128x256_3072_0 rfl rfl rfl rfl rfl rfl x, ?_⟩
      refine List.forall_mem_cons.2 ⟨fun x => Cert.W4.piece hk 23 ![23, 0] slices_S32x256_o23_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1472, 0] ![2944, 0] inb_S2048x256_S64x256_1472_0 inb_S4096x256_S128x256_2944_0 rfl rfl rfl rfl rfl rfl x, ?_⟩
      refine List.forall_mem_cons.2 ⟨fun x => Cert.W4.piece hk 22 ![22, 0] slices_S32x256_o22_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1408, 0] ![2816, 0] inb_S2048x256_S64x256_1408_0 inb_S4096x256_S128x256_2816_0 rfl rfl rfl rfl rfl rfl x, ?_⟩
      refine List.forall_mem_cons.2 ⟨fun x => Cert.W4.piece hk 21 ![21, 0] slices_S32x256_o21_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1344, 0] ![2688, 0] inb_S2048x256_S64x256_1344_0 inb_S4096x256_S128x256_2688_0 rfl rfl rfl rfl rfl rfl x, ?_⟩
      refine List.forall_mem_cons.2 ⟨fun x => Cert.W4.piece hk 20 ![20, 0] slices_S32x256_o20_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1280, 0] ![2560, 0] inb_S2048x256_S64x256_1280_0 inb_S4096x256_S128x256_2560_0 rfl rfl rfl rfl rfl rfl x, ?_⟩
      refine List.forall_mem_cons.2 ⟨fun x => Cert.W4.piece hk 19 ![19, 0] slices_S32x256_o19_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1216, 0] ![2432, 0] inb_S2048x256_S64x256_1216_0 inb_S4096x256_S128x256_2432_0 rfl rfl rfl rfl rfl rfl x, ?_⟩
      refine List.forall_mem_cons.2 ⟨fun x => Cert.W4.piece hk 18 ![18, 0] slices_S32x256_o18_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1152, 0] ![2304, 0] inb_S2048x256_S64x256_1152_0 inb_S4096x256_S128x256_2304_0 rfl rfl rfl rfl rfl rfl x, ?_⟩
      refine List.forall_mem_cons.2 ⟨fun x => Cert.W4.piece hk 17 ![17, 0] slices_S32x256_o17_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1088, 0] ![2176, 0] inb_S2048x256_S64x256_1088_0 inb_S4096x256_S128x256_2176_0 rfl rfl rfl rfl rfl rfl x, ?_⟩
      refine List.forall_mem_cons.2 ⟨fun x => Cert.W4.piece hk 16 ![16, 0] slices_S32x256_o16_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1024, 0] ![2048, 0] inb_S2048x256_S64x256_1024_0 inb_S4096x256_S128x256_2048_0 rfl rfl rfl rfl rfl rfl x, ?_⟩
      refine List.forall_mem_cons.2 ⟨fun x => Cert.W4.piece hk 15 ![15, 0] slices_S32x256_o15_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![960, 0] ![1920, 0] inb_S2048x256_S64x256_960_0 inb_S4096x256_S128x256_1920_0 rfl rfl rfl rfl rfl rfl x, ?_⟩
      refine List.forall_mem_cons.2 ⟨fun x => Cert.W4.piece hk 14 ![14, 0] slices_S32x256_o14_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![896, 0] ![1792, 0] inb_S2048x256_S64x256_896_0 inb_S4096x256_S128x256_1792_0 rfl rfl rfl rfl rfl rfl x, ?_⟩
      refine List.forall_mem_cons.2 ⟨fun x => Cert.W4.piece hk 13 ![13, 0] slices_S32x256_o13_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![832, 0] ![1664, 0] inb_S2048x256_S64x256_832_0 inb_S4096x256_S128x256_1664_0 rfl rfl rfl rfl rfl rfl x, ?_⟩
      refine List.forall_mem_cons.2 ⟨fun x => Cert.W4.piece hk 12 ![12, 0] slices_S32x256_o12_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![768, 0] ![1536, 0] inb_S2048x256_S64x256_768_0 inb_S4096x256_S128x256_1536_0 rfl rfl rfl rfl rfl rfl x, ?_⟩
      refine List.forall_mem_cons.2 ⟨fun x => Cert.W4.piece hk 11 ![11, 0] slices_S32x256_o11_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![704, 0] ![1408, 0] inb_S2048x256_S64x256_704_0 inb_S4096x256_S128x256_1408_0 rfl rfl rfl rfl rfl rfl x, ?_⟩
      refine List.forall_mem_cons.2 ⟨fun x => Cert.W4.piece hk 10 ![10, 0] slices_S32x256_o10_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![640, 0] ![1280, 0] inb_S2048x256_S64x256_640_0 inb_S4096x256_S128x256_1280_0 rfl rfl rfl rfl rfl rfl x, ?_⟩
      refine List.forall_mem_cons.2 ⟨fun x => Cert.W4.piece hk 9 ![9, 0] slices_S32x256_o9_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![576, 0] ![1152, 0] inb_S2048x256_S64x256_576_0 inb_S4096x256_S128x256_1152_0 rfl rfl rfl rfl rfl rfl x, ?_⟩
      refine List.forall_mem_cons.2 ⟨fun x => Cert.W4.piece hk 8 ![8, 0] slices_S32x256_o8_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![512, 0] ![1024, 0] inb_S2048x256_S64x256_512_0 inb_S4096x256_S128x256_1024_0 rfl rfl rfl rfl rfl rfl x, ?_⟩
      refine List.forall_mem_cons.2 ⟨fun x => Cert.W4.piece hk 7 ![7, 0] slices_S32x256_o7_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![448, 0] ![896, 0] inb_S2048x256_S64x256_448_0 inb_S4096x256_S128x256_896_0 rfl rfl rfl rfl rfl rfl x, ?_⟩
      refine List.forall_mem_cons.2 ⟨fun x => Cert.W4.piece hk 6 ![6, 0] slices_S32x256_o6_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![384, 0] ![768, 0] inb_S2048x256_S64x256_384_0 inb_S4096x256_S128x256_768_0 rfl rfl rfl rfl rfl rfl x, ?_⟩
      refine List.forall_mem_cons.2 ⟨fun x => Cert.W4.piece hk 5 ![5, 0] slices_S32x256_o5_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![320, 0] ![640, 0] inb_S2048x256_S64x256_320_0 inb_S4096x256_S128x256_640_0 rfl rfl rfl rfl rfl rfl x, ?_⟩
      refine List.forall_mem_cons.2 ⟨fun x => Cert.W4.piece hk 4 ![4, 0] slices_S32x256_o4_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![256, 0] ![512, 0] inb_S2048x256_S64x256_256_0 inb_S4096x256_S128x256_512_0 rfl rfl rfl rfl rfl rfl x, ?_⟩
      refine List.forall_mem_cons.2 ⟨fun x => Cert.W4.piece hk 3 ![3, 0] slices_S32x256_o3_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![192, 0] ![384, 0] inb_S2048x256_S64x256_192_0 inb_S4096x256_S128x256_384_0 rfl rfl rfl rfl rfl rfl x, ?_⟩
      refine List.forall_mem_cons.2 ⟨fun x => Cert.W4.piece hk 2 ![2, 0] slices_S32x256_o2_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![128, 0] ![256, 0] inb_S2048x256_S64x256_128_0 inb_S4096x256_S128x256_256_0 rfl rfl rfl rfl rfl rfl x, ?_⟩
      refine List.forall_mem_cons.2 ⟨fun x => Cert.W4.piece hk 1 ![1, 0] slices_S32x256_o1_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![64, 0] ![128, 0] inb_S2048x256_S64x256_64_0 inb_S4096x256_S128x256_128_0 rfl rfl rfl rfl rfl rfl x, ?_⟩
      refine List.forall_mem_cons.2 ⟨fun x => Cert.W4.piece hk 0 ![0, 0] slices_S32x256_o0_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![0, 0] ![0, 0] inb_S2048x256_S64x256_0_0 inb_S4096x256_S128x256_0_0 rfl rfl rfl rfl rfl rfl x, ?_⟩
      exact fun p hp => absurd hp List.not_mem_nil

/-- At the first point the activations are converted from the integers. -/
theorem out_A (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S2048x256 .i8) (harg3 : arg3.IsWhole) (arg4 : Memref sig .tc .vmem S32x256 .i8) (harg4 : arg4.IsWhole) (arg5 : Memref sig .tc .vmem S32x256 .i8) (harg5 : arg5.IsWhole) (arg6 : Memref sig .tc .vmem S1x256 .f32) (harg6 : arg6.IsWhole) (arg7 : Memref sig .tc .vmem S2048x256 .i8) (harg7 : arg7.IsWhole) (arg8 : Memref sig .tc .vmem S32x256 .i8) (harg8 : arg8.IsWhole) (arg9 : Memref sig .tc .vmem S32x256 .i8) (harg9 : arg9.IsWhole) (arg10 : Memref sig .tc .vmem S1x256 .f32) (harg10 : arg10.IsWhole) (arg11 : Memref sig .tc .vmem S1152x256 .f32) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x4096 .bf16) (harg14 : arg14.IsWhole) (hc0 : cond0_0 i)
    (x0 : Vec Ideal S1152x4096 .i8) (x1 : Vec Ideal S1152x1 .f32) (x2 : Vec Ideal S2048x256 .i8) (x3 : Vec Ideal S32x256 .i8) (x4 : Vec Ideal S32x256 .i8) (x5 : Vec Ideal S1x256 .f32) (x6 : Vec Ideal S2048x256 .i8) (x7 : Vec Ideal S32x256 .i8) (x8 : Vec Ideal S32x256 .i8) (x9 : Vec Ideal S1x256 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = blockVal (k0_pay2 x0) x1 x2 x3 x4 x5 x6 x7 x8 x9 := by
  unfold blockVal
  frame_out
  refine congrArg₂ (fun w u => k0_pay1 (k0_pay139 (k0_pay2 x0) w x1 x5) (k0_pay140 (k0_pay2 x0) u x1) (k0_pay141 x9)) ?gate ?up
  case gate =>
    refine Cert.W4.readCov_pieces (Val := Elt Ideal) (S := S4096x256) _ _ S128x256.size _ _ ?hz ?ht ?hp
    case hz => exact funext fun a => by match a with | ⟨0, _⟩ => rfl | ⟨1, _⟩ => rfl
    case ht => sl_kernel_rfl
    case hp =>
      refine List.forall_mem_cons.2 ⟨fun x => Cert.W4.piece hk 31 ![31, 0] slices_S32x256_o31_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1984, 0] ![3968, 0] inb_S2048x256_S64x256_1984_0 inb_S4096x256_S128x256_3968_0 rfl rfl rfl rfl rfl rfl x, ?_⟩
      refine List.forall_mem_cons.2 ⟨fun x => Cert.W4.piece hk 30 ![30, 0] slices_S32x256_o30_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1920, 0] ![3840, 0] inb_S2048x256_S64x256_1920_0 inb_S4096x256_S128x256_3840_0 rfl rfl rfl rfl rfl rfl x, ?_⟩
      refine List.forall_mem_cons.2 ⟨fun x => Cert.W4.piece hk 29 ![29, 0] slices_S32x256_o29_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1856, 0] ![3712, 0] inb_S2048x256_S64x256_1856_0 inb_S4096x256_S128x256_3712_0 rfl rfl rfl rfl rfl rfl x, ?_⟩
      refine List.forall_mem_cons.2 ⟨fun x => Cert.W4.piece hk 28 ![28, 0] slices_S32x256_o28_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1792, 0] ![3584, 0] inb_S2048x256_S64x256_1792_0 inb_S4096x256_S128x256_3584_0 rfl rfl rfl rfl rfl rfl x, ?_⟩
      refine List.forall_mem_cons.2 ⟨fun x => Cert.W4.piece hk 27 ![27, 0] slices_S32x256_o27_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1728, 0] ![3456, 0] inb_S2048x256_S64x256_1728_0 inb_S4096x256_S128x256_3456_0 rfl rfl rfl rfl rfl rfl x, ?_⟩
      refine List.forall_mem_cons.2 ⟨fun x => Cert.W4.piece hk 26 ![26, 0] slices_S32x256_o26_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1664, 0] ![3328, 0] inb_S2048x256_S64x256_1664_0 inb_S4096x256_S128x256_3328_0 rfl rfl rfl rfl rfl rfl x, ?_⟩
      refine List.forall_mem_cons.2 ⟨fun x => Cert.W4.piece hk 25 ![25, 0] slices_S32x256_o25_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1600, 0] ![3200, 0] inb_S2048x256_S64x256_1600_0 inb_S4096x256_S128x256_3200_0 rfl rfl rfl rfl rfl rfl x, ?_⟩
      refine List.forall_mem_cons.2 ⟨fun x => Cert.W4.piece hk 24 ![24, 0] slices_S32x256_o24_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1536, 0] ![3072, 0] inb_S2048x256_S64x256_1536_0 inb_S4096x256_S128x256_3072_0 rfl rfl rfl rfl rfl rfl x, ?_⟩
      refine List.forall_mem_cons.2 ⟨fun x => Cert.W4.piece hk 23 ![23, 0] slices_S32x256_o23_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1472, 0] ![2944, 0] inb_S2048x256_S64x256_1472_0 inb_S4096x256_S128x256_2944_0 rfl rfl rfl rfl rfl rfl x, ?_⟩
      refine List.forall_mem_cons.2 ⟨fun x => Cert.W4.piece hk 22 ![22, 0] slices_S32x256_o22_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1408, 0] ![2816, 0] inb_S2048x256_S64x256_1408_0 inb_S4096x256_S128x256_2816_0 rfl rfl rfl rfl rfl rfl x, ?_⟩
      refine List.forall_mem_cons.2 ⟨fun x => Cert.W4.piece hk 21 ![21, 0] slices_S32x256_o21_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1344, 0] ![2688, 0] inb_S2048x256_S64x256_1344_0 inb_S4096x256_S128x256_2688_0 rfl rfl rfl rfl rfl rfl x, ?_⟩
      refine List.forall_mem_cons.2 ⟨fun x => Cert.W4.piece hk 20 ![20, 0] slices_S32x256_o20_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1280, 0] ![2560, 0] inb_S2048x256_S64x256_1280_0 inb_S4096x256_S128x256_2560_0 rfl rfl rfl rfl rfl rfl x, ?_⟩
      refine List.forall_mem_cons.2 ⟨fun x => Cert.W4.piece hk 19 ![19, 0] slices_S32x256_o19_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1216, 0] ![2432, 0] inb_S2048x256_S64x256_1216_0 inb_S4096x256_S128x256_2432_0 rfl rfl rfl rfl rfl rfl x, ?_⟩
      refine List.forall_mem_cons.2 ⟨fun x => Cert.W4.piece hk 18 ![18, 0] slices_S32x256_o18_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1152, 0] ![2304, 0] inb_S2048x256_S64x256_1152_0 inb_S4096x256_S128x256_2304_0 rfl rfl rfl rfl rfl rfl x, ?_⟩
      refine List.forall_mem_cons.2 ⟨fun x => Cert.W4.piece hk 17 ![17, 0] slices_S32x256_o17_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1088, 0] ![2176, 0] inb_S2048x256_S64x256_1088_0 inb_S4096x256_S128x256_2176_0 rfl rfl rfl rfl rfl rfl x, ?_⟩
      refine List.forall_mem_cons.2 ⟨fun x => Cert.W4.piece hk 16 ![16, 0] slices_S32x256_o16_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![1024, 0] ![2048, 0] inb_S2048x256_S64x256_1024_0 inb_S4096x256_S128x256_2048_0 rfl rfl rfl rfl rfl rfl x, ?_⟩
      refine List.forall_mem_cons.2 ⟨fun x => Cert.W4.piece hk 15 ![15, 0] slices_S32x256_o15_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![960, 0] ![1920, 0] inb_S2048x256_S64x256_960_0 inb_S4096x256_S128x256_1920_0 rfl rfl rfl rfl rfl rfl x, ?_⟩
      refine List.forall_mem_cons.2 ⟨fun x => Cert.W4.piece hk 14 ![14, 0] slices_S32x256_o14_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![896, 0] ![1792, 0] inb_S2048x256_S64x256_896_0 inb_S4096x256_S128x256_1792_0 rfl rfl rfl rfl rfl rfl x, ?_⟩
      refine List.forall_mem_cons.2 ⟨fun x => Cert.W4.piece hk 13 ![13, 0] slices_S32x256_o13_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![832, 0] ![1664, 0] inb_S2048x256_S64x256_832_0 inb_S4096x256_S128x256_1664_0 rfl rfl rfl rfl rfl rfl x, ?_⟩
      refine List.forall_mem_cons.2 ⟨fun x => Cert.W4.piece hk 12 ![12, 0] slices_S32x256_o12_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![768, 0] ![1536, 0] inb_S2048x256_S64x256_768_0 inb_S4096x256_S128x256_1536_0 rfl rfl rfl rfl rfl rfl x, ?_⟩
      refine List.forall_mem_cons.2 ⟨fun x => Cert.W4.piece hk 11 ![11, 0] slices_S32x256_o11_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![704, 0] ![1408, 0] inb_S2048x256_S64x256_704_0 inb_S4096x256_S128x256_1408_0 rfl rfl rfl rfl rfl rfl x, ?_⟩
      refine List.forall_mem_cons.2 ⟨fun x => Cert.W4.piece hk 10 ![10, 0] slices_S32x256_o10_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![640, 0] ![1280, 0] inb_S2048x256_S64x256_640_0 inb_S4096x256_S128x256_1280_0 rfl rfl rfl rfl rfl rfl x, ?_⟩
      refine List.forall_mem_cons.2 ⟨fun x => Cert.W4.piece hk 9 ![9, 0] slices_S32x256_o9_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![576, 0] ![1152, 0] inb_S2048x256_S64x256_576_0 inb_S4096x256_S128x256_1152_0 rfl rfl rfl rfl rfl rfl x, ?_⟩
      refine List.forall_mem_cons.2 ⟨fun x => Cert.W4.piece hk 8 ![8, 0] slices_S32x256_o8_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![512, 0] ![1024, 0] inb_S2048x256_S64x256_512_0 inb_S4096x256_S128x256_1024_0 rfl rfl rfl rfl rfl rfl x, ?_⟩
      refine List.forall_mem_cons.2 ⟨fun x => Cert.W4.piece hk 7 ![7, 0] slices_S32x256_o7_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![448, 0] ![896, 0] inb_S2048x256_S64x256_448_0 inb_S4096x256_S128x256_896_0 rfl rfl rfl rfl rfl rfl x, ?_⟩
      refine List.forall_mem_cons.2 ⟨fun x => Cert.W4.piece hk 6 ![6, 0] slices_S32x256_o6_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![384, 0] ![768, 0] inb_S2048x256_S64x256_384_0 inb_S4096x256_S128x256_768_0 rfl rfl rfl rfl rfl rfl x, ?_⟩
      refine List.forall_mem_cons.2 ⟨fun x => Cert.W4.piece hk 5 ![5, 0] slices_S32x256_o5_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![320, 0] ![640, 0] inb_S2048x256_S64x256_320_0 inb_S4096x256_S128x256_640_0 rfl rfl rfl rfl rfl rfl x, ?_⟩
      refine List.forall_mem_cons.2 ⟨fun x => Cert.W4.piece hk 4 ![4, 0] slices_S32x256_o4_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![256, 0] ![512, 0] inb_S2048x256_S64x256_256_0 inb_S4096x256_S128x256_512_0 rfl rfl rfl rfl rfl rfl x, ?_⟩
      refine List.forall_mem_cons.2 ⟨fun x => Cert.W4.piece hk 3 ![3, 0] slices_S32x256_o3_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![192, 0] ![384, 0] inb_S2048x256_S64x256_192_0 inb_S4096x256_S128x256_384_0 rfl rfl rfl rfl rfl rfl x, ?_⟩
      refine List.forall_mem_cons.2 ⟨fun x => Cert.W4.piece hk 2 ![2, 0] slices_S32x256_o2_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![128, 0] ![256, 0] inb_S2048x256_S64x256_128_0 inb_S4096x256_S128x256_256_0 rfl rfl rfl rfl rfl rfl x, ?_⟩
      refine List.forall_mem_cons.2 ⟨fun x => Cert.W4.piece hk 1 ![1, 0] slices_S32x256_o1_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![64, 0] ![128, 0] inb_S2048x256_S64x256_64_0 inb_S4096x256_S128x256_128_0 rfl rfl rfl rfl rfl rfl x, ?_⟩
      refine List.forall_mem_cons.2 ⟨fun x => Cert.W4.piece hk 0 ![0, 0] slices_S32x256_o0_0_S1x256 broadcasts_S1x256_S64x256 bitcasts_S64x256_w32_S128x256_w16 shapeCasts_S128x256_S128x256 (extsi 32 x3 natLt_8_32) (extsi 32 x4 natLt_8_32) x2 x3 x4 (fun _ => rfl) (fun _ => rfl) ![0, 0] ![0, 0] inb_S2048x256_S64x256_0_0 inb_S4096x256_S128x256_0_0 rfl rfl rfl rfl rfl rfl x, ?_⟩
      exact fun p hp => absurd hp List.not_mem_nil
  case up =>
    refine Cert.W4.readCov_pieces (Val := Elt Ideal) (S := S4096x256) _ _ S128x256.size _ _ ?hz ?ht ?hp
    case hz => exact funext fun a => by match a with | ⟨0, _⟩ => rfl | ⟨1, _⟩ => rfl
    case ht => sl_kernel_rfl
    case hp =>
      refine List.forall_mem_cons.2 ⟨fun x => Cert.W4.piece hk 31 ![31, 0] slices_S32x256_o31_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1984, 0] ![3968, 0] inb_S2048x256_S64x256_1984_0 inb_S4096x256_S128x256_3968_0 rfl rfl rfl rfl rfl rfl x, ?_⟩
      refine List.forall_mem_cons.2 ⟨fun x => Cert.W4.piece hk 30 ![30, 0] slices_S32x256_o30_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1920, 0] ![3840, 0] inb_S2048x256_S64x256_1920_0 inb_S4096x256_S128x256_3840_0 rfl rfl rfl rfl rfl rfl x, ?_⟩
      refine List.forall_mem_cons.2 ⟨fun x => Cert.W4.piece hk 29 ![29, 0] slices_S32x256_o29_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1856, 0] ![3712, 0] inb_S2048x256_S64x256_1856_0 inb_S4096x256_S128x256_3712_0 rfl rfl rfl rfl rfl rfl x, ?_⟩
      refine List.forall_mem_cons.2 ⟨fun x => Cert.W4.piece hk 28 ![28, 0] slices_S32x256_o28_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1792, 0] ![3584, 0] inb_S2048x256_S64x256_1792_0 inb_S4096x256_S128x256_3584_0 rfl rfl rfl rfl rfl rfl x, ?_⟩
      refine List.forall_mem_cons.2 ⟨fun x => Cert.W4.piece hk 27 ![27, 0] slices_S32x256_o27_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1728, 0] ![3456, 0] inb_S2048x256_S64x256_1728_0 inb_S4096x256_S128x256_3456_0 rfl rfl rfl rfl rfl rfl x, ?_⟩
      refine List.forall_mem_cons.2 ⟨fun x => Cert.W4.piece hk 26 ![26, 0] slices_S32x256_o26_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1664, 0] ![3328, 0] inb_S2048x256_S64x256_1664_0 inb_S4096x256_S128x256_3328_0 rfl rfl rfl rfl rfl rfl x, ?_⟩
      refine List.forall_mem_cons.2 ⟨fun x => Cert.W4.piece hk 25 ![25, 0] slices_S32x256_o25_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1600, 0] ![3200, 0] inb_S2048x256_S64x256_1600_0 inb_S4096x256_S128x256_3200_0 rfl rfl rfl rfl rfl rfl x, ?_⟩
      refine List.forall_mem_cons.2 ⟨fun x => Cert.W4.piece hk 24 ![24, 0] slices_S32x256_o24_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1536, 0] ![3072, 0] inb_S2048x256_S64x256_1536_0 inb_S4096x256_S128x256_3072_0 rfl rfl rfl rfl rfl rfl x, ?_⟩
      refine List.forall_mem_cons.2 ⟨fun x => Cert.W4.piece hk 23 ![23, 0] slices_S32x256_o23_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1472, 0] ![2944, 0] inb_S2048x256_S64x256_1472_0 inb_S4096x256_S128x256_2944_0 rfl rfl rfl rfl rfl rfl x, ?_⟩
      refine List.forall_mem_cons.2 ⟨fun x => Cert.W4.piece hk 22 ![22, 0] slices_S32x256_o22_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1408, 0] ![2816, 0] inb_S2048x256_S64x256_1408_0 inb_S4096x256_S128x256_2816_0 rfl rfl rfl rfl rfl rfl x, ?_⟩
      refine List.forall_mem_cons.2 ⟨fun x => Cert.W4.piece hk 21 ![21, 0] slices_S32x256_o21_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1344, 0] ![2688, 0] inb_S2048x256_S64x256_1344_0 inb_S4096x256_S128x256_2688_0 rfl rfl rfl rfl rfl rfl x, ?_⟩
      refine List.forall_mem_cons.2 ⟨fun x => Cert.W4.piece hk 20 ![20, 0] slices_S32x256_o20_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1280, 0] ![2560, 0] inb_S2048x256_S64x256_1280_0 inb_S4096x256_S128x256_2560_0 rfl rfl rfl rfl rfl rfl x, ?_⟩
      refine List.forall_mem_cons.2 ⟨fun x => Cert.W4.piece hk 19 ![19, 0] slices_S32x256_o19_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1216, 0] ![2432, 0] inb_S2048x256_S64x256_1216_0 inb_S4096x256_S128x256_2432_0 rfl rfl rfl rfl rfl rfl x, ?_⟩
      refine List.forall_mem_cons.2 ⟨fun x => Cert.W4.piece hk 18 ![18, 0] slices_S32x256_o18_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1152, 0] ![2304, 0] inb_S2048x256_S64x256_1152_0 inb_S4096x256_S128x256_2304_0 rfl rfl rfl rfl rfl rfl x, ?_⟩
      refine List.forall_mem_cons.2 ⟨fun x => Cert.W4.piece hk 17 ![17, 0] slices_S32x256_o17_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1088, 0] ![2176, 0] inb_S2048x256_S64x256_1088_0 inb_S4096x256_S128x256_2176_0 rfl rfl rfl rfl rfl rfl x, ?_⟩
      refine List.forall_mem_cons.2 ⟨fun x => Cert.W4.piece hk 16 ![16, 0] slices_S32x256_o16_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![1024, 0] ![2048, 0] inb_S2048x256_S64x256_1024_0 inb_S4096x256_S128x256_2048_0 rfl rfl rfl rfl rfl rfl x, ?_⟩
      refine List.forall_mem_cons.2 ⟨fun x => Cert.W4.piece hk 15 ![15, 0] slices_S32x256_o15_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![960, 0] ![1920, 0] inb_S2048x256_S64x256_960_0 inb_S4096x256_S128x256_1920_0 rfl rfl rfl rfl rfl rfl x, ?_⟩
      refine List.forall_mem_cons.2 ⟨fun x => Cert.W4.piece hk 14 ![14, 0] slices_S32x256_o14_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![896, 0] ![1792, 0] inb_S2048x256_S64x256_896_0 inb_S4096x256_S128x256_1792_0 rfl rfl rfl rfl rfl rfl x, ?_⟩
      refine List.forall_mem_cons.2 ⟨fun x => Cert.W4.piece hk 13 ![13, 0] slices_S32x256_o13_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![832, 0] ![1664, 0] inb_S2048x256_S64x256_832_0 inb_S4096x256_S128x256_1664_0 rfl rfl rfl rfl rfl rfl x, ?_⟩
      refine List.forall_mem_cons.2 ⟨fun x => Cert.W4.piece hk 12 ![12, 0] slices_S32x256_o12_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![768, 0] ![1536, 0] inb_S2048x256_S64x256_768_0 inb_S4096x256_S128x256_1536_0 rfl rfl rfl rfl rfl rfl x, ?_⟩
      refine List.forall_mem_cons.2 ⟨fun x => Cert.W4.piece hk 11 ![11, 0] slices_S32x256_o11_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![704, 0] ![1408, 0] inb_S2048x256_S64x256_704_0 inb_S4096x256_S128x256_1408_0 rfl rfl rfl rfl rfl rfl x, ?_⟩
      refine List.forall_mem_cons.2 ⟨fun x => Cert.W4.piece hk 10 ![10, 0] slices_S32x256_o10_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![640, 0] ![1280, 0] inb_S2048x256_S64x256_640_0 inb_S4096x256_S128x256_1280_0 rfl rfl rfl rfl rfl rfl x, ?_⟩
      refine List.forall_mem_cons.2 ⟨fun x => Cert.W4.piece hk 9 ![9, 0] slices_S32x256_o9_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![576, 0] ![1152, 0] inb_S2048x256_S64x256_576_0 inb_S4096x256_S128x256_1152_0 rfl rfl rfl rfl rfl rfl x, ?_⟩
      refine List.forall_mem_cons.2 ⟨fun x => Cert.W4.piece hk 8 ![8, 0] slices_S32x256_o8_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![512, 0] ![1024, 0] inb_S2048x256_S64x256_512_0 inb_S4096x256_S128x256_1024_0 rfl rfl rfl rfl rfl rfl x, ?_⟩
      refine List.forall_mem_cons.2 ⟨fun x => Cert.W4.piece hk 7 ![7, 0] slices_S32x256_o7_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![448, 0] ![896, 0] inb_S2048x256_S64x256_448_0 inb_S4096x256_S128x256_896_0 rfl rfl rfl rfl rfl rfl x, ?_⟩
      refine List.forall_mem_cons.2 ⟨fun x => Cert.W4.piece hk 6 ![6, 0] slices_S32x256_o6_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![384, 0] ![768, 0] inb_S2048x256_S64x256_384_0 inb_S4096x256_S128x256_768_0 rfl rfl rfl rfl rfl rfl x, ?_⟩
      refine List.forall_mem_cons.2 ⟨fun x => Cert.W4.piece hk 5 ![5, 0] slices_S32x256_o5_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![320, 0] ![640, 0] inb_S2048x256_S64x256_320_0 inb_S4096x256_S128x256_640_0 rfl rfl rfl rfl rfl rfl x, ?_⟩
      refine List.forall_mem_cons.2 ⟨fun x => Cert.W4.piece hk 4 ![4, 0] slices_S32x256_o4_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![256, 0] ![512, 0] inb_S2048x256_S64x256_256_0 inb_S4096x256_S128x256_512_0 rfl rfl rfl rfl rfl rfl x, ?_⟩
      refine List.forall_mem_cons.2 ⟨fun x => Cert.W4.piece hk 3 ![3, 0] slices_S32x256_o3_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![192, 0] ![384, 0] inb_S2048x256_S64x256_192_0 inb_S4096x256_S128x256_384_0 rfl rfl rfl rfl rfl rfl x, ?_⟩
      refine List.forall_mem_cons.2 ⟨fun x => Cert.W4.piece hk 2 ![2, 0] slices_S32x256_o2_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![128, 0] ![256, 0] inb_S2048x256_S64x256_128_0 inb_S4096x256_S128x256_256_0 rfl rfl rfl rfl rfl rfl x, ?_⟩
      refine List.forall_mem_cons.2 ⟨fun x => Cert.W4.piece hk 1 ![1, 0] slices_S32x256_o1_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![64, 0] ![128, 0] inb_S2048x256_S64x256_64_0 inb_S4096x256_S128x256_128_0 rfl rfl rfl rfl rfl rfl x, ?_⟩
      refine List.forall_mem_cons.2 ⟨fun x => Cert.W4.piece hk 0 ![0, 0] slices_S32x256_o0_0_S1x256 broadcasts_S1x256_S64x256 bitcasts_S64x256_w32_S128x256_w16 shapeCasts_S128x256_S128x256 (extsi 32 x7 natLt_8_32) (extsi 32 x8 natLt_8_32) x6 x7 x8 (fun _ => rfl) (fun _ => rfl) ![0, 0] ![0, 0] inb_S2048x256_S64x256_0_0 inb_S4096x256_S128x256_0_0 rfl rfl rfl rfl rfl rfl x, ?_⟩
      exact fun p hp => absurd hp List.not_mem_nil

/-- The first point leaves the converted activations in the scratch. -/
theorem sout_A (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S2048x256 .i8) (harg3 : arg3.IsWhole) (arg4 : Memref sig .tc .vmem S32x256 .i8) (harg4 : arg4.IsWhole) (arg5 : Memref sig .tc .vmem S32x256 .i8) (harg5 : arg5.IsWhole) (arg6 : Memref sig .tc .vmem S1x256 .f32) (harg6 : arg6.IsWhole) (arg7 : Memref sig .tc .vmem S2048x256 .i8) (harg7 : arg7.IsWhole) (arg8 : Memref sig .tc .vmem S32x256 .i8) (harg8 : arg8.IsWhole) (arg9 : Memref sig .tc .vmem S32x256 .i8) (harg9 : arg9.IsWhole) (arg10 : Memref sig .tc .vmem S1x256 .f32) (harg10 : arg10.IsWhole) (arg11 : Memref sig .tc .vmem S1152x256 .f32) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S1152x4096 .bf16) (harg14 : arg14.IsWhole) (hc0 : cond0_0 i)
    (x0 : Vec Ideal S1152x4096 .i8) (x1 : Vec Ideal S1152x1 .f32) (x2 : Vec Ideal S2048x256 .i8) (x3 : Vec Ideal S32x256 .i8) (x4 : Vec Ideal S32x256 .i8) (x5 : Vec Ideal S1x256 .f32) (x6 : Vec Ideal S2048x256 .i8) (x7 : Vec Ideal S32x256 .i8) (x8 : Vec Ideal S32x256 .i8) (x9 : Vec Ideal S1x256 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay2 x0 := by
  frame_out

end Cert.GateUpIdeal.Block

end
-- ==== Proof.Spec.lean ====
/- The product of integer activations with the unpacked weights, as a sum over the rows of the weights, and how a block of
   columns of the weights comes from the whole weights. -/
module

public import proofs.«01_k».proof.Proof.Tile

@[expose] public section

set_option maxRecDepth 16384

noncomputable section

namespace Cert.W4

open Idealize.ShloMosaic

/-- The index of a vector's element `j`. -/
def at1 {n : ℕ} (j : Fin n) : (⟨1, ![n]⟩ : Shape).Idx := fun a => match a with | ⟨0, _⟩ => j

/-- A signed byte as an extended real. -/
def real (b : BitVec 8) : EReal := ((b.toInt : ℝ) : EReal)

/-- Row `i` of the activations times column `j` of the weights. -/
def rowProd {M N n : ℕ} (a : (Sh M N).Idx → BitVec 8) (w : (Sh N n).Idx → EReal) (i : Fin M) (j : Fin n) : EReal :=
  ∑ k : Fin N, real (a (ix2 i k)) * w (ix2 k j)

theorem toInt_signExtend (b : BitVec 8) : (b.signExtend 32).toInt = b.toInt := by
  revert b; decide +kernel

/-- The arithmetic shift of a byte widened with zeros is the logical one. -/
theorem shrsi_byte (c : BitVec 8) : IntOp.shrsi .host (c.setWidth 32) 4#32 = c.setWidth 32 >>> (4 : ℕ) := by
  revert c; decide +kernel

/-- The weights at a row and a column. -/
theorem weights_ix2 {N kh ng n : ℕ} (hk : ∀ r, r < N → r / 2 < kh ∧ r / 128 < ng) (c : IVec (Sh kh n) 8) (s z : (Sh ng n).Idx → BitVec 8)
    (k : Fin N) (j : Fin n) : weights hk c s z (ix2 k j)
      = wval (c (ix2 (⟨k.val / 2, (hk _ k.isLt).1⟩ : Fin kh) j)) (s (ix2 (⟨k.val / 128, (hk _ k.isLt).2⟩ : Fin ng) j))
          (z (ix2 (⟨k.val / 128, (hk _ k.isLt).2⟩ : Fin ng) j)) (k.val % 2) := rfl

/-- The weights of a block of columns are the whole weights at the block's columns. -/
theorem weights_cols {N kh ng n n' : ℕ} (hk : ∀ r, r < N → r / 2 < kh ∧ r / 128 < ng) (c : IVec (Sh kh n) 8) (s z : (Sh ng n).Idx → BitVec 8)
    (c' : IVec (Sh kh n') 8) (s' z' : (Sh ng n').Idx → BitVec 8) (j : Fin n) (j' : Fin n')
    (hc : ∀ i, c (ix2 i j) = c' (ix2 i j')) (hs : ∀ i, s (ix2 i j) = s' (ix2 i j')) (hz : ∀ i, z (ix2 i j) = z' (ix2 i j')) (k : Fin N) :
    weights hk c s z (ix2 k j) = weights hk c' s' z' (ix2 k j') := by
  rw [weights_ix2, weights_ix2, hc, hs, hz]

end Cert.W4

end
-- ==== Proof.GateUpRef.lean ====
/- The gate and up projections' reference at a row and a column. -/
module

public import proofs.«01_k».proof.Proof.Spec
public import proofs.«01_k».proof.Proof.Gen.GateUpRefIdeal.Read
public import proofs.«01_k».proof.Proof.Gen.GateUpRefIdeal.Run

@[expose] public section

set_option maxRecDepth 16384

noncomputable section

namespace Cert.GateUpRefIdeal.At

open Cert.GateUpRefIdeal Cert.GateUpRefIdeal.Read Idealize.ShloMosaic Idealize.ShloMosaic.TcCoe Idealize.SL.Sem

/-- Row `r` of the weights comes from row `r / 2` of the code bytes and from group `r / 128`. -/
theorem hk : ∀ r, r < 4096 → r / 2 < 2048 ∧ r / 128 < 32 := fun r h => by omega

/-- The even rows' weights, as the reference computes them from the low nibbles. -/
theorem lo_gate (x2 : (⟨S2048x14336, .i8⟩ : BufTy).Contents (Elt Ideal)) (x3 x4 : (⟨S32x14336, .i8⟩ : BufTy).Contents (Elt Ideal)) (k : Fin 2048) (j : Fin 14336) :
    val_main_v28 (F := Ideal) x2 x3 x4 (ix2 k j)
      = Cert.W4.wval (x2 (ix2 k j)) (x3 (ix2 (⟨k.val / 64, by omega⟩ : Fin 32) j)) (x4 (ix2 (⟨k.val / 64, by omega⟩ : Fin 32) j)) 0 := by
  have hk := k.isLt
  have hj := j.isLt
  have e1 : idx_main_v7 (idx_main_v13 (ix2 k j)) = ix2 k j := funext fun a => Fin.ext (by
    match a with
    | ⟨0, _⟩ => show (((k.val * 14336 + j.val) / 917504 * 64 + (k.val * 14336 + j.val) / 14336 % 64) * 14336 + (k.val * 14336 + j.val) % 14336) / 14336 = k.val; omega
    | ⟨1, _⟩ => show (((k.val * 14336 + j.val) / 917504 * 64 + (k.val * 14336 + j.val) / 14336 % 64) * 14336 + (k.val * 14336 + j.val) % 14336) % 14336 = j.val; omega)
  have e2 : idx_main_v3 (idx_main_v8 (idx_main_v13 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  have e3 : idx_main_v1 (idx_main_v10 (idx_main_v13 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  rw [val_main_v28_apply, val_main_v27_apply, val_main_v13_apply, val_main_v12_apply, val_main_v11_apply, val_main_v9_apply, val_main_v7_apply, val_main_v8_apply, val_main_v3_apply, val_main_v2_apply, val_main_v10_apply, val_main_v1_apply, val_main_v0_apply, val_main_v6_apply, val_main_v4_apply, val_main_v5_apply, val_main_c_apply, e1, e2, e3]
  unfold Cert.W4.wval Cert.W4.weight
  rw [if_pos rfl]
  show (((BitVec.signExtend 32 (BitVec.setWidth 8 _)).toInt : ℝ) : EReal) = _
  rw [Cert.W4.toInt_signExtend]
  rfl

/-- The odd rows' weights, as the reference computes them from the high nibbles. -/
theorem hi_gate (x2 : (⟨S2048x14336, .i8⟩ : BufTy).Contents (Elt Ideal)) (x3 x4 : (⟨S32x14336, .i8⟩ : BufTy).Contents (Elt Ideal)) (k : Fin 2048) (j : Fin 14336) :
    val_main_v34 (F := Ideal) x2 x3 x4 (ix2 k j)
      = Cert.W4.wval (x2 (ix2 k j)) (x3 (ix2 (⟨k.val / 64, by omega⟩ : Fin 32) j)) (x4 (ix2 (⟨k.val / 64, by omega⟩ : Fin 32) j)) 1 := by
  have hk := k.isLt
  have hj := j.isLt
  have e1 : idx_main_v17 (idx_main_v23 (ix2 k j)) = ix2 k j := funext fun a => Fin.ext (by
    match a with
    | ⟨0, _⟩ => show (((k.val * 14336 + j.val) / 917504 * 64 + (k.val * 14336 + j.val) / 14336 % 64) * 14336 + (k.val * 14336 + j.val) % 14336) / 14336 = k.val; omega
    | ⟨1, _⟩ => show (((k.val * 14336 + j.val) / 917504 * 64 + (k.val * 14336 + j.val) / 14336 % 64) * 14336 + (k.val * 14336 + j.val) % 14336) % 14336 = j.val; omega)
  have e2 : idx_main_v3 (idx_main_v18 (idx_main_v23 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  have e3 : idx_main_v1 (idx_main_v20 (idx_main_v23 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  rw [val_main_v34_apply, val_main_v33_apply, val_main_v23_apply, val_main_v22_apply, val_main_v21_apply, val_main_v19_apply, val_main_v17_apply, val_main_v18_apply, val_main_v3_apply, val_main_v2_apply, val_main_v20_apply, val_main_v1_apply, val_main_v0_apply, val_main_v16_apply, val_main_v14_apply, val_main_v15_apply, val_main_c_0_apply, e1, e2, e3]
  unfold Cert.W4.wval Cert.W4.weight
  rw [if_neg (by decide), Cert.W4.shrsi_byte]
  show (((BitVec.signExtend 32 (BitVec.setWidth 8 _)).toInt : ℝ) : EReal) = _
  rw [Cert.W4.toInt_signExtend]
  rfl

/-- The reference's two products, over the even and the odd columns of the activations, are one product with all the weights. -/
theorem prod_gate (x0 : (⟨S1152x4096, .i8⟩ : BufTy).Contents (Elt Ideal)) (x2 : (⟨S2048x14336, .i8⟩ : BufTy).Contents (Elt Ideal)) (x3 x4 : (⟨S32x14336, .i8⟩ : BufTy).Contents (Elt Ideal)) (i : Fin 1152) (j : Fin 14336) :
    val_main_v36 (F := Ideal) x0 x2 x3 x4 (ix2 i j) = Cert.W4.rowProd x0 (Cert.W4.weights hk x2 x3 x4) i j := by
  unfold Cert.W4.rowProd
  rw [val_main_v36_apply, val_main_v29_apply, val_main_v35_apply, Cert.W4.sum_even_odd 2048 4096 rfl]
  show (_ : EReal) + _ = _
  refine congrArg₂ (· + ·) (Finset.sum_congr rfl fun k _ => ?_) (Finset.sum_congr rfl fun k _ => ?_)
  · have hk := k.isLt
    rw [show lidx_main_v29 (ix2 i j) k = ix2 i k from funext fun a => by match a with | ⟨0, _⟩ => rfl | ⟨1, _⟩ => rfl,
      show ridx_main_v29 (ix2 i j) k = ix2 k j from funext fun a => by match a with | ⟨0, _⟩ => rfl | ⟨1, _⟩ => rfl,
      lo_gate, val_main_v26_apply, val_main_v25_apply, Cert.W4.weights_ix2,
      show val_main_v24 (F := Ideal) x0 (ix2 i k) = x0 (ix2 i (⟨2 * k.val, by omega⟩ : Fin 4096)) from congrArg x0 (funext fun a => Fin.ext (by
        match a with
        | ⟨0, _⟩ => show 0 + 1 * i.val = i.val; omega
        | ⟨1, _⟩ => show 0 + 2 * k.val = 2 * k.val; omega))]
    show (((BitVec.signExtend 32 _).toInt : ℝ) : EReal) * _ = _
    rw [Cert.W4.toInt_signExtend]
    have e1 : (⟨(2 * k.val) / 2, by omega⟩ : Fin 2048) = k := Fin.ext (by show (2 * k.val) / 2 = k.val; omega)
    have e2 : (⟨(2 * k.val) / 128, by omega⟩ : Fin 32) = ⟨k.val / 64, by omega⟩ := Fin.ext (by show (2 * k.val) / 128 = k.val / 64; omega)
    have e3 : (2 * k.val) % 2 = 0 := by omega
    simp only [e1, e2, e3]
    rfl
  · have hk := k.isLt
    rw [show lidx_main_v35 (ix2 i j) k = ix2 i k from funext fun a => by match a with | ⟨0, _⟩ => rfl | ⟨1, _⟩ => rfl,
      show ridx_main_v35 (ix2 i j) k = ix2 k j from funext fun a => by match a with | ⟨0, _⟩ => rfl | ⟨1, _⟩ => rfl,
      hi_gate, val_main_v32_apply, val_main_v31_apply, Cert.W4.weights_ix2,
      show val_main_v30 (F := Ideal) x0 (ix2 i k) = x0 (ix2 i (⟨2 * k.val + 1, by omega⟩ : Fin 4096)) from congrArg x0 (funext fun a => Fin.ext (by
        match a with
        | ⟨0, _⟩ => show 0 + 1 * i.val = i.val; omega
        | ⟨1, _⟩ => show 1 + 2 * k.val = 2 * k.val + 1; omega))]
    show (((BitVec.signExtend 32 _).toInt : ℝ) : EReal) * _ = _
    rw [Cert.W4.toInt_signExtend]
    have e1 : (⟨(2 * k.val + 1) / 2, by omega⟩ : Fin 2048) = k := Fin.ext (by show (2 * k.val + 1) / 2 = k.val; omega)
    have e2 : (⟨(2 * k.val + 1) / 128, by omega⟩ : Fin 32) = ⟨k.val / 64, by omega⟩ := Fin.ext (by show (2 * k.val + 1) / 128 = k.val / 64; omega)
    have e3 : (2 * k.val + 1) % 2 = 1 := by omega
    simp only [e1, e2, e3]
    rfl

/-- The scaled product at a row and a column. -/
theorem scaled_gate (x0 : (⟨S1152x4096, .i8⟩ : BufTy).Contents (Elt Ideal)) (x1 : (⟨S1152x1, .f32⟩ : BufTy).Contents (Elt Ideal)) (x2 : (⟨S2048x14336, .i8⟩ : BufTy).Contents (Elt Ideal)) (x3 x4 : (⟨S32x14336, .i8⟩ : BufTy).Contents (Elt Ideal)) (x5 : (⟨S14336, .f32⟩ : BufTy).Contents (Elt Ideal)) (i : Fin 1152) (j : Fin 14336) :
    val_main_v41 (F := Ideal) x0 x1 x2 x3 x4 x5 (ix2 i j)
      = Cert.W4.rowProd x0 (Cert.W4.weights hk x2 x3 x4) i j * x1 (ix2 i 0) * x5 (Cert.W4.at1 j) := by
  rw [val_main_v41_apply, val_main_v38_apply, prod_gate, val_main_v37_apply, val_main_v40_apply, val_main_v39_apply]
  have e1 : idx_main_v37 (ix2 i j) = ix2 i 0 := funext fun a => by match a with | ⟨0, _⟩ => rfl | ⟨1, _⟩ => rfl
  have e2 : idx_main_v39 (idx_main_v40 (ix2 i j)) = (Cert.W4.at1 j) := funext fun a => by match a with | ⟨0, _⟩ => rfl
  rw [e1, e2]
  rfl

/-- The even rows' weights, as the reference computes them from the low nibbles. -/
theorem lo_up (x6 : (⟨S2048x14336, .i8⟩ : BufTy).Contents (Elt Ideal)) (x7 x8 : (⟨S32x14336, .i8⟩ : BufTy).Contents (Elt Ideal)) (k : Fin 2048) (j : Fin 14336) :
    val_main_v70 (F := Ideal) x6 x7 x8 (ix2 k j)
      = Cert.W4.wval (x6 (ix2 k j)) (x7 (ix2 (⟨k.val / 64, by omega⟩ : Fin 32) j)) (x8 (ix2 (⟨k.val / 64, by omega⟩ : Fin 32) j)) 0 := by
  have hk := k.isLt
  have hj := j.isLt
  have e1 : idx_main_v49 (idx_main_v55 (ix2 k j)) = ix2 k j := funext fun a => Fin.ext (by
    match a with
    | ⟨0, _⟩ => show (((k.val * 14336 + j.val) / 917504 * 64 + (k.val * 14336 + j.val) / 14336 % 64) * 14336 + (k.val * 14336 + j.val) % 14336) / 14336 = k.val; omega
    | ⟨1, _⟩ => show (((k.val * 14336 + j.val) / 917504 * 64 + (k.val * 14336 + j.val) / 14336 % 64) * 14336 + (k.val * 14336 + j.val) % 14336) % 14336 = j.val; omega)
  have e2 : idx_main_v45 (idx_main_v50 (idx_main_v55 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  have e3 : idx_main_v43 (idx_main_v52 (idx_main_v55 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  rw [val_main_v70_apply, val_main_v69_apply, val_main_v55_apply, val_main_v54_apply, val_main_v53_apply, val_main_v51_apply, val_main_v49_apply, val_main_v50_apply, val_main_v45_apply, val_main_v44_apply, val_main_v52_apply, val_main_v43_apply, val_main_v42_apply, val_main_v48_apply, val_main_v46_apply, val_main_v47_apply, val_main_c_1_apply, e1, e2, e3]
  unfold Cert.W4.wval Cert.W4.weight
  rw [if_pos rfl]
  show (((BitVec.signExtend 32 (BitVec.setWidth 8 _)).toInt : ℝ) : EReal) = _
  rw [Cert.W4.toInt_signExtend]
  rfl

/-- The odd rows' weights, as the reference computes them from the high nibbles. -/
theorem hi_up (x6 : (⟨S2048x14336, .i8⟩ : BufTy).Contents (Elt Ideal)) (x7 x8 : (⟨S32x14336, .i8⟩ : BufTy).Contents (Elt Ideal)) (k : Fin 2048) (j : Fin 14336) :
    val_main_v76 (F := Ideal) x6 x7 x8 (ix2 k j)
      = Cert.W4.wval (x6 (ix2 k j)) (x7 (ix2 (⟨k.val / 64, by omega⟩ : Fin 32) j)) (x8 (ix2 (⟨k.val / 64, by omega⟩ : Fin 32) j)) 1 := by
  have hk := k.isLt
  have hj := j.isLt
  have e1 : idx_main_v59 (idx_main_v65 (ix2 k j)) = ix2 k j := funext fun a => Fin.ext (by
    match a with
    | ⟨0, _⟩ => show (((k.val * 14336 + j.val) / 917504 * 64 + (k.val * 14336 + j.val) / 14336 % 64) * 14336 + (k.val * 14336 + j.val) % 14336) / 14336 = k.val; omega
    | ⟨1, _⟩ => show (((k.val * 14336 + j.val) / 917504 * 64 + (k.val * 14336 + j.val) / 14336 % 64) * 14336 + (k.val * 14336 + j.val) % 14336) % 14336 = j.val; omega)
  have e2 : idx_main_v45 (idx_main_v60 (idx_main_v65 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  have e3 : idx_main_v43 (idx_main_v62 (idx_main_v65 (ix2 k j))) = ix2 (⟨k.val / 64, by omega⟩ : Fin 32) j := funext fun a => Fin.ext (by
    match a with
    | ⟨0, _⟩ => show (k.val * 14336 + j.val) / 917504 = k.val / 64; omega
    | ⟨1, _⟩ => show (k.val * 14336 + j.val) % 14336 = j.val; omega)
  rw [val_main_v76_apply, val_main_v75_apply, val_main_v65_apply, val_main_v64_apply, val_main_v63_apply, val_main_v61_apply, val_main_v59_apply, val_main_v60_apply, val_main_v45_apply, val_main_v44_apply, val_main_v62_apply, val_main_v43_apply, val_main_v42_apply, val_main_v58_apply, val_main_v56_apply, val_main_v57_apply, val_main_c_2_apply, e1, e2, e3]
  unfold Cert.W4.wval Cert.W4.weight
  rw [if_neg (by decide), Cert.W4.shrsi_byte]
  show (((BitVec.signExtend 32 (BitVec.setWidth 8 _)).toInt : ℝ) : EReal) = _
  rw [Cert.W4.toInt_signExtend]
  rfl

/-- The reference's two products, over the even and the odd columns of the activations, are one product with all the weights. -/
theorem prod_up (x0 : (⟨S1152x4096, .i8⟩ : BufTy).Contents (Elt Ideal)) (x6 : (⟨S2048x14336, .i8⟩ : BufTy).Contents (Elt Ideal)) (x7 x8 : (⟨S32x14336, .i8⟩ : BufTy).Contents (Elt Ideal)) (i : Fin 1152) (j : Fin 14336) :
    val_main_v78 (F := Ideal) x0 x6 x7 x8 (ix2 i j) = Cert.W4.rowProd x0 (Cert.W4.weights hk x6 x7 x8) i j := by
  unfold Cert.W4.rowProd
  rw [val_main_v78_apply, val_main_v71_apply, val_main_v77_apply, Cert.W4.sum_even_odd 2048 4096 rfl]
  show (_ : EReal) + _ = _
  refine congrArg₂ (· + ·) (Finset.sum_congr rfl fun k _ => ?_) (Finset.sum_congr rfl fun k _ => ?_)
  · have hk := k.isLt
    rw [show lidx_main_v71 (ix2 i j) k = ix2 i k from funext fun a => by match a with | ⟨0, _⟩ => rfl | ⟨1, _⟩ => rfl,
      show ridx_main_v71 (ix2 i j) k = ix2 k j from funext fun a => by match a with | ⟨0, _⟩ => rfl | ⟨1, _⟩ => rfl,
      lo_up, val_main_v68_apply, val_main_v67_apply, Cert.W4.weights_ix2,
      show val_main_v66 (F := Ideal) x0 (ix2 i k) = x0 (ix2 i (⟨2 * k.val, by omega⟩ : Fin 4096)) from congrArg x0 (funext fun a => Fin.ext (by
        match a with
        | ⟨0, _⟩ => show 0 + 1 * i.val = i.val; omega
        | ⟨1, _⟩ => show 0 + 2 * k.val = 2 * k.val; omega))]
    show (((BitVec.signExtend 32 _).toInt : ℝ) : EReal) * _ = _
    rw [Cert.W4.toInt_signExtend]
    have e1 : (⟨(2 * k.val) / 2, by omega⟩ : Fin 2048) = k := Fin.ext (by show (2 * k.val) / 2 = k.val; omega)
    have e2 : (⟨(2 * k.val) / 128, by omega⟩ : Fin 32) = ⟨k.val / 64, by omega⟩ := Fin.ext (by show (2 * k.val) / 128 = k.val / 64; omega)
    have e3 : (2 * k.val) % 2 = 0 := by omega
    simp only [e1, e2, e3]
    rfl
  · have hk := k.isLt
    rw [show lidx_main_v77 (ix2 i j) k = ix2 i k from funext fun a => by match a with | ⟨0, _⟩ => rfl | ⟨1, _⟩ => rfl,
      show ridx_main_v77 (ix2 i j) k = ix2 k j from funext fun a => by match a with | ⟨0, _⟩ => rfl | ⟨1, _⟩ => rfl,
      hi_up, val_main_v74_apply, val_main_v73_apply, Cert.W4.weights_ix2,
      show val_main_v72 (F := Ideal) x0 (ix2 i k) = x0 (ix2 i (⟨2 * k.val + 1, by omega⟩ : Fin 4096)) from congrArg x0 (funext fun a => Fin.ext (by
        match a with
        | ⟨0, _⟩ => show 0 + 1 * i.val = i.val; omega
        | ⟨1, _⟩ => show 1 + 2 * k.val = 2 * k.val + 1; omega))]
    show (((BitVec.signExtend 32 _).toInt : ℝ) : EReal) * _ = _
    rw [Cert.W4.toInt_signExtend]
    have e1 : (⟨(2 * k.val + 1) / 2, by omega⟩ : Fin 2048) = k := Fin.ext (by show (2 * k.val + 1) / 2 = k.val; omega)
    have e2 : (⟨(2 * k.val + 1) / 128, by omega⟩ : Fin 32) = ⟨k.val / 64, by omega⟩ := Fin.ext (by show (2 * k.val + 1) / 128 = k.val / 64; omega)
    have e3 : (2 * k.val + 1) % 2 = 1 := by omega
    simp only [e1, e2, e3]
    rfl

/-- The scaled product at a row and a column. -/
theorem scaled_up (x0 : (⟨S1152x4096, .i8⟩ : BufTy).Contents (Elt Ideal)) (x1 : (⟨S1152x1, .f32⟩ : BufTy).Contents (Elt Ideal)) (x6 : (⟨S2048x14336, .i8⟩ : BufTy).Contents (Elt Ideal)) (x7 x8 : (⟨S32x14336, .i8⟩ : BufTy).Contents (Elt Ideal)) (x9 : (⟨S14336, .f32⟩ : BufTy).Contents (Elt Ideal)) (i : Fin 1152) (j : Fin 14336) :
    val_main_v83 (F := Ideal) x0 x1 x6 x7 x8 x9 (ix2 i j)
      = Cert.W4.rowProd x0 (Cert.W4.weights hk x6 x7 x8) i j * x1 (ix2 i 0) * x9 (Cert.W4.at1 j) := by
  rw [val_main_v83_apply, val_main_v80_apply, prod_up, val_main_v79_apply, val_main_v82_apply, val_main_v81_apply]
  have e1 : idx_main_v79 (ix2 i j) = ix2 i 0 := funext fun a => by match a with | ⟨0, _⟩ => rfl | ⟨1, _⟩ => rfl
  have e2 : idx_main_v81 (idx_main_v82 (ix2 i j)) = (Cert.W4.at1 j) := funext fun a => by match a with | ⟨0, _⟩ => rfl
  rw [e1, e2]
  rfl

end Cert.GateUpRefIdeal.At

end
-- ==== Proof.GateUp.lean ====
/- The gate and up products: the array after the run is the scaled gate times its logistic times the scaled up product, which is
   what the reference computes. -/
module

public import proofs.«01_k».proof.Defs
public import proofs.«01_k».proof.Proof.GateUpBlock
public import proofs.«01_k».proof.Proof.GateUpRef
public import proofs.«01_k».proof.Proof.Gen.GateUp.Frame
public import Idealize.ShloMosaic.Lib.ValueLayout
public import Idealize.ShloMosaic.Lib.IdealHost

@[expose] public section

set_option maxRecDepth 16384

noncomputable section

namespace Cert.GateUpIdeal.Whole

open Cert.GateUpIdeal Cert.GateUpIdeal.Gen Cert.GateUpIdeal.Value Cert.GateUpIdeal.Block Idealize.ShloMosaic Idealize.ShloMosaic.TcCoe Idealize.SL.Sem

/-- The logistic function's gate times the up value. -/
def act (g u : EReal) : EReal := g * Ideal.logistic g * u

/-- A block's value at a row and a column. -/
theorem blockVal_at (a : Vec Ideal S1152x4096 .bf16) (x1 : Vec Ideal S1152x1 .f32) (x2 : Vec Ideal S2048x256 .i8) (x3 x4 : Vec Ideal S32x256 .i8) (x5 : Vec Ideal S1x256 .f32)
    (x6 : Vec Ideal S2048x256 .i8) (x7 x8 : Vec Ideal S32x256 .i8) (x9 : Vec Ideal S1x256 .f32) (i : Fin 1152) (j : Fin 256) :
    blockVal a x1 x2 x3 x4 x5 x6 x7 x8 x9 (ix2 i j)
      = act ((∑ k : Fin 4096, (a (ix2 i k) : EReal) * Cert.W4.weights hk x2 x3 x4 (ix2 k j)) * x1 (ix2 i 0) * x5 (ix2 0 j))
          ((∑ k : Fin 4096, (a (ix2 i k) : EReal) * Cert.W4.weights hk x6 x7 x8 (ix2 k j)) * x1 (ix2 i 0) * x9 (ix2 0 j)) := by
  unfold blockVal act
  pointwise [k0_pay1, k0_pay139, k0_pay140, k0_pay141]

/-- The activations as real numbers. -/
theorem acts_at (x0 : Vec Ideal S1152x4096 .i8) (i : Fin 1152) (k : Fin 4096) : (k0_pay2 x0 (ix2 i k) : EReal) = Cert.W4.real (x0 (ix2 i k)) := by
  pointwise [k0_pay2]
  rfl

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)
theorem idx7 : ∀ t : Fin cfg0.N, win0_7.index t (0 : Fin 2) = 0 ∧ win0_7.index t (1 : Fin 2) = t.val := (by decide +kernel : ∀ t : Fin grid0.N, _)
theorem idx8 : ∀ t : Fin cfg0.N, win0_8.index t (0 : Fin 2) = 0 ∧ win0_8.index t (1 : Fin 2) = t.val := (by decide +kernel : ∀ t : Fin grid0.N, _)
theorem idx9 : ∀ t : Fin cfg0.N, win0_9.index t (0 : Fin 2) = 0 ∧ win0_9.index t (1 : Fin 2) = t.val := (by decide +kernel : ∀ t : Fin grid0.N, _)

/-- The activations and their scales are whole at every point. -/
theorem blk0 (c : Dev nD) (t : Fin cfg0.N) : iblk m c 0 t = m ((c : Thread nD τ).loc main_arg0) := by
  obtain ⟨e0, e1⟩ := idx0 t
  funext j
  refine (show iblk m c 0 t j = V m c main_arg0 (((cfg0.win 0).blk t).view.emb j) from rfl).trans ?_
  rw [V_main_arg0]
  refine congrArg (m ((c : Thread nD τ).loc main_arg0)) (funext fun a => Fin.ext ?_)
  match a with
  | ⟨0, _⟩ => show win0_0.index t (0 : Fin 2) * 1152 + 1 * (j 0).val = (j 0).val; omega
  | ⟨1, _⟩ => show win0_0.index t (1 : Fin 2) * 4096 + 1 * (j 1).val = (j 1).val; omega

theorem blk1 (c : Dev nD) (t : Fin cfg0.N) (i : Fin 1152) : iblk m c 1 t (ix2 i 0) = m ((c : Thread nD τ).loc main_arg1) (ix2 i 0) := by
  obtain ⟨e0, e1⟩ := idx1 t
  refine (show iblk m c 1 t (ix2 i 0) = V m c main_arg1 (((cfg0.win 1).blk t).view.emb (ix2 i 0)) from rfl).trans ?_
  rw [V_main_arg1]
  refine congrArg (m ((c : Thread nD τ).loc main_arg1)) (funext fun a => Fin.ext ?_)
  match a with
  | ⟨0, _⟩ => show win0_1.index t (0 : Fin 2) * 1152 + 1 * i.val = i.val; omega
  | ⟨1, _⟩ => show win0_1.index t (1 : Fin 2) * 1 + 1 * 0 = 0; omega

/-- Column `j` of point `t`'s block is column `256 t + j` of the array. -/
def col (t : Fin cfg0.N) (j : Fin 256) : Fin 14336 := ⟨256 * t.val + j.val, by have h : t.val < 56 := lt_of_lt_of_eq t.isLt N_0; omega⟩

theorem blk2 (c : Dev nD) (t : Fin cfg0.N) (i : Fin 2048) (j : Fin 256) : iblk m c 2 t (ix2 i j) = m ((c : Thread nD τ).loc main_arg2) (ix2 i (col t j)) := by
  obtain ⟨e0, e1⟩ := idx2 t
  refine (show iblk m c 2 t (ix2 i j) = V m c main_arg2 (((cfg0.win 2).blk t).view.emb (ix2 i j)) from rfl).trans ?_
  rw [V_main_arg2]
  refine congrArg (m ((c : Thread nD τ).loc main_arg2)) (funext fun a => Fin.ext ?_)
  match a with
  | ⟨0, _⟩ => show win0_2.index t (0 : Fin 2) * 2048 + 1 * i.val = i.val; omega
  | ⟨1, _⟩ => show win0_2.index t (1 : Fin 2) * 256 + 1 * j.val = 256 * t.val + j.val; omega

theorem blk3 (c : Dev nD) (t : Fin cfg0.N) (i : Fin 32) (j : Fin 256) : iblk m c 3 t (ix2 i j) = m ((c : Thread nD τ).loc main_arg3) (ix2 i (col t j)) := by
  obtain ⟨e0, e1⟩ := idx3 t
  refine (show iblk m c 3 t (ix2 i j) = V m c main_arg3 (((cfg0.win 3).blk t).view.emb (ix2 i j)) from rfl).trans ?_
  rw [V_main_arg3]
  refine congrArg (m ((c : Thread nD τ).loc main_arg3)) (funext fun a => Fin.ext ?_)
  match a with
  | ⟨0, _⟩ => show win0_3.index t (0 : Fin 2) * 32 + 1 * i.val = i.val; omega
  | ⟨1, _⟩ => show win0_3.index t (1 : Fin 2) * 256 + 1 * j.val = 256 * t.val + j.val; omega

theorem blk4 (c : Dev nD) (t : Fin cfg0.N) (i : Fin 32) (j : Fin 256) : iblk m c 4 t (ix2 i j) = m ((c : Thread nD τ).loc main_arg4) (ix2 i (col t j)) := by
  obtain ⟨e0, e1⟩ := idx4 t
  refine (show iblk m c 4 t (ix2 i j) = V m c main_arg4 (((cfg0.win 4).blk t).view.emb (ix2 i j)) from rfl).trans ?_
  rw [V_main_arg4]
  refine congrArg (m ((c : Thread nD τ).loc main_arg4)) (funext fun a => Fin.ext ?_)
  match a with
  | ⟨0, _⟩ => show win0_4.index t (0 : Fin 2) * 32 + 1 * i.val = i.val; omega
  | ⟨1, _⟩ => show win0_4.index t (1 : Fin 2) * 256 + 1 * j.val = 256 * t.val + j.val; omega

theorem blk6 (c : Dev nD) (t : Fin cfg0.N) (i : Fin 2048) (j : Fin 256) : iblk m c 6 t (ix2 i j) = m ((c : Thread nD τ).loc main_arg6) (ix2 i (col t j)) := by
  obtain ⟨e0, e1⟩ := idx6 t
  refine (show iblk m c 6 t (ix2 i j) = V m c main_arg6 (((cfg0.win 6).blk t).view.emb (ix2 i j)) from rfl).trans ?_
  rw [V_main_arg6]
  refine congrArg (m ((c : Thread nD τ).loc main_arg6)) (funext fun a => Fin.ext ?_)
  match a with
  | ⟨0, _⟩ => show win0_6.index t (0 : Fin 2) * 2048 + 1 * i.val = i.val; omega
  | ⟨1, _⟩ => show win0_6.index t (1 : Fin 2) * 256 + 1 * j.val = 256 * t.val + j.val; omega

theorem blk7 (c : Dev nD) (t : Fin cfg0.N) (i : Fin 32) (j : Fin 256) : iblk m c 7 t (ix2 i j) = m ((c : Thread nD τ).loc main_arg7) (ix2 i (col t j)) := by
  obtain ⟨e0, e1⟩ := idx7 t
  refine (show iblk m c 7 t (ix2 i j) = V m c main_arg7 (((cfg0.win 7).blk t).view.emb (ix2 i j)) from rfl).trans ?_
  rw [V_main_arg7]
  refine congrArg (m ((c : Thread nD τ).loc main_arg7)) (funext fun a => Fin.ext ?_)
  match a with
  | ⟨0, _⟩ => show win0_7.index t (0 : Fin 2) * 32 + 1 * i.val = i.val; omega
  | ⟨1, _⟩ => show win0_7.index t (1 : Fin 2) * 256 + 1 * j.val = 256 * t.val + j.val; omega

theorem blk8 (c : Dev nD) (t : Fin cfg0.N) (i : Fin 32) (j : Fin 256) : iblk m c 8 t (ix2 i j) = m ((c : Thread nD τ).loc main_arg8) (ix2 i (col t j)) := by
  obtain ⟨e0, e1⟩ := idx8 t
  refine (show iblk m c 8 t (ix2 i j) = V m c main_arg8 (((cfg0.win 8).blk t).view.emb (ix2 i j)) from rfl).trans ?_
  rw [V_main_arg8]
  refine congrArg (m ((c : Thread nD τ).loc main_arg8)) (funext fun a => Fin.ext ?_)
  match a with
  | ⟨0, _⟩ => show win0_8.index t (0 : Fin 2) * 32 + 1 * i.val = i.val; omega
  | ⟨1, _⟩ => show win0_8.index t (1 : Fin 2) * 256 + 1 * j.val = 256 * t.val + j.val; omega

/-- The column scales as the region finds them: one row. -/
theorem V_row5 (c : Dev nD) : V m c main_v0 = shapeCast S1x14336 (m ((c : Thread nD τ).loc main_arg5)) shapeCasts_S14336_S1x14336 := by
  show StableHlo.after hostOps0 (fun b => m (c, b)) (Proc.devRef .tc main_v0) = _
  after_results_simp <;> rfl

theorem blk5 (c : Dev nD) (t : Fin cfg0.N) (j : Fin 256) :
    iblk m c 5 t (ix2 0 j) = m ((c : Thread nD τ).loc main_arg5) (Cert.W4.at1 (col t j)) := by
  obtain ⟨e0, e1⟩ := idx5 t
  refine (show iblk m c 5 t (ix2 0 j) = V m c main_v0 (((cfg0.win 5).blk t).view.emb (ix2 0 j)) from rfl).trans ?_
  rw [V_row5]
  have e : ((cfg0.win 5).blk t).view.emb (ix2 0 j) = (ix2 (0 : Fin 1) (col t j) : S1x14336.Idx) := funext fun a => Fin.ext (by
    match a with
    | ⟨0, _⟩ => show win0_5.index t (0 : Fin 2) * 1 + 1 * 0 = 0; omega
    | ⟨1, _⟩ => show win0_5.index t (1 : Fin 2) * 256 + 1 * j.val = 256 * t.val + j.val; omega)
  rw [e]
  refine (ValueIdx.shapeCast_a_1a_apply _ _ _ _).trans ?_
  refine congrArg (m ((c : Thread nD τ).loc main_arg5)) (funext fun a => Fin.ext ?_)
  match a with
  | ⟨0, _⟩ => rfl

/-- The column scales as the region finds them: one row. -/
theorem V_row9 (c : Dev nD) : V m c main_v1 = shapeCast S1x14336 (m ((c : Thread nD τ).loc main_arg9)) shapeCasts_S14336_S1x14336 := by
  show StableHlo.after hostOps0 (fun b => m (c, b)) (Proc.devRef .tc main_v1) = _
  after_results_simp <;> rfl

theorem blk9 (c : Dev nD) (t : Fin cfg0.N) (j : Fin 256) :
    iblk m c 9 t (ix2 0 j) = m ((c : Thread nD τ).loc main_arg9) (Cert.W4.at1 (col t j)) := by
  obtain ⟨e0, e1⟩ := idx9 t
  refine (show iblk m c 9 t (ix2 0 j) = V m c main_v1 (((cfg0.win 9).blk t).view.emb (ix2 0 j)) from rfl).trans ?_
  rw [V_row9]
  have e : ((cfg0.win 9).blk t).view.emb (ix2 0 j) = (ix2 (0 : Fin 1) (col t j) : S1x14336.Idx) := funext fun a => Fin.ext (by
    match a with
    | ⟨0, _⟩ => show win0_9.index t (0 : Fin 2) * 1 + 1 * 0 = 0; omega
    | ⟨1, _⟩ => show win0_9.index t (1 : Fin 2) * 256 + 1 * j.val = 256 * t.val + j.val; omega)
  rw [e]
  refine (ValueIdx.shapeCast_a_1a_apply _ _ _ _).trans ?_
  refine congrArg (m ((c : Thread nD τ).loc main_arg9)) (funext fun a => Fin.ext ?_)
  match a with
  | ⟨0, _⟩ => rfl

/-- After every point the scratch holds the converted activations, and the block holds its value over them. -/
theorem outs (c : Dev nD) : ∀ (n : ℕ) (h : n < cfg0.N), outsAt0 m c n h
    = (blockVal (k0_pay2 (m ((c : Thread nD τ).loc main_arg0))) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩),
        k0_pay2 (m ((c : Thread nD τ).loc main_arg0)))
  | 0, h => by
    refine (outsAt0_A m c ⟨0, h⟩ rfl).trans ?_
    rw [out_A, sout_A, blk0]
  | n + 1, h => by
    have hN : n + 1 < 56 := lt_of_lt_of_eq h N_0
    refine (outsAt0_B m c ⟨n + 1, h⟩ (by show ¬(n + 1) % 56 = 0; omega)).trans ?_
    have e : ∀ hb, (outsAt0 m c ((⟨n + 1, h⟩ : Fin cfg0.N).val - 1) hb).2 = k0_pay2 (m ((c : Thread nD τ).loc main_arg0)) := fun hb =>
      congrArg Prod.snd (outs c n (Nat.lt_of_succ_lt h))
    rw [out_B, e]
    rfl

/-- The activated gate times the up product, at a row and a column. -/
def gatedAt (x0 : Vec Ideal S1152x4096 .i8) (x1 : Vec Ideal S1152x1 .f32) (x2 : Vec Ideal S2048x14336 .i8) (x3 x4 : Vec Ideal S32x14336 .i8) (x5 : Vec Ideal S14336 .f32)
    (x6 : Vec Ideal S2048x14336 .i8) (x7 x8 : Vec Ideal S32x14336 .i8) (x9 : Vec Ideal S14336 .f32) (i : Fin 1152) (j : Fin 14336) : EReal :=
  act (Cert.W4.rowProd x0 (Cert.W4.weights hk x2 x3 x4) i j * x1 (ix2 i 0) * x5 (Cert.W4.at1 j))
    (Cert.W4.rowProd x0 (Cert.W4.weights hk x6 x7 x8) i j * x1 (ix2 i 0) * x9 (Cert.W4.at1 j))

/-- The result array at a row and a column. -/
theorem G10_at (c : Dev nD) (i : Fin 1152) (j : Fin 14336) : G10 m c (ix2 i j)
    = gatedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i j := by
  have hi := i.isLt
  have hj := j.isLt
  have hp : pt10Of (ix2 i j) = j.val / 256 := by
    show 56 * (i.val / 1152 - 0) + 1 * (j.val / 256 - 0) = _
    omega
  have hlt : j.val / 256 < cfg0.N := lt_of_lt_of_eq (by omega) N_0.symm
  unfold G10
  rw [dif_pos (by rw [hp]; exact hlt), ← outsAt0_sweep m c (pt10Of (ix2 i j)) (by rw [hp]; exact hlt), outs]
  have hl : loc10Of (ix2 i j) = ix2 i (⟨j.val % 256, Nat.mod_lt _ (by decide)⟩ : Fin 256) := funext fun a => Fin.ext (by
    match a with
    | ⟨0, _⟩ => show i.val % 1152 = i.val; omega
    | ⟨1, _⟩ => rfl)
  have ht : ∀ h, (⟨pt10Of (ix2 i j), h⟩ : Fin cfg0.N) = ⟨j.val / 256, hlt⟩ := fun h => Fin.ext hp
  rw [hl, ht]
  have hc : col ⟨j.val / 256, hlt⟩ (⟨j.val % 256, Nat.mod_lt _ (by decide)⟩ : Fin 256) = j := Fin.ext (by show 256 * (j.val / 256) + j.val % 256 = j.val; omega)
  refine (blockVal_at _ _ _ _ _ _ _ _ _ _ i _).trans ?_
  rw [blk1, blk5, blk9, hc]
  have hgate : ∀ k : Fin 4096, (k0_pay2 (m ((c : Thread nD τ).loc main_arg0)) (ix2 i k) : EReal)
      * Cert.W4.weights hk (iblk m c 2 ⟨j.val / 256, hlt⟩) (iblk m c 3 ⟨j.val / 256, hlt⟩) (iblk m c 4 ⟨j.val / 256, hlt⟩) (ix2 k (⟨j.val % 256, Nat.mod_lt _ (by decide)⟩ : Fin 256))
      = Cert.W4.real (m ((c : Thread nD τ).loc main_arg0) (ix2 i k))
        * Cert.W4.weights hk (m ((c : Thread nD τ).loc main_arg2)) (m ((c : Thread nD τ).loc main_arg3)) (m ((c : Thread nD τ).loc main_arg4)) (ix2 k j) := fun k =>
    congrArg₂ (fun p q : EReal => p * q) (acts_at _ _ _) (Cert.W4.weights_cols hk _ _ _ _ _ _ _ j
      (fun r => (blk2 m c _ r _).trans (by rw [hc])) (fun r => (blk3 m c _ r _).trans (by rw [hc])) (fun r => (blk4 m c _ r _).trans (by rw [hc])) k)
  have hup : ∀ k : Fin 4096, (k0_pay2 (m ((c : Thread nD τ).loc main_arg0)) (ix2 i k) : EReal)
      * Cert.W4.weights hk (iblk m c 6 ⟨j.val / 256, hlt⟩) (iblk m c 7 ⟨j.val / 256, hlt⟩) (iblk m c 8 ⟨j.val / 256, hlt⟩) (ix2 k (⟨j.val % 256, Nat.mod_lt _ (by decide)⟩ : Fin 256))
      = Cert.W4.real (m ((c : Thread nD τ).loc main_arg0) (ix2 i k))
        * Cert.W4.weights hk (m ((c : Thread nD τ).loc main_arg6)) (m ((c : Thread nD τ).loc main_arg7)) (m ((c : Thread nD τ).loc main_arg8)) (ix2 k j) := fun k =>
    congrArg₂ (fun p q : EReal => p * q) (acts_at _ _ _) (Cert.W4.weights_cols hk _ _ _ _ _ _ _ j
      (fun r => (blk6 m c _ r _).trans (by rw [hc])) (fun r => (blk7 m c _ r _).trans (by rw [hc])) (fun r => (blk8 m c _ r _).trans (by rw [hc])) k)
  rw [Finset.sum_congr rfl fun k _ => hgate k, Finset.sum_congr rfl fun k _ => hup k]
  unfold gatedAt Cert.W4.rowProd
  with_reducible rfl

end Cert.GateUpIdeal.Whole

namespace Cert.Proof.GateUpClaims

open Idealize.ShloMosaic Idealize.ShloMosaic.TcCoe Idealize.SL.Sem Cert.GateUpRefIdeal.Read

/-- The reference's gate: the scaled product times its logistic, one over one plus the exponential of the negative. -/
theorem ref_gate (x0 : (⟨Cert.GateUpRefIdeal.S1152x4096, .i8⟩ : BufTy).Contents (Elt Ideal)) (x1 : (⟨Cert.GateUpRefIdeal.S1152x1, .f32⟩ : BufTy).Contents (Elt Ideal)) (x2 : (⟨Cert.GateUpRefIdeal.S2048x14336, .i8⟩ : BufTy).Contents (Elt Ideal)) (x3 x4 : (⟨Cert.GateUpRefIdeal.S32x14336, .i8⟩ : BufTy).Contents (Elt Ideal)) (x5 : (⟨Cert.GateUpRefIdeal.S14336, .f32⟩ : BufTy).Contents (Elt Ideal)) (x : Cert.GateUpRefIdeal.S1152x14336.Idx) :
    (val_main_v90 (F := Ideal) x0 x1 x2 x3 x4 x5 x : EReal) = val_main_v41 (F := Ideal) x0 x1 x2 x3 x4 x5 x * Ideal.logistic (val_main_v41 (F := Ideal) x0 x1 x2 x3 x4 x5 x) := by
  rw [val_main_v90_apply, val_main_v89_apply, val_main_v88_apply, val_main_v87_apply, val_main_v86_apply, val_main_v85_apply, val_main_v84_apply, val_main_cst_apply, val_main_cst_3_apply]
  have h1 : (FloatOps.ofBits .f32 0x3F800000#32 : Ideal .f32) = (1 : EReal) := Idealize.ShloMosaic.Ideal.ofBits_one_f32
  rw [h1]
  generalize val_main_v41 (F := Ideal) x0 x1 x2 x3 x4 x5 x = g
  rfl

/-- The reference's result is the kernel's result array, of equal arguments. -/
theorem ref_eq (m : (ℓ : Loc GateUpIdeal.nD GateUpIdeal.τ GateUpIdeal.sig) → Buf (Elt Ideal) ℓ) (c : Dev GateUpIdeal.nD) :
    val_main_v91 (F := Ideal) (m ((c : Thread GateUpIdeal.nD GateUpIdeal.τ).loc GateUpIdeal.main_arg0)) (m ((c : Thread GateUpIdeal.nD GateUpIdeal.τ).loc GateUpIdeal.main_arg1)) (m ((c : Thread GateUpIdeal.nD GateUpIdeal.τ).loc GateUpIdeal.main_arg2)) (m ((c : Thread GateUpIdeal.nD GateUpIdeal.τ).loc GateUpIdeal.main_arg3)) (m ((c : Thread GateUpIdeal.nD GateUpIdeal.τ).loc GateUpIdeal.main_arg4)) (m ((c : Thread GateUpIdeal.nD GateUpIdeal.τ).loc GateUpIdeal.main_arg5)) (m ((c : Thread GateUpIdeal.nD GateUpIdeal.τ).loc GateUpIdeal.main_arg6)) (m ((c : Thread GateUpIdeal.nD GateUpIdeal.τ).loc GateUpIdeal.main_arg7)) (m ((c : Thread GateUpIdeal.nD GateUpIdeal.τ).loc GateUpIdeal.main_arg8)) (m ((c : Thread GateUpIdeal.nD GateUpIdeal.τ).loc GateUpIdeal.main_arg9))
      = GateUpIdeal.Value.G10 m c := by
  funext x
  obtain ⟨i, j, rfl⟩ : ∃ (i : Fin 1152) (j : Fin 14336), x = ix2 i j := ⟨x 0, x 1, eq_ix2 x⟩
  refine (val_main_v91_apply _ _ _ _ _ _ _ _ _ _ _).trans (Eq.trans ?_ (GateUpIdeal.Whole.G10_at m c i j).symm)
  rw [ref_gate, GateUpRefIdeal.At.scaled_gate, GateUpRefIdeal.At.scaled_up]
  rfl

theorem frame : Cert.quiescent_GateUp := fun m ρ _ => Cert.GateUp.Gen.frame m ρ
theorem frame_ideal : Cert.quiescent_GateUpIdeal := fun m ρ _ => Cert.GateUpIdeal.Gen.frame m ρ
theorem frame_ref : Cert.quiescent_GateUpRefIdeal := fun m ρ _ =>
  (θ_run Cert.GateUpRefIdeal.defs _ _).mono (fun r h => ⟨fun c => (h c).2, Idealize.ShloMosaic.sem_eq_zero_of_no_sems (by decide) r.2⟩)
    (Cert.GateUpRefIdeal.Value.run (F := Ideal) m ρ)
theorem preserves : Cert.preserves_GateUp_GateUpIdeal := trivial

/-- The kernel and the reference end with the same array. -/
theorem algebraic : Cert.algebraic_GateUpIdeal_GateUpRefIdeal := by
  intro m ρ m' ρ' _ hag
  refine ⟨fun c => GateUpIdeal.Value.G10 m c, GateUpIdeal.Value.run m ρ, ?_⟩
  refine (θ_run Cert.GateUpRefIdeal.defs _ _).mono (fun _ h c => ⟨(h c).1.trans ?_, (h c).2⟩) (Cert.GateUpRefIdeal.Value.run (F := Ideal) m' ρ')
  obtain ⟨h0, h1, h2, h3, h4, h5, h6, h7, h8, h9⟩ := hag c
  refine (val_main_v91_eq m' c).trans ?_
  rw [h0, h1, h2, h3, h4, h5, h6, h7, h8, h9]
  exact ref_eq m c

end Cert.Proof.GateUpClaims

end
-- ==== Proof.DownBlock.lean ====
/- What one step of the down product leaves in its accumulator and in its block. -/
module

public import proofs.«01_k».proof.Proof.Tile
public import proofs.«01_k».proof.Proof.Gen.DownIdeal.Value
public import Idealize.ShloMosaic.Lib.Pipeline.ValueKit
public import Idealize.ShloMosaic.Lib.Pointwise

@[expose] public section

set_option maxRecDepth 16384

noncomputable section

namespace Cert.DownIdeal.Block

open Cert.DownIdeal Cert.DownIdeal.Gen Idealize.ShloMosaic Idealize.ShloMosaic.TcCoe Idealize.SL.Sem

/-- Row `r` of a step's weights comes from row `r / 2` of its code bytes and from group `r / 128` of its groups. -/
theorem hk : ∀ r, r < 2048 → r / 2 < 1024 ∧ r / 128 < 16 := fun r h => by omega

/-- The 16 groups that a step reads of all 112. -/
abbrev groups (i : grid0.Coords) (x : Vec Ideal S112x512 .i32) : Vec Ideal S16x512 .i32 := View.ld (Val := Elt Ideal) (e' := .i32) x (Rect.unit (s := S112x512) (k0_off1 i) S16x512.size (k0_off1_inb i))

/-- The first step leaves its product in the accumulator. -/
theorem sout_A (c : Dev nD) (i : grid0.Coords) (arg2 : Memref sig .tc .vmem S1152x2048 .i8) (harg2 : arg2.IsWhole) (arg3 : Memref sig .tc .vmem S1152x1 .f32) (harg3 : arg3.IsWhole) (arg4 : Memref sig .tc .vmem S1152x512 .f32) (harg4 : arg4.IsWhole) (arg5 : Memref sig .tc .vmem S1024x512 .i8) (harg5 : arg5.IsWhole) (arg6 : Memref sig .tc .vmem S112x512 .i32) (harg6 : arg6.IsWhole) (arg7 : Memref sig .tc .vmem S112x512 .i32) (harg7 : arg7.IsWhole) (arg8 : Memref sig .tc .vmem S1x512 .f32) (harg8 : arg8.IsWhole) (arg9 : Memref sig .tc .vmem S1152x512 .bf16) (harg9 : arg9.IsWhole) (arg10 : Memref sig .tc .vmem S2048x512 .bf16) (harg10 : arg10.IsWhole) (arg11 : Memref sig .tc .vmem S1152x512 .f32) (harg11 : arg11.IsWhole) (hc0 : cond0_0 i) (hc1 : ¬cond0_1 i) (hc2 : ¬cond0_2 i) (x0 : Vec Ideal S1152x2048 .i8) (x1 : Vec Ideal S1152x1 .f32) (x2 : Vec Ideal S1152x512 .f32) (x3 : Vec Ideal S1024x512 .i8) (x4 : Vec Ideal S112x512 .i32) (x5 : Vec Ideal S112x512 .i32) (x6 : Vec Ideal S1x512 .f32) (s z : S16x512.Idx → BitVec 8) (hs : ∀ y, groups i x4 y = (s y).signExtend 32) (hz : ∀ y, groups i x5 y = (z y).signExtend 32) :
    sout0_A_1 c i arg2 harg2 arg3 harg3 arg4 harg4 arg5 harg5 arg6 harg6 arg7 harg7 arg8 harg8 arg9 harg9 arg10 harg10 arg11 harg11 hc0 hc1 hc2 x0 x1 x2 x3 x4 x5 x6 = k0_pay38 x0 (Cert.W4.weights hk x3 s z) := by
  have hs' : ∀ y, k0_pay2 (groups i x4) y = (s y).signExtend 32 := fun y => by unfold k0_pay2; rw [shapeCast_self]; exact hs y
  have hz' : ∀ y, shapeCast S16x512 (groups i x5) shapeCasts_S16x512_S16x512 y = (z y).signExtend 32 := fun y => by rw [shapeCast_self]; exact hz y
  frame_out
  refine congrArg (fun w => k0_pay38 x0 w) ?_
  refine Cert.W4.readCov_pieces (Val := Elt Ideal) (S := S2048x512) _ _ S128x512.size _ _ ?hz ?ht ?hp
  case hz => exact funext fun a => by match a with | ⟨0, _⟩ => rfl | ⟨1, _⟩ => rfl
  case ht => sl_kernel_rfl
  case hp =>
    refine List.forall_mem_cons.2 ⟨fun x => Cert.W4.piece hk 15 ![15, 0] slices_S16x512_o15_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![960, 0] ![1920, 0] inb_S1024x512_S64x512_960_0 inb_S2048x512_S128x512_1920_0 rfl rfl rfl rfl rfl rfl x, ?_⟩
    refine List.forall_mem_cons.2 ⟨fun x => Cert.W4.piece hk 14 ![14, 0] slices_S16x512_o14_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![896, 0] ![1792, 0] inb_S1024x512_S64x512_896_0 inb_S2048x512_S128x512_1792_0 rfl rfl rfl rfl rfl rfl x, ?_⟩
    refine List.forall_mem_cons.2 ⟨fun x => Cert.W4.piece hk 13 ![13, 0] slices_S16x512_o13_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![832, 0] ![1664, 0] inb_S1024x512_S64x512_832_0 inb_S2048x512_S128x512_1664_0 rfl rfl rfl rfl rfl rfl x, ?_⟩
    refine List.forall_mem_cons.2 ⟨fun x => Cert.W4.piece hk 12 ![12, 0] slices_S16x512_o12_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![768, 0] ![1536, 0] inb_S1024x512_S64x512_768_0 inb_S2048x512_S128x512_1536_0 rfl rfl rfl rfl rfl rfl x, ?_⟩
    refine List.forall_mem_cons.2 ⟨fun x => Cert.W4.piece hk 11 ![11, 0] slices_S16x512_o11_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![704, 0] ![1408, 0] inb_S1024x512_S64x512_704_0 inb_S2048x512_S128x512_1408_0 rfl rfl rfl rfl rfl rfl x, ?_⟩
    refine List.forall_mem_cons.2 ⟨fun x => Cert.W4.piece hk 10 ![10, 0] slices_S16x512_o10_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![640, 0] ![1280, 0] inb_S1024x512_S64x512_640_0 inb_S2048x512_S128x512_1280_0 rfl rfl rfl rfl rfl rfl x, ?_⟩
    refine List.forall_mem_cons.2 ⟨fun x => Cert.W4.piece hk 9 ![9, 0] slices_S16x512_o9_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![576, 0] ![1152, 0] inb_S1024x512_S64x512_576_0 inb_S2048x512_S128x512_1152_0 rfl rfl rfl rfl rfl rfl x, ?_⟩
    refine List.forall_mem_cons.2 ⟨fun x => Cert.W4.piece hk 8 ![8, 0] slices_S16x512_o8_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![512, 0] ![1024, 0] inb_S1024x512_S64x512_512_0 inb_S2048x512_S128x512_1024_0 rfl rfl rfl rfl rfl rfl x, ?_⟩
    refine List.forall_mem_cons.2 ⟨fun x => Cert.W4.piece hk 7 ![7, 0] slices_S16x512_o7_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![448, 0] ![896, 0] inb_S1024x512_S64x512_448_0 inb_S2048x512_S128x512_896_0 rfl rfl rfl rfl rfl rfl x, ?_⟩
    refine List.forall_mem_cons.2 ⟨fun x => Cert.W4.piece hk 6 ![6, 0] slices_S16x512_o6_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![384, 0] ![768, 0] inb_S1024x512_S64x512_384_0 inb_S2048x512_S128x512_768_0 rfl rfl rfl rfl rfl rfl x, ?_⟩
    refine List.forall_mem_cons.2 ⟨fun x => Cert.W4.piece hk 5 ![5, 0] slices_S16x512_o5_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![320, 0] ![640, 0] inb_S1024x512_S64x512_320_0 inb_S2048x512_S128x512_640_0 rfl rfl rfl rfl rfl rfl x, ?_⟩
    refine List.forall_mem_cons.2 ⟨fun x => Cert.W4.piece hk 4 ![4, 0] slices_S16x512_o4_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![256, 0] ![512, 0] inb_S1024x512_S64x512_256_0 inb_S2048x512_S128x512_512_0 rfl rfl rfl rfl rfl rfl x, ?_⟩
    refine List.forall_mem_cons.2 ⟨fun x => Cert.W4.piece hk 3 ![3, 0] slices_S16x512_o3_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![192, 0] ![384, 0] inb_S1024x512_S64x512_192_0 inb_S2048x512_S128x512_384_0 rfl rfl rfl rfl rfl rfl x, ?_⟩
    refine List.forall_mem_cons.2 ⟨fun x => Cert.W4.piece hk 2 ![2, 0] slices_S16x512_o2_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![128, 0] ![256, 0] inb_S1024x512_S64x512_128_0 inb_S2048x512_S128x512_256_0 rfl rfl rfl rfl rfl rfl x, ?_⟩
    refine List.forall_mem_cons.2 ⟨fun x => Cert.W4.piece hk 1 ![1, 0] slices_S16x512_o1_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![64, 0] ![128, 0] inb_S1024x512_S64x512_64_0 inb_S2048x512_S128x512_128_0 rfl rfl rfl rfl rfl rfl x, ?_⟩
    refine List.forall_mem_cons.2 ⟨fun x => Cert.W4.piece hk 0 ![0, 0] slices_S16x512_o0_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![0, 0] ![0, 0] inb_S1024x512_S64x512_0_0 inb_S2048x512_S128x512_0_0 rfl rfl rfl rfl rfl rfl x, ?_⟩
    exact fun p hp => absurd hp List.not_mem_nil

/-- A middle step adds its product to the accumulator. -/
theorem sout_B (c : Dev nD) (i : grid0.Coords) (arg2 : Memref sig .tc .vmem S1152x2048 .i8) (harg2 : arg2.IsWhole) (arg3 : Memref sig .tc .vmem S1152x1 .f32) (harg3 : arg3.IsWhole) (arg4 : Memref sig .tc .vmem S1152x512 .f32) (harg4 : arg4.IsWhole) (arg5 : Memref sig .tc .vmem S1024x512 .i8) (harg5 : arg5.IsWhole) (arg6 : Memref sig .tc .vmem S112x512 .i32) (harg6 : arg6.IsWhole) (arg7 : Memref sig .tc .vmem S112x512 .i32) (harg7 : arg7.IsWhole) (arg8 : Memref sig .tc .vmem S1x512 .f32) (harg8 : arg8.IsWhole) (arg9 : Memref sig .tc .vmem S1152x512 .bf16) (harg9 : arg9.IsWhole) (arg10 : Memref sig .tc .vmem S2048x512 .bf16) (harg10 : arg10.IsWhole) (arg11 : Memref sig .tc .vmem S1152x512 .f32) (harg11 : arg11.IsWhole) (hc0 : ¬cond0_0 i) (hc1 : cond0_1 i) (hc2 : ¬cond0_2 i) (x0 : Vec Ideal S1152x2048 .i8) (x1 : Vec Ideal S1152x1 .f32) (x2 : Vec Ideal S1152x512 .f32) (x3 : Vec Ideal S1024x512 .i8) (x4 : Vec Ideal S112x512 .i32) (x5 : Vec Ideal S112x512 .i32) (x6 : Vec Ideal S1x512 .f32) (xs1 : Vec Ideal S1152x512 .f32) (s z : S16x512.Idx → BitVec 8) (hs : ∀ y, groups i x4 y = (s y).signExtend 32) (hz : ∀ y, groups i x5 y = (z y).signExtend 32) :
    sout0_B_1 c i arg2 harg2 arg3 harg3 arg4 harg4 arg5 harg5 arg6 harg6 arg7 harg7 arg8 harg8 arg9 harg9 arg10 harg10 arg11 harg11 hc0 hc1 hc2 x0 x1 x2 x3 x4 x5 x6 xs1 = k0_pay39 x0 (Cert.W4.weights hk x3 s z) xs1 := by
  have hs' : ∀ y, k0_pay2 (groups i x4) y = (s y).signExtend 32 := fun y => by unfold k0_pay2; rw [shapeCast_self]; exact hs y
  have hz' : ∀ y, shapeCast S16x512 (groups i x5) shapeCasts_S16x512_S16x512 y = (z y).signExtend 32 := fun y => by rw [shapeCast_self]; exact hz y
  frame_out
  refine congrArg (fun w => k0_pay39 x0 w xs1) ?_
  refine Cert.W4.readCov_pieces (Val := Elt Ideal) (S := S2048x512) _ _ S128x512.size _ _ ?hz ?ht ?hp
  case hz => exact funext fun a => by match a with | ⟨0, _⟩ => rfl | ⟨1, _⟩ => rfl
  case ht => sl_kernel_rfl
  case hp =>
    refine List.forall_mem_cons.2 ⟨fun x => Cert.W4.piece hk 15 ![15, 0] slices_S16x512_o15_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![960, 0] ![1920, 0] inb_S1024x512_S64x512_960_0 inb_S2048x512_S128x512_1920_0 rfl rfl rfl rfl rfl rfl x, ?_⟩
    refine List.forall_mem_cons.2 ⟨fun x => Cert.W4.piece hk 14 ![14, 0] slices_S16x512_o14_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![896, 0] ![1792, 0] inb_S1024x512_S64x512_896_0 inb_S2048x512_S128x512_1792_0 rfl rfl rfl rfl rfl rfl x, ?_⟩
    refine List.forall_mem_cons.2 ⟨fun x => Cert.W4.piece hk 13 ![13, 0] slices_S16x512_o13_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![832, 0] ![1664, 0] inb_S1024x512_S64x512_832_0 inb_S2048x512_S128x512_1664_0 rfl rfl rfl rfl rfl rfl x, ?_⟩
    refine List.forall_mem_cons.2 ⟨fun x => Cert.W4.piece hk 12 ![12, 0] slices_S16x512_o12_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![768, 0] ![1536, 0] inb_S1024x512_S64x512_768_0 inb_S2048x512_S128x512_1536_0 rfl rfl rfl rfl rfl rfl x, ?_⟩
    refine List.forall_mem_cons.2 ⟨fun x => Cert.W4.piece hk 11 ![11, 0] slices_S16x512_o11_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![704, 0] ![1408, 0] inb_S1024x512_S64x512_704_0 inb_S2048x512_S128x512_1408_0 rfl rfl rfl rfl rfl rfl x, ?_⟩
    refine List.forall_mem_cons.2 ⟨fun x => Cert.W4.piece hk 10 ![10, 0] slices_S16x512_o10_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![640, 0] ![1280, 0] inb_S1024x512_S64x512_640_0 inb_S2048x512_S128x512_1280_0 rfl rfl rfl rfl rfl rfl x, ?_⟩
    refine List.forall_mem_cons.2 ⟨fun x => Cert.W4.piece hk 9 ![9, 0] slices_S16x512_o9_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![576, 0] ![1152, 0] inb_S1024x512_S64x512_576_0 inb_S2048x512_S128x512_1152_0 rfl rfl rfl rfl rfl rfl x, ?_⟩
    refine List.forall_mem_cons.2 ⟨fun x => Cert.W4.piece hk 8 ![8, 0] slices_S16x512_o8_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![512, 0] ![1024, 0] inb_S1024x512_S64x512_512_0 inb_S2048x512_S128x512_1024_0 rfl rfl rfl rfl rfl rfl x, ?_⟩
    refine List.forall_mem_cons.2 ⟨fun x => Cert.W4.piece hk 7 ![7, 0] slices_S16x512_o7_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![448, 0] ![896, 0] inb_S1024x512_S64x512_448_0 inb_S2048x512_S128x512_896_0 rfl rfl rfl rfl rfl rfl x, ?_⟩
    refine List.forall_mem_cons.2 ⟨fun x => Cert.W4.piece hk 6 ![6, 0] slices_S16x512_o6_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![384, 0] ![768, 0] inb_S1024x512_S64x512_384_0 inb_S2048x512_S128x512_768_0 rfl rfl rfl rfl rfl rfl x, ?_⟩
    refine List.forall_mem_cons.2 ⟨fun x => Cert.W4.piece hk 5 ![5, 0] slices_S16x512_o5_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![320, 0] ![640, 0] inb_S1024x512_S64x512_320_0 inb_S2048x512_S128x512_640_0 rfl rfl rfl rfl rfl rfl x, ?_⟩
    refine List.forall_mem_cons.2 ⟨fun x => Cert.W4.piece hk 4 ![4, 0] slices_S16x512_o4_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![256, 0] ![512, 0] inb_S1024x512_S64x512_256_0 inb_S2048x512_S128x512_512_0 rfl rfl rfl rfl rfl rfl x, ?_⟩
    refine List.forall_mem_cons.2 ⟨fun x => Cert.W4.piece hk 3 ![3, 0] slices_S16x512_o3_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![192, 0] ![384, 0] inb_S1024x512_S64x512_192_0 inb_S2048x512_S128x512_384_0 rfl rfl rfl rfl rfl rfl x, ?_⟩
    refine List.forall_mem_cons.2 ⟨fun x => Cert.W4.piece hk 2 ![2, 0] slices_S16x512_o2_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![128, 0] ![256, 0] inb_S1024x512_S64x512_128_0 inb_S2048x512_S128x512_256_0 rfl rfl rfl rfl rfl rfl x, ?_⟩
    refine List.forall_mem_cons.2 ⟨fun x => Cert.W4.piece hk 1 ![1, 0] slices_S16x512_o1_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![64, 0] ![128, 0] inb_S1024x512_S64x512_64_0 inb_S2048x512_S128x512_128_0 rfl rfl rfl rfl rfl rfl x, ?_⟩
    refine List.forall_mem_cons.2 ⟨fun x => Cert.W4.piece hk 0 ![0, 0] slices_S16x512_o0_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![0, 0] ![0, 0] inb_S1024x512_S64x512_0_0 inb_S2048x512_S128x512_0_0 rfl rfl rfl rfl rfl rfl x, ?_⟩
    exact fun p hp => absurd hp List.not_mem_nil

/-- The last step adds its product to the accumulator. -/
theorem sout_C (c : Dev nD) (i : grid0.Coords) (arg2 : Memref sig .tc .vmem S1152x2048 .i8) (harg2 : arg2.IsWhole) (arg3 : Memref sig .tc .vmem S1152x1 .f32) (harg3 : arg3.IsWhole) (arg4 : Memref sig .tc .vmem S1152x512 .f32) (harg4 : arg4.IsWhole) (arg5 : Memref sig .tc .vmem S1024x512 .i8) (harg5 : arg5.IsWhole) (arg6 : Memref sig .tc .vmem S112x512 .i32) (harg6 : arg6.IsWhole) (arg7 : Memref sig .tc .vmem S112x512 .i32) (harg7 : arg7.IsWhole) (arg8 : Memref sig .tc .vmem S1x512 .f32) (harg8 : arg8.IsWhole) (arg9 : Memref sig .tc .vmem S1152x512 .bf16) (harg9 : arg9.IsWhole) (arg10 : Memref sig .tc .vmem S2048x512 .bf16) (harg10 : arg10.IsWhole) (arg11 : Memref sig .tc .vmem S1152x512 .f32) (harg11 : arg11.IsWhole) (hc0 : ¬cond0_0 i) (hc1 : cond0_1 i) (hc2 : cond0_2 i) (x0 : Vec Ideal S1152x2048 .i8) (x1 : Vec Ideal S1152x1 .f32) (x2 : Vec Ideal S1152x512 .f32) (x3 : Vec Ideal S1024x512 .i8) (x4 : Vec Ideal S112x512 .i32) (x5 : Vec Ideal S112x512 .i32) (x6 : Vec Ideal S1x512 .f32) (xs1 : Vec Ideal S1152x512 .f32) (s z : S16x512.Idx → BitVec 8) (hs : ∀ y, groups i x4 y = (s y).signExtend 32) (hz : ∀ y, groups i x5 y = (z y).signExtend 32) :
    sout0_C_1 c i arg2 harg2 arg3 harg3 arg4 harg4 arg5 harg5 arg6 harg6 arg7 harg7 arg8 harg8 arg9 harg9 arg10 harg10 arg11 harg11 hc0 hc1 hc2 x0 x1 x2 x3 x4 x5 x6 xs1 = k0_pay39 x0 (Cert.W4.weights hk x3 s z) xs1 := by
  have hs' : ∀ y, k0_pay2 (groups i x4) y = (s y).signExtend 32 := fun y => by unfold k0_pay2; rw [shapeCast_self]; exact hs y
  have hz' : ∀ y, shapeCast S16x512 (groups i x5) shapeCasts_S16x512_S16x512 y = (z y).signExtend 32 := fun y => by rw [shapeCast_self]; exact hz y
  frame_out
  refine congrArg (fun w => k0_pay39 x0 w xs1) ?_
  refine Cert.W4.readCov_pieces (Val := Elt Ideal) (S := S2048x512) _ _ S128x512.size _ _ ?hz ?ht ?hp
  case hz => exact funext fun a => by match a with | ⟨0, _⟩ => rfl | ⟨1, _⟩ => rfl
  case ht => sl_kernel_rfl
  case hp =>
    refine List.forall_mem_cons.2 ⟨fun x => Cert.W4.piece hk 15 ![15, 0] slices_S16x512_o15_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![960, 0] ![1920, 0] inb_S1024x512_S64x512_960_0 inb_S2048x512_S128x512_1920_0 rfl rfl rfl rfl rfl rfl x, ?_⟩
    refine List.forall_mem_cons.2 ⟨fun x => Cert.W4.piece hk 14 ![14, 0] slices_S16x512_o14_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![896, 0] ![1792, 0] inb_S1024x512_S64x512_896_0 inb_S2048x512_S128x512_1792_0 rfl rfl rfl rfl rfl rfl x, ?_⟩
    refine List.forall_mem_cons.2 ⟨fun x => Cert.W4.piece hk 13 ![13, 0] slices_S16x512_o13_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![832, 0] ![1664, 0] inb_S1024x512_S64x512_832_0 inb_S2048x512_S128x512_1664_0 rfl rfl rfl rfl rfl rfl x, ?_⟩
    refine List.forall_mem_cons.2 ⟨fun x => Cert.W4.piece hk 12 ![12, 0] slices_S16x512_o12_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![768, 0] ![1536, 0] inb_S1024x512_S64x512_768_0 inb_S2048x512_S128x512_1536_0 rfl rfl rfl rfl rfl rfl x, ?_⟩
    refine List.forall_mem_cons.2 ⟨fun x => Cert.W4.piece hk 11 ![11, 0] slices_S16x512_o11_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![704, 0] ![1408, 0] inb_S1024x512_S64x512_704_0 inb_S2048x512_S128x512_1408_0 rfl rfl rfl rfl rfl rfl x, ?_⟩
    refine List.forall_mem_cons.2 ⟨fun x => Cert.W4.piece hk 10 ![10, 0] slices_S16x512_o10_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![640, 0] ![1280, 0] inb_S1024x512_S64x512_640_0 inb_S2048x512_S128x512_1280_0 rfl rfl rfl rfl rfl rfl x, ?_⟩
    refine List.forall_mem_cons.2 ⟨fun x => Cert.W4.piece hk 9 ![9, 0] slices_S16x512_o9_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![576, 0] ![1152, 0] inb_S1024x512_S64x512_576_0 inb_S2048x512_S128x512_1152_0 rfl rfl rfl rfl rfl rfl x, ?_⟩
    refine List.forall_mem_cons.2 ⟨fun x => Cert.W4.piece hk 8 ![8, 0] slices_S16x512_o8_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![512, 0] ![1024, 0] inb_S1024x512_S64x512_512_0 inb_S2048x512_S128x512_1024_0 rfl rfl rfl rfl rfl rfl x, ?_⟩
    refine List.forall_mem_cons.2 ⟨fun x => Cert.W4.piece hk 7 ![7, 0] slices_S16x512_o7_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![448, 0] ![896, 0] inb_S1024x512_S64x512_448_0 inb_S2048x512_S128x512_896_0 rfl rfl rfl rfl rfl rfl x, ?_⟩
    refine List.forall_mem_cons.2 ⟨fun x => Cert.W4.piece hk 6 ![6, 0] slices_S16x512_o6_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![384, 0] ![768, 0] inb_S1024x512_S64x512_384_0 inb_S2048x512_S128x512_768_0 rfl rfl rfl rfl rfl rfl x, ?_⟩
    refine List.forall_mem_cons.2 ⟨fun x => Cert.W4.piece hk 5 ![5, 0] slices_S16x512_o5_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![320, 0] ![640, 0] inb_S1024x512_S64x512_320_0 inb_S2048x512_S128x512_640_0 rfl rfl rfl rfl rfl rfl x, ?_⟩
    refine List.forall_mem_cons.2 ⟨fun x => Cert.W4.piece hk 4 ![4, 0] slices_S16x512_o4_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![256, 0] ![512, 0] inb_S1024x512_S64x512_256_0 inb_S2048x512_S128x512_512_0 rfl rfl rfl rfl rfl rfl x, ?_⟩
    refine List.forall_mem_cons.2 ⟨fun x => Cert.W4.piece hk 3 ![3, 0] slices_S16x512_o3_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![192, 0] ![384, 0] inb_S1024x512_S64x512_192_0 inb_S2048x512_S128x512_384_0 rfl rfl rfl rfl rfl rfl x, ?_⟩
    refine List.forall_mem_cons.2 ⟨fun x => Cert.W4.piece hk 2 ![2, 0] slices_S16x512_o2_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![128, 0] ![256, 0] inb_S1024x512_S64x512_128_0 inb_S2048x512_S128x512_256_0 rfl rfl rfl rfl rfl rfl x, ?_⟩
    refine List.forall_mem_cons.2 ⟨fun x => Cert.W4.piece hk 1 ![1, 0] slices_S16x512_o1_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![64, 0] ![128, 0] inb_S1024x512_S64x512_64_0 inb_S2048x512_S128x512_128_0 rfl rfl rfl rfl rfl rfl x, ?_⟩
    refine List.forall_mem_cons.2 ⟨fun x => Cert.W4.piece hk 0 ![0, 0] slices_S16x512_o0_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![0, 0] ![0, 0] inb_S1024x512_S64x512_0_0 inb_S2048x512_S128x512_0_0 rfl rfl rfl rfl rfl rfl x, ?_⟩
    exact fun p hp => absurd hp List.not_mem_nil

/-- The last step leaves in the block the residual plus the scaled accumulator. -/
theorem out_C (c : Dev nD) (i : grid0.Coords) (arg2 : Memref sig .tc .vmem S1152x2048 .i8) (harg2 : arg2.IsWhole) (arg3 : Memref sig .tc .vmem S1152x1 .f32) (harg3 : arg3.IsWhole) (arg4 : Memref sig .tc .vmem S1152x512 .f32) (harg4 : arg4.IsWhole) (arg5 : Memref sig .tc .vmem S1024x512 .i8) (harg5 : arg5.IsWhole) (arg6 : Memref sig .tc .vmem S112x512 .i32) (harg6 : arg6.IsWhole) (arg7 : Memref sig .tc .vmem S112x512 .i32) (harg7 : arg7.IsWhole) (arg8 : Memref sig .tc .vmem S1x512 .f32) (harg8 : arg8.IsWhole) (arg9 : Memref sig .tc .vmem S1152x512 .bf16) (harg9 : arg9.IsWhole) (arg10 : Memref sig .tc .vmem S2048x512 .bf16) (harg10 : arg10.IsWhole) (arg11 : Memref sig .tc .vmem S1152x512 .f32) (harg11 : arg11.IsWhole) (hc0 : ¬cond0_0 i) (hc1 : cond0_1 i) (hc2 : cond0_2 i) (x0 : Vec Ideal S1152x2048 .i8) (x1 : Vec Ideal S1152x1 .f32) (x2 : Vec Ideal S1152x512 .f32) (x3 : Vec Ideal S1024x512 .i8) (x4 : Vec Ideal S112x512 .i32) (x5 : Vec Ideal S112x512 .i32) (x6 : Vec Ideal S1x512 .f32) (xs1 : Vec Ideal S1152x512 .f32) (s z : S16x512.Idx → BitVec 8) (hs : ∀ y, groups i x4 y = (s y).signExtend 32) (hz : ∀ y, groups i x5 y = (z y).signExtend 32) :
    out0_C_7 c i arg2 harg2 arg3 harg3 arg4 harg4 arg5 harg5 arg6 harg6 arg7 harg7 arg8 harg8 arg9 harg9 arg10 harg10 arg11 harg11 hc0 hc1 hc2 x0 x1 x2 x3 x4 x5 x6 xs1 = k0_pay1 x2 (k0_pay39 x0 (Cert.W4.weights hk x3 s z) xs1) x1 x6 := by
  have hs' : ∀ y, k0_pay2 (groups i x4) y = (s y).signExtend 32 := fun y => by unfold k0_pay2; rw [shapeCast_self]; exact hs y
  have hz' : ∀ y, shapeCast S16x512 (groups i x5) shapeCasts_S16x512_S16x512 y = (z y).signExtend 32 := fun y => by rw [shapeCast_self]; exact hz y
  frame_out
  refine congrArg (fun w => k0_pay1 x2 (k0_pay39 x0 w xs1) x1 x6) ?_
  refine Cert.W4.readCov_pieces (Val := Elt Ideal) (S := S2048x512) _ _ S128x512.size _ _ ?hz ?ht ?hp
  case hz => exact funext fun a => by match a with | ⟨0, _⟩ => rfl | ⟨1, _⟩ => rfl
  case ht => sl_kernel_rfl
  case hp =>
    refine List.forall_mem_cons.2 ⟨fun x => Cert.W4.piece hk 15 ![15, 0] slices_S16x512_o15_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![960, 0] ![1920, 0] inb_S1024x512_S64x512_960_0 inb_S2048x512_S128x512_1920_0 rfl rfl rfl rfl rfl rfl x, ?_⟩
    refine List.forall_mem_cons.2 ⟨fun x => Cert.W4.piece hk 14 ![14, 0] slices_S16x512_o14_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![896, 0] ![1792, 0] inb_S1024x512_S64x512_896_0 inb_S2048x512_S128x512_1792_0 rfl rfl rfl rfl rfl rfl x, ?_⟩
    refine List.forall_mem_cons.2 ⟨fun x => Cert.W4.piece hk 13 ![13, 0] slices_S16x512_o13_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![832, 0] ![1664, 0] inb_S1024x512_S64x512_832_0 inb_S2048x512_S128x512_1664_0 rfl rfl rfl rfl rfl rfl x, ?_⟩
    refine List.forall_mem_cons.2 ⟨fun x => Cert.W4.piece hk 12 ![12, 0] slices_S16x512_o12_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![768, 0] ![1536, 0] inb_S1024x512_S64x512_768_0 inb_S2048x512_S128x512_1536_0 rfl rfl rfl rfl rfl rfl x, ?_⟩
    refine List.forall_mem_cons.2 ⟨fun x => Cert.W4.piece hk 11 ![11, 0] slices_S16x512_o11_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![704, 0] ![1408, 0] inb_S1024x512_S64x512_704_0 inb_S2048x512_S128x512_1408_0 rfl rfl rfl rfl rfl rfl x, ?_⟩
    refine List.forall_mem_cons.2 ⟨fun x => Cert.W4.piece hk 10 ![10, 0] slices_S16x512_o10_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![640, 0] ![1280, 0] inb_S1024x512_S64x512_640_0 inb_S2048x512_S128x512_1280_0 rfl rfl rfl rfl rfl rfl x, ?_⟩
    refine List.forall_mem_cons.2 ⟨fun x => Cert.W4.piece hk 9 ![9, 0] slices_S16x512_o9_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![576, 0] ![1152, 0] inb_S1024x512_S64x512_576_0 inb_S2048x512_S128x512_1152_0 rfl rfl rfl rfl rfl rfl x, ?_⟩
    refine List.forall_mem_cons.2 ⟨fun x => Cert.W4.piece hk 8 ![8, 0] slices_S16x512_o8_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![512, 0] ![1024, 0] inb_S1024x512_S64x512_512_0 inb_S2048x512_S128x512_1024_0 rfl rfl rfl rfl rfl rfl x, ?_⟩
    refine List.forall_mem_cons.2 ⟨fun x => Cert.W4.piece hk 7 ![7, 0] slices_S16x512_o7_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![448, 0] ![896, 0] inb_S1024x512_S64x512_448_0 inb_S2048x512_S128x512_896_0 rfl rfl rfl rfl rfl rfl x, ?_⟩
    refine List.forall_mem_cons.2 ⟨fun x => Cert.W4.piece hk 6 ![6, 0] slices_S16x512_o6_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![384, 0] ![768, 0] inb_S1024x512_S64x512_384_0 inb_S2048x512_S128x512_768_0 rfl rfl rfl rfl rfl rfl x, ?_⟩
    refine List.forall_mem_cons.2 ⟨fun x => Cert.W4.piece hk 5 ![5, 0] slices_S16x512_o5_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![320, 0] ![640, 0] inb_S1024x512_S64x512_320_0 inb_S2048x512_S128x512_640_0 rfl rfl rfl rfl rfl rfl x, ?_⟩
    refine List.forall_mem_cons.2 ⟨fun x => Cert.W4.piece hk 4 ![4, 0] slices_S16x512_o4_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![256, 0] ![512, 0] inb_S1024x512_S64x512_256_0 inb_S2048x512_S128x512_512_0 rfl rfl rfl rfl rfl rfl x, ?_⟩
    refine List.forall_mem_cons.2 ⟨fun x => Cert.W4.piece hk 3 ![3, 0] slices_S16x512_o3_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![192, 0] ![384, 0] inb_S1024x512_S64x512_192_0 inb_S2048x512_S128x512_384_0 rfl rfl rfl rfl rfl rfl x, ?_⟩
    refine List.forall_mem_cons.2 ⟨fun x => Cert.W4.piece hk 2 ![2, 0] slices_S16x512_o2_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![128, 0] ![256, 0] inb_S1024x512_S64x512_128_0 inb_S2048x512_S128x512_256_0 rfl rfl rfl rfl rfl rfl x, ?_⟩
    refine List.forall_mem_cons.2 ⟨fun x => Cert.W4.piece hk 1 ![1, 0] slices_S16x512_o1_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![64, 0] ![128, 0] inb_S1024x512_S64x512_64_0 inb_S2048x512_S128x512_128_0 rfl rfl rfl rfl rfl rfl x, ?_⟩
    refine List.forall_mem_cons.2 ⟨fun x => Cert.W4.piece hk 0 ![0, 0] slices_S16x512_o0_0_S1x512 broadcasts_S1x512_S64x512 bitcasts_S64x512_w32_S128x512_w16 shapeCasts_S128x512_S128x512 (k0_pay2 (groups i x4)) (shapeCast S16x512 (groups i x5) shapeCasts_S16x512_S16x512) x3 s z hs' hz' ![0, 0] ![0, 0] inb_S1024x512_S64x512_0_0 inb_S2048x512_S128x512_0_0 rfl rfl rfl rfl rfl rfl x, ?_⟩
    exact fun p hp => absurd hp List.not_mem_nil

end Cert.DownIdeal.Block

end
-- ==== Proof.DownRef.lean ====
/- The down projection's reference at a row and a column. -/
module

public import proofs.«01_k».proof.Proof.Spec
public import proofs.«01_k».proof.Proof.Gen.DownRefIdeal.Read
public import proofs.«01_k».proof.Proof.Gen.DownRefIdeal.Run

@[expose] public section

set_option maxRecDepth 16384

noncomputable section

namespace Cert.DownRefIdeal.At

open Cert.DownRefIdeal Cert.DownRefIdeal.Read Idealize.ShloMosaic Idealize.ShloMosaic.TcCoe Idealize.SL.Sem

/-- Row `r` of the weights comes from row `r / 2` of the code bytes and from group `r / 128`. -/
theorem hk : ∀ r, r < 14336 → r / 2 < 7168 ∧ r / 128 < 112 := fun r h => by omega

/-- The even rows' weights, as the reference computes them from the low nibbles. -/
theorem lo (x3 : (⟨S7168x4096, .i8⟩ : BufTy).Contents (Elt Ideal)) (x4 x5 : (⟨S112x4096, .i8⟩ : BufTy).Contents (Elt Ideal)) (k : Fin 7168) (j : Fin 4096) :
    val_main_v28 (F := Ideal) x3 x4 x5 (ix2 k j)
      = Cert.W4.wval (x3 (ix2 k j)) (x4 (ix2 (⟨k.val / 64, by omega⟩ : Fin 112) j)) (x5 (ix2 (⟨k.val / 64, by omega⟩ : Fin 112) j)) 0 := by
  have hk := k.isLt
  have hj := j.isLt
  have e1 : idx_main_v7 (idx_main_v13 (ix2 k j)) = ix2 k j := funext fun a => Fin.ext (by
    match a with
    | ⟨0, _⟩ => show (((k.val * 4096 + j.val) / 262144 * 64 + (k.val * 4096 + j.val) / 4096 % 64) * 4096 + (k.val * 4096 + j.val) % 4096) / 4096 = k.val; omega
    | ⟨1, _⟩ => show (((k.val * 4096 + j.val) / 262144 * 64 + (k.val * 4096 + j.val) / 4096 % 64) * 4096 + (k.val * 4096 + j.val) % 4096) % 4096 = j.val; omega)
  have e2 : idx_main_v3 (idx_main_v8 (idx_main_v13 (ix2 k j))) = ix2 (⟨k.val / 64, by omega⟩ : Fin 112) j := funext fun a => Fin.ext (by
    match a with
    | ⟨0, _⟩ => show (k.val * 4096 + j.val) / 262144 = k.val / 64; omega
    | ⟨1, _⟩ => show (k.val * 4096 + j.val) % 4096 = j.val; omega)
  have e3 : idx_main_v1 (idx_main_v10 (idx_main_v13 (ix2 k j))) = ix2 (⟨k.val / 64, by omega⟩ : Fin 112) j := funext fun a => Fin.ext (by
    match a with
    | ⟨0, _⟩ => show (k.val * 4096 + j.val) / 262144 = k.val / 64; omega
    | ⟨1, _⟩ => show (k.val * 4096 + j.val) % 4096 = j.val; omega)
  rw [val_main_v28_apply, val_main_v27_apply, val_main_v13_apply, val_main_v12_apply, val_main_v11_apply, val_main_v9_apply, val_main_v7_apply, val_main_v8_apply, val_main_v3_apply, val_main_v2_apply, val_main_v10_apply, val_main_v1_apply, val_main_v0_apply, val_main_v6_apply, val_main_v4_apply, val_main_v5_apply, val_main_c_apply, e1, e2, e3]
  unfold Cert.W4.wval Cert.W4.weight
  rw [if_pos rfl]
  show (((BitVec.signExtend 32 (BitVec.setWidth 8 _)).toInt : ℝ) : EReal) = _
  rw [Cert.W4.toInt_signExtend]
  rfl

/-- The odd rows' weights, as the reference computes them from the high nibbles. -/
theorem hi (x3 : (⟨S7168x4096, .i8⟩ : BufTy).Contents (Elt Ideal)) (x4 x5 : (⟨S112x4096, .i8⟩ : BufTy).Contents (Elt Ideal)) (k : Fin 7168) (j : Fin 4096) :
    val_main_v34 (F := Ideal) x3 x4 x5 (ix2 k j)
      = Cert.W4.wval (x3 (ix2 k j)) (x4 (ix2 (⟨k.val / 64, by omega⟩ : Fin 112) j)) (x5 (ix2 (⟨k.val / 64, by omega⟩ : Fin 112) j)) 1 := by
  have hk := k.isLt
  have hj := j.isLt
  have e1 : idx_main_v17 (idx_main_v23 (ix2 k j)) = ix2 k j := funext fun a => Fin.ext (by
    match a with
    | ⟨0, _⟩ => show (((k.val * 4096 + j.val) / 262144 * 64 + (k.val * 4096 + j.val) / 4096 % 64) * 4096 + (k.val * 4096 + j.val) % 4096) / 4096 = k.val; omega
    | ⟨1, _⟩ => show (((k.val * 4096 + j.val) / 262144 * 64 + (k.val * 4096 + j.val) / 4096 % 64) * 4096 + (k.val * 4096 + j.val) % 4096) % 4096 = j.val; omega)
  have e2 : idx_main_v3 (idx_main_v18 (idx_main_v23 (ix2 k j))) = ix2 (⟨k.val / 64, by omega⟩ : Fin 112) j := funext fun a => Fin.ext (by
    match a with
    | ⟨0, _⟩ => show (k.val * 4096 + j.val) / 262144 = k.val / 64; omega
    | ⟨1, _⟩ => show (k.val * 4096 + j.val) % 4096 = j.val; omega)
  have e3 : idx_main_v1 (idx_main_v20 (idx_main_v23 (ix2 k j))) = ix2 (⟨k.val / 64, by omega⟩ : Fin 112) j := funext fun a => Fin.ext (by
    match a with
    | ⟨0, _⟩ => show (k.val * 4096 + j.val) / 262144 = k.val / 64; omega
    | ⟨1, _⟩ => show (k.val * 4096 + j.val) % 4096 = j.val; omega)
  rw [val_main_v34_apply, val_main_v33_apply, val_main_v23_apply, val_main_v22_apply, val_main_v21_apply, val_main_v19_apply, val_main_v17_apply, val_main_v18_apply, val_main_v3_apply, val_main_v2_apply, val_main_v20_apply, val_main_v1_apply, val_main_v0_apply, val_main_v16_apply, val_main_v14_apply, val_main_v15_apply, val_main_c_0_apply, e1, e2, e3]
  unfold Cert.W4.wval Cert.W4.weight
  rw [if_neg (by decide), Cert.W4.shrsi_byte]
  show (((BitVec.signExtend 32 (BitVec.setWidth 8 _)).toInt : ℝ) : EReal) = _
  rw [Cert.W4.toInt_signExtend]
  rfl

/-- The reference's two products, over the even and the odd columns of the activations, are one product with all the weights. -/
theorem prod (x0 : (⟨S1152x14336, .i8⟩ : BufTy).Contents (Elt Ideal)) (x3 : (⟨S7168x4096, .i8⟩ : BufTy).Contents (Elt Ideal)) (x4 x5 : (⟨S112x4096, .i8⟩ : BufTy).Contents (Elt Ideal)) (i : Fin 1152) (j : Fin 4096) :
    val_main_v36 (F := Ideal) x0 x3 x4 x5 (ix2 i j) = Cert.W4.rowProd x0 (Cert.W4.weights hk x3 x4 x5) i j := by
  unfold Cert.W4.rowProd
  rw [val_main_v36_apply, val_main_v29_apply, val_main_v35_apply, Cert.W4.sum_even_odd 7168 14336 rfl]
  show (_ : EReal) + _ = _
  refine congrArg₂ (· + ·) (Finset.sum_congr rfl fun k _ => ?_) (Finset.sum_congr rfl fun k _ => ?_)
  · have hk := k.isLt
    rw [show lidx_main_v29 (ix2 i j) k = ix2 i k from funext fun a => by match a with | ⟨0, _⟩ => rfl | ⟨1, _⟩ => rfl,
      show ridx_main_v29 (ix2 i j) k = ix2 k j from funext fun a => by match a with | ⟨0, _⟩ => rfl | ⟨1, _⟩ => rfl,
      lo, val_main_v26_apply, val_main_v25_apply, Cert.W4.weights_ix2,
      show val_main_v24 (F := Ideal) x0 (ix2 i k) = x0 (ix2 i (⟨2 * k.val, by omega⟩ : Fin 14336)) from congrArg x0 (funext fun a => Fin.ext (by
        match a with
        | ⟨0, _⟩ => show 0 + 1 * i.val = i.val; omega
        | ⟨1, _⟩ => show 0 + 2 * k.val = 2 * k.val; omega))]
    show (((BitVec.signExtend 32 _).toInt : ℝ) : EReal) * _ = _
    rw [Cert.W4.toInt_signExtend]
    have e1 : (⟨(2 * k.val) / 2, by omega⟩ : Fin 7168) = k := Fin.ext (by show (2 * k.val) / 2 = k.val; omega)
    have e2 : (⟨(2 * k.val) / 128, by omega⟩ : Fin 112) = ⟨k.val / 64, by omega⟩ := Fin.ext (by show (2 * k.val) / 128 = k.val / 64; omega)
    have e3 : (2 * k.val) % 2 = 0 := by omega
    simp only [e1, e2, e3]
    rfl
  · have hk := k.isLt
    rw [show lidx_main_v35 (ix2 i j) k = ix2 i k from funext fun a => by match a with | ⟨0, _⟩ => rfl | ⟨1, _⟩ => rfl,
      show ridx_main_v35 (ix2 i j) k = ix2 k j from funext fun a => by match a with | ⟨0, _⟩ => rfl | ⟨1, _⟩ => rfl,
      hi, val_main_v32_apply, val_main_v31_apply, Cert.W4.weights_ix2,
      show val_main_v30 (F := Ideal) x0 (ix2 i k) = x0 (ix2 i (⟨2 * k.val + 1, by omega⟩ : Fin 14336)) from congrArg x0 (funext fun a => Fin.ext (by
        match a with
        | ⟨0, _⟩ => show 0 + 1 * i.val = i.val; omega
        | ⟨1, _⟩ => show 1 + 2 * k.val = 2 * k.val + 1; omega))]
    show (((BitVec.signExtend 32 _).toInt : ℝ) : EReal) * _ = _
    rw [Cert.W4.toInt_signExtend]
    have e1 : (⟨(2 * k.val + 1) / 2, by omega⟩ : Fin 7168) = k := Fin.ext (by show (2 * k.val + 1) / 2 = k.val; omega)
    have e2 : (⟨(2 * k.val + 1) / 128, by omega⟩ : Fin 112) = ⟨k.val / 64, by omega⟩ := Fin.ext (by show (2 * k.val + 1) / 128 = k.val / 64; omega)
    have e3 : (2 * k.val + 1) % 2 = 1 := by omega
    simp only [e1, e2, e3]
    rfl

/-- The scaled product at a row and a column. -/
theorem scaled (x0 : (⟨S1152x14336, .i8⟩ : BufTy).Contents (Elt Ideal)) (x1 : (⟨S1152x1, .f32⟩ : BufTy).Contents (Elt Ideal)) (x3 : (⟨S7168x4096, .i8⟩ : BufTy).Contents (Elt Ideal)) (x4 x5 : (⟨S112x4096, .i8⟩ : BufTy).Contents (Elt Ideal)) (x6 : (⟨S4096, .f32⟩ : BufTy).Contents (Elt Ideal)) (i : Fin 1152) (j : Fin 4096) :
    val_main_v41 (F := Ideal) x0 x1 x3 x4 x5 x6 (ix2 i j)
      = Cert.W4.rowProd x0 (Cert.W4.weights hk x3 x4 x5) i j * x1 (ix2 i 0) * x6 (Cert.W4.at1 j) := by
  rw [val_main_v41_apply, val_main_v38_apply, prod, val_main_v37_apply, val_main_v40_apply, val_main_v39_apply]
  have e1 : idx_main_v37 (ix2 i j) = ix2 i 0 := funext fun a => by match a with | ⟨0, _⟩ => rfl | ⟨1, _⟩ => rfl
  have e2 : idx_main_v39 (idx_main_v40 (ix2 i j)) = (Cert.W4.at1 j) := funext fun a => by match a with | ⟨0, _⟩ => rfl
  rw [e1, e2]
  rfl

end Cert.DownRefIdeal.At

end
-- ==== Proof.Down.lean ====
/- The down product: the array after the run is the residual plus the scaled product with the unpacked weights, summed over seven steps,
   which is what the reference computes. -/
module

public import proofs.«01_k».proof.Defs
public import proofs.«01_k».proof.Proof.Spec
public import proofs.«01_k».proof.Proof.DownBlock
public import proofs.«01_k».proof.Proof.DownRef
public import proofs.«01_k».proof.Proof.Gen.Down.Frame
public import Idealize.ShloMosaic.Lib.ValueLayout

@[expose] public section

set_option maxRecDepth 16384

noncomputable section

namespace Cert.DownIdeal.Whole

open Cert.DownIdeal Cert.DownIdeal.Gen Cert.DownIdeal.Value Cert.DownIdeal.Block Idealize.ShloMosaic Idealize.ShloMosaic.TcCoe Idealize.SL.Sem

/-- One step's product at a row and a column. -/
theorem first_at (x0 : Vec Ideal S1152x2048 .i8) (w : Vec Ideal S2048x512 .bf16) (i : Fin 1152) (j : Fin 512) :
    (k0_pay38 x0 w (ix2 i j) : EReal) = ∑ k : Fin 2048, Cert.W4.real (x0 (ix2 i k)) * w (ix2 k j) := by
  pointwise [k0_pay38, k0_pay37]
  rfl

/-- The accumulator plus one step's product at a row and a column. -/
theorem next_at (x0 : Vec Ideal S1152x2048 .i8) (w : Vec Ideal S2048x512 .bf16) (acc : Vec Ideal S1152x512 .f32) (i : Fin 1152) (j : Fin 512) :
    (k0_pay39 x0 w acc (ix2 i j) : EReal) = (acc (ix2 i j) : EReal) + ∑ k : Fin 2048, Cert.W4.real (x0 (ix2 i k)) * w (ix2 k j) := by
  pointwise [k0_pay39, k0_pay37]
  rfl

/-- The block's value at a row and a column. -/
theorem last_at (x2 acc : Vec Ideal S1152x512 .f32) (x1 : Vec Ideal S1152x1 .f32) (x6 : Vec Ideal S1x512 .f32) (i : Fin 1152) (j : Fin 512) :
    (k0_pay1 x2 acc x1 x6 (ix2 i j) : EReal) = (x2 (ix2 i j) : EReal) + acc (ix2 i j) * x1 (ix2 i 0) * x6 (ix2 0 j) := by
  pointwise [k0_pay1]

variable (m : (ℓ : Loc nD τ sig) → Buf (Elt Ideal) ℓ) (ρ : Dev nD → PrngReg)

theorem lt56 (t : Fin cfg0.N) : t.val < 56 := lt_of_lt_of_eq t.isLt N_0

theorem idx0 : ∀ t : Fin cfg0.N, win0_0.index t (0 : Fin 2) = 0 ∧ win0_0.index t (1 : Fin 2) = t.val % 7 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val / 7 := (by decide +kernel : ∀ t : Fin grid0.N, _)
theorem idx3 : ∀ t : Fin cfg0.N, win0_3.index t (0 : Fin 2) = t.val % 7 ∧ win0_3.index t (1 : Fin 2) = t.val / 7 := (by decide +kernel : ∀ t : Fin grid0.N, _)
theorem idx4 : ∀ t : Fin cfg0.N, win0_4.index t (0 : Fin 2) = 0 ∧ win0_4.index t (1 : Fin 2) = t.val / 7 := (by decide +kernel : ∀ t : Fin grid0.N, _)
theorem idx5 : ∀ t : Fin cfg0.N, win0_5.index t (0 : Fin 2) = 0 ∧ win0_5.index t (1 : Fin 2) = t.val / 7 := (by decide +kernel : ∀ t : Fin grid0.N, _)
theorem idx6 : ∀ t : Fin cfg0.N, win0_6.index t (0 : Fin 2) = 0 ∧ win0_6.index t (1 : Fin 2) = t.val / 7 := (by decide +kernel : ∀ t : Fin grid0.N, _)

/-- Step `k` of a block reads the groups from `16 k` on. -/
theorem off_at : ∀ t : Fin cfg0.N, k0_off1 (grid0.coords t) (0 : Fin 2) = 16 * (t.val % 7) ∧ k0_off1 (grid0.coords t) (1 : Fin 2) = 0 :=
  (by decide +kernel : ∀ t : Fin grid0.N, _)

/-- Column `j` of point `t`'s block is column `512 (t / 7) + j` of the array. -/
def col (t : Fin cfg0.N) (j : Fin 512) : Fin 4096 := ⟨512 * (t.val / 7) + j.val, by have h := lt56 t; have := j.isLt; omega⟩

theorem blk0 (c : Dev nD) (t : Fin cfg0.N) (i : Fin 1152) (k : Fin 2048) : iblk m c 0 t (ix2 i k) = m ((c : Thread nD τ).loc main_arg0) (ix2 i (⟨2048 * (t.val % 7) + k.val, by have h := lt56 t; have := k.isLt; omega⟩ : Fin 14336)) := by
  obtain ⟨e0, e1⟩ := idx0 t
  have ht := lt56 t
  refine (show iblk m c 0 t (ix2 i k) = V m c main_arg0 (((cfg0.win 0).blk t).view.emb (ix2 i k)) from rfl).trans ?_
  rw [V_main_arg0]
  refine congrArg (m ((c : Thread nD τ).loc main_arg0)) (funext fun a => Fin.ext ?_)
  match a with
  | ⟨0, _⟩ => show win0_0.index t (0 : Fin 2) * 1152 + 1 * i.val = i.val; omega
  | ⟨1, _⟩ => show win0_0.index t (1 : Fin 2) * 2048 + 1 * k.val = 2048 * (t.val % 7) + k.val; omega

theorem blk1 (c : Dev nD) (t : Fin cfg0.N) (i : Fin 1152) : iblk m c 1 t (ix2 i 0) = m ((c : Thread nD τ).loc main_arg1) (ix2 i 0) := by
  obtain ⟨e0, e1⟩ := idx1 t
  have ht := lt56 t
  refine (show iblk m c 1 t (ix2 i 0) = V m c main_arg1 (((cfg0.win 1).blk t).view.emb (ix2 i 0)) from rfl).trans ?_
  rw [V_main_arg1]
  refine congrArg (m ((c : Thread nD τ).loc main_arg1)) (funext fun a => Fin.ext ?_)
  match a with
  | ⟨0, _⟩ => show win0_1.index t (0 : Fin 2) * 1152 + 1 * i.val = i.val; omega
  | ⟨1, _⟩ => show win0_1.index t (1 : Fin 2) * 1 + 1 * 0 = 0; omega

theorem blk2 (c : Dev nD) (t : Fin cfg0.N) (i : Fin 1152) (j : Fin 512) : iblk m c 2 t (ix2 i j) = m ((c : Thread nD τ).loc main_arg2) (ix2 i (col t j)) := by
  obtain ⟨e0, e1⟩ := idx2 t
  have ht := lt56 t
  refine (show iblk m c 2 t (ix2 i j) = V m c main_arg2 (((cfg0.win 2).blk t).view.emb (ix2 i j)) from rfl).trans ?_
  rw [V_main_arg2]
  refine congrArg (m ((c : Thread nD τ).loc main_arg2)) (funext fun a => Fin.ext ?_)
  match a with
  | ⟨0, _⟩ => show win0_2.index t (0 : Fin 2) * 1152 + 1 * i.val = i.val; omega
  | ⟨1, _⟩ => show win0_2.index t (1 : Fin 2) * 512 + 1 * j.val = 512 * (t.val / 7) + j.val; omega

theorem blk3 (c : Dev nD) (t : Fin cfg0.N) (q : Fin 1024) (j : Fin 512) : iblk m c 3 t (ix2 q j) = m ((c : Thread nD τ).loc main_arg3) (ix2 (⟨1024 * (t.val % 7) + q.val, by have h := lt56 t; have := q.isLt; omega⟩ : Fin 7168) (col t j)) := by
  obtain ⟨e0, e1⟩ := idx3 t
  have ht := lt56 t
  refine (show iblk m c 3 t (ix2 q j) = V m c main_arg3 (((cfg0.win 3).blk t).view.emb (ix2 q j)) from rfl).trans ?_
  rw [V_main_arg3]
  refine congrArg (m ((c : Thread nD τ).loc main_arg3)) (funext fun a => Fin.ext ?_)
  match a with
  | ⟨0, _⟩ => show win0_3.index t (0 : Fin 2) * 1024 + 1 * q.val = 1024 * (t.val % 7) + q.val; omega
  | ⟨1, _⟩ => show win0_3.index t (1 : Fin 2) * 512 + 1 * j.val = 512 * (t.val / 7) + j.val; omega

/-- The groups' scales as the region finds them: widened to 32 bits. -/
theorem V_conv4 (c : Dev nD) : V m c main_v1 = extsi 32 (m ((c : Thread nD τ).loc main_arg4)) natLt_8_32 := by
  show StableHlo.after hostOps0 (fun b => m (c, b)) (Proc.devRef .tc main_v1) = _
  after_results_simp <;> rfl

theorem grp4 (c : Dev nD) (t : Fin cfg0.N) (g : Fin 16) (j : Fin 512) : groups (grid0.coords t) (iblk m c 4 t) (ix2 g j)
    = (m ((c : Thread nD τ).loc main_arg4) (ix2 (⟨16 * (t.val % 7) + g.val, by have h := lt56 t; have := g.isLt; omega⟩ : Fin 112) (col t j))).signExtend 32 := by
  obtain ⟨e0, e1⟩ := idx4 t
  obtain ⟨f0, f1⟩ := off_at t
  have ht := lt56 t
  refine (show groups (grid0.coords t) (iblk m c 4 t) (ix2 g j) = V m c main_v1 (((cfg0.win 4).blk t).view.emb
    ((Rect.unit (s := S112x512) (k0_off1 (grid0.coords t)) S16x512.size (k0_off1_inb (grid0.coords t))).emb (ix2 g j))) from rfl).trans ?_
  rw [V_conv4]
  refine congrArg (fun q => (m ((c : Thread nD τ).loc main_arg4) q).signExtend 32) (funext fun a => Fin.ext ?_)
  match a with
  | ⟨0, _⟩ => show win0_4.index t (0 : Fin 2) * 112 + 1 * (k0_off1 (grid0.coords t) (0 : Fin 2) + 1 * g.val) = 16 * (t.val % 7) + g.val; omega
  | ⟨1, _⟩ => show win0_4.index t (1 : Fin 2) * 512 + 1 * (k0_off1 (grid0.coords t) (1 : Fin 2) + 1 * j.val) = 512 * (t.val / 7) + j.val; omega

/-- The groups' zero points as the region finds them: widened to 32 bits. -/
theorem V_conv5 (c : Dev nD) : V m c main_v2 = extsi 32 (m ((c : Thread nD τ).loc main_arg5)) natLt_8_32 := by
  show StableHlo.after hostOps0 (fun b => m (c, b)) (Proc.devRef .tc main_v2) = _
  after_results_simp <;> rfl

theorem grp5 (c : Dev nD) (t : Fin cfg0.N) (g : Fin 16) (j : Fin 512) : groups (grid0.coords t) (iblk m c 5 t) (ix2 g j)
    = (m ((c : Thread nD τ).loc main_arg5) (ix2 (⟨16 * (t.val % 7) + g.val, by have h := lt56 t; have := g.isLt; omega⟩ : Fin 112) (col t j))).signExtend 32 := by
  obtain ⟨e0, e1⟩ := idx5 t
  obtain ⟨f0, f1⟩ := off_at t
  have ht := lt56 t
  refine (show groups (grid0.coords t) (iblk m c 5 t) (ix2 g j) = V m c main_v2 (((cfg0.win 5).blk t).view.emb
    ((Rect.unit (s := S112x512) (k0_off1 (grid0.coords t)) S16x512.size (k0_off1_inb (grid0.coords t))).emb (ix2 g j))) from rfl).trans ?_
  rw [V_conv5]
  refine congrArg (fun q => (m ((c : Thread nD τ).loc main_arg5) q).signExtend 32) (funext fun a => Fin.ext ?_)
  match a with
  | ⟨0, _⟩ => show win0_5.index t (0 : Fin 2) * 112 + 1 * (k0_off1 (grid0.coords t) (0 : Fin 2) + 1 * g.val) = 16 * (t.val % 7) + g.val; omega
  | ⟨1, _⟩ => show win0_5.index t (1 : Fin 2) * 512 + 1 * (k0_off1 (grid0.coords t) (1 : Fin 2) + 1 * j.val) = 512 * (t.val / 7) + j.val; omega

/-- The column scales as the region finds them: one row. -/
theorem V_row (c : Dev nD) : V m c main_v0 = shapeCast S1x4096 (m ((c : Thread nD τ).loc main_arg6)) shapeCasts_S4096_S1x4096 := by
  show StableHlo.after hostOps0 (fun b => m (c, b)) (Proc.devRef .tc main_v0) = _
  after_results_simp <;> rfl

theorem blk6 (c : Dev nD) (t : Fin cfg0.N) (j : Fin 512) :
    iblk m c 6 t (ix2 0 j) = m ((c : Thread nD τ).loc main_arg6) (Cert.W4.at1 (col t j)) := by
  obtain ⟨e0, e1⟩ := idx6 t
  refine (show iblk m c 6 t (ix2 0 j) = V m c main_v0 (((cfg0.win 6).blk t).view.emb (ix2 0 j)) from rfl).trans ?_
  rw [V_row]
  have e : ((cfg0.win 6).blk t).view.emb (ix2 0 j) = (ix2 (0 : Fin 1) (col t j) : S1x4096.Idx) := funext fun a => Fin.ext (by
    match a with
    | ⟨0, _⟩ => show win0_6.index t (0 : Fin 2) * 1 + 1 * 0 = 0; omega
    | ⟨1, _⟩ => show win0_6.index t (1 : Fin 2) * 512 + 1 * j.val = 512 * (t.val / 7) + j.val; omega)
  rw [e]
  refine (ValueIdx.shapeCast_a_1a_apply _ _ _ _).trans ?_
  refine congrArg (m ((c : Thread nD τ).loc main_arg6)) (funext fun a => Fin.ext ?_)
  match a with
  | ⟨0, _⟩ => rfl

/-- Row `r` of all weights comes from row `r / 2` of the code bytes and from group `r / 128`. -/
theorem hkAll : ∀ r, r < 14336 → r / 2 < 7168 ∧ r / 128 < 112 := fun r h => by omega

/-- The scales (or zero points) of point `t`'s groups and columns. -/
def part (x : S112x4096.Idx → BitVec 8) (t : Fin cfg0.N) : S16x512.Idx → BitVec 8 := fun y =>
  x (ix2 (⟨16 * (t.val % 7) + (y 0).val, by have h := lt56 t; have h0 : (y 0).val < 16 := (y 0).isLt; omega⟩ : Fin 112) (col t (y 1)))

theorem part4 (c : Dev nD) (t : Fin cfg0.N) (y : S16x512.Idx) :
    groups (grid0.coords t) (iblk m c 4 t) y = (part (m ((c : Thread nD τ).loc main_arg4)) t y).signExtend 32 := by
  obtain ⟨g, j, rfl⟩ : ∃ (g : Fin 16) (j : Fin 512), y = ix2 g j := ⟨y 0, y 1, eq_ix2 y⟩
  exact grp4 m c t g j

theorem part5 (c : Dev nD) (t : Fin cfg0.N) (y : S16x512.Idx) :
    groups (grid0.coords t) (iblk m c 5 t) y = (part (m ((c : Thread nD τ).loc main_arg5)) t y).signExtend 32 := by
  obtain ⟨g, j, rfl⟩ : ∃ (g : Fin 16) (j : Fin 512), y = ix2 g j := ⟨y 0, y 1, eq_ix2 y⟩
  exact grp5 m c t g j

/-- The term that input channel `r` adds to the product at a row and a column. -/
def term (c : Dev nD) (i : Fin 1152) (j : Fin 4096) (r : ℕ) : EReal :=
  if h : r < 14336 then Cert.W4.real (m ((c : Thread nD τ).loc main_arg0) (ix2 i (⟨r, h⟩ : Fin 14336)))
    * Cert.W4.weights hkAll (m ((c : Thread nD τ).loc main_arg3)) (m ((c : Thread nD τ).loc main_arg4)) (m ((c : Thread nD τ).loc main_arg5)) (ix2 (⟨r, h⟩ : Fin 14336) j) else 0

/-- The weights that point `t` unpacks. -/
abbrev wts (c : Dev nD) (t : Fin cfg0.N) : Vec Ideal S2048x512 .bf16 :=
  Cert.W4.weights hk (iblk m c 3 t) (part (m ((c : Thread nD τ).loc main_arg4)) t) (part (m ((c : Thread nD τ).loc main_arg5)) t)

/-- Point `t`'s product is the sum of the terms of its input channels. -/
theorem step_sum (c : Dev nD) (t : Fin cfg0.N) (i : Fin 1152) (j : Fin 512) :
    (∑ k : Fin 2048, Cert.W4.real (iblk m c 0 t (ix2 i k)) * wts m c t (ix2 k j))
      = ∑ k ∈ Finset.range 2048, term m c i (col t j) (2048 * (t.val % 7) + k) := by
  rw [← Fin.sum_univ_eq_sum_range (fun k => term m c i (col t j) (2048 * (t.val % 7) + k)) 2048]
  refine Finset.sum_congr rfl fun k _ => ?_
  have hk' := k.isLt
  have ht := lt56 t
  unfold term
  rw [dif_pos (show 2048 * (t.val % 7) + k.val < 14336 by omega), blk0]
  refine congrArg (fun q : EReal => Cert.W4.real _ * q) ?_
  unfold wts
  rw [Cert.W4.weights_ix2, Cert.W4.weights_ix2, blk3]
  have e1 : (⟨1024 * (t.val % 7) + k.val / 2, by omega⟩ : Fin 7168) = ⟨(2048 * (t.val % 7) + k.val) / 2, by omega⟩ := Fin.ext (by show 1024 * (t.val % 7) + k.val / 2 = (2048 * (t.val % 7) + k.val) / 2; omega)
  have e2 : (⟨16 * (t.val % 7) + k.val / 128, by omega⟩ : Fin 112) = ⟨(2048 * (t.val % 7) + k.val) / 128, by omega⟩ := Fin.ext (by show 16 * (t.val % 7) + k.val / 128 = (2048 * (t.val % 7) + k.val) / 128; omega)
  have e3 : (2048 * (t.val % 7) + k.val) % 2 = k.val % 2 := by omega
  unfold part
  simp only [e3]
  show Cert.W4.wval (m ((c : Thread nD τ).loc main_arg3) (ix2 (⟨1024 * (t.val % 7) + k.val / 2, by omega⟩ : Fin 7168) (col t j)))
    (m ((c : Thread nD τ).loc main_arg4) (ix2 (⟨16 * (t.val % 7) + k.val / 128, by omega⟩ : Fin 112) (col t j)))
    (m ((c : Thread nD τ).loc main_arg5) (ix2 (⟨16 * (t.val % 7) + k.val / 128, by omega⟩ : Fin 112) (col t j))) (k.val % 2) = _
  rw [e1, e2]

/-- At the first point of a block the accumulator holds the point's product. -/
theorem acc_A (c : Dev nD) (t : Fin cfg0.N) (acc : Vec Ideal S1152x512 .bf16 × Vec Ideal S1152x512 .f32) (h : t.val % 7 = 0) (i : Fin 1152) (j : Fin 512) :
    ((stAt0 m c t.val t.isLt acc).2 (ix2 i j) : EReal) = ∑ k ∈ Finset.range 2048, term m c i (col t j) (2048 * (t.val % 7) + k) := by
  rw [stAt0_A m c t acc h (by omega) (by omega), ← step_sum]
  dsimp only
  rw [sout_A _ _ _ _ _ _ _ _ _ _ _ _ _ _ _ _ _ _ _ _ _ _ _ _ _ _ _ _ _ _ _ _ _ _ (part4 m c t) (part5 m c t)]
  exact first_at _ _ i j

/-- At the later points the accumulator gains the point's product. -/
theorem acc_BC (c : Dev nD) (t : Fin cfg0.N) (acc : Vec Ideal S1152x512 .bf16 × Vec Ideal S1152x512 .f32) (h : ¬t.val % 7 = 0) (i : Fin 1152) (j : Fin 512) :
    ((stAt0 m c t.val t.isLt acc).2 (ix2 i j) : EReal)
      = (acc.2 (ix2 i j) : EReal) + ∑ k ∈ Finset.range 2048, term m c i (col t j) (2048 * (t.val % 7) + k) := by
  rw [← step_sum]
  by_cases h6 : t.val % 7 = 6
  · rw [stAt0_C m c t acc h (by omega) h6]
    dsimp only
    rw [sout_C (hs := part4 m c t) (hz := part5 m c t)]
    exact next_at _ _ _ i j
  · rw [stAt0_B m c t acc h (by omega) h6]
    dsimp only
    rw [sout_B (hs := part4 m c t) (hz := part5 m c t)]
    exact next_at _ _ _ i j

/-- After point `n` the accumulator holds the sum of the terms of all input channels so far. -/
theorem acc_at (c : Dev nD) (i : Fin 1152) (j : Fin 512) : ∀ (n : ℕ) (h : n < cfg0.N),
    ((outsAt0 m c n h).2 (ix2 i j) : EReal) = ∑ r ∈ Finset.range (2048 * (n % 7) + 2048), term m c i (col ⟨n, h⟩ j) r
  | 0, h => by
    rw [outsAt0_zero]
    refine (acc_A m c ⟨0, h⟩ _ rfl i j).trans ?_
    refine Finset.sum_congr rfl fun k _ => congrArg _ ?_
    show 2048 * (0 % 7) + k = k
    omega
  | n + 1, h => by
    rw [outsAt0_succ]
    by_cases h0 : (n + 1) % 7 = 0
    · refine (acc_A m c ⟨n + 1, h⟩ _ h0 i j).trans ?_
      show ∑ k ∈ Finset.range 2048, term m c i (col ⟨n + 1, h⟩ j) (2048 * ((n + 1) % 7) + k) = _
      rw [h0]
      refine Finset.sum_congr rfl fun k _ => congrArg _ ?_
      omega
    · refine (acc_BC m c ⟨n + 1, h⟩ _ h0 i j).trans ?_
      have hc : col ⟨n, Nat.lt_of_succ_lt h⟩ j = col ⟨n + 1, h⟩ j := Fin.ext (by
        show 512 * (n / 7) + j.val = 512 * ((n + 1) / 7) + j.val
        omega)
      rw [acc_at c i j n (Nat.lt_of_succ_lt h), hc, Finset.sum_range_add]
      show _ + ∑ k ∈ Finset.range 2048, term m c i (col ⟨n + 1, h⟩ j) (2048 * ((n + 1) % 7) + k) = _
      have e : 2048 * ((n + 1) % 7) = 2048 * (n % 7) + 2048 := by omega
      rw [e, Finset.sum_range_add _ (2048 * (n % 7) + 2048) 2048, Finset.sum_range_add]

/-- The residual plus the scaled product, at a row and a column. -/
def downAt (x0 : Vec Ideal S1152x14336 .i8) (x1 : Vec Ideal S1152x1 .f32) (x2 : Vec Ideal S1152x4096 .f32) (x3 : Vec Ideal S7168x4096 .i8) (x4 x5 : Vec Ideal S112x4096 .i8)
    (x6 : Vec Ideal S4096 .f32) (i : Fin 1152) (j : Fin 4096) : EReal :=
  (x2 (ix2 i j) : EReal) + Cert.W4.rowProd x0 (Cert.W4.weights hkAll x3 x4 x5) i j * x1 (ix2 i 0) * x6 (Cert.W4.at1 j)

/-- At a block's last point the block holds the residual plus the scaled product. -/
theorem out_at (c : Dev nD) (n : ℕ) (h : n + 1 < cfg0.N) (h6 : (n + 1) % 7 = 6) (i : Fin 1152) (j : Fin 512) :
    ((outsAt0 m c (n + 1) h).1 (ix2 i j) : EReal)
      = downAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i (col ⟨n + 1, h⟩ j) := by
  have ha := acc_at m c i j (n + 1) h
  rw [outsAt0_succ] at ha ⊢
  rw [stAt0_C m c ⟨n + 1, h⟩ _ (by show ¬(n + 1) % 7 = 0; omega) (by show 1 ≤ (n + 1) % 7; omega) h6] at ha ⊢
  dsimp only at ha ⊢
  rw [sout_C (hs := part4 m c ⟨n + 1, h⟩) (hz := part5 m c ⟨n + 1, h⟩)] at ha
  rw [out_C (hs := part4 m c ⟨n + 1, h⟩) (hz := part5 m c ⟨n + 1, h⟩)]
  refine (last_at _ _ _ _ i j).trans ?_
  rw [ha, blk1, blk2, blk6, h6]
  have es : (∑ r ∈ Finset.range (2048 * 6 + 2048), term m c i (col ⟨n + 1, h⟩ j) r)
      = Cert.W4.rowProd (m ((c : Thread nD τ).loc main_arg0)) (Cert.W4.weights hkAll (m ((c : Thread nD τ).loc main_arg3)) (m ((c : Thread nD τ).loc main_arg4)) (m ((c : Thread nD τ).loc main_arg5))) i (col ⟨n + 1, h⟩ j) := by
    refine (Fin.sum_univ_eq_sum_range (term m c i (col ⟨n + 1, h⟩ j)) 14336).symm.trans ?_
    unfold Cert.W4.rowProd
    refine Finset.sum_congr rfl fun k _ => ?_
    unfold term
    rw [dif_pos k.isLt]
  rw [es]
  unfold downAt
  with_reducible rfl

/-- The result array at a row and a column. -/
theorem G7_at (c : Dev nD) (i : Fin 1152) (j : Fin 4096) : G7 m c (ix2 i j)
    = downAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i j := by
  have hi := i.isLt
  have hj := j.isLt
  have hp : pt7Of (ix2 i j) = 7 * (j.val / 512) + 5 + 1 := by
    show 7 * (8 * (i.val / 1152 - 0) + 1 * (j.val / 512 - 0)) + 6 = _
    omega
  have hlt : 7 * (j.val / 512) + 5 + 1 < cfg0.N := lt_of_lt_of_eq (by omega) N_0.symm
  unfold G7
  rw [dif_pos (by rw [hp]; exact hlt), ← outsAt0_sweep m c (pt7Of (ix2 i j)) (by rw [hp]; exact hlt)]
  have hl : loc7Of (ix2 i j) = ix2 i (⟨j.val % 512, Nat.mod_lt _ (by decide)⟩ : Fin 512) := funext fun a => Fin.ext (by
    match a with
    | ⟨0, _⟩ => show i.val % 1152 = i.val; omega
    | ⟨1, _⟩ => rfl)
  have he : ∀ (p q : ℕ) (h : p < cfg0.N) (h' : q < cfg0.N), p = q → outsAt0 m c p h = outsAt0 m c q h' := fun p q h h' e => by subst e; rfl
  rw [hl, he _ _ _ hlt hp]
  refine (out_at m c (7 * (j.val / 512) + 5) hlt (by omega) i _).trans ?_
  exact congrArg _ (Fin.ext (by show 512 * ((7 * (j.val / 512) + 5 + 1) / 7) + j.val % 512 = j.val; omega))

end Cert.DownIdeal.Whole

namespace Cert.Proof.DownClaims

open Idealize.ShloMosaic Idealize.ShloMosaic.TcCoe Idealize.SL.Sem Cert.DownRefIdeal.Read

/-- The reference's result is the kernel's result array, of equal arguments. -/
theorem ref_eq (m : (ℓ : Loc DownIdeal.nD DownIdeal.τ DownIdeal.sig) → Buf (Elt Ideal) ℓ) (c : Dev DownIdeal.nD) :
    val_main_v43 (F := Ideal) (m ((c : Thread DownIdeal.nD DownIdeal.τ).loc DownIdeal.main_arg0)) (m ((c : Thread DownIdeal.nD DownIdeal.τ).loc DownIdeal.main_arg1))
        (m ((c : Thread DownIdeal.nD DownIdeal.τ).loc DownIdeal.main_arg2)) (m ((c : Thread DownIdeal.nD DownIdeal.τ).loc DownIdeal.main_arg3))
        (m ((c : Thread DownIdeal.nD DownIdeal.τ).loc DownIdeal.main_arg4)) (m ((c : Thread DownIdeal.nD DownIdeal.τ).loc DownIdeal.main_arg5))
        (m ((c : Thread DownIdeal.nD DownIdeal.τ).loc DownIdeal.main_arg6))
      = DownIdeal.Value.G7 m c := by
  funext x
  obtain ⟨i, j, rfl⟩ : ∃ (i : Fin 1152) (j : Fin 4096), x = ix2 i j := ⟨x 0, x 1, eq_ix2 x⟩
  rw [val_main_v43_apply, val_main_v42_apply, DownRefIdeal.At.scaled]
  exact (DownIdeal.Whole.G7_at m c i j).symm

theorem frame : Cert.quiescent_Down := fun m ρ _ => Cert.Down.Gen.frame m ρ
theorem frame_ideal : Cert.quiescent_DownIdeal := fun m ρ _ => Cert.DownIdeal.Gen.frame m ρ
theorem frame_ref : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)
theorem preserves : Cert.preserves_Down_DownIdeal := trivial

/-- The kernel and the reference end with the same array. -/
theorem algebraic : Cert.algebraic_DownIdeal_DownRefIdeal := by
  intro m ρ m' ρ' _ hag
  refine ⟨fun c => DownIdeal.Value.G7 m c, DownIdeal.Value.run m ρ, ?_⟩
  refine (θ_run Cert.DownRefIdeal.defs _ _).mono (fun _ h c => ⟨(h c).1.trans ?_, (h c).2⟩) (Cert.DownRefIdeal.Value.run (F := Ideal) m' ρ')
  obtain ⟨h0, h1, h2, h3, h4, h5, h6⟩ := hag c
  rw [h0, h1, h2, h3, h4, h5, h6]
  exact (val_main_v43_eq _ _ _ _ _ _ _).trans (ref_eq m c)

end Cert.Proof.DownClaims

end
-- ==== Proof.OProjBlock.lean ====
/- What one step of the output projection leaves in its block: the residual plus the scaled product with the unpacked weights. -/
module

public import proofs.«01_k».proof.Proof.Tile
public import proofs.«01_k».proof.Proof.Gen.OProjIdeal.Value
public import Idealize.ShloMosaic.Lib.Pipeline.ValueKit
public import Idealize.ShloMosaic.Lib.Pointwise

@[expose] public section

set_option maxRecDepth 16384

noncomputable section

namespace Cert.OProjIdeal.Block

open Cert.OProjIdeal Cert.OProjIdeal.Gen Idealize.ShloMosaic Idealize.ShloMosaic.TcCoe Idealize.SL.Sem

/-- Row `r` of the weights comes from row `r / 2` of the code bytes and from group `r / 128`. -/
theorem hk : ∀ r, r < 4096 → r / 2 < 2048 ∧ r / 128 < 32 := fun r h => by omega

/-- The block's value from its inputs: the activations as real numbers, then everything else. -/
def blockVal (a : Vec Ideal S1152x4096 .bf16) (x1 : Vec Ideal S1152x1 .f32) (x2 : Vec Ideal S1152x512 .bf16) (x3 : Vec Ideal S2048x512 .i8)
    (x4 x5 : Vec Ideal S32x512 .i8) (x6 : Vec Ideal S1x512 .f32) : Vec Ideal S1152x512 .f32 :=
  k0_pay1 (k0_pay71 a (Cert.W4.weights hk x3 x4 x5)) (k0_pay72 x2) x1 x6

/-- At the points after the first one the activations come from the scratch that the first point filled. -/
theorem out_B (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x512 .bf16) (harg3 : arg3.IsWhole) (arg4 : Memref sig .tc .vmem S2048x512 .i8) (harg4 : arg4.IsWhole) (arg5 : Memref sig .tc .vmem S32x512 .i8) (harg5 : arg5.IsWhole) (arg6 : Memref sig .tc .vmem S32x512 .i8) (harg6 : arg6.IsWhole) (arg7 : Memref sig .tc .vmem S1x512 .f32) (harg7 : arg7.IsWhole) (arg8 : Memref sig .tc .vmem S1152x512 .f32) (harg8 : arg8.IsWhole) (arg9 : Memref sig .tc .vmem S4096x512 .bf16) (harg9 : arg9.IsWhole) (arg10 : Memref sig .tc .vmem S1152x4096 .bf16) (harg10 : arg10.IsWhole) (hc0 : ¬cond0_0 i) (x0 : Vec Ideal S1152x4096 .i8) (x1 : Vec Ideal S1152x1 .f32) (x2 : Vec Ideal S1152x512 .bf16) (x3 : Vec Ideal S2048x512 .i8) (x4 : Vec Ideal S32x512 .i8) (x5 : Vec Ideal S32x512 .i8) (x6 : Vec Ideal S1x512 .f32) (xs1 : Vec Ideal S1152x4096 .bf16) :
    out0_B_7 c i arg1 harg1 arg2 harg2 arg3 harg3 arg4 harg4 arg5 harg5 arg6 harg6 arg7 harg7 arg8 harg8 arg9 harg9 arg10 harg10 hc0 x0 x1 x2 x3 x4 x5 x6 xs1 = blockVal xs1 x1 x2 x3 x4 x5 x6 := by
  unfold blockVal
  frame_out
  refine congrArg (fun w => k0_pay1 (k0_pay71 xs1 w) (k0_pay72 x2) x1 x6) ?_
  refine Cert.W4.readCov_pieces (Val := Elt Ideal) (S := S4096x512) _ _ S128x512.size _ _ ?hz ?ht ?hp
  case hz => exact funext fun a => by match a with | ⟨0, _⟩ => rfl | ⟨1, _⟩ => rfl
  case ht => sl_kernel_rfl
  case hp =>
    refine List.forall_mem_cons.2 ⟨fun x => Cert.W4.piece hk 31 ![31, 0] slices_S32x512_o31_0_S1x512 broadcasts_S1x512_S64x512 bitcasts_S64x512_w32_S128x512_w16 shapeCasts_S128x512_S128x512 (k0_pay3 x4) (extsi 32 x5 natLt_8_32) x3 x4 x5 (fun _ => rfl) (fun _ => rfl) ![1984, 0] ![3968, 0] inb_S2048x512_S64x512_1984_0 inb_S4096x512_S128x512_3968_0 rfl rfl rfl rfl rfl rfl x, ?_⟩
    refine List.forall_mem_cons.2 ⟨fun x => Cert.W4.piece hk 30 ![30, 0] slices_S32x512_o30_0_S1x512 broadcasts_S1x512_S64x512 bitcasts_S64x512_w32_S128x512_w16 shapeCasts_S128x512_S128x512 (k0_pay3 x4) (extsi 32 x5 natLt_8_32) x3 x4 x5 (fun _ => rfl) (fun _ => rfl) ![1920, 0] ![3840, 0] inb_S2048x512_S64x512_1920_0 inb_S4096x512_S128x512_3840_0 rfl rfl rfl rfl rfl rfl x, ?_⟩
    refine List.forall_mem_cons.2 ⟨fun x => Cert.W4.piece hk 29 ![29, 0] slices_S32x512_o29_0_S1x512 broadcasts_S1x512_S64x512 bitcasts_S64x512_w32_S128x512_w16 shapeCasts_S128x512_S128x512 (k0_pay3 x4) (extsi 32 x5 natLt_8_32) x3 x4 x5 (fun _ => rfl) (fun _ => rfl) ![1856, 0] ![3712, 0] inb_S2048x512_S64x512_1856_0 inb_S4096x512_S128x512_3712_0 rfl rfl rfl rfl rfl rfl x, ?_⟩
    refine List.forall_mem_cons.2 ⟨fun x => Cert.W4.piece hk 28 ![28, 0] slices_S32x512_o28_0_S1x512 broadcasts_S1x512_S64x512 bitcasts_S64x512_w32_S128x512_w16 shapeCasts_S128x512_S128x512 (k0_pay3 x4) (extsi 32 x5 natLt_8_32) x3 x4 x5 (fun _ => rfl) (fun _ => rfl) ![1792, 0] ![3584, 0] inb_S2048x512_S64x512_1792_0 inb_S4096x512_S128x512_3584_0 rfl rfl rfl rfl rfl rfl x, ?_⟩
    refine List.forall_mem_cons.2 ⟨fun x => Cert.W4.piece hk 27 ![27, 0] slices_S32x512_o27_0_S1x512 broadcasts_S1x512_S64x512 bitcasts_S64x512_w32_S128x512_w16 shapeCasts_S128x512_S128x512 (k0_pay3 x4) (extsi 32 x5 natLt_8_32) x3 x4 x5 (fun _ => rfl) (fun _ => rfl) ![1728, 0] ![3456, 0] inb_S2048x512_S64x512_1728_0 inb_S4096x512_S128x512_3456_0 rfl rfl rfl rfl rfl rfl x, ?_⟩
    refine List.forall_mem_cons.2 ⟨fun x => Cert.W4.piece hk 26 ![26, 0] slices_S32x512_o26_0_S1x512 broadcasts_S1x512_S64x512 bitcasts_S64x512_w32_S128x512_w16 shapeCasts_S128x512_S128x512 (k0_pay3 x4) (extsi 32 x5 natLt_8_32) x3 x4 x5 (fun _ => rfl) (fun _ => rfl) ![1664, 0] ![3328, 0] inb_S2048x512_S64x512_1664_0 inb_S4096x512_S128x512_3328_0 rfl rfl rfl rfl rfl rfl x, ?_⟩
    refine List.forall_mem_cons.2 ⟨fun x => Cert.W4.piece hk 25 ![25, 0] slices_S32x512_o25_0_S1x512 broadcasts_S1x512_S64x512 bitcasts_S64x512_w32_S128x512_w16 shapeCasts_S128x512_S128x512 (k0_pay3 x4) (extsi 32 x5 natLt_8_32) x3 x4 x5 (fun _ => rfl) (fun _ => rfl) ![1600, 0] ![3200, 0] inb_S2048x512_S64x512_1600_0 inb_S4096x512_S128x512_3200_0 rfl rfl rfl rfl rfl rfl x, ?_⟩
    refine List.forall_mem_cons.2 ⟨fun x => Cert.W4.piece hk 24 ![24, 0] slices_S32x512_o24_0_S1x512 broadcasts_S1x512_S64x512 bitcasts_S64x512_w32_S128x512_w16 shapeCasts_S128x512_S128x512 (k0_pay3 x4) (extsi 32 x5 natLt_8_32) x3 x4 x5 (fun _ => rfl) (fun _ => rfl) ![1536, 0] ![3072, 0] inb_S2048x512_S64x512_1536_0 inb_S4096x512_S128x512_3072_0 rfl rfl rfl rfl rfl rfl x, ?_⟩
    refine List.forall_mem_cons.2 ⟨fun x => Cert.W4.piece hk 23 ![23, 0] slices_S32x512_o23_0_S1x512 broadcasts_S1x512_S64x512 bitcasts_S64x512_w32_S128x512_w16 shapeCasts_S128x512_S128x512 (k0_pay3 x4) (extsi 32 x5 natLt_8_32) x3 x4 x5 (fun _ => rfl) (fun _ => rfl) ![1472, 0] ![2944, 0] inb_S2048x512_S64x512_1472_0 inb_S4096x512_S128x512_2944_0 rfl rfl rfl rfl rfl rfl x, ?_⟩
    refine List.forall_mem_cons.2 ⟨fun x => Cert.W4.piece hk 22 ![22, 0] slices_S32x512_o22_0_S1x512 broadcasts_S1x512_S64x512 bitcasts_S64x512_w32_S128x512_w16 shapeCasts_S128x512_S128x512 (k0_pay3 x4) (extsi 32 x5 natLt_8_32) x3 x4 x5 (fun _ => rfl) (fun _ => rfl) ![1408, 0] ![2816, 0] inb_S2048x512_S64x512_1408_0 inb_S4096x512_S128x512_2816_0 rfl rfl rfl rfl rfl rfl x, ?_⟩
    refine List.forall_mem_cons.2 ⟨fun x => Cert.W4.piece hk 21 ![21, 0] slices_S32x512_o21_0_S1x512 broadcasts_S1x512_S64x512 bitcasts_S64x512_w32_S128x512_w16 shapeCasts_S128x512_S128x512 (k0_pay3 x4) (extsi 32 x5 natLt_8_32) x3 x4 x5 (fun _ => rfl) (fun _ => rfl) ![1344, 0] ![2688, 0] inb_S2048x512_S64x512_1344_0 inb_S4096x512_S128x512_2688_0 rfl rfl rfl rfl rfl rfl x, ?_⟩
    refine List.forall_mem_cons.2 ⟨fun x => Cert.W4.piece hk 20 ![20, 0] slices_S32x512_o20_0_S1x512 broadcasts_S1x512_S64x512 bitcasts_S64x512_w32_S128x512_w16 shapeCasts_S128x512_S128x512 (k0_pay3 x4) (extsi 32 x5 natLt_8_32) x3 x4 x5 (fun _ => rfl) (fun _ => rfl) ![1280, 0] ![2560, 0] inb_S2048x512_S64x512_1280_0 inb_S4096x512_S128x512_2560_0 rfl rfl rfl rfl rfl rfl x, ?_⟩
    refine List.forall_mem_cons.2 ⟨fun x => Cert.W4.piece hk 19 ![19, 0] slices_S32x512_o19_0_S1x512 broadcasts_S1x512_S64x512 bitcasts_S64x512_w32_S128x512_w16 shapeCasts_S128x512_S128x512 (k0_pay3 x4) (extsi 32 x5 natLt_8_32) x3 x4 x5 (fun _ => rfl) (fun _ => rfl) ![1216, 0] ![2432, 0] inb_S2048x512_S64x512_1216_0 inb_S4096x512_S128x512_2432_0 rfl rfl rfl rfl rfl rfl x, ?_⟩
    refine List.forall_mem_cons.2 ⟨fun x => Cert.W4.piece hk 18 ![18, 0] slices_S32x512_o18_0_S1x512 broadcasts_S1x512_S64x512 bitcasts_S64x512_w32_S128x512_w16 shapeCasts_S128x512_S128x512 (k0_pay3 x4) (extsi 32 x5 natLt_8_32) x3 x4 x5 (fun _ => rfl) (fun _ => rfl) ![1152, 0] ![2304, 0] inb_S2048x512_S64x512_1152_0 inb_S4096x512_S128x512_2304_0 rfl rfl rfl rfl rfl rfl x, ?_⟩
    refine List.forall_mem_cons.2 ⟨fun x => Cert.W4.piece hk 17 ![17, 0] slices_S32x512_o17_0_S1x512 broadcasts_S1x512_S64x512 bitcasts_S64x512_w32_S128x512_w16 shapeCasts_S128x512_S128x512 (k0_pay3 x4) (extsi 32 x5 natLt_8_32) x3 x4 x5 (fun _ => rfl) (fun _ => rfl) ![1088, 0] ![2176, 0] inb_S2048x512_S64x512_1088_0 inb_S4096x512_S128x512_2176_0 rfl rfl rfl rfl rfl rfl x, ?_⟩
    refine List.forall_mem_cons.2 ⟨fun x => Cert.W4.piece hk 16 ![16, 0] slices_S32x512_o16_0_S1x512 broadcasts_S1x512_S64x512 bitcasts_S64x512_w32_S128x512_w16 shapeCasts_S128x512_S128x512 (k0_pay3 x4) (extsi 32 x5 natLt_8_32) x3 x4 x5 (fun _ => rfl) (fun _ => rfl) ![1024, 0] ![2048, 0] inb_S2048x512_S64x512_1024_0 inb_S4096x512_S128x512_2048_0 rfl rfl rfl rfl rfl rfl x, ?_⟩
    refine List.forall_mem_cons.2 ⟨fun x => Cert.W4.piece hk 15 ![15, 0] slices_S32x512_o15_0_S1x512 broadcasts_S1x512_S64x512 bitcasts_S64x512_w32_S128x512_w16 shapeCasts_S128x512_S128x512 (k0_pay3 x4) (extsi 32 x5 natLt_8_32) x3 x4 x5 (fun _ => rfl) (fun _ => rfl) ![960, 0] ![1920, 0] inb_S2048x512_S64x512_960_0 inb_S4096x512_S128x512_1920_0 rfl rfl rfl rfl rfl rfl x, ?_⟩
    refine List.forall_mem_cons.2 ⟨fun x => Cert.W4.piece hk 14 ![14, 0] slices_S32x512_o14_0_S1x512 broadcasts_S1x512_S64x512 bitcasts_S64x512_w32_S128x512_w16 shapeCasts_S128x512_S128x512 (k0_pay3 x4) (extsi 32 x5 natLt_8_32) x3 x4 x5 (fun _ => rfl) (fun _ => rfl) ![896, 0] ![1792, 0] inb_S2048x512_S64x512_896_0 inb_S4096x512_S128x512_1792_0 rfl rfl rfl rfl rfl rfl x, ?_⟩
    refine List.forall_mem_cons.2 ⟨fun x => Cert.W4.piece hk 13 ![13, 0] slices_S32x512_o13_0_S1x512 broadcasts_S1x512_S64x512 bitcasts_S64x512_w32_S128x512_w16 shapeCasts_S128x512_S128x512 (k0_pay3 x4) (extsi 32 x5 natLt_8_32) x3 x4 x5 (fun _ => rfl) (fun _ => rfl) ![832, 0] ![1664, 0] inb_S2048x512_S64x512_832_0 inb_S4096x512_S128x512_1664_0 rfl rfl rfl rfl rfl rfl x, ?_⟩
    refine List.forall_mem_cons.2 ⟨fun x => Cert.W4.piece hk 12 ![12, 0] slices_S32x512_o12_0_S1x512 broadcasts_S1x512_S64x512 bitcasts_S64x512_w32_S128x512_w16 shapeCasts_S128x512_S128x512 (k0_pay3 x4) (extsi 32 x5 natLt_8_32) x3 x4 x5 (fun _ => rfl) (fun _ => rfl) ![768, 0] ![1536, 0] inb_S2048x512_S64x512_768_0 inb_S4096x512_S128x512_1536_0 rfl rfl rfl rfl rfl rfl x, ?_⟩
    refine List.forall_mem_cons.2 ⟨fun x => Cert.W4.piece hk 11 ![11, 0] slices_S32x512_o11_0_S1x512 broadcasts_S1x512_S64x512 bitcasts_S64x512_w32_S128x512_w16 shapeCasts_S128x512_S128x512 (k0_pay3 x4) (extsi 32 x5 natLt_8_32) x3 x4 x5 (fun _ => rfl) (fun _ => rfl) ![704, 0] ![1408, 0] inb_S2048x512_S64x512_704_0 inb_S4096x512_S128x512_1408_0 rfl rfl rfl rfl rfl rfl x, ?_⟩
    refine List.forall_mem_cons.2 ⟨fun x => Cert.W4.piece hk 10 ![10, 0] slices_S32x512_o10_0_S1x512 broadcasts_S1x512_S64x512 bitcasts_S64x512_w32_S128x512_w16 shapeCasts_S128x512_S128x512 (k0_pay3 x4) (extsi 32 x5 natLt_8_32) x3 x4 x5 (fun _ => rfl) (fun _ => rfl) ![640, 0] ![1280, 0] inb_S2048x512_S64x512_640_0 inb_S4096x512_S128x512_1280_0 rfl rfl rfl rfl rfl rfl x, ?_⟩
    refine List.forall_mem_cons.2 ⟨fun x => Cert.W4.piece hk 9 ![9, 0] slices_S32x512_o9_0_S1x512 broadcasts_S1x512_S64x512 bitcasts_S64x512_w32_S128x512_w16 shapeCasts_S128x512_S128x512 (k0_pay3 x4) (extsi 32 x5 natLt_8_32) x3 x4 x5 (fun _ => rfl) (fun _ => rfl) ![576, 0] ![1152, 0] inb_S2048x512_S64x512_576_0 inb_S4096x512_S128x512_1152_0 rfl rfl rfl rfl rfl rfl x, ?_⟩
    refine List.forall_mem_cons.2 ⟨fun x => Cert.W4.piece hk 8 ![8, 0] slices_S32x512_o8_0_S1x512 broadcasts_S1x512_S64x512 bitcasts_S64x512_w32_S128x512_w16 shapeCasts_S128x512_S128x512 (k0_pay3 x4) (extsi 32 x5 natLt_8_32) x3 x4 x5 (fun _ => rfl) (fun _ => rfl) ![512, 0] ![1024, 0] inb_S2048x512_S64x512_512_0 inb_S4096x512_S128x512_1024_0 rfl rfl rfl rfl rfl rfl x, ?_⟩
    refine List.forall_mem_cons.2 ⟨fun x => Cert.W4.piece hk 7 ![7, 0] slices_S32x512_o7_0_S1x512 broadcasts_S1x512_S64x512 bitcasts_S64x512_w32_S128x512_w16 shapeCasts_S128x512_S128x512 (k0_pay3 x4) (extsi 32 x5 natLt_8_32) x3 x4 x5 (fun _ => rfl) (fun _ => rfl) ![448, 0] ![896, 0] inb_S2048x512_S64x512_448_0 inb_S4096x512_S128x512_896_0 rfl rfl rfl rfl rfl rfl x, ?_⟩
    refine List.forall_mem_cons.2 ⟨fun x => Cert.W4.piece hk 6 ![6, 0] slices_S32x512_o6_0_S1x512 broadcasts_S1x512_S64x512 bitcasts_S64x512_w32_S128x512_w16 shapeCasts_S128x512_S128x512 (k0_pay3 x4) (extsi 32 x5 natLt_8_32) x3 x4 x5 (fun _ => rfl) (fun _ => rfl) ![384, 0] ![768, 0] inb_S2048x512_S64x512_384_0 inb_S4096x512_S128x512_768_0 rfl rfl rfl rfl rfl rfl x, ?_⟩
    refine List.forall_mem_cons.2 ⟨fun x => Cert.W4.piece hk 5 ![5, 0] slices_S32x512_o5_0_S1x512 broadcasts_S1x512_S64x512 bitcasts_S64x512_w32_S128x512_w16 shapeCasts_S128x512_S128x512 (k0_pay3 x4) (extsi 32 x5 natLt_8_32) x3 x4 x5 (fun _ => rfl) (fun _ => rfl) ![320, 0] ![640, 0] inb_S2048x512_S64x512_320_0 inb_S4096x512_S128x512_640_0 rfl rfl rfl rfl rfl rfl x, ?_⟩
    refine List.forall_mem_cons.2 ⟨fun x => Cert.W4.piece hk 4 ![4, 0] slices_S32x512_o4_0_S1x512 broadcasts_S1x512_S64x512 bitcasts_S64x512_w32_S128x512_w16 shapeCasts_S128x512_S128x512 (k0_pay3 x4) (extsi 32 x5 natLt_8_32) x3 x4 x5 (fun _ => rfl) (fun _ => rfl) ![256, 0] ![512, 0] inb_S2048x512_S64x512_256_0 inb_S4096x512_S128x512_512_0 rfl rfl rfl rfl rfl rfl x, ?_⟩
    refine List.forall_mem_cons.2 ⟨fun x => Cert.W4.piece hk 3 ![3, 0] slices_S32x512_o3_0_S1x512 broadcasts_S1x512_S64x512 bitcasts_S64x512_w32_S128x512_w16 shapeCasts_S128x512_S128x512 (k0_pay3 x4) (extsi 32 x5 natLt_8_32) x3 x4 x5 (fun _ => rfl) (fun _ => rfl) ![192, 0] ![384, 0] inb_S2048x512_S64x512_192_0 inb_S4096x512_S128x512_384_0 rfl rfl rfl rfl rfl rfl x, ?_⟩
    refine List.forall_mem_cons.2 ⟨fun x => Cert.W4.piece hk 2 ![2, 0] slices_S32x512_o2_0_S1x512 broadcasts_S1x512_S64x512 bitcasts_S64x512_w32_S128x512_w16 shapeCasts_S128x512_S128x512 (k0_pay3 x4) (extsi 32 x5 natLt_8_32) x3 x4 x5 (fun _ => rfl) (fun _ => rfl) ![128, 0] ![256, 0] inb_S2048x512_S64x512_128_0 inb_S4096x512_S128x512_256_0 rfl rfl rfl rfl rfl rfl x, ?_⟩
    refine List.forall_mem_cons.2 ⟨fun x => Cert.W4.piece hk 1 ![1, 0] slices_S32x512_o1_0_S1x512 broadcasts_S1x512_S64x512 bitcasts_S64x512_w32_S128x512_w16 shapeCasts_S128x512_S128x512 (k0_pay3 x4) (extsi 32 x5 natLt_8_32) x3 x4 x5 (fun _ => rfl) (fun _ => rfl) ![64, 0] ![128, 0] inb_S2048x512_S64x512_64_0 inb_S4096x512_S128x512_128_0 rfl rfl rfl rfl rfl rfl x, ?_⟩
    refine List.forall_mem_cons.2 ⟨fun x => Cert.W4.piece hk 0 ![0, 0] slices_S32x512_o0_0_S1x512 broadcasts_S1x512_S64x512 bitcasts_S64x512_w32_S128x512_w16 shapeCasts_S128x512_S128x512 (k0_pay3 x4) (extsi 32 x5 natLt_8_32) x3 x4 x5 (fun _ => rfl) (fun _ => rfl) ![0, 0] ![0, 0] inb_S2048x512_S64x512_0_0 inb_S4096x512_S128x512_0_0 rfl rfl rfl rfl rfl rfl x, ?_⟩
    exact fun p hp => absurd hp List.not_mem_nil

/-- At the first point the activations are converted from the integers. -/
theorem out_A (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x512 .bf16) (harg3 : arg3.IsWhole) (arg4 : Memref sig .tc .vmem S2048x512 .i8) (harg4 : arg4.IsWhole) (arg5 : Memref sig .tc .vmem S32x512 .i8) (harg5 : arg5.IsWhole) (arg6 : Memref sig .tc .vmem S32x512 .i8) (harg6 : arg6.IsWhole) (arg7 : Memref sig .tc .vmem S1x512 .f32) (harg7 : arg7.IsWhole) (arg8 : Memref sig .tc .vmem S1152x512 .f32) (harg8 : arg8.IsWhole) (arg9 : Memref sig .tc .vmem S4096x512 .bf16) (harg9 : arg9.IsWhole) (arg10 : Memref sig .tc .vmem S1152x4096 .bf16) (harg10 : arg10.IsWhole) (hc0 : cond0_0 i) (x0 : Vec Ideal S1152x4096 .i8) (x1 : Vec Ideal S1152x1 .f32) (x2 : Vec Ideal S1152x512 .bf16) (x3 : Vec Ideal S2048x512 .i8) (x4 : Vec Ideal S32x512 .i8) (x5 : Vec Ideal S32x512 .i8) (x6 : Vec Ideal S1x512 .f32) :
    out0_A_7 c i arg1 harg1 arg2 harg2 arg3 harg3 arg4 harg4 arg5 harg5 arg6 harg6 arg7 harg7 arg8 harg8 arg9 harg9 arg10 harg10 hc0 x0 x1 x2 x3 x4 x5 x6 = blockVal (k0_pay2 x0) x1 x2 x3 x4 x5 x6 := by
  unfold blockVal
  frame_out
  refine congrArg (fun w => k0_pay1 (k0_pay71 (k0_pay2 x0) w) (k0_pay72 x2) x1 x6) ?_
  refine Cert.W4.readCov_pieces (Val := Elt Ideal) (S := S4096x512) _ _ S128x512.size _ _ ?hz ?ht ?hp
  case hz => exact funext fun a => by match a with | ⟨0, _⟩ => rfl | ⟨1, _⟩ => rfl
  case ht => sl_kernel_rfl
  case hp =>
    refine List.forall_mem_cons.2 ⟨fun x => Cert.W4.piece hk 31 ![31, 0] slices_S32x512_o31_0_S1x512 broadcasts_S1x512_S64x512 bitcasts_S64x512_w32_S128x512_w16 shapeCasts_S128x512_S128x512 (k0_pay3 x4) (extsi 32 x5 natLt_8_32) x3 x4 x5 (fun _ => rfl) (fun _ => rfl) ![1984, 0] ![3968, 0] inb_S2048x512_S64x512_1984_0 inb_S4096x512_S128x512_3968_0 rfl rfl rfl rfl rfl rfl x, ?_⟩
    refine List.forall_mem_cons.2 ⟨fun x => Cert.W4.piece hk 30 ![30, 0] slices_S32x512_o30_0_S1x512 broadcasts_S1x512_S64x512 bitcasts_S64x512_w32_S128x512_w16 shapeCasts_S128x512_S128x512 (k0_pay3 x4) (extsi 32 x5 natLt_8_32) x3 x4 x5 (fun _ => rfl) (fun _ => rfl) ![1920, 0] ![3840, 0] inb_S2048x512_S64x512_1920_0 inb_S4096x512_S128x512_3840_0 rfl rfl rfl rfl rfl rfl x, ?_⟩
    refine List.forall_mem_cons.2 ⟨fun x => Cert.W4.piece hk 29 ![29, 0] slices_S32x512_o29_0_S1x512 broadcasts_S1x512_S64x512 bitcasts_S64x512_w32_S128x512_w16 shapeCasts_S128x512_S128x512 (k0_pay3 x4) (extsi 32 x5 natLt_8_32) x3 x4 x5 (fun _ => rfl) (fun _ => rfl) ![1856, 0] ![3712, 0] inb_S2048x512_S64x512_1856_0 inb_S4096x512_S128x512_3712_0 rfl rfl rfl rfl rfl rfl x, ?_⟩
    refine List.forall_mem_cons.2 ⟨fun x => Cert.W4.piece hk 28 ![28, 0] slices_S32x512_o28_0_S1x512 broadcasts_S1x512_S64x512 bitcasts_S64x512_w32_S128x512_w16 shapeCasts_S128x512_S128x512 (k0_pay3 x4) (extsi 32 x5 natLt_8_32) x3 x4 x5 (fun _ => rfl) (fun _ => rfl) ![1792, 0] ![3584, 0] inb_S2048x512_S64x512_1792_0 inb_S4096x512_S128x512_3584_0 rfl rfl rfl rfl rfl rfl x, ?_⟩
    refine List.forall_mem_cons.2 ⟨fun x => Cert.W4.piece hk 27 ![27, 0] slices_S32x512_o27_0_S1x512 broadcasts_S1x512_S64x512 bitcasts_S64x512_w32_S128x512_w16 shapeCasts_S128x512_S128x512 (k0_pay3 x4) (extsi 32 x5 natLt_8_32) x3 x4 x5 (fun _ => rfl) (fun _ => rfl) ![1728, 0] ![3456, 0] inb_S2048x512_S64x512_1728_0 inb_S4096x512_S128x512_3456_0 rfl rfl rfl rfl rfl rfl x, ?_⟩
    refine List.forall_mem_cons.2 ⟨fun x => Cert.W4.piece hk 26 ![26, 0] slices_S32x512_o26_0_S1x512 broadcasts_S1x512_S64x512 bitcasts_S64x512_w32_S128x512_w16 shapeCasts_S128x512_S128x512 (k0_pay3 x4) (extsi 32 x5 natLt_8_32) x3 x4 x5 (fun _ => rfl) (fun _ => rfl) ![1664, 0] ![3328, 0] inb_S2048x512_S64x512_1664_0 inb_S4096x512_S128x512_3328_0 rfl rfl rfl rfl rfl rfl x, ?_⟩
    refine List.forall_mem_cons.2 ⟨fun x => Cert.W4.piece hk 25 ![25, 0] slices_S32x512_o25_0_S1x512 broadcasts_S1x512_S64x512 bitcasts_S64x512_w32_S128x512_w16 shapeCasts_S128x512_S128x512 (k0_pay3 x4) (extsi 32 x5 natLt_8_32) x3 x4 x5 (fun _ => rfl) (fun _ => rfl) ![1600, 0] ![3200, 0] inb_S2048x512_S64x512_1600_0 inb_S4096x512_S128x512_3200_0 rfl rfl rfl rfl rfl rfl x, ?_⟩
    refine List.forall_mem_cons.2 ⟨fun x => Cert.W4.piece hk 24 ![24, 0] slices_S32x512_o24_0_S1x512 broadcasts_S1x512_S64x512 bitcasts_S64x512_w32_S128x512_w16 shapeCasts_S128x512_S128x512 (k0_pay3 x4) (extsi 32 x5 natLt_8_32) x3 x4 x5 (fun _ => rfl) (fun _ => rfl) ![1536, 0] ![3072, 0] inb_S2048x512_S64x512_1536_0 inb_S4096x512_S128x512_3072_0 rfl rfl rfl rfl rfl rfl x, ?_⟩
    refine List.forall_mem_cons.2 ⟨fun x => Cert.W4.piece hk 23 ![23, 0] slices_S32x512_o23_0_S1x512 broadcasts_S1x512_S64x512 bitcasts_S64x512_w32_S128x512_w16 shapeCasts_S128x512_S128x512 (k0_pay3 x4) (extsi 32 x5 natLt_8_32) x3 x4 x5 (fun _ => rfl) (fun _ => rfl) ![1472, 0] ![2944, 0] inb_S2048x512_S64x512_1472_0 inb_S4096x512_S128x512_2944_0 rfl rfl rfl rfl rfl rfl x, ?_⟩
    refine List.forall_mem_cons.2 ⟨fun x => Cert.W4.piece hk 22 ![22, 0] slices_S32x512_o22_0_S1x512 broadcasts_S1x512_S64x512 bitcasts_S64x512_w32_S128x512_w16 shapeCasts_S128x512_S128x512 (k0_pay3 x4) (extsi 32 x5 natLt_8_32) x3 x4 x5 (fun _ => rfl) (fun _ => rfl) ![1408, 0] ![2816, 0] inb_S2048x512_S64x512_1408_0 inb_S4096x512_S128x512_2816_0 rfl rfl rfl rfl rfl rfl x, ?_⟩
    refine List.forall_mem_cons.2 ⟨fun x => Cert.W4.piece hk 21 ![21, 0] slices_S32x512_o21_0_S1x512 broadcasts_S1x512_S64x512 bitcasts_S64x512_w32_S128x512_w16 shapeCasts_S128x512_S128x512 (k0_pay3 x4) (extsi 32 x5 natLt_8_32) x3 x4 x5 (fun _ => rfl) (fun _ => rfl) ![1344, 0] ![2688, 0] inb_S2048x512_S64x512_1344_0 inb_S4096x512_S128x512_2688_0 rfl rfl rfl rfl rfl rfl x, ?_⟩
    refine List.forall_mem_cons.2 ⟨fun x => Cert.W4.piece hk 20 ![20, 0] slices_S32x512_o20_0_S1x512 broadcasts_S1x512_S64x512 bitcasts_S64x512_w32_S128x512_w16 shapeCasts_S128x512_S128x512 (k0_pay3 x4) (extsi 32 x5 natLt_8_32) x3 x4 x5 (fun _ => rfl) (fun _ => rfl) ![1280, 0] ![2560, 0] inb_S2048x512_S64x512_1280_0 inb_S4096x512_S128x512_2560_0 rfl rfl rfl rfl rfl rfl x, ?_⟩
    refine List.forall_mem_cons.2 ⟨fun x => Cert.W4.piece hk 19 ![19, 0] slices_S32x512_o19_0_S1x512 broadcasts_S1x512_S64x512 bitcasts_S64x512_w32_S128x512_w16 shapeCasts_S128x512_S128x512 (k0_pay3 x4) (extsi 32 x5 natLt_8_32) x3 x4 x5 (fun _ => rfl) (fun _ => rfl) ![1216, 0] ![2432, 0] inb_S2048x512_S64x512_1216_0 inb_S4096x512_S128x512_2432_0 rfl rfl rfl rfl rfl rfl x, ?_⟩
    refine List.forall_mem_cons.2 ⟨fun x => Cert.W4.piece hk 18 ![18, 0] slices_S32x512_o18_0_S1x512 broadcasts_S1x512_S64x512 bitcasts_S64x512_w32_S128x512_w16 shapeCasts_S128x512_S128x512 (k0_pay3 x4) (extsi 32 x5 natLt_8_32) x3 x4 x5 (fun _ => rfl) (fun _ => rfl) ![1152, 0] ![2304, 0] inb_S2048x512_S64x512_1152_0 inb_S4096x512_S128x512_2304_0 rfl rfl rfl rfl rfl rfl x, ?_⟩
    refine List.forall_mem_cons.2 ⟨fun x => Cert.W4.piece hk 17 ![17, 0] slices_S32x512_o17_0_S1x512 broadcasts_S1x512_S64x512 bitcasts_S64x512_w32_S128x512_w16 shapeCasts_S128x512_S128x512 (k0_pay3 x4) (extsi 32 x5 natLt_8_32) x3 x4 x5 (fun _ => rfl) (fun _ => rfl) ![1088, 0] ![2176, 0] inb_S2048x512_S64x512_1088_0 inb_S4096x512_S128x512_2176_0 rfl rfl rfl rfl rfl rfl x, ?_⟩
    refine List.forall_mem_cons.2 ⟨fun x => Cert.W4.piece hk 16 ![16, 0] slices_S32x512_o16_0_S1x512 broadcasts_S1x512_S64x512 bitcasts_S64x512_w32_S128x512_w16 shapeCasts_S128x512_S128x512 (k0_pay3 x4) (extsi 32 x5 natLt_8_32) x3 x4 x5 (fun _ => rfl) (fun _ => rfl) ![1024, 0] ![2048, 0] inb_S2048x512_S64x512_1024_0 inb_S4096x512_S128x512_2048_0 rfl rfl rfl rfl rfl rfl x, ?_⟩
    refine List.forall_mem_cons.2 ⟨fun x => Cert.W4.piece hk 15 ![15, 0] slices_S32x512_o15_0_S1x512 broadcasts_S1x512_S64x512 bitcasts_S64x512_w32_S128x512_w16 shapeCasts_S128x512_S128x512 (k0_pay3 x4) (extsi 32 x5 natLt_8_32) x3 x4 x5 (fun _ => rfl) (fun _ => rfl) ![960, 0] ![1920, 0] inb_S2048x512_S64x512_960_0 inb_S4096x512_S128x512_1920_0 rfl rfl rfl rfl rfl rfl x, ?_⟩
    refine List.forall_mem_cons.2 ⟨fun x => Cert.W4.piece hk 14 ![14, 0] slices_S32x512_o14_0_S1x512 broadcasts_S1x512_S64x512 bitcasts_S64x512_w32_S128x512_w16 shapeCasts_S128x512_S128x512 (k0_pay3 x4) (extsi 32 x5 natLt_8_32) x3 x4 x5 (fun _ => rfl) (fun _ => rfl) ![896, 0] ![1792, 0] inb_S2048x512_S64x512_896_0 inb_S4096x512_S128x512_1792_0 rfl rfl rfl rfl rfl rfl x, ?_⟩
    refine List.forall_mem_cons.2 ⟨fun x => Cert.W4.piece hk 13 ![13, 0] slices_S32x512_o13_0_S1x512 broadcasts_S1x512_S64x512 bitcasts_S64x512_w32_S128x512_w16 shapeCasts_S128x512_S128x512 (k0_pay3 x4) (extsi 32 x5 natLt_8_32) x3 x4 x5 (fun _ => rfl) (fun _ => rfl) ![832, 0] ![1664, 0] inb_S2048x512_S64x512_832_0 inb_S4096x512_S128x512_1664_0 rfl rfl rfl rfl rfl rfl x, ?_⟩
    refine List.forall_mem_cons.2 ⟨fun x => Cert.W4.piece hk 12 ![12, 0] slices_S32x512_o12_0_S1x512 broadcasts_S1x512_S64x512 bitcasts_S64x512_w32_S128x512_w16 shapeCasts_S128x512_S128x512 (k0_pay3 x4) (extsi 32 x5 natLt_8_32) x3 x4 x5 (fun _ => rfl) (fun _ => rfl) ![768, 0] ![1536, 0] inb_S2048x512_S64x512_768_0 inb_S4096x512_S128x512_1536_0 rfl rfl rfl rfl rfl rfl x, ?_⟩
    refine List.forall_mem_cons.2 ⟨fun x => Cert.W4.piece hk 11 ![11, 0] slices_S32x512_o11_0_S1x512 broadcasts_S1x512_S64x512 bitcasts_S64x512_w32_S128x512_w16 shapeCasts_S128x512_S128x512 (k0_pay3 x4) (extsi 32 x5 natLt_8_32) x3 x4 x5 (fun _ => rfl) (fun _ => rfl) ![704, 0] ![1408, 0] inb_S2048x512_S64x512_704_0 inb_S4096x512_S128x512_1408_0 rfl rfl rfl rfl rfl rfl x, ?_⟩
    refine List.forall_mem_cons.2 ⟨fun x => Cert.W4.piece hk 10 ![10, 0] slices_S32x512_o10_0_S1x512 broadcasts_S1x512_S64x512 bitcasts_S64x512_w32_S128x512_w16 shapeCasts_S128x512_S128x512 (k0_pay3 x4) (extsi 32 x5 natLt_8_32) x3 x4 x5 (fun _ => rfl) (fun _ => rfl) ![640, 0] ![1280, 0] inb_S2048x512_S64x512_640_0 inb_S4096x512_S128x512_1280_0 rfl rfl rfl rfl rfl rfl x, ?_⟩
    refine List.forall_mem_cons.2 ⟨fun x => Cert.W4.piece hk 9 ![9, 0] slices_S32x512_o9_0_S1x512 broadcasts_S1x512_S64x512 bitcasts_S64x512_w32_S128x512_w16 shapeCasts_S128x512_S128x512 (k0_pay3 x4) (extsi 32 x5 natLt_8_32) x3 x4 x5 (fun _ => rfl) (fun _ => rfl) ![576, 0] ![1152, 0] inb_S2048x512_S64x512_576_0 inb_S4096x512_S128x512_1152_0 rfl rfl rfl rfl rfl rfl x, ?_⟩
    refine List.forall_mem_cons.2 ⟨fun x => Cert.W4.piece hk 8 ![8, 0] slices_S32x512_o8_0_S1x512 broadcasts_S1x512_S64x512 bitcasts_S64x512_w32_S128x512_w16 shapeCasts_S128x512_S128x512 (k0_pay3 x4) (extsi 32 x5 natLt_8_32) x3 x4 x5 (fun _ => rfl) (fun _ => rfl) ![512, 0] ![1024, 0] inb_S2048x512_S64x512_512_0 inb_S4096x512_S128x512_1024_0 rfl rfl rfl rfl rfl rfl x, ?_⟩
    refine List.forall_mem_cons.2 ⟨fun x => Cert.W4.piece hk 7 ![7, 0] slices_S32x512_o7_0_S1x512 broadcasts_S1x512_S64x512 bitcasts_S64x512_w32_S128x512_w16 shapeCasts_S128x512_S128x512 (k0_pay3 x4) (extsi 32 x5 natLt_8_32) x3 x4 x5 (fun _ => rfl) (fun _ => rfl) ![448, 0] ![896, 0] inb_S2048x512_S64x512_448_0 inb_S4096x512_S128x512_896_0 rfl rfl rfl rfl rfl rfl x, ?_⟩
    refine List.forall_mem_cons.2 ⟨fun x => Cert.W4.piece hk 6 ![6, 0] slices_S32x512_o6_0_S1x512 broadcasts_S1x512_S64x512 bitcasts_S64x512_w32_S128x512_w16 shapeCasts_S128x512_S128x512 (k0_pay3 x4) (extsi 32 x5 natLt_8_32) x3 x4 x5 (fun _ => rfl) (fun _ => rfl) ![384, 0] ![768, 0] inb_S2048x512_S64x512_384_0 inb_S4096x512_S128x512_768_0 rfl rfl rfl rfl rfl rfl x, ?_⟩
    refine List.forall_mem_cons.2 ⟨fun x => Cert.W4.piece hk 5 ![5, 0] slices_S32x512_o5_0_S1x512 broadcasts_S1x512_S64x512 bitcasts_S64x512_w32_S128x512_w16 shapeCasts_S128x512_S128x512 (k0_pay3 x4) (extsi 32 x5 natLt_8_32) x3 x4 x5 (fun _ => rfl) (fun _ => rfl) ![320, 0] ![640, 0] inb_S2048x512_S64x512_320_0 inb_S4096x512_S128x512_640_0 rfl rfl rfl rfl rfl rfl x, ?_⟩
    refine List.forall_mem_cons.2 ⟨fun x => Cert.W4.piece hk 4 ![4, 0] slices_S32x512_o4_0_S1x512 broadcasts_S1x512_S64x512 bitcasts_S64x512_w32_S128x512_w16 shapeCasts_S128x512_S128x512 (k0_pay3 x4) (extsi 32 x5 natLt_8_32) x3 x4 x5 (fun _ => rfl) (fun _ => rfl) ![256, 0] ![512, 0] inb_S2048x512_S64x512_256_0 inb_S4096x512_S128x512_512_0 rfl rfl rfl rfl rfl rfl x, ?_⟩
    refine List.forall_mem_cons.2 ⟨fun x => Cert.W4.piece hk 3 ![3, 0] slices_S32x512_o3_0_S1x512 broadcasts_S1x512_S64x512 bitcasts_S64x512_w32_S128x512_w16 shapeCasts_S128x512_S128x512 (k0_pay3 x4) (extsi 32 x5 natLt_8_32) x3 x4 x5 (fun _ => rfl) (fun _ => rfl) ![192, 0] ![384, 0] inb_S2048x512_S64x512_192_0 inb_S4096x512_S128x512_384_0 rfl rfl rfl rfl rfl rfl x, ?_⟩
    refine List.forall_mem_cons.2 ⟨fun x => Cert.W4.piece hk 2 ![2, 0] slices_S32x512_o2_0_S1x512 broadcasts_S1x512_S64x512 bitcasts_S64x512_w32_S128x512_w16 shapeCasts_S128x512_S128x512 (k0_pay3 x4) (extsi 32 x5 natLt_8_32) x3 x4 x5 (fun _ => rfl) (fun _ => rfl) ![128, 0] ![256, 0] inb_S2048x512_S64x512_128_0 inb_S4096x512_S128x512_256_0 rfl rfl rfl rfl rfl rfl x, ?_⟩
    refine List.forall_mem_cons.2 ⟨fun x => Cert.W4.piece hk 1 ![1, 0] slices_S32x512_o1_0_S1x512 broadcasts_S1x512_S64x512 bitcasts_S64x512_w32_S128x512_w16 shapeCasts_S128x512_S128x512 (k0_pay3 x4) (extsi 32 x5 natLt_8_32) x3 x4 x5 (fun _ => rfl) (fun _ => rfl) ![64, 0] ![128, 0] inb_S2048x512_S64x512_64_0 inb_S4096x512_S128x512_128_0 rfl rfl rfl rfl rfl rfl x, ?_⟩
    refine List.forall_mem_cons.2 ⟨fun x => Cert.W4.piece hk 0 ![0, 0] slices_S32x512_o0_0_S1x512 broadcasts_S1x512_S64x512 bitcasts_S64x512_w32_S128x512_w16 shapeCasts_S128x512_S128x512 (k0_pay3 x4) (extsi 32 x5 natLt_8_32) x3 x4 x5 (fun _ => rfl) (fun _ => rfl) ![0, 0] ![0, 0] inb_S2048x512_S64x512_0_0 inb_S4096x512_S128x512_0_0 rfl rfl rfl rfl rfl rfl x, ?_⟩
    exact fun p hp => absurd hp List.not_mem_nil

/-- The first point leaves the converted activations in the scratch. -/
theorem sout_A (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x512 .bf16) (harg3 : arg3.IsWhole) (arg4 : Memref sig .tc .vmem S2048x512 .i8) (harg4 : arg4.IsWhole) (arg5 : Memref sig .tc .vmem S32x512 .i8) (harg5 : arg5.IsWhole) (arg6 : Memref sig .tc .vmem S32x512 .i8) (harg6 : arg6.IsWhole) (arg7 : Memref sig .tc .vmem S1x512 .f32) (harg7 : arg7.IsWhole) (arg8 : Memref sig .tc .vmem S1152x512 .f32) (harg8 : arg8.IsWhole) (arg9 : Memref sig .tc .vmem S4096x512 .bf16) (harg9 : arg9.IsWhole) (arg10 : Memref sig .tc .vmem S1152x4096 .bf16) (harg10 : arg10.IsWhole) (hc0 : cond0_0 i) (x0 : Vec Ideal S1152x4096 .i8) (x1 : Vec Ideal S1152x1 .f32) (x2 : Vec Ideal S1152x512 .bf16) (x3 : Vec Ideal S2048x512 .i8) (x4 : Vec Ideal S32x512 .i8) (x5 : Vec Ideal S32x512 .i8) (x6 : Vec Ideal S1x512 .f32) :
    sout0_A_1 c i arg1 harg1 arg2 harg2 arg3 harg3 arg4 harg4 arg5 harg5 arg6 harg6 arg7 harg7 arg8 harg8 arg9 harg9 arg10 harg10 hc0 x0 x1 x2 x3 x4 x5 x6 = k0_pay2 x0 := by
  frame_out

end Cert.OProjIdeal.Block

end
-- ==== Proof.OProjRef.lean ====
/- The output projection's reference at a row and a column. -/
module

public import proofs.«01_k».proof.Proof.Spec
public import proofs.«01_k».proof.Proof.Gen.OProjRefIdeal.Read
public import proofs.«01_k».proof.Proof.Gen.OProjRefIdeal.Run

@[expose] public section

set_option maxRecDepth 16384

noncomputable section

namespace Cert.OProjRefIdeal.At

open Cert.OProjRefIdeal Cert.OProjRefIdeal.Read Idealize.ShloMosaic Idealize.ShloMosaic.TcCoe Idealize.SL.Sem

/-- Row `r` of the weights comes from row `r / 2` of the code bytes and from group `r / 128`. -/
theorem hk : ∀ r, r < 4096 → r / 2 < 2048 ∧ r / 128 < 32 := fun r h => by omega

/-- The even rows' weights, as the reference computes them from the low nibbles. -/
theorem lo (x3 : (⟨S2048x4096, .i8⟩ : BufTy).Contents (Elt Ideal)) (x4 x5 : (⟨S32x4096, .i8⟩ : BufTy).Contents (Elt Ideal)) (k : Fin 2048) (j : Fin 4096) :
    val_main_v29 (F := Ideal) x3 x4 x5 (ix2 k j)
      = Cert.W4.wval (x3 (ix2 k j)) (x4 (ix2 (⟨k.val / 64, by omega⟩ : Fin 32) j)) (x5 (ix2 (⟨k.val / 64, by omega⟩ : Fin 32) j)) 0 := by
  have hk := k.isLt
  have hj := j.isLt
  have e1 : idx_main_v8 (idx_main_v14 (ix2 k j)) = ix2 k j := funext fun a => Fin.ext (by
    match a with
    | ⟨0, _⟩ => show (((k.val * 4096 + j.val) / 262144 * 64 + (k.val * 4096 + j.val) / 4096 % 64) * 4096 + (k.val * 4096 + j.val) % 4096) / 4096 = k.val; omega
    | ⟨1, _⟩ => show (((k.val * 4096 + j.val) / 262144 * 64 + (k.val * 4096 + j.val) / 4096 % 64) * 4096 + (k.val * 4096 + j.val) % 4096) % 4096 = j.val; omega)
  have e2 : idx_main_v4 (idx_main_v9 (idx_main_v14 (ix2 k j))) = ix2 (⟨k.val / 64, by omega⟩ : Fin 32) j := funext fun a => Fin.ext (by
    match a with
    | ⟨0, _⟩ => show (k.val * 4096 + j.val) / 262144 = k.val / 64; omega
    | ⟨1, _⟩ => show (k.val * 4096 + j.val) % 4096 = j.val; omega)
  have e3 : idx_main_v2 (idx_main_v11 (idx_main_v14 (ix2 k j))) = ix2 (⟨k.val / 64, by omega⟩ : Fin 32) j := funext fun a => Fin.ext (by
    match a with
    | ⟨0, _⟩ => show (k.val * 4096 + j.val) / 262144 = k.val / 64; omega
    | ⟨1, _⟩ => show (k.val * 4096 + j.val) % 4096 = j.val; omega)
  rw [val_main_v29_apply, val_main_v28_apply, val_main_v14_apply, val_main_v13_apply, val_main_v12_apply, val_main_v10_apply, val_main_v8_apply, val_main_v9_apply, val_main_v4_apply, val_main_v3_apply, val_main_v11_apply, val_main_v2_apply, val_main_v1_apply, val_main_v7_apply, val_main_v5_apply, val_main_v6_apply, val_main_c_apply, e1, e2, e3]
  unfold Cert.W4.wval Cert.W4.weight
  rw [if_pos rfl]
  show (((BitVec.signExtend 32 (BitVec.setWidth 8 _)).toInt : ℝ) : EReal) = _
  rw [Cert.W4.toInt_signExtend]
  rfl

/-- The odd rows' weights, as the reference computes them from the high nibbles. -/
theorem hi (x3 : (⟨S2048x4096, .i8⟩ : BufTy).Contents (Elt Ideal)) (x4 x5 : (⟨S32x4096, .i8⟩ : BufTy).Contents (Elt Ideal)) (k : Fin 2048) (j : Fin 4096) :
    val_main_v35 (F := Ideal) x3 x4 x5 (ix2 k j)
      = Cert.W4.wval (x3 (ix2 k j)) (x4 (ix2 (⟨k.val / 64, by omega⟩ : Fin 32) j)) (x5 (ix2 (⟨k.val / 64, by omega⟩ : Fin 32) j)) 1 := by
  have hk := k.isLt
  have hj := j.isLt
  have e1 : idx_main_v18 (idx_main_v24 (ix2 k j)) = ix2 k j := funext fun a => Fin.ext (by
    match a with
    | ⟨0, _⟩ => show (((k.val * 4096 + j.val) / 262144 * 64 + (k.val * 4096 + j.val) / 4096 % 64) * 4096 + (k.val * 4096 + j.val) % 4096) / 4096 = k.val; omega
    | ⟨1, _⟩ => show (((k.val * 4096 + j.val) / 262144 * 64 + (k.val * 4096 + j.val) / 4096 % 64) * 4096 + (k.val * 4096 + j.val) % 4096) % 4096 = j.val; omega)
  have e2 : idx_main_v4 (idx_main_v19 (idx_main_v24 (ix2 k j))) = ix2 (⟨k.val / 64, by omega⟩ : Fin 32) j := funext fun a => Fin.ext (by
    match a with
    | ⟨0, _⟩ => show (k.val * 4096 + j.val) / 262144 = k.val / 64; omega
    | ⟨1, _⟩ => show (k.val * 4096 + j.val) % 4096 = j.val; omega)
  have e3 : idx_main_v2 (idx_main_v21 (idx_main_v24 (ix2 k j))) = ix2 (⟨k.val / 64, by omega⟩ : Fin 32) j := funext fun a => Fin.ext (by
    match a with
    | ⟨0, _⟩ => show (k.val * 4096 + j.val) / 262144 = k.val / 64; omega
    | ⟨1, _⟩ => show (k.val * 4096 + j.val) % 4096 = j.val; omega)
  rw [val_main_v35_apply, val_main_v34_apply, val_main_v24_apply, val_main_v23_apply, val_main_v22_apply, val_main_v20_apply, val_main_v18_apply, val_main_v19_apply, val_main_v4_apply, val_main_v3_apply, val_main_v21_apply, val_main_v2_apply, val_main_v1_apply, val_main_v17_apply, val_main_v15_apply, val_main_v16_apply, val_main_c_0_apply, e1, e2, e3]
  unfold Cert.W4.wval Cert.W4.weight
  rw [if_neg (by decide), Cert.W4.shrsi_byte]
  show (((BitVec.signExtend 32 (BitVec.setWidth 8 _)).toInt : ℝ) : EReal) = _
  rw [Cert.W4.toInt_signExtend]
  rfl

/-- The reference's two products, over the even and the odd columns of the activations, are one product with all the weights. -/
theorem prod (x0 : (⟨S1152x4096, .i8⟩ : BufTy).Contents (Elt Ideal)) (x3 : (⟨S2048x4096, .i8⟩ : BufTy).Contents (Elt Ideal)) (x4 x5 : (⟨S32x4096, .i8⟩ : BufTy).Contents (Elt Ideal)) (i : Fin 1152) (j : Fin 4096) :
    val_main_v37 (F := Ideal) x0 x3 x4 x5 (ix2 i j) = Cert.W4.rowProd x0 (Cert.W4.weights hk x3 x4 x5) i j := by
  unfold Cert.W4.rowProd
  rw [val_main_v37_apply, val_main_v30_apply, val_main_v36_apply, Cert.W4.sum_even_odd 2048 4096 rfl]
  show (_ : EReal) + _ = _
  refine congrArg₂ (· + ·) (Finset.sum_congr rfl fun k _ => ?_) (Finset.sum_congr rfl fun k _ => ?_)
  · have hk := k.isLt
    rw [show lidx_main_v30 (ix2 i j) k = ix2 i k from funext fun a => by match a with | ⟨0, _⟩ => rfl | ⟨1, _⟩ => rfl,
      show ridx_main_v30 (ix2 i j) k = ix2 k j from funext fun a => by match a with | ⟨0, _⟩ => rfl | ⟨1, _⟩ => rfl,
      lo, val_main_v27_apply, val_main_v26_apply, Cert.W4.weights_ix2,
      show val_main_v25 (F := Ideal) x0 (ix2 i k) = x0 (ix2 i (⟨2 * k.val, by omega⟩ : Fin 4096)) from congrArg x0 (funext fun a => Fin.ext (by
        match a with
        | ⟨0, _⟩ => show 0 + 1 * i.val = i.val; omega
        | ⟨1, _⟩ => show 0 + 2 * k.val = 2 * k.val; omega))]
    show (((BitVec.signExtend 32 _).toInt : ℝ) : EReal) * _ = _
    rw [Cert.W4.toInt_signExtend]
    have e1 : (⟨(2 * k.val) / 2, by omega⟩ : Fin 2048) = k := Fin.ext (by show (2 * k.val) / 2 = k.val; omega)
    have e2 : (⟨(2 * k.val) / 128, by omega⟩ : Fin 32) = ⟨k.val / 64, by omega⟩ := Fin.ext (by show (2 * k.val) / 128 = k.val / 64; omega)
    have e3 : (2 * k.val) % 2 = 0 := by omega
    simp only [e1, e2, e3]
    rfl
  · have hk := k.isLt
    rw [show lidx_main_v36 (ix2 i j) k = ix2 i k from funext fun a => by match a with | ⟨0, _⟩ => rfl | ⟨1, _⟩ => rfl,
      show ridx_main_v36 (ix2 i j) k = ix2 k j from funext fun a => by match a with | ⟨0, _⟩ => rfl | ⟨1, _⟩ => rfl,
      hi, val_main_v33_apply, val_main_v32_apply, Cert.W4.weights_ix2,
      show val_main_v31 (F := Ideal) x0 (ix2 i k) = x0 (ix2 i (⟨2 * k.val + 1, by omega⟩ : Fin 4096)) from congrArg x0 (funext fun a => Fin.ext (by
        match a with
        | ⟨0, _⟩ => show 0 + 1 * i.val = i.val; omega
        | ⟨1, _⟩ => show 1 + 2 * k.val = 2 * k.val + 1; omega))]
    show (((BitVec.signExtend 32 _).toInt : ℝ) : EReal) * _ = _
    rw [Cert.W4.toInt_signExtend]
    have e1 : (⟨(2 * k.val + 1) / 2, by omega⟩ : Fin 2048) = k := Fin.ext (by show (2 * k.val + 1) / 2 = k.val; omega)
    have e2 : (⟨(2 * k.val + 1) / 128, by omega⟩ : Fin 32) = ⟨k.val / 64, by omega⟩ := Fin.ext (by show (2 * k.val + 1) / 128 = k.val / 64; omega)
    have e3 : (2 * k.val + 1) % 2 = 1 := by omega
    simp only [e1, e2, e3]
    rfl

/-- The scaled product at a row and a column. -/
theorem scaled (x0 : (⟨S1152x4096, .i8⟩ : BufTy).Contents (Elt Ideal)) (x1 : (⟨S1152x1, .f32⟩ : BufTy).Contents (Elt Ideal)) (x3 : (⟨S2048x4096, .i8⟩ : BufTy).Contents (Elt Ideal)) (x4 x5 : (⟨S32x4096, .i8⟩ : BufTy).Contents (Elt Ideal)) (x6 : (⟨S4096, .f32⟩ : BufTy).Contents (Elt Ideal)) (i : Fin 1152) (j : Fin 4096) :
    val_main_v42 (F := Ideal) x0 x1 x3 x4 x5 x6 (ix2 i j)
      = Cert.W4.rowProd x0 (Cert.W4.weights hk x3 x4 x5) i j * x1 (ix2 i 0) * x6 (Cert.W4.at1 j) := by
  rw [val_main_v42_apply, val_main_v39_apply, prod, val_main_v38_apply, val_main_v41_apply, val_main_v40_apply]
  have e1 : idx_main_v38 (ix2 i j) = ix2 i 0 := funext fun a => by match a with | ⟨0, _⟩ => rfl | ⟨1, _⟩ => rfl
  have e2 : idx_main_v40 (idx_main_v41 (ix2 i j)) = (Cert.W4.at1 j) := funext fun a => by match a with | ⟨0, _⟩ => rfl
  rw [e1, e2]
  rfl

end Cert.OProjRefIdeal.At

end
-- ==== Proof.OProj.lean ====
/- The output projection: the array after the run is the residual plus the scaled product with the unpacked weights, which is what
   the reference computes. -/
module

public import proofs.«01_k».proof.Defs
public import proofs.«01_k».proof.Proof.OProjBlock
public import proofs.«01_k».proof.Proof.OProjRef
public import proofs.«01_k».proof.Proof.Gen.OProj.Frame
public import Idealize.ShloMosaic.Lib.ValueLayout

@[expose] public section

set_option maxRecDepth 16384

noncomputable section

namespace Cert.OProjIdeal.Whole

open Cert.OProjIdeal Cert.OProjIdeal.Gen Cert.OProjIdeal.Value Cert.OProjIdeal.Block Idealize.ShloMosaic Idealize.ShloMosaic.TcCoe Idealize.SL.Sem

/-- A block's value at a row and a column. -/
theorem blockVal_at (a : Vec Ideal S1152x4096 .bf16) (x1 : Vec Ideal S1152x1 .f32) (x2 : Vec Ideal S1152x512 .bf16) (x3 : Vec Ideal S2048x512 .i8)
    (x4 x5 : Vec Ideal S32x512 .i8) (x6 : Vec Ideal S1x512 .f32) (i : Fin 1152) (j : Fin 512) :
    blockVal a x1 x2 x3 x4 x5 x6 (ix2 i j)
      = (x2 (ix2 i j) : EReal) + (∑ k : Fin 4096, (a (ix2 i k) : EReal) * Cert.W4.weights hk x3 x4 x5 (ix2 k j)) * x1 (ix2 i 0) * x6 (ix2 0 j) := by
  unfold blockVal
  pointwise [k0_pay1, k0_pay71, k0_pay72]

/-- The activations as real numbers. -/
theorem acts_at (x0 : Vec Ideal S1152x4096 .i8) (i : Fin 1152) (k : Fin 4096) : (k0_pay2 x0 (ix2 i k) : EReal) = Cert.W4.real (x0 (ix2 i k)) := by
  pointwise [k0_pay2]
  rfl

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)

/-- The activations and their scales are whole at every point. -/
theorem blk0 (c : Dev nD) (t : Fin cfg0.N) : iblk m c 0 t = m ((c : Thread nD τ).loc main_arg0) := by
  obtain ⟨e0, e1⟩ := idx0 t
  funext j
  refine (show iblk m c 0 t j = V m c main_arg0 (((cfg0.win 0).blk t).view.emb j) from rfl).trans ?_
  rw [V_main_arg0]
  refine congrArg (m ((c : Thread nD τ).loc main_arg0)) (funext fun a => Fin.ext ?_)
  match a with
  | ⟨0, _⟩ => show win0_0.index t (0 : Fin 2) * 1152 + 1 * (j 0).val = (j 0).val; omega
  | ⟨1, _⟩ => show win0_0.index t (1 : Fin 2) * 4096 + 1 * (j 1).val = (j 1).val; omega

theorem blk1 (c : Dev nD) (t : Fin cfg0.N) (i : Fin 1152) : iblk m c 1 t (ix2 i 0) = m ((c : Thread nD τ).loc main_arg1) (ix2 i 0) := by
  obtain ⟨e0, e1⟩ := idx1 t
  refine (show iblk m c 1 t (ix2 i 0) = V m c main_arg1 (((cfg0.win 1).blk t).view.emb (ix2 i 0)) from rfl).trans ?_
  rw [V_main_arg1]
  refine congrArg (m ((c : Thread nD τ).loc main_arg1)) (funext fun a => Fin.ext ?_)
  match a with
  | ⟨0, _⟩ => show win0_1.index t (0 : Fin 2) * 1152 + 1 * i.val = i.val; omega
  | ⟨1, _⟩ => show win0_1.index t (1 : Fin 2) * 1 + 1 * 0 = 0; omega

/-- Column `j` of point `t`'s block is column `512 t + j` of the array. -/
def col (t : Fin cfg0.N) (j : Fin 512) : Fin 4096 := ⟨512 * t.val + j.val, by have h : t.val < 8 := lt_of_lt_of_eq t.isLt N_0; omega⟩

theorem blk2 (c : Dev nD) (t : Fin cfg0.N) (i : Fin 1152) (j : Fin 512) : iblk m c 2 t (ix2 i j) = m ((c : Thread nD τ).loc main_arg2) (ix2 i (col t j)) := by
  obtain ⟨e0, e1⟩ := idx2 t
  refine (show iblk m c 2 t (ix2 i j) = V m c main_arg2 (((cfg0.win 2).blk t).view.emb (ix2 i j)) from rfl).trans ?_
  rw [V_main_arg2]
  refine congrArg (m ((c : Thread nD τ).loc main_arg2)) (funext fun a => Fin.ext ?_)
  match a with
  | ⟨0, _⟩ => show win0_2.index t (0 : Fin 2) * 1152 + 1 * i.val = i.val; omega
  | ⟨1, _⟩ => show win0_2.index t (1 : Fin 2) * 512 + 1 * j.val = 512 * t.val + j.val; omega

theorem blk3 (c : Dev nD) (t : Fin cfg0.N) (i : Fin 2048) (j : Fin 512) : iblk m c 3 t (ix2 i j) = m ((c : Thread nD τ).loc main_arg3) (ix2 i (col t j)) := by
  obtain ⟨e0, e1⟩ := idx3 t
  refine (show iblk m c 3 t (ix2 i j) = V m c main_arg3 (((cfg0.win 3).blk t).view.emb (ix2 i j)) from rfl).trans ?_
  rw [V_main_arg3]
  refine congrArg (m ((c : Thread nD τ).loc main_arg3)) (funext fun a => Fin.ext ?_)
  match a with
  | ⟨0, _⟩ => show win0_3.index t (0 : Fin 2) * 2048 + 1 * i.val = i.val; omega
  | ⟨1, _⟩ => show win0_3.index t (1 : Fin 2) * 512 + 1 * j.val = 512 * t.val + j.val; omega

theorem blk4 (c : Dev nD) (t : Fin cfg0.N) (i : Fin 32) (j : Fin 512) : iblk m c 4 t (ix2 i j) = m ((c : Thread nD τ).loc main_arg4) (ix2 i (col t j)) := by
  obtain ⟨e0, e1⟩ := idx4 t
  refine (show iblk m c 4 t (ix2 i j) = V m c main_arg4 (((cfg0.win 4).blk t).view.emb (ix2 i j)) from rfl).trans ?_
  rw [V_main_arg4]
  refine congrArg (m ((c : Thread nD τ).loc main_arg4)) (funext fun a => Fin.ext ?_)
  match a with
  | ⟨0, _⟩ => show win0_4.index t (0 : Fin 2) * 32 + 1 * i.val = i.val; omega
  | ⟨1, _⟩ => show win0_4.index t (1 : Fin 2) * 512 + 1 * j.val = 512 * t.val + j.val; omega

theorem blk5 (c : Dev nD) (t : Fin cfg0.N) (i : Fin 32) (j : Fin 512) : iblk m c 5 t (ix2 i j) = m ((c : Thread nD τ).loc main_arg5) (ix2 i (col t j)) := by
  obtain ⟨e0, e1⟩ := idx5 t
  refine (show iblk m c 5 t (ix2 i j) = V m c main_arg5 (((cfg0.win 5).blk t).view.emb (ix2 i j)) from rfl).trans ?_
  rw [V_main_arg5]
  refine congrArg (m ((c : Thread nD τ).loc main_arg5)) (funext fun a => Fin.ext ?_)
  match a with
  | ⟨0, _⟩ => show win0_5.index t (0 : Fin 2) * 32 + 1 * i.val = i.val; omega
  | ⟨1, _⟩ => show win0_5.index t (1 : Fin 2) * 512 + 1 * j.val = 512 * t.val + j.val; omega

/-- The column scales as the region finds them: one row. -/
theorem V_row (c : Dev nD) : V m c main_v0 = shapeCast S1x4096 (m ((c : Thread nD τ).loc main_arg6)) shapeCasts_S4096_S1x4096 := by
  show StableHlo.after hostOps0 (fun b => m (c, b)) (Proc.devRef .tc main_v0) = _
  after_results_simp <;> rfl

theorem blk6 (c : Dev nD) (t : Fin cfg0.N) (j : Fin 512) :
    iblk m c 6 t (ix2 0 j) = m ((c : Thread nD τ).loc main_arg6) (Cert.W4.at1 (col t j)) := by
  obtain ⟨e0, e1⟩ := idx6 t
  refine (show iblk m c 6 t (ix2 0 j) = V m c main_v0 (((cfg0.win 6).blk t).view.emb (ix2 0 j)) from rfl).trans ?_
  rw [V_row]
  have e : ((cfg0.win 6).blk t).view.emb (ix2 0 j) = (ix2 (0 : Fin 1) (col t j) : S1x4096.Idx) := funext fun a => Fin.ext (by
    match a with
    | ⟨0, _⟩ => show win0_6.index t (0 : Fin 2) * 1 + 1 * 0 = 0; omega
    | ⟨1, _⟩ => show win0_6.index t (1 : Fin 2) * 512 + 1 * j.val = 512 * t.val + j.val; omega)
  rw [e]
  refine (ValueIdx.shapeCast_a_1a_apply _ _ _ _).trans ?_
  refine congrArg (m ((c : Thread nD τ).loc main_arg6)) (funext fun a => Fin.ext ?_)
  match a with
  | ⟨0, _⟩ => rfl

/-- After every point the scratch holds the converted activations, and the block holds its value over them. -/
theorem outs (c : Dev nD) : ∀ (n : ℕ) (h : n < cfg0.N), outsAt0 m c n h
    = (blockVal (k0_pay2 (m ((c : Thread nD τ).loc main_arg0))) (iblk m c 1 ⟨n, h⟩) (iblk m c 2 ⟨n, h⟩) (iblk m c 3 ⟨n, h⟩) (iblk m c 4 ⟨n, h⟩) (iblk m c 5 ⟨n, h⟩) (iblk m c 6 ⟨n, h⟩),
        k0_pay2 (m ((c : Thread nD τ).loc main_arg0)))
  | 0, h => by
    refine (outsAt0_A m c ⟨0, h⟩ rfl).trans ?_
    rw [out_A, sout_A, blk0]
  | n + 1, h => by
    have hN : n + 1 < 8 := lt_of_lt_of_eq h N_0
    refine (outsAt0_B m c ⟨n + 1, h⟩ (by show ¬(n + 1) % 8 = 0; omega)).trans ?_
    have e : ∀ hb, (outsAt0 m c ((⟨n + 1, h⟩ : Fin cfg0.N).val - 1) hb).2 = k0_pay2 (m ((c : Thread nD τ).loc main_arg0)) := fun hb =>
      congrArg Prod.snd (outs c n (Nat.lt_of_succ_lt h))
    rw [out_B, e]
    rfl

/-- The residual plus the scaled product, at a row and a column. -/
def projAt (x0 : Vec Ideal S1152x4096 .i8) (x1 : Vec Ideal S1152x1 .f32) (x2 : Vec Ideal S1152x4096 .bf16) (x3 : Vec Ideal S2048x4096 .i8) (x4 x5 : Vec Ideal S32x4096 .i8)
    (x6 : Vec Ideal S4096 .f32) (i : Fin 1152) (j : Fin 4096) : EReal :=
  (x2 (ix2 i j) : EReal) + Cert.W4.rowProd x0 (Cert.W4.weights hk x3 x4 x5) i j * x1 (ix2 i 0) * x6 (Cert.W4.at1 j)

/-- The result array at a row and a column. -/
theorem G7_at (c : Dev nD) (i : Fin 1152) (j : Fin 4096) : G7 m c (ix2 i j)
    = projAt (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) i j := by
  have hi := i.isLt
  have hj := j.isLt
  have hp : pt7Of (ix2 i j) = j.val / 512 := by
    show 8 * (i.val / 1152 - 0) + 1 * (j.val / 512 - 0) = _
    omega
  have hlt : j.val / 512 < cfg0.N := lt_of_lt_of_eq (by omega) N_0.symm
  unfold G7
  rw [dif_pos (by rw [hp]; exact hlt), ← outsAt0_sweep m c (pt7Of (ix2 i j)) (by rw [hp]; exact hlt), outs]
  have hl : loc7Of (ix2 i j) = ix2 i (⟨j.val % 512, Nat.mod_lt _ (by decide)⟩ : Fin 512) := funext fun a => Fin.ext (by
    match a with
    | ⟨0, _⟩ => show i.val % 1152 = i.val; omega
    | ⟨1, _⟩ => rfl)
  have ht : ∀ h, (⟨pt7Of (ix2 i j), h⟩ : Fin cfg0.N) = ⟨j.val / 512, hlt⟩ := fun h => Fin.ext hp
  rw [hl, ht]
  have hc : col ⟨j.val / 512, hlt⟩ (⟨j.val % 512, Nat.mod_lt _ (by decide)⟩ : Fin 512) = j := Fin.ext (by show 512 * (j.val / 512) + j.val % 512 = j.val; omega)
  refine (blockVal_at _ _ _ _ _ _ _ i _).trans ?_
  rw [blk1, blk2, blk6, hc]
  have hterm : ∀ k : Fin 4096, (k0_pay2 (m ((c : Thread nD τ).loc main_arg0)) (ix2 i k) : EReal)
      * Cert.W4.weights hk (iblk m c 3 ⟨j.val / 512, hlt⟩) (iblk m c 4 ⟨j.val / 512, hlt⟩) (iblk m c 5 ⟨j.val / 512, hlt⟩) (ix2 k (⟨j.val % 512, Nat.mod_lt _ (by decide)⟩ : Fin 512))
      = Cert.W4.real (m ((c : Thread nD τ).loc main_arg0) (ix2 i k))
        * Cert.W4.weights hk (m ((c : Thread nD τ).loc main_arg3)) (m ((c : Thread nD τ).loc main_arg4)) (m ((c : Thread nD τ).loc main_arg5)) (ix2 k j) := fun k =>
    congrArg₂ (fun p q : EReal => p * q) (acts_at _ _ _) (Cert.W4.weights_cols hk _ _ _ _ _ _ _ j
      (fun r => (blk3 m c _ r _).trans (by rw [hc])) (fun r => (blk4 m c _ r _).trans (by rw [hc])) (fun r => (blk5 m c _ r _).trans (by rw [hc])) k)
  rw [Finset.sum_congr rfl fun k _ => hterm k]
  unfold projAt Cert.W4.rowProd
  with_reducible rfl

end Cert.OProjIdeal.Whole

namespace Cert.Proof.OProjClaims

open Idealize.ShloMosaic Idealize.ShloMosaic.TcCoe Idealize.SL.Sem Cert.OProjRefIdeal.Read

/-- The reference's result is the kernel's result array, of equal arguments. -/
theorem ref_eq (m : (ℓ : Loc OProjIdeal.nD OProjIdeal.τ OProjIdeal.sig) → Buf (Elt Ideal) ℓ) (c : Dev OProjIdeal.nD) :
    val_main_v43 (F := Ideal) (m ((c : Thread OProjIdeal.nD OProjIdeal.τ).loc OProjIdeal.main_arg0)) (m ((c : Thread OProjIdeal.nD OProjIdeal.τ).loc OProjIdeal.main_arg1))
        (m ((c : Thread OProjIdeal.nD OProjIdeal.τ).loc OProjIdeal.main_arg2)) (m ((c : Thread OProjIdeal.nD OProjIdeal.τ).loc OProjIdeal.main_arg3))
        (m ((c : Thread OProjIdeal.nD OProjIdeal.τ).loc OProjIdeal.main_arg4)) (m ((c : Thread OProjIdeal.nD OProjIdeal.τ).loc OProjIdeal.main_arg5))
        (m ((c : Thread OProjIdeal.nD OProjIdeal.τ).loc OProjIdeal.main_arg6))
      = OProjIdeal.Value.G7 m c := by
  funext x
  obtain ⟨i, j, rfl⟩ : ∃ (i : Fin 1152) (j : Fin 4096), x = ix2 i j := ⟨x 0, x 1, eq_ix2 x⟩
  rw [val_main_v43_apply, OProjRefIdeal.At.scaled]
  exact (OProjIdeal.Whole.G7_at m c i j).symm

theorem frame : Cert.quiescent_OProj := fun m ρ _ => Cert.OProj.Gen.frame m ρ
theorem frame_ideal : Cert.quiescent_OProjIdeal := fun m ρ _ => Cert.OProjIdeal.Gen.frame m ρ
theorem frame_ref : Cert.quiescent_OProjRefIdeal := fun m ρ _ =>
  (θ_run Cert.OProjRefIdeal.defs _ _).mono (fun r h => ⟨fun c => (h c).2, Idealize.ShloMosaic.sem_eq_zero_of_no_sems (by decide) r.2⟩)
    (Cert.OProjRefIdeal.Value.run (F := Ideal) m ρ)
theorem preserves : Cert.preserves_OProj_OProjIdeal := trivial

/-- The kernel and the reference end with the same array. -/
theorem algebraic : Cert.algebraic_OProjIdeal_OProjRefIdeal := by
  intro m ρ m' ρ' _ hag
  refine ⟨fun c => OProjIdeal.Value.G7 m c, OProjIdeal.Value.run m ρ, ?_⟩
  refine (θ_run Cert.OProjRefIdeal.defs _ _).mono (fun _ h c => ⟨(h c).1.trans ?_, (h c).2⟩) (Cert.OProjRefIdeal.Value.run (F := Ideal) m' ρ')
  obtain ⟨h0, h1, h2, h3, h4, h5, h6⟩ := hag c
  rw [h0, h1, h2, h3, h4, h5, h6]
  exact (val_main_v43_eq _ _ _ _ _ _ _).trans (ref_eq m c)

end Cert.Proof.OProjClaims

end
-- ==== Proof.Quant.lean ====
/- Quantising a row to signed bytes, as functions of the row's numbers: its largest absolute value, the scale read off it,
   and the byte of one number under a scale. -/
module

public import Idealize.ShloMosaic.PureOps.Ideal
public import Idealize.ShloMosaic.Lib.ValueIdx
public import Idealize.ShloMosaic.Lib.IdealHost
public import Idealize.ShloMosaic.Lib.Pointwise

@[expose] public section

noncomputable section

namespace Cert.Quant

open Idealize.ShloMosaic

/-- The largest absolute value among finitely many numbers, −∞ of none. -/
def amax {n : ℕ} (f : Fin n → EReal) : EReal :=
  Finset.univ.fold max (Ideal.ofBits .f32 0xFF800000#32) fun k => max (f k) (-f k)

/-- The scale of a row with largest absolute value `a`: `a / 127`, and 1 of a row of zeros. -/
def scale (a : EReal) : EReal := if 0 < a then Ideal.div a (Ideal.ofBits .f32 0x42FE0000#32) else 1

/-- A value selected by a comparison with zero. -/
theorem select_gt (a x : EReal) :
    Scalar.select (Ideal.cmp .ogt a (Ideal.ofBits .f32 0x00000000#32)) x (Ideal.ofBits .f32 0x3F800000#32) = if 0 < a then x else 1 := by
  rw [Ideal.ofBits_one_f32, Ideal.ofBits_zero_f32]
  pointwise

/-- A number under a scale, rounded to the nearest integer, a tie to the even one, and held between −127 and 127. -/
def rounded (x s : EReal) : EReal :=
  min ((((127#32).toInt : ℝ) : EReal)) (max ((((4294967169#32).toInt : ℝ) : EReal)) (Ideal.liftRound Ideal.roundHalfEven (Ideal.div x s)))

/-- The byte of a number under a scale. -/
def code (x s : EReal) : BitVec 8 := Ideal.fptosi 8 (rounded x s)

/-- The number held between the two bounds is a real between them. -/
theorem rounded_real (x s : EReal) : ∃ r : ℝ, rounded x s = (r : EReal) ∧ -127 ≤ r ∧ r ≤ 127 := by
  have e1 : (((127#32).toInt : ℝ) : EReal) = ((127 : ℝ) : EReal) := by norm_num [show (127#32).toInt = 127 from by decide]
  have e2 : (((4294967169#32).toInt : ℝ) : EReal) = ((-127 : ℝ) : EReal) := by norm_num [show (4294967169#32).toInt = -127 from by decide]
  unfold rounded
  rw [e1, e2]
  generalize Ideal.liftRound Ideal.roundHalfEven (Ideal.div x s) = y
  induction y with
  | bot => exact ⟨-127, by rw [max_eq_left bot_le, min_eq_right (EReal.coe_le_coe_iff.2 (by norm_num))], by norm_num, by norm_num⟩
  | top => exact ⟨127, by rw [max_eq_right le_top, min_eq_left le_top], by norm_num, by norm_num⟩
  | coe y =>
    refine ⟨min 127 (max (-127) y), ?_, le_min (by norm_num) (le_max_left _ _), min_le_left _ _⟩
    exact ((EReal.coe_strictMono.monotone.map_min).trans (congrArg _ (EReal.coe_strictMono.monotone.map_max))).symm

/-- The low byte of the 32-bit word of a number held between the bounds is its byte. -/
theorem code_wide (x s : EReal) : (Ideal.fptosi 32 (rounded x s)).setWidth 8 = code x s := by
  obtain ⟨r, hr, h0, h1⟩ := rounded_real x s
  unfold code
  rw [hr]
  unfold Ideal.fptosi
  rw [Ideal.toIntClamped_coe, Ideal.toIntClamped_coe]
  have hz : ∃ z : ℤ, (if 0 ≤ r then ⌊r⌋ else ⌈r⌉) = z ∧ -127 ≤ z ∧ z ≤ 127 := by
    refine ⟨_, rfl, ?_, ?_⟩
    · split
      · exact Int.le_floor.2 (by push_cast; linarith)
      · exact_mod_cast (show ((-127 : ℤ) : ℝ) ≤ (⌈r⌉ : ℝ) from by push_cast; exact h0.trans (Int.le_ceil r))
    · split
      · exact_mod_cast (show (⌊r⌋ : ℝ) ≤ ((127 : ℤ) : ℝ) from by push_cast; exact (Int.floor_le r).trans h1)
      · exact Int.ceil_le.2 (by push_cast; linarith)
  obtain ⟨z, ez, z0, z1⟩ := hz
  rw [ez]
  have c32 : max (-((2 ^ (32 - 1) : ℕ) : ℤ)) (min (((2 ^ (32 - 1) : ℕ) : ℤ) - 1) z) = z := by norm_num; omega
  have c8 : max (-((2 ^ (8 - 1) : ℕ) : ℤ)) (min (((2 ^ (8 - 1) : ℕ) : ℤ) - 1) z) = z := by norm_num; omega
  rw [c32, c8]
  apply BitVec.eq_of_toInt_eq
  rw [BitVec.toInt_setWidth, BitVec.toInt_ofInt]
  have hn : (BitVec.ofInt 32 z).toNat = (z % 2 ^ 32).toNat := BitVec.toNat_ofInt ..
  rw [hn, Int.bmod_def, Int.bmod_def]
  omega

/-- A row divided by the root of the mean of its squares, with a small number added to the mean, times one weight per column. -/
def normed (f g : Fin 4096 → EReal) (j : Fin 4096) : EReal :=
  f j * Ideal.rsqrt (Ideal.div (∑ k : Fin 4096, f k * f k) (Ideal.ofBits .f32 0x45800000#32) + Ideal.ofBits .f32 0x3727C5AC#32) * g j

end Cert.Quant

end
-- ==== Proof.RmsQuantX.lean ====
/- The quantised normalised input: the bytes and the scales after the run are those of each normalised row, which is what the reference
   computes. -/
module

public import proofs.«01_k».proof.Defs
public import proofs.«01_k».proof.Proof.Quant
public import proofs.«01_k».proof.Proof.Spec
public import proofs.«01_k».proof.Proof.Gen.RmsQuantX.Frame
public import proofs.«01_k».proof.Proof.Gen.RmsQuantXIdeal.Value
public import proofs.«01_k».proof.Proof.Gen.RmsQuantXRefIdeal.Run
public import proofs.«01_k».proof.Proof.Gen.RmsQuantXRefIdeal.Read
public import Idealize.ShloMosaic.Lib.ValueLayout
public import Idealize.ShloMosaic.Lib.Pointwise

@[expose] public section

set_option maxRecDepth 16384

noncomputable section

namespace Cert.RmsQuantXIdeal.Whole

open Cert.RmsQuantXIdeal Cert.RmsQuantXIdeal.Gen Cert.RmsQuantXIdeal.Value Idealize.ShloMosaic Idealize.ShloMosaic.TcCoe Idealize.SL.Sem
open Idealize.ShloMosaic.Pipeline (Dat)

/-- A normalised row. -/
def normRow {n : ℕ} (x : Vec Ideal ⟨2, ![n, 4096]⟩ .bf16) (g : Fin 4096 → EReal) (i : Fin n) : Fin 4096 → EReal :=
  Cert.Quant.normed (fun k => x (ix2 i k)) g

/-- The scale of a normalised row. -/
def scaleOf {n : ℕ} (x : Vec Ideal ⟨2, ![n, 4096]⟩ .bf16) (g : Fin 4096 → EReal) (i : Fin n) : EReal := Cert.Quant.scale (Cert.Quant.amax (normRow x g i))

/-- A block's normalised number at a row and a column. -/
theorem norm_at (x : Vec Ideal S128x4096 .bf16) (g : Vec Ideal S1x4096 .f32) (i : Fin 128) (j : Fin 4096) :
    k0_pay1 x g (ix2 i j) = normRow x (fun k => g (ix2 0 k)) i j := by
  pointwise [k0_pay1]
  rfl

/-- A block's scale at a row. -/
theorem scale_at (x : Vec Ideal S128x4096 .bf16) (g : Vec Ideal S1x4096 .f32) (i : Fin 128) :
    k0_pay2 x g (ix2 i 0) = scaleOf x (fun k => g (ix2 0 k)) i := by
  unfold scaleOf
  rw [← show (fun k => k0_pay1 x g (ix2 i k)) = normRow x (fun k => g (ix2 0 k)) i from funext fun k => norm_at x g i k]
  pointwise [k0_pay2]
  unfold Cert.Quant.scale Cert.Quant.amax
  rfl

/-- A block's byte at a row and a column. -/
theorem code_at (x : Vec Ideal S128x4096 .bf16) (g : Vec Ideal S1x4096 .f32) (i : Fin 128) (j : Fin 4096) :
    k0_pay3 x g (ix2 i j) = Cert.Quant.code (normRow x (fun k => g (ix2 0 k)) i j) (scaleOf x (fun k => g (ix2 0 k)) i) := by
  rw [← scale_at, ← norm_at]
  pointwise [k0_pay3]
  rfl

/-- The bytes of an array. -/
def codes (x : Vec Ideal S1152x4096 .bf16) (g : Vec Ideal S4096 .f32) : Vec Ideal S1152x4096 .i8 := fun p =>
  Cert.Quant.code (normRow x (fun k => g (Cert.W4.at1 k)) (p 0) (p 1)) (scaleOf x (fun k => g (Cert.W4.at1 k)) (p 0))

/-- The scales of an array. -/
def scales (x : Vec Ideal S1152x4096 .bf16) (g : Vec Ideal S4096 .f32) : Vec Ideal S1152x1 .f32 := fun p => scaleOf x (fun k => g (Cert.W4.at1 k)) (p 0)

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

/-- Row `i` of point `t`'s block is row `128 t + i` of the array. -/
def row (t : Fin cfg0.N) (i : Fin 128) : Fin 1152 := ⟨128 * t.val + i.val, by have h : t.val < 9 := lt_of_lt_of_eq t.isLt N_0; omega⟩

theorem blk0 (c : Dev nD) (t : Fin cfg0.N) (i : Fin 128) (j : Fin 4096) : iblk m c 0 t (ix2 i j) = m ((c : Thread nD τ).loc main_arg0) (ix2 (row t i) j) := by
  obtain ⟨e0, e1⟩ := idx0 t
  refine (show iblk m c 0 t (ix2 i j) = V m c main_arg0 (((cfg0.win 0).blk t).view.emb (ix2 i j)) from rfl).trans ?_
  rw [V_main_arg0]
  refine congrArg (m ((c : Thread nD τ).loc main_arg0)) (funext fun a => Fin.ext ?_)
  match a with
  | ⟨0, _⟩ => show win0_0.index t (0 : Fin 2) * 128 + 1 * i.val = 128 * t.val + i.val; omega
  | ⟨1, _⟩ => show win0_0.index t (1 : Fin 2) * 4096 + 1 * j.val = j.val; omega

/-- The column weights as the region finds them: one row. -/
theorem V_row (c : Dev nD) : V m c main_v0 = shapeCast S1x4096 (m ((c : Thread nD τ).loc main_arg1)) shapeCasts_S4096_S1x4096 := by
  show StableHlo.after hostOps0 (fun b => m (c, b)) (Proc.devRef .tc main_v0) = _
  after_results_simp <;> rfl

theorem blk1 (c : Dev nD) (t : Fin cfg0.N) (j : Fin 4096) :
    iblk m c 1 t (ix2 0 j) = m ((c : Thread nD τ).loc main_arg1) (Cert.W4.at1 j) := by
  obtain ⟨e0, e1⟩ := idx1 t
  refine (show iblk m c 1 t (ix2 0 j) = V m c main_v0 (((cfg0.win 1).blk t).view.emb (ix2 0 j)) from rfl).trans ?_
  rw [V_row]
  have e : ((cfg0.win 1).blk t).view.emb (ix2 0 j) = (ix2 (0 : Fin 1) j : S1x4096.Idx) := funext fun a => Fin.ext (by
    match a with
    | ⟨0, _⟩ => show win0_1.index t (0 : Fin 2) * 1 + 1 * 0 = 0; omega
    | ⟨1, _⟩ => show win0_1.index t (1 : Fin 2) * 4096 + 1 * j.val = j.val; omega)
  rw [e]
  refine (ValueIdx.shapeCast_a_1a_apply _ _ _ _).trans ?_
  refine congrArg (m ((c : Thread nD τ).loc main_arg1)) (funext fun a => Fin.ext ?_)
  match a with
  | ⟨0, _⟩ => rfl

theorem norm_blk (c : Dev nD) (t : Fin cfg0.N) (i : Fin 128) :
    normRow (iblk m c 0 t) (fun k => iblk m c 1 t (ix2 0 k)) i
      = normRow (m ((c : Thread nD τ).loc main_arg0)) (fun k => m ((c : Thread nD τ).loc main_arg1) (Cert.W4.at1 k)) (row t i) := by
  unfold normRow
  exact congrArg₂ Cert.Quant.normed (funext fun k => blk0 m c t i k) (funext fun k => blk1 m c t k)

/-- The bytes after the run. -/
theorem final_codes (c : Dev nD) : (dats m 0 c).arrAt 2 cfg0.N = codes (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 128) (j : Fin 4096), y = ix2 i j := ⟨y 0, y 1, eq_ix2 y⟩
  have e : ((cfg0.win 2).blk t).view.emb (ix2 i j) = (ix2 (row t i) j : S1152x4096.Idx) := by
    obtain ⟨e0, e1⟩ := idx2 t
    exact funext fun a => Fin.ext (by
      match a with
      | ⟨0, _⟩ => show win0_2.index t (0 : Fin 2) * 128 + 1 * i.val = 128 * t.val + i.val; omega
      | ⟨1, _⟩ => show win0_2.index t (1 : Fin 2) * 4096 + 1 * j.val = j.val; omega)
  rw [e]
  show (dats m 0 c).after 2 t (ix2 i j) = Cert.Quant.code (normRow (m ((c : Thread nD τ).loc main_arg0)) (fun k => m ((c : Thread nD τ).loc main_arg1) (Cert.W4.at1 k)) (row t i) j)
    (scaleOf (m ((c : Thread nD τ).loc main_arg0)) (fun k => m ((c : Thread nD τ).loc main_arg1) (Cert.W4.at1 k)) (row t i))
  unfold scaleOf
  rw [after0_2, ← norm_blk m c t i]
  frame_out
  exact code_at _ _ i j

/-- The scales after the run. -/
theorem final_scales (c : Dev nD) : (dats m 0 c).arrAt 3 cfg0.N = scales (m ((c : Thread nD τ).loc main_arg0)) (m ((c : Thread nD τ).loc main_arg1)) := by
  refine (dats m 0 c).arrAt_eq_of_covers 3 _ (by decide +kernel) fun t hf y => ?_
  obtain ⟨i, j, rfl⟩ : ∃ (i : Fin 128) (j : Fin 1), y = ix2 i j := ⟨y 0, y 1, eq_ix2 y⟩
  obtain rfl : j = 0 := Subsingleton.elim _ _
  have e : ((cfg0.win 3).blk t).view.emb (ix2 i 0) = (ix2 (row t i) 0 : S1152x1.Idx) := by
    obtain ⟨e0, e1⟩ := idx3 t
    exact funext fun a => Fin.ext (by
      match a with
      | ⟨0, _⟩ => show win0_3.index t (0 : Fin 2) * 128 + 1 * i.val = 128 * t.val + i.val; omega
      | ⟨1, _⟩ => show win0_3.index t (1 : Fin 2) * 1 + 1 * 0 = 0; omega)
  rw [e]
  show (dats m 0 c).after 3 t (ix2 i 0) = scaleOf (m ((c : Thread nD τ).loc main_arg0)) (fun k => m ((c : Thread nD τ).loc main_arg1) (Cert.W4.at1 k)) (row t i)
  unfold scaleOf
  rw [after0_3, ← norm_blk m c t i]
  frame_out
  exact scale_at _ _ i

end Cert.RmsQuantXIdeal.Whole

namespace Cert.Proof.RmsQuantXClaims

open Idealize.ShloMosaic Idealize.ShloMosaic.TcCoe Idealize.SL.Sem Cert.RmsQuantXRefIdeal Cert.RmsQuantXRefIdeal.Read

/-- The reference's normalised number. -/
theorem ref_norm (x : Vec Ideal S1152x4096 .bf16) (g : Vec Ideal S4096 .f32) (i : Fin 1152) (j : Fin 4096) :
    val_main_v13 (F := Ideal) x g (ix2 i j) = RmsQuantXIdeal.Whole.normRow x (fun k => g (Cert.W4.at1 k)) i j := by
  have hs : val_main_v2 (F := Ideal) x (Cert.W4.at1 i) = ∑ k : Fin 4096, (x (ix2 i k) : EReal) * x (ix2 i k) := by
    unfold val_main_v2
    pointwise
    rw [show (val_main_cst (F := Ideal) (Shape.Idx.first Cert.RmsQuantXRefIdeal.Gen.h_S_) : EReal) = 0 from Ideal.ofBits_zero_f32, zero_add]
    rfl
  rw [val_main_v13_apply, val_main_v10_apply, val_main_v9_apply, val_main_v8_apply, val_main_v7_apply, val_main_v5_apply, val_main_v3_apply, val_main_v6_apply, val_main_v4_apply, val_main_v12_apply, val_main_v11_apply,
    show (val_main_v2 (F := Ideal) x (idx_main_v3 (idx_main_v9 (ix2 i j))) : EReal) = ∑ k : Fin 4096, (x (ix2 i k) : EReal) * x (ix2 i k) from
      (congrArg (val_main_v2 (F := Ideal) x) (funext fun a => by match a with | ⟨0, _⟩ => rfl)).trans hs,
    show g (idx_main_v11 (idx_main_v12 (ix2 i j))) = g (Cert.W4.at1 j) from congrArg g (funext fun a => by match a with | ⟨0, _⟩ => rfl)]
  unfold RmsQuantXIdeal.Whole.normRow Cert.Quant.normed
  rfl

/-- The reference's largest absolute value of a row. -/
theorem ref_max (x : Vec Ideal S1152x4096 .bf16) (g : Vec Ideal S4096 .f32) (i : Fin 1152) :
    val_main_v15 (F := Ideal) x g (Cert.W4.at1 i) = Cert.Quant.amax (RmsQuantXIdeal.Whole.normRow x (fun k => g (Cert.W4.at1 k)) i) := by
  rw [← show (fun k => val_main_v13 (F := Ideal) x g (ix2 i k)) = RmsQuantXIdeal.Whole.normRow x (fun k => g (Cert.W4.at1 k)) i from funext fun k => ref_norm x g i k]
  unfold val_main_v15
  pointwise
  rfl

/-- The reference's scale of a row. -/
theorem ref_scale (x : Vec Ideal S1152x4096 .bf16) (g : Vec Ideal S4096 .f32) (i : Fin 1152) :
    val_main_v20 (F := Ideal) x g (Cert.W4.at1 i) = RmsQuantXIdeal.Whole.scaleOf x (fun k => g (Cert.W4.at1 k)) i := by
  unfold RmsQuantXIdeal.Whole.scaleOf
  rw [← ref_max]
  unfold Cert.Quant.scale
  rw [val_main_v20_apply, val_main_v17_apply, val_main_v19_apply, val_main_call0_v1_apply, val_main_v16_apply, val_main_v18_apply]
  generalize val_main_v15 (F := Ideal) x g (Cert.W4.at1 i) = a
  exact Cert.Quant.select_gt _ _

/-- The reference's scales. -/
theorem ref_scales (x : Vec Ideal S1152x4096 .bf16) (g : Vec Ideal S4096 .f32) : val_main_v28 (F := Ideal) x g = RmsQuantXIdeal.Whole.scales x g := by
  funext p
  obtain ⟨i, j, rfl⟩ : ∃ (i : Fin 1152) (j : Fin 1), p = ix2 i j := ⟨p 0, p 1, eq_ix2 p⟩
  rw [val_main_v28_apply]
  exact (congrArg (val_main_v20 (F := Ideal) x g) (funext fun a => by match a with | ⟨0, _⟩ => rfl)).trans (ref_scale x g i)

/-- The reference's bytes. -/
theorem ref_codes (x : Vec Ideal S1152x4096 .bf16) (g : Vec Ideal S4096 .f32) : val_main_v27 (F := Ideal) x g = RmsQuantXIdeal.Whole.codes x g := by
  funext p
  obtain ⟨i, j, rfl⟩ : ∃ (i : Fin 1152) (j : Fin 4096), p = ix2 i j := ⟨p 0, p 1, eq_ix2 p⟩
  have hs : val_main_v22 (F := Ideal) x g (ix2 i j) = RmsQuantXIdeal.Whole.scaleOf x (fun k => g (Cert.W4.at1 k)) i := by
    rw [val_main_v22_apply, val_main_v21_apply]
    exact (congrArg (val_main_v20 (F := Ideal) x g) (funext fun a => by match a with | ⟨0, _⟩ => rfl)).trans (ref_scale x g i)
  rw [val_main_v27_apply, val_main_v26_apply, val_main_v25_apply, val_main_call2_v2_apply, val_main_v24_apply, val_main_v23_apply, hs, ref_norm]
  exact Cert.Quant.code_wide _ _

theorem frame : Cert.quiescent_RmsQuantX := fun m ρ _ => Cert.RmsQuantX.Gen.frame m ρ
theorem frame_ideal : Cert.quiescent_RmsQuantXIdeal := fun m ρ _ => Cert.RmsQuantXIdeal.Gen.frame m ρ
theorem frame_ref : Cert.quiescent_RmsQuantXRefIdeal := fun m ρ _ =>
  (θ_run Cert.RmsQuantXRefIdeal.defs _ _).mono (fun r h => ⟨fun c => (h c).2.2, Idealize.ShloMosaic.sem_eq_zero_of_no_sems (by decide) r.2⟩)
    (Cert.RmsQuantXRefIdeal.Value.run (F := Ideal) m ρ)
theorem preserves : Cert.preserves_RmsQuantX_RmsQuantXIdeal := trivial

/-- The kernel and the reference end with the same bytes and the same scales. -/
theorem algebraic : Cert.algebraic_RmsQuantXIdeal_RmsQuantXRefIdeal := by
  intro m ρ m' ρ' _ hag
  refine ⟨fun c => RmsQuantXIdeal.Whole.codes (m ((c : Thread RmsQuantXIdeal.nD RmsQuantXIdeal.τ).loc RmsQuantXIdeal.main_arg0)) (m ((c : Thread RmsQuantXIdeal.nD RmsQuantXIdeal.τ).loc RmsQuantXIdeal.main_arg1)),
    fun c => RmsQuantXIdeal.Whole.scales (m ((c : Thread RmsQuantXIdeal.nD RmsQuantXIdeal.τ).loc RmsQuantXIdeal.main_arg0)) (m ((c : Thread RmsQuantXIdeal.nD RmsQuantXIdeal.τ).loc RmsQuantXIdeal.main_arg1)), ?_, ?_⟩
  · exact (θ_run Cert.RmsQuantXIdeal.defs _ _).mono (fun _ h c => ⟨(h c).1.trans (RmsQuantXIdeal.Whole.final_codes m c), (h c).2.1.trans (RmsQuantXIdeal.Whole.final_scales m c), (h c).2.2⟩)
      (RmsQuantXIdeal.Value.run_blocks m ρ)
  · refine (θ_run Cert.RmsQuantXRefIdeal.defs _ _).mono (fun _ h c => ⟨(h c).1.trans ?_, (h c).2.1.trans ?_, (h c).2.2⟩) (Cert.RmsQuantXRefIdeal.Value.run (F := Ideal) m' ρ')
    · obtain ⟨h0, h1⟩ := hag c
      rw [h0, h1]
      exact (val_main_v27_eq _ _).trans (ref_codes _ _)
    · obtain ⟨h0, h1⟩ := hag c
      rw [h0, h1]
      exact (val_main_v28_eq _ _).trans (ref_scales _ _)

end Cert.Proof.RmsQuantXClaims

end
-- ==== Proof.RmsQuantH.lean ====
/- The quantised normalised first residual sum: the bytes and the scales after the run are those of each normalised row, which is what the reference
   computes. -/
module

public import proofs.«01_k».proof.Defs
public import proofs.«01_k».proof.Proof.Quant
public import proofs.«01_k».proof.Proof.Spec
public import proofs.«01_k».proof.Proof.Gen.RmsQuantH.Frame
public import proofs.«01_k».proof.Proof.Gen.RmsQuantHIdeal.Value
public import proofs.«01_k».proof.Proof.Gen.RmsQuantHRefIdeal.Run
public import proofs.«01_k».proof.Proof.Gen.RmsQuantHRefIdeal.Read
public import Idealize.ShloMosaic.Lib.ValueLayout
public import Idealize.ShloMosaic.Lib.Pointwise

@[expose] public section

set_option maxRecDepth 16384

noncomputable section

namespace Cert.RmsQuantHIdeal.Whole

open Cert.RmsQuantHIdeal Cert.RmsQuantHIdeal.Gen Cert.RmsQuantHIdeal.Value Idealize.ShloMosaic Idealize.ShloMosaic.TcCoe Idealize.SL.Sem
open Idealize.ShloMosaic.Pipeline (Dat)

/-- A normalised row. -/
def normRow {n : ℕ} (x : Vec Ideal ⟨2, ![n, 4096]⟩ .f32) (g : Fin 4096 → EReal) (i : Fin n) : Fin 4096 → EReal :=
  Cert.Quant.normed (fun k => x (ix2 i k)) g

/-- The scale of a normalised row. -/
def scaleOf {n : ℕ} (x : Vec Ideal ⟨2, ![n, 4096]⟩ .f32) (g : Fin 4096 → EReal) (i : Fin n) : EReal := Cert.Quant.scale (Cert.Quant.amax (normRow x g i))

/-- A block's normalised number at a row and a column. -/
theorem norm_at (x : Vec Ideal S128x4096 .f32) (g : Vec Ideal S1x4096 .f32) (i : Fin 128) (j : Fin 4096) :
    k0_pay1 x g (ix2 i j) = normRow x (fun k => g (ix2 0 k)) i j := by
  pointwise [k0_pay1]
  rfl

/-- A block's scale at a row. -/
theorem scale_at (x : Vec Ideal S128x4096 .f32) (g : Vec Ideal S1x4096 .f32) (i : Fin 128) :
    k0_pay2 x g (ix2 i 0) = scaleOf x (fun k => g (ix2 0 k)) i := by
  unfold scaleOf
  rw [← show (fun k => k0_pay1 x g (ix2 i k)) = normRow x (fun k => g (ix2 0 k)) i from funext fun k => norm_at x g i k]
  pointwise [k0_pay2]
  unfold Cert.Quant.scale Cert.Quant.amax
  rfl

/-- A block's byte at a row and a column. -/
theorem code_at (x : Vec Ideal S128x4096 .f32) (g : Vec Ideal S1x4096 .f32) (i : Fin 128) (j : Fin 4096) :
    k0_pay3 x g (ix2 i j) = Cert.Quant.code (normRow x (fun k => g (ix2 0 k)) i j) (scaleOf x (fun k => g (ix2 0 k)) i) := by
  rw [← scale_at, ← norm_at]
  pointwise [k0_pay3]
  rfl

/-- The bytes of an array. -/
def codes (x : Vec Ideal S1152x4096 .f32) (g : Vec Ideal S4096 .f32) : Vec Ideal S1152x4096 .i8 := fun p =>
  Cert.Quant.code (normRow x (fun k => g (Cert.W4.at1 k)) (p 0) (p 1)) (scaleOf x (fun k => g (Cert.W4.at1 k)) (p 0))

/-- The scales of an array. -/
def scales (x : Vec Ideal S1152x4096 .f32) (g : Vec Ideal S4096 .f32) : Vec Ideal S1152x1 .f32 := fun p => scaleOf x (fun k => g (Cert.W4.at1 k)) (p 0)

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

/-- Row `i` of point `t`'s block is row `128 t + i` of the array. -/
def row (t : Fin cfg0.N) (i : Fin 128) : Fin 1152 := ⟨128 * t.val + i.val, by have h : t.val < 9 := lt_of_lt_of_eq t.isLt N_0; omega⟩

theorem blk0 (c : Dev nD) (t : Fin cfg0.N) (i : Fin 128) (j : Fin 4096) : iblk m c 0 t (ix2 i j) = m ((c : Thread nD τ).loc main_arg0) (ix2 (row t i) j) := by
  obtain ⟨e0, e1⟩ := idx0 t
  refine (show iblk m c 0 t (ix2 i j) = V m c main_arg0 (((cfg0.win 0).blk t).view.emb (ix2 i j)) from rfl).trans ?_
  rw [V_main_arg0]
  refine congrArg (m ((c : Thread nD τ).loc main_arg0)) (funext fun a => Fin.ext ?_)
  match a with
  | ⟨0, _⟩ => show win0_0.index t (0 : Fin 2) * 128 + 1 * i.val = 128 * t.val + i.val; omega
  | ⟨1, _⟩ => show win0_0.index t (1 : Fin 2) * 4096 + 1 * j.val = j.val; omega

/-- The column weights as the region finds them: one row. -/
theorem V_row (c : Dev nD) : V m c main_v0 = shapeCast S1x4096 (m ((c : Thread nD τ).loc main_arg1)) shapeCasts_S4096_S1x4096 := by
  show StableHlo.after hostOps0 (fun b => m (c, b)) (Proc.devRef .tc main_v0) = _
  after_results_simp <;> rfl

theorem blk1 (c : Dev nD) (t : Fin cfg0.N) (j : Fin 4096) :
    iblk m c 1 t (ix2 0 j) = m ((c : Thread nD τ).loc main_arg1) (Cert.W4.at1 j) := by
  obtain ⟨e0, e1⟩ := idx1 t
  refine (show iblk m c 1 t (ix2 0 j) = V m c main_v0 (((cfg0.win 1).blk t).view.emb (ix2 0 j)) from rfl).trans ?_
  rw [V_row]
  have e : ((cfg0.win 1).blk t).view.emb (ix2 0 j) = (ix2 (0 : Fin 1) j : S1x4096.Idx) := funext fun a => Fin.ext (by
    match a with
    | ⟨0, _⟩ => show win0_1.index t (0 : Fin 2) * 1 + 1 * 0 = 0; omega
    | ⟨1, _⟩ => show win0_1.index t (1 : Fin 2) * 4096 + 1 * j.val = j.val; omega)
  rw [e]
  refine (ValueIdx.shapeCast_a_1a_apply _ _ _ _).trans ?_
  refine congrArg (m ((c : Thread nD τ).loc main_arg1)) (funext fun a => Fin.ext ?_)
  match a with
  | ⟨0, _⟩ => rfl

theorem norm_blk (c : Dev nD) (t : Fin cfg0.N) (i : Fin 128) :
    normRow (iblk m c 0 t) (fun k => iblk m c 1 t (ix2 0 k)) i
      = normRow (m ((c : Thread nD τ).loc main_arg0)) (fun k => m ((c : Thread nD τ).loc main_arg1) (Cert.W4.at1 k)) (row t i) := by
  unfold normRow
  exact congrArg₂ Cert.Quant.normed (funext fun k => blk0 m c t i k) (funext fun k => blk1 m c t k)

/-- The bytes after the run. -/
theorem final_codes (c : Dev nD) : (dats m 0 c).arrAt 2 cfg0.N = codes (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 128) (j : Fin 4096), y = ix2 i j := ⟨y 0, y 1, eq_ix2 y⟩
  have e : ((cfg0.win 2).blk t).view.emb (ix2 i j) = (ix2 (row t i) j : S1152x4096.Idx) := by
    obtain ⟨e0, e1⟩ := idx2 t
    exact funext fun a => Fin.ext (by
      match a with
      | ⟨0, _⟩ => show win0_2.index t (0 : Fin 2) * 128 + 1 * i.val = 128 * t.val + i.val; omega
      | ⟨1, _⟩ => show win0_2.index t (1 : Fin 2) * 4096 + 1 * j.val = j.val; omega)
  rw [e]
  show (dats m 0 c).after 2 t (ix2 i j) = Cert.Quant.code (normRow (m ((c : Thread nD τ).loc main_arg0)) (fun k => m ((c : Thread nD τ).loc main_arg1) (Cert.W4.at1 k)) (row t i) j)
    (scaleOf (m ((c : Thread nD τ).loc main_arg0)) (fun k => m ((c : Thread nD τ).loc main_arg1) (Cert.W4.at1 k)) (row t i))
  unfold scaleOf
  rw [after0_2, ← norm_blk m c t i]
  frame_out
  exact code_at _ _ i j

/-- The scales after the run. -/
theorem final_scales (c : Dev nD) : (dats m 0 c).arrAt 3 cfg0.N = scales (m ((c : Thread nD τ).loc main_arg0)) (m ((c : Thread nD τ).loc main_arg1)) := by
  refine (dats m 0 c).arrAt_eq_of_covers 3 _ (by decide +kernel) fun t hf y => ?_
  obtain ⟨i, j, rfl⟩ : ∃ (i : Fin 128) (j : Fin 1), y = ix2 i j := ⟨y 0, y 1, eq_ix2 y⟩
  obtain rfl : j = 0 := Subsingleton.elim _ _
  have e : ((cfg0.win 3).blk t).view.emb (ix2 i 0) = (ix2 (row t i) 0 : S1152x1.Idx) := by
    obtain ⟨e0, e1⟩ := idx3 t
    exact funext fun a => Fin.ext (by
      match a with
      | ⟨0, _⟩ => show win0_3.index t (0 : Fin 2) * 128 + 1 * i.val = 128 * t.val + i.val; omega
      | ⟨1, _⟩ => show win0_3.index t (1 : Fin 2) * 1 + 1 * 0 = 0; omega)
  rw [e]
  show (dats m 0 c).after 3 t (ix2 i 0) = scaleOf (m ((c : Thread nD τ).loc main_arg0)) (fun k => m ((c : Thread nD τ).loc main_arg1) (Cert.W4.at1 k)) (row t i)
  unfold scaleOf
  rw [after0_3, ← norm_blk m c t i]
  frame_out
  exact scale_at _ _ i

end Cert.RmsQuantHIdeal.Whole

namespace Cert.Proof.RmsQuantHClaims

open Idealize.ShloMosaic Idealize.ShloMosaic.TcCoe Idealize.SL.Sem Cert.RmsQuantHRefIdeal Cert.RmsQuantHRefIdeal.Read

/-- The reference's normalised number. -/
theorem ref_norm (x : Vec Ideal S1152x4096 .f32) (g : Vec Ideal S4096 .f32) (i : Fin 1152) (j : Fin 4096) :
    val_main_v12 (F := Ideal) x g (ix2 i j) = RmsQuantHIdeal.Whole.normRow x (fun k => g (Cert.W4.at1 k)) i j := by
  have hs : val_main_v1 (F := Ideal) x (Cert.W4.at1 i) = ∑ k : Fin 4096, (x (ix2 i k) : EReal) * x (ix2 i k) := by
    unfold val_main_v1
    pointwise
    rw [show (val_main_cst (F := Ideal) (Shape.Idx.first Cert.RmsQuantHRefIdeal.Gen.h_S_) : EReal) = 0 from Ideal.ofBits_zero_f32, zero_add]
    rfl
  rw [val_main_v12_apply, val_main_v9_apply, val_main_v8_apply, val_main_v7_apply, val_main_v6_apply, val_main_v4_apply, val_main_v2_apply, val_main_v5_apply, val_main_v3_apply, val_main_v11_apply, val_main_v10_apply,
    show (val_main_v1 (F := Ideal) x (idx_main_v2 (idx_main_v8 (ix2 i j))) : EReal) = ∑ k : Fin 4096, (x (ix2 i k) : EReal) * x (ix2 i k) from
      (congrArg (val_main_v1 (F := Ideal) x) (funext fun a => by match a with | ⟨0, _⟩ => rfl)).trans hs,
    show g (idx_main_v10 (idx_main_v11 (ix2 i j))) = g (Cert.W4.at1 j) from congrArg g (funext fun a => by match a with | ⟨0, _⟩ => rfl)]
  unfold RmsQuantHIdeal.Whole.normRow Cert.Quant.normed
  rfl

/-- The reference's largest absolute value of a row. -/
theorem ref_max (x : Vec Ideal S1152x4096 .f32) (g : Vec Ideal S4096 .f32) (i : Fin 1152) :
    val_main_v14 (F := Ideal) x g (Cert.W4.at1 i) = Cert.Quant.amax (RmsQuantHIdeal.Whole.normRow x (fun k => g (Cert.W4.at1 k)) i) := by
  rw [← show (fun k => val_main_v12 (F := Ideal) x g (ix2 i k)) = RmsQuantHIdeal.Whole.normRow x (fun k => g (Cert.W4.at1 k)) i from funext fun k => ref_norm x g i k]
  unfold val_main_v14
  pointwise
  rfl

/-- The reference's scale of a row. -/
theorem ref_scale (x : Vec Ideal S1152x4096 .f32) (g : Vec Ideal S4096 .f32) (i : Fin 1152) :
    val_main_v19 (F := Ideal) x g (Cert.W4.at1 i) = RmsQuantHIdeal.Whole.scaleOf x (fun k => g (Cert.W4.at1 k)) i := by
  unfold RmsQuantHIdeal.Whole.scaleOf
  rw [← ref_max]
  unfold Cert.Quant.scale
  rw [val_main_v19_apply, val_main_v16_apply, val_main_v18_apply, val_main_call0_v1_apply, val_main_v15_apply, val_main_v17_apply]
  generalize val_main_v14 (F := Ideal) x g (Cert.W4.at1 i) = a
  exact Cert.Quant.select_gt _ _

/-- The reference's scales. -/
theorem ref_scales (x : Vec Ideal S1152x4096 .f32) (g : Vec Ideal S4096 .f32) : val_main_v27 (F := Ideal) x g = RmsQuantHIdeal.Whole.scales x g := by
  funext p
  obtain ⟨i, j, rfl⟩ : ∃ (i : Fin 1152) (j : Fin 1), p = ix2 i j := ⟨p 0, p 1, eq_ix2 p⟩
  rw [val_main_v27_apply]
  exact (congrArg (val_main_v19 (F := Ideal) x g) (funext fun a => by match a with | ⟨0, _⟩ => rfl)).trans (ref_scale x g i)

/-- The reference's bytes. -/
theorem ref_codes (x : Vec Ideal S1152x4096 .f32) (g : Vec Ideal S4096 .f32) : val_main_v26 (F := Ideal) x g = RmsQuantHIdeal.Whole.codes x g := by
  funext p
  obtain ⟨i, j, rfl⟩ : ∃ (i : Fin 1152) (j : Fin 4096), p = ix2 i j := ⟨p 0, p 1, eq_ix2 p⟩
  have hs : val_main_v21 (F := Ideal) x g (ix2 i j) = RmsQuantHIdeal.Whole.scaleOf x (fun k => g (Cert.W4.at1 k)) i := by
    rw [val_main_v21_apply, val_main_v20_apply]
    exact (congrArg (val_main_v19 (F := Ideal) x g) (funext fun a => by match a with | ⟨0, _⟩ => rfl)).trans (ref_scale x g i)
  rw [val_main_v26_apply, val_main_v25_apply, val_main_v24_apply, val_main_call2_v2_apply, val_main_v23_apply, val_main_v22_apply, hs, ref_norm]
  exact Cert.Quant.code_wide _ _

theorem frame : Cert.quiescent_RmsQuantH := fun m ρ _ => Cert.RmsQuantH.Gen.frame m ρ
theorem frame_ideal : Cert.quiescent_RmsQuantHIdeal := fun m ρ _ => Cert.RmsQuantHIdeal.Gen.frame m ρ
theorem frame_ref : Cert.quiescent_RmsQuantHRefIdeal := fun m ρ _ =>
  (θ_run Cert.RmsQuantHRefIdeal.defs _ _).mono (fun r h => ⟨fun c => (h c).2.2, Idealize.ShloMosaic.sem_eq_zero_of_no_sems (by decide) r.2⟩)
    (Cert.RmsQuantHRefIdeal.Value.run (F := Ideal) m ρ)
theorem preserves : Cert.preserves_RmsQuantH_RmsQuantHIdeal := trivial

/-- The kernel and the reference end with the same bytes and the same scales. -/
theorem algebraic : Cert.algebraic_RmsQuantHIdeal_RmsQuantHRefIdeal := by
  intro m ρ m' ρ' _ hag
  refine ⟨fun c => RmsQuantHIdeal.Whole.codes (m ((c : Thread RmsQuantHIdeal.nD RmsQuantHIdeal.τ).loc RmsQuantHIdeal.main_arg0)) (m ((c : Thread RmsQuantHIdeal.nD RmsQuantHIdeal.τ).loc RmsQuantHIdeal.main_arg1)),
    fun c => RmsQuantHIdeal.Whole.scales (m ((c : Thread RmsQuantHIdeal.nD RmsQuantHIdeal.τ).loc RmsQuantHIdeal.main_arg0)) (m ((c : Thread RmsQuantHIdeal.nD RmsQuantHIdeal.τ).loc RmsQuantHIdeal.main_arg1)), ?_, ?_⟩
  · exact (θ_run Cert.RmsQuantHIdeal.defs _ _).mono (fun _ h c => ⟨(h c).1.trans (RmsQuantHIdeal.Whole.final_codes m c), (h c).2.1.trans (RmsQuantHIdeal.Whole.final_scales m c), (h c).2.2⟩)
      (RmsQuantHIdeal.Value.run_blocks m ρ)
  · refine (θ_run Cert.RmsQuantHRefIdeal.defs _ _).mono (fun _ h c => ⟨(h c).1.trans ?_, (h c).2.1.trans ?_, (h c).2.2⟩) (Cert.RmsQuantHRefIdeal.Value.run (F := Ideal) m' ρ')
    · obtain ⟨h0, h1⟩ := hag c
      rw [h0, h1]
      exact (val_main_v26_eq _ _).trans (ref_codes _ _)
    · obtain ⟨h0, h1⟩ := hag c
      rw [h0, h1]
      exact (val_main_v27_eq _ _).trans (ref_scales _ _)

end Cert.Proof.RmsQuantHClaims

end
-- ==== Proof.RowQuantAttn.lean ====
/- The quantised attention output: the bytes and the scales after the run are those of each row, which is what the reference computes. -/
module

public import proofs.«01_k».proof.Defs
public import proofs.«01_k».proof.Proof.Quant
public import proofs.«01_k».proof.Proof.Spec
public import proofs.«01_k».proof.Proof.Gen.RowQuantAttn.Frame
public import proofs.«01_k».proof.Proof.Gen.RowQuantAttnIdeal.Value
public import proofs.«01_k».proof.Proof.Gen.RowQuantAttnRefIdeal.Run
public import proofs.«01_k».proof.Proof.Gen.RowQuantAttnRefIdeal.Read
public import Idealize.ShloMosaic.Lib.ValueLayout
public import Idealize.ShloMosaic.Lib.Pointwise

@[expose] public section

set_option maxRecDepth 16384

noncomputable section

namespace Cert.RowQuantAttnIdeal.Whole

open Cert.RowQuantAttnIdeal Cert.RowQuantAttnIdeal.Gen Cert.RowQuantAttnIdeal.Value Idealize.ShloMosaic Idealize.ShloMosaic.TcCoe Idealize.SL.Sem
open Idealize.ShloMosaic.Pipeline (Dat)

/-- The scale of a row. -/
def scaleOf {n : ℕ} (x : Vec Ideal ⟨2, ![n, 4096]⟩ .f32) (i : Fin n) : EReal := Cert.Quant.scale (Cert.Quant.amax fun k => x (ix2 i k))

/-- A block's scale at a row. -/
theorem scale_at (x : Vec Ideal S128x4096 .f32) (i : Fin 128) : k0_pay1 x (ix2 i 0) = scaleOf x i := by
  pointwise [k0_pay1]
  unfold scaleOf Cert.Quant.scale Cert.Quant.amax
  rfl

/-- A block's byte at a row and a column. -/
theorem code_at (x : Vec Ideal S128x4096 .f32) (i : Fin 128) (j : Fin 4096) :
    k0_pay2 x (ix2 i j) = Cert.Quant.code (x (ix2 i j)) (scaleOf x i) := by
  rw [← scale_at]
  pointwise [k0_pay2]
  rfl

/-- The bytes of an array. -/
def codes (x : Vec Ideal S1152x4096 .f32) : Vec Ideal S1152x4096 .i8 := fun p => Cert.Quant.code (x p) (scaleOf x (p 0))

/-- The scales of an array. -/
def scales (x : Vec Ideal S1152x4096 .f32) : Vec Ideal S1152x1 .f32 := fun p => scaleOf x (p 0)

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

/-- Row `i` of point `t`'s block is row `128 t + i` of the array. -/
def row (t : Fin cfg0.N) (i : Fin 128) : Fin 1152 := ⟨128 * t.val + i.val, by have h : t.val < 9 := lt_of_lt_of_eq t.isLt N_0; omega⟩

theorem blk0 (c : Dev nD) (t : Fin cfg0.N) (i : Fin 128) (j : Fin 4096) : iblk m c 0 t (ix2 i j) = m ((c : Thread nD τ).loc main_arg0) (ix2 (row t i) j) := by
  obtain ⟨e0, e1⟩ := idx0 t
  refine (show iblk m c 0 t (ix2 i j) = V m c main_arg0 (((cfg0.win 0).blk t).view.emb (ix2 i j)) from rfl).trans ?_
  rw [V_main_arg0]
  refine congrArg (m ((c : Thread nD τ).loc main_arg0)) (funext fun a => Fin.ext ?_)
  match a with
  | ⟨0, _⟩ => show win0_0.index t (0 : Fin 2) * 128 + 1 * i.val = 128 * t.val + i.val; omega
  | ⟨1, _⟩ => show win0_0.index t (1 : Fin 2) * 4096 + 1 * j.val = j.val; omega

theorem scaleOf_blk (c : Dev nD) (t : Fin cfg0.N) (i : Fin 128) : scaleOf (iblk m c 0 t) i = scaleOf (m ((c : Thread nD τ).loc main_arg0)) (row t i) := by
  unfold scaleOf
  exact congrArg (fun f => Cert.Quant.scale (Cert.Quant.amax f)) (funext fun k => blk0 m c t i k)

/-- The bytes after the run. -/
theorem final_codes (c : Dev nD) : (dats m 0 c).arrAt 1 cfg0.N = codes (m ((c : Thread nD τ).loc main_arg0)) := by
  refine (dats m 0 c).arrAt_eq_of_covers 1 _ (by decide +kernel) fun t hf y => ?_
  obtain ⟨i, j, rfl⟩ : ∃ (i : Fin 128) (j : Fin 4096), y = ix2 i j := ⟨y 0, y 1, eq_ix2 y⟩
  have e : ((cfg0.win 1).blk t).view.emb (ix2 i j) = (ix2 (row t i) j : S1152x4096.Idx) := by
    obtain ⟨e0, e1⟩ := idx1 t
    exact funext fun a => Fin.ext (by
      match a with
      | ⟨0, _⟩ => show win0_1.index t (0 : Fin 2) * 128 + 1 * i.val = 128 * t.val + i.val; omega
      | ⟨1, _⟩ => show win0_1.index t (1 : Fin 2) * 4096 + 1 * j.val = j.val; omega)
  rw [e]
  show (dats m 0 c).after 1 t (ix2 i j) = Cert.Quant.code (m ((c : Thread nD τ).loc main_arg0) (ix2 (row t i) j)) (scaleOf (m ((c : Thread nD τ).loc main_arg0)) (row t i))
  rw [after0_1]
  frame_out
  rw [← blk0 m c t i j, ← scaleOf_blk m c t i]
  exact code_at _ i j

/-- The scales after the run. -/
theorem final_scales (c : Dev nD) : (dats m 0 c).arrAt 2 cfg0.N = scales (m ((c : Thread nD τ).loc main_arg0)) := by
  refine (dats m 0 c).arrAt_eq_of_covers 2 _ (by decide +kernel) fun t hf y => ?_
  obtain ⟨i, j, rfl⟩ : ∃ (i : Fin 128) (j : Fin 1), y = ix2 i j := ⟨y 0, y 1, eq_ix2 y⟩
  obtain rfl : j = 0 := Subsingleton.elim _ _
  have e : ((cfg0.win 2).blk t).view.emb (ix2 i 0) = (ix2 (row t i) 0 : S1152x1.Idx) := by
    obtain ⟨e0, e1⟩ := idx2 t
    exact funext fun a => Fin.ext (by
      match a with
      | ⟨0, _⟩ => show win0_2.index t (0 : Fin 2) * 128 + 1 * i.val = 128 * t.val + i.val; omega
      | ⟨1, _⟩ => show win0_2.index t (1 : Fin 2) * 1 + 1 * 0 = 0; omega)
  rw [e]
  show (dats m 0 c).after 2 t (ix2 i 0) = scaleOf (m ((c : Thread nD τ).loc main_arg0)) (row t i)
  rw [after0_2]
  frame_out
  rw [← scaleOf_blk m c t i]
  exact scale_at _ i

end Cert.RowQuantAttnIdeal.Whole

namespace Cert.Proof.RowQuantAttnClaims

open Idealize.ShloMosaic Idealize.ShloMosaic.TcCoe Idealize.SL.Sem Cert.RowQuantAttnRefIdeal Cert.RowQuantAttnRefIdeal.Read

/-- The reference's largest absolute value of a row. -/
theorem ref_max (x : Vec Ideal S1152x4096 .f32) (i : Fin 1152) :
    val_main_v1 (F := Ideal) x (Cert.W4.at1 i) = Cert.Quant.amax fun k => x (ix2 i k) := by
  unfold val_main_v1
  pointwise
  rfl

/-- The reference's scale of a row. -/
theorem ref_scale (x : Vec Ideal S1152x4096 .f32) (i : Fin 1152) :
    val_main_v6 (F := Ideal) x (Cert.W4.at1 i) = RowQuantAttnIdeal.Whole.scaleOf x i := by
  unfold RowQuantAttnIdeal.Whole.scaleOf
  rw [← ref_max]
  unfold Cert.Quant.scale
  rw [val_main_v6_apply, val_main_v3_apply, val_main_v5_apply, val_main_call0_v1_apply, val_main_v2_apply, val_main_v4_apply]
  generalize val_main_v1 (F := Ideal) x (Cert.W4.at1 i) = a
  exact Cert.Quant.select_gt _ _

/-- The reference's scales. -/
theorem ref_scales (x : Vec Ideal S1152x4096 .f32) : val_main_v14 (F := Ideal) x = RowQuantAttnIdeal.Whole.scales x := by
  funext p
  obtain ⟨i, j, rfl⟩ : ∃ (i : Fin 1152) (j : Fin 1), p = ix2 i j := ⟨p 0, p 1, eq_ix2 p⟩
  rw [val_main_v14_apply]
  exact (congrArg (val_main_v6 (F := Ideal) x) (funext fun a => by match a with | ⟨0, _⟩ => rfl)).trans (ref_scale x i)

/-- The reference's bytes. -/
theorem ref_codes (x : Vec Ideal S1152x4096 .f32) : val_main_v13 (F := Ideal) x = RowQuantAttnIdeal.Whole.codes x := by
  funext p
  obtain ⟨i, j, rfl⟩ : ∃ (i : Fin 1152) (j : Fin 4096), p = ix2 i j := ⟨p 0, p 1, eq_ix2 p⟩
  have h7 : val_main_v8 (F := Ideal) x (ix2 i j) = RowQuantAttnIdeal.Whole.scaleOf x i := by
    rw [val_main_v8_apply, val_main_v7_apply]
    exact (congrArg (val_main_v6 (F := Ideal) x) (funext fun a => by match a with | ⟨0, _⟩ => rfl)).trans (ref_scale x i)
  rw [val_main_v13_apply, val_main_v12_apply, val_main_v11_apply, val_main_call2_v2_apply, val_main_v10_apply, val_main_v9_apply, h7]
  exact Cert.Quant.code_wide _ _

theorem frame : Cert.quiescent_RowQuantAttn := fun m ρ _ => Cert.RowQuantAttn.Gen.frame m ρ
theorem frame_ideal : Cert.quiescent_RowQuantAttnIdeal := fun m ρ _ => Cert.RowQuantAttnIdeal.Gen.frame m ρ
theorem frame_ref : Cert.quiescent_RowQuantAttnRefIdeal := fun m ρ _ =>
  (θ_run Cert.RowQuantAttnRefIdeal.defs _ _).mono (fun r h => ⟨fun c => (h c).2.2, Idealize.ShloMosaic.sem_eq_zero_of_no_sems (by decide) r.2⟩)
    (Cert.RowQuantAttnRefIdeal.Value.run (F := Ideal) m ρ)
theorem preserves : Cert.preserves_RowQuantAttn_RowQuantAttnIdeal := trivial

/-- The kernel and the reference end with the same bytes and the same scales. -/
theorem algebraic : Cert.algebraic_RowQuantAttnIdeal_RowQuantAttnRefIdeal := by
  intro m ρ m' ρ' _ hag
  refine ⟨fun c => RowQuantAttnIdeal.Whole.codes (m ((c : Thread RowQuantAttnIdeal.nD RowQuantAttnIdeal.τ).loc RowQuantAttnIdeal.main_arg0)),
    fun c => RowQuantAttnIdeal.Whole.scales (m ((c : Thread RowQuantAttnIdeal.nD RowQuantAttnIdeal.τ).loc RowQuantAttnIdeal.main_arg0)), ?_, ?_⟩
  · exact (θ_run Cert.RowQuantAttnIdeal.defs _ _).mono (fun _ h c => ⟨(h c).1.trans (RowQuantAttnIdeal.Whole.final_codes m c), (h c).2.1.trans (RowQuantAttnIdeal.Whole.final_scales m c), (h c).2.2⟩)
      (RowQuantAttnIdeal.Value.run_blocks m ρ)
  · refine (θ_run Cert.RowQuantAttnRefIdeal.defs _ _).mono (fun _ h c => ⟨(h c).1.trans ?_, (h c).2.1.trans ?_, (h c).2.2⟩) (Cert.RowQuantAttnRefIdeal.Value.run (F := Ideal) m' ρ')
    · rw [hag c]
      exact (val_main_v13_eq _).trans (ref_codes _)
    · rw [hag c]
      exact (val_main_v14_eq _).trans (ref_scales _)

end Cert.Proof.RowQuantAttnClaims

end
-- ==== Proof.RowQuantMlp.lean ====
/- The quantised MLP output: the bytes and the scales after the run are those of each row, which is what the reference computes. -/
module

public import proofs.«01_k».proof.Defs
public import proofs.«01_k».proof.Proof.Quant
public import proofs.«01_k».proof.Proof.Spec
public import proofs.«01_k».proof.Proof.Gen.RowQuantMlp.Frame
public import proofs.«01_k».proof.Proof.Gen.RowQuantMlpIdeal.Value
public import proofs.«01_k».proof.Proof.Gen.RowQuantMlpRefIdeal.Run
public import proofs.«01_k».proof.Proof.Gen.RowQuantMlpRefIdeal.Read
public import Idealize.ShloMosaic.Lib.ValueLayout
public import Idealize.ShloMosaic.Lib.Pointwise

@[expose] public section

set_option maxRecDepth 16384

noncomputable section

namespace Cert.RowQuantMlpIdeal.Whole

open Cert.RowQuantMlpIdeal Cert.RowQuantMlpIdeal.Gen Cert.RowQuantMlpIdeal.Value Idealize.ShloMosaic Idealize.ShloMosaic.TcCoe Idealize.SL.Sem
open Idealize.ShloMosaic.Pipeline (Dat)

/-- The scale of a row. -/
def scaleOf {n : ℕ} (x : Vec Ideal ⟨2, ![n, 14336]⟩ .f32) (i : Fin n) : EReal := Cert.Quant.scale (Cert.Quant.amax fun k => x (ix2 i k))

/-- A block's scale at a row. -/
theorem scale_at (x : Vec Ideal S64x14336 .f32) (i : Fin 64) : k0_pay1 x (ix2 i 0) = scaleOf x i := by
  pointwise [k0_pay1]
  unfold scaleOf Cert.Quant.scale Cert.Quant.amax
  rfl

/-- A block's byte at a row and a column. -/
theorem code_at (x : Vec Ideal S64x14336 .f32) (i : Fin 64) (j : Fin 14336) :
    k0_pay2 x (ix2 i j) = Cert.Quant.code (x (ix2 i j)) (scaleOf x i) := by
  rw [← scale_at]
  pointwise [k0_pay2]
  rfl

/-- The bytes of an array. -/
def codes (x : Vec Ideal S1152x14336 .f32) : Vec Ideal S1152x14336 .i8 := fun p => Cert.Quant.code (x p) (scaleOf x (p 0))

/-- The scales of an array. -/
def scales (x : Vec Ideal S1152x14336 .f32) : Vec Ideal S1152x1 .f32 := fun p => scaleOf x (p 0)

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

/-- Row `i` of point `t`'s block is row `64 t + i` of the array. -/
def row (t : Fin cfg0.N) (i : Fin 64) : Fin 1152 := ⟨64 * t.val + i.val, by have h : t.val < 18 := lt_of_lt_of_eq t.isLt N_0; omega⟩

theorem blk0 (c : Dev nD) (t : Fin cfg0.N) (i : Fin 64) (j : Fin 14336) : iblk m c 0 t (ix2 i j) = m ((c : Thread nD τ).loc main_arg0) (ix2 (row t i) j) := by
  obtain ⟨e0, e1⟩ := idx0 t
  refine (show iblk m c 0 t (ix2 i j) = V m c main_arg0 (((cfg0.win 0).blk t).view.emb (ix2 i j)) from rfl).trans ?_
  rw [V_main_arg0]
  refine congrArg (m ((c : Thread nD τ).loc main_arg0)) (funext fun a => Fin.ext ?_)
  match a with
  | ⟨0, _⟩ => show win0_0.index t (0 : Fin 2) * 64 + 1 * i.val = 64 * t.val + i.val; omega
  | ⟨1, _⟩ => show win0_0.index t (1 : Fin 2) * 14336 + 1 * j.val = j.val; omega

theorem scaleOf_blk (c : Dev nD) (t : Fin cfg0.N) (i : Fin 64) : scaleOf (iblk m c 0 t) i = scaleOf (m ((c : Thread nD τ).loc main_arg0)) (row t i) := by
  unfold scaleOf
  exact congrArg (fun f => Cert.Quant.scale (Cert.Quant.amax f)) (funext fun k => blk0 m c t i k)

/-- The bytes after the run. -/
theorem final_codes (c : Dev nD) : (dats m 0 c).arrAt 1 cfg0.N = codes (m ((c : Thread nD τ).loc main_arg0)) := by
  refine (dats m 0 c).arrAt_eq_of_covers 1 _ (by decide +kernel) fun t hf y => ?_
  obtain ⟨i, j, rfl⟩ : ∃ (i : Fin 64) (j : Fin 14336), y = ix2 i j := ⟨y 0, y 1, eq_ix2 y⟩
  have e : ((cfg0.win 1).blk t).view.emb (ix2 i j) = (ix2 (row t i) j : S1152x14336.Idx) := by
    obtain ⟨e0, e1⟩ := idx1 t
    exact funext fun a => Fin.ext (by
      match a with
      | ⟨0, _⟩ => show win0_1.index t (0 : Fin 2) * 64 + 1 * i.val = 64 * t.val + i.val; omega
      | ⟨1, _⟩ => show win0_1.index t (1 : Fin 2) * 14336 + 1 * j.val = j.val; omega)
  rw [e]
  show (dats m 0 c).after 1 t (ix2 i j) = Cert.Quant.code (m ((c : Thread nD τ).loc main_arg0) (ix2 (row t i) j)) (scaleOf (m ((c : Thread nD τ).loc main_arg0)) (row t i))
  rw [after0_1]
  frame_out
  rw [← blk0 m c t i j, ← scaleOf_blk m c t i]
  exact code_at _ i j

/-- The scales after the run. -/
theorem final_scales (c : Dev nD) : (dats m 0 c).arrAt 2 cfg0.N = scales (m ((c : Thread nD τ).loc main_arg0)) := by
  refine (dats m 0 c).arrAt_eq_of_covers 2 _ (by decide +kernel) fun t hf y => ?_
  obtain ⟨i, j, rfl⟩ : ∃ (i : Fin 64) (j : Fin 1), y = ix2 i j := ⟨y 0, y 1, eq_ix2 y⟩
  obtain rfl : j = 0 := Subsingleton.elim _ _
  have e : ((cfg0.win 2).blk t).view.emb (ix2 i 0) = (ix2 (row t i) 0 : S1152x1.Idx) := by
    obtain ⟨e0, e1⟩ := idx2 t
    exact funext fun a => Fin.ext (by
      match a with
      | ⟨0, _⟩ => show win0_2.index t (0 : Fin 2) * 64 + 1 * i.val = 64 * t.val + i.val; omega
      | ⟨1, _⟩ => show win0_2.index t (1 : Fin 2) * 1 + 1 * 0 = 0; omega)
  rw [e]
  show (dats m 0 c).after 2 t (ix2 i 0) = scaleOf (m ((c : Thread nD τ).loc main_arg0)) (row t i)
  rw [after0_2]
  frame_out
  rw [← scaleOf_blk m c t i]
  exact scale_at _ i

end Cert.RowQuantMlpIdeal.Whole

namespace Cert.Proof.RowQuantMlpClaims

open Idealize.ShloMosaic Idealize.ShloMosaic.TcCoe Idealize.SL.Sem Cert.RowQuantMlpRefIdeal Cert.RowQuantMlpRefIdeal.Read

/-- The reference's largest absolute value of a row. -/
theorem ref_max (x : Vec Ideal S1152x14336 .f32) (i : Fin 1152) :
    val_main_v1 (F := Ideal) x (Cert.W4.at1 i) = Cert.Quant.amax fun k => x (ix2 i k) := by
  unfold val_main_v1
  pointwise
  rfl

/-- The reference's scale of a row. -/
theorem ref_scale (x : Vec Ideal S1152x14336 .f32) (i : Fin 1152) :
    val_main_v6 (F := Ideal) x (Cert.W4.at1 i) = RowQuantMlpIdeal.Whole.scaleOf x i := by
  unfold RowQuantMlpIdeal.Whole.scaleOf
  rw [← ref_max]
  unfold Cert.Quant.scale
  rw [val_main_v6_apply, val_main_v3_apply, val_main_v5_apply, val_main_call0_v1_apply, val_main_v2_apply, val_main_v4_apply]
  generalize val_main_v1 (F := Ideal) x (Cert.W4.at1 i) = a
  exact Cert.Quant.select_gt _ _

/-- The reference's scales. -/
theorem ref_scales (x : Vec Ideal S1152x14336 .f32) : val_main_v14 (F := Ideal) x = RowQuantMlpIdeal.Whole.scales x := by
  funext p
  obtain ⟨i, j, rfl⟩ : ∃ (i : Fin 1152) (j : Fin 1), p = ix2 i j := ⟨p 0, p 1, eq_ix2 p⟩
  rw [val_main_v14_apply]
  exact (congrArg (val_main_v6 (F := Ideal) x) (funext fun a => by match a with | ⟨0, _⟩ => rfl)).trans (ref_scale x i)

/-- The reference's bytes. -/
theorem ref_codes (x : Vec Ideal S1152x14336 .f32) : val_main_v13 (F := Ideal) x = RowQuantMlpIdeal.Whole.codes x := by
  funext p
  obtain ⟨i, j, rfl⟩ : ∃ (i : Fin 1152) (j : Fin 14336), p = ix2 i j := ⟨p 0, p 1, eq_ix2 p⟩
  have h7 : val_main_v8 (F := Ideal) x (ix2 i j) = RowQuantMlpIdeal.Whole.scaleOf x i := by
    rw [val_main_v8_apply, val_main_v7_apply]
    exact (congrArg (val_main_v6 (F := Ideal) x) (funext fun a => by match a with | ⟨0, _⟩ => rfl)).trans (ref_scale x i)
  rw [val_main_v13_apply, val_main_v12_apply, val_main_v11_apply, val_main_call2_v2_apply, val_main_v10_apply, val_main_v9_apply, h7]
  exact Cert.Quant.code_wide _ _

theorem frame : Cert.quiescent_RowQuantMlp := fun m ρ _ => Cert.RowQuantMlp.Gen.frame m ρ
theorem frame_ideal : Cert.quiescent_RowQuantMlpIdeal := fun m ρ _ => Cert.RowQuantMlpIdeal.Gen.frame m ρ
theorem frame_ref : Cert.quiescent_RowQuantMlpRefIdeal := fun m ρ _ =>
  (θ_run Cert.RowQuantMlpRefIdeal.defs _ _).mono (fun r h => ⟨fun c => (h c).2.2, Idealize.ShloMosaic.sem_eq_zero_of_no_sems (by decide) r.2⟩)
    (Cert.RowQuantMlpRefIdeal.Value.run (F := Ideal) m ρ)
theorem preserves : Cert.preserves_RowQuantMlp_RowQuantMlpIdeal := trivial

/-- The kernel and the reference end with the same bytes and the same scales. -/
theorem algebraic : Cert.algebraic_RowQuantMlpIdeal_RowQuantMlpRefIdeal := by
  intro m ρ m' ρ' _ hag
  refine ⟨fun c => RowQuantMlpIdeal.Whole.codes (m ((c : Thread RowQuantMlpIdeal.nD RowQuantMlpIdeal.τ).loc RowQuantMlpIdeal.main_arg0)),
    fun c => RowQuantMlpIdeal.Whole.scales (m ((c : Thread RowQuantMlpIdeal.nD RowQuantMlpIdeal.τ).loc RowQuantMlpIdeal.main_arg0)), ?_, ?_⟩
  · exact (θ_run Cert.RowQuantMlpIdeal.defs _ _).mono (fun _ h c => ⟨(h c).1.trans (RowQuantMlpIdeal.Whole.final_codes m c), (h c).2.1.trans (RowQuantMlpIdeal.Whole.final_scales m c), (h c).2.2⟩)
      (RowQuantMlpIdeal.Value.run_blocks m ρ)
  · refine (θ_run Cert.RowQuantMlpRefIdeal.defs _ _).mono (fun _ h c => ⟨(h c).1.trans ?_, (h c).2.1.trans ?_, (h c).2.2⟩) (Cert.RowQuantMlpRefIdeal.Value.run (F := Ideal) m' ρ')
    · rw [hag c]
      exact (val_main_v13_eq _).trans (ref_codes _)
    · rw [hag c]
      exact (val_main_v14_eq _).trans (ref_scales _)

end Cert.Proof.RowQuantMlpClaims

end
-- ==== Proof.QkvSpec.lean ====
/- The query, key and value heads as functions of the scaled product: the rotary embedding, the smoothing, and the bytes and
   half-precision scales of the keys and the values. -/
module

public import proofs.«01_k».proof.Proof.Quant
public import proofs.«01_k».proof.Proof.Spec

@[expose] public section

noncomputable section

namespace Cert.Quant

open Idealize.ShloMosaic

/-- A scale as a half-precision number, its rounding left out: above the largest finite one it is infinite. -/
def half (s : EReal) : EReal := if Ideal.ofBits .f32 0x477FE000#32 < s then Ideal.ofBits .f32 0x7F800000#32 else s

/-- The half-precision scale of a row. -/
def halfScale {n : ℕ} (f : Fin n → EReal) : EReal := half (scale (amax f))

theorem select_over (s : EReal) :
    Scalar.select (Ideal.cmp .ogt s (Ideal.ofBits .f32 0x477FE000#32)) (Ideal.ofBits .f32 0x7F800000#32) s = half s := by
  unfold half
  pointwise

/-- One half as a number. -/
theorem ofBits_half : Ideal.ofBits .f32 0x3F000000#32 = (((1 : ℝ) / 2 : ℝ) : EReal) := by
  simp [Ideal.ofBits, Ideal.ieee, -EReal.coe_mul]; norm_num

end Cert.Quant

namespace Cert.QkvSpec

open Idealize.ShloMosaic

/-- A head's numbers with their two halves rotated against each other by the angles. -/
def rope (f : Fin 128 → EReal) (c s : Fin 64 → EReal) (d : Fin 128) : EReal :=
  if h : d.val < 64 then f d * c ⟨d.val, h⟩ - f ⟨d.val + 64, by omega⟩ * s ⟨d.val, h⟩
  else f d * c ⟨d.val - 64, by omega⟩ + f ⟨d.val - 64, by omega⟩ * s ⟨d.val - 64, by omega⟩

/-- A column's place in its head. -/
def dIn {n : ℕ} (J : Fin n) : Fin 128 := ⟨J.val % 128, Nat.mod_lt _ (by decide)⟩

/-- Column `e` of the head that holds column `J`. -/
def inHead (J : Fin 6144) (e : Fin 128) : Fin 6144 := ⟨128 * (J.val / 128) + e.val, by omega⟩

/-- The smoothed and rotated queries, the smoothed and rotated keys, and the values: 32, 8 and 8 heads of 128 columns. -/
def outAt (A : Fin 1152 → Fin 6144 → EReal) (c s : Fin 1152 → Fin 64 → EReal) (sm : Fin 8 → Fin 128 → EReal) (i : Fin 1152) (J : Fin 6144) : EReal :=
  if h : J.val < 4096 then rope (fun e => A i (inHead J e)) (c i) (s i) (dIn J) * sm ⟨J.val / 512, by omega⟩ (dIn J)
  else if h' : J.val < 5120 then Ideal.div (rope (fun e => A i (inHead J e)) (c i) (s i) (dIn J)) (sm ⟨(J.val - 4096) / 128, by omega⟩ (dIn J))
  else A i J

/-- Column `j` of the keys and values is this column of all. -/
def kvCol (j : Fin 2048) : Fin 6144 := ⟨4096 + j.val, by omega⟩

/-- The bytes of the keys and values: each head of each row under its own scale. -/
def byteAt (X : Fin 1152 → Fin 6144 → EReal) (i : Fin 1152) (j : Fin 2048) : BitVec 8 :=
  Cert.Quant.code (X i (kvCol j)) (Cert.Quant.halfScale fun e => X i (inHead (kvCol j) e))

/-- The scale of head `4 b + h` of the keys and values. -/
def scaleAt (X : Fin 1152 → Fin 6144 → EReal) (b : Fin 4) (i : Fin 1152) (h : Fin 4) : EReal :=
  Cert.Quant.halfScale fun e : Fin 128 => X i ⟨4096 + 512 * b.val + 128 * h.val + e.val, by omega⟩

end Cert.QkvSpec

end
-- ==== Proof.QkvHead.lean ====
/- One head of the query, key and value product at a row and a column: the rotary embedding, the smoothing and the quantisation. -/
module

public import proofs.«01_k».proof.Proof.QkvSpec
public import proofs.«01_k».proof.Proof.Gen.QkvIdeal.Skeleton
public import Idealize.ShloMosaic.Lib.Pipeline.ValueKit
public import Idealize.ShloMosaic.Lib.KernelVsHost
public import Idealize.ShloMosaic.Lib.Pointwise

@[expose] public section

set_option maxRecDepth 16384

noncomputable section

namespace Cert.QkvIdeal.Head

open Cert.QkvIdeal Cert.QkvIdeal.Gen Idealize.ShloMosaic Idealize.ShloMosaic.TcCoe Idealize.SL.Sem

/-- The other half's column of a head. -/
def flip (d : Fin 128) : Fin 128 := ⟨(d.val + 64) % 128, Nat.mod_lt _ (by decide)⟩

theorem roll_at (v : Vec Ideal S1152x128 .f32) (i : Fin 1152) (d : Fin 128) :
    dynamicRotate 1 64#32 none v rotates_S1152x128_d1 (ix2 i d) = v (ix2 i (flip d)) := by
  refine dynamicRotate_apply (1 : Fin 2) 64#32 v _ _ _ fun b => ?_
  match b with
  | ⟨0, _⟩ => rfl
  | ⟨1, _⟩ => exact (show (d.val + 64) % 128 = (d.val + 128 - 64) % 128 by omega)

/-- A rotated number of a head. -/
def rope (v : Vec Ideal S1152x128 .f32) (C S : Vec Ideal S1152x128 .f32) (i : Fin 1152) (d : Fin 128) : EReal :=
  v (ix2 i d) * C (ix2 i d) + v (ix2 i (flip d)) * S (ix2 i d)

theorem key_at (v : Vec Ideal S1152x128 .f32) (s : Vec Ideal S1x128 .f32) (C S : Vec Ideal S1152x128 .f32) (i : Fin 1152) (d : Fin 128) :
    k0_pay7 (F := Ideal) v s C S (ix2 i d) = Ideal.div (rope v C S i d) (s (ix2 0 d)) := by
  unfold rope
  rw [← roll_at v i d]
  pointwise [k0_pay7]

/-- A query head's values. -/
def query (v : Vec Ideal S1152x128 .f32) (s : Vec Ideal S1x128 .f32) (C S : Vec Ideal S1152x128 .f32) : Vec Ideal S1152x128 .bf16 :=
  truncf (F := Ideal) .bf16 (mulf (F := Ideal) (addf (F := Ideal) (mulf (F := Ideal) v (shapeCast S1152x128 C shapeCasts_S1152x128_S1152x128))
    (mulf (F := Ideal) (dynamicRotate 1 64#32 none v rotates_S1152x128_d1) (shapeCast S1152x128 S shapeCasts_S1152x128_S1152x128)))
    (broadcastTo S1152x128 s broadcasts_S1x128_S1152x128)) bitsLt_bf16_f32

theorem query_at (v : Vec Ideal S1152x128 .f32) (s : Vec Ideal S1x128 .f32) (C S : Vec Ideal S1152x128 .f32) (i : Fin 1152) (d : Fin 128) :
    query v s C S (ix2 i d) = rope v C S i d * s (ix2 0 d) := by
  unfold rope
  rw [← roll_at v i d]
  pointwise [query]

/-- A head's scale at a row. -/
theorem scale_at (v : Vec Ideal S1152x128 .f32) (i : Fin 1152) : k0_pay4 (F := Ideal) v (ix2 i 0) = Cert.Quant.halfScale fun e : Fin 128 => v (ix2 i e) := by
  pointwise [k0_pay4]
  simp only [Cert.Quant.ofBits_half, EReal.add_sub_cancel_right, ite_self]
  unfold Cert.Quant.halfScale Cert.Quant.half Cert.Quant.scale Cert.Quant.amax
  rfl

/-- A head's byte at a row and a column. -/
theorem code_at (v : Vec Ideal S1152x128 .f32) (i : Fin 1152) (d : Fin 128) :
    k0_pay5 (F := Ideal) v (ix2 i d) = Cert.Quant.code (v (ix2 i d)) (Cert.Quant.halfScale fun e : Fin 128 => v (ix2 i e)) := by
  rw [← scale_at]
  pointwise [k0_pay5]
  rfl

/-- Column `e` of head `h` of a block. -/
def headCol (h : Fin 4) (e : Fin 128) : Fin 512 := ⟨128 * h.val + e.val, by omega⟩

/-- The head that holds a column of a block, and its place there. -/
def headOf (j : Fin 512) : Fin 4 := ⟨j.val / 128, by omega⟩
def dOf (j : Fin 512) : Fin 128 := ⟨j.val % 128, Nat.mod_lt _ (by decide)⟩

theorem headOf_col (h : Fin 4) (e : Fin 128) : headOf (headCol h e) = h := Fin.ext (by show (128 * h.val + e.val) / 128 = h.val; omega)
theorem dOf_col (h : Fin 4) (e : Fin 128) : dOf (headCol h e) = e := Fin.ext (by show (128 * h.val + e.val) % 128 = e.val; omega)
theorem col_of (j : Fin 512) : headCol (headOf j) (dOf j) = j := Fin.ext (by show 128 * (j.val / 128) + j.val % 128 = j.val; omega)

/-- One head of a block. -/
def pick (P : S1152x512.Idx → EReal) (h : Fin 4) : Vec Ideal S1152x128 .f32 := fun y => P (ix2 (y 0) (headCol h (y 1)))

/-- One head of the smoothing row. -/
def pickRow (x4 : Vec Ideal S1x512 .f32) (h : Fin 4) : Vec Ideal S1x128 .f32 := fun y => x4 (ix2 0 (headCol h (y 1)))

/-- A block's rotated numbers. -/
def ropeB (P : S1152x512.Idx → EReal) (C S : Vec Ideal S1152x128 .f32) (i : Fin 1152) (j : Fin 512) : EReal :=
  P (ix2 i j) * C (ix2 i (dOf j)) + P (ix2 i (headCol (headOf j) (flip (dOf j)))) * S (ix2 i (dOf j))

/-- A block of smoothed keys. -/
def keyB (P : S1152x512.Idx → EReal) (x4 : Vec Ideal S1x512 .f32) (C S : Vec Ideal S1152x128 .f32) : S1152x512.Idx → EReal :=
  fun p => Ideal.div (ropeB P C S (p 0) (p 1)) (x4 (ix2 0 (p 1)))

/-- A block of smoothed queries. -/
def queryB (P : S1152x512.Idx → EReal) (x4 : Vec Ideal S1x512 .f32) (C S : Vec Ideal S1152x128 .f32) : S1152x512.Idx → EReal :=
  fun p => ropeB P C S (p 0) (p 1) * x4 (ix2 0 (p 1))

/-- A block's bytes. -/
def bytesB (X : S1152x512.Idx → EReal) : Vec Ideal S1152x512 .i8 :=
  fun p => Cert.Quant.code (X p) (Cert.Quant.halfScale fun e : Fin 128 => X (ix2 (p 0) (headCol (headOf (p 1)) e)))

/-- A block's scales, one for each row and head. -/
def scalesB (X : S1152x512.Idx → EReal) : Vec Ideal S1x1152x4 .f32 :=
  fun p => Cert.Quant.halfScale fun e : Fin 128 => X (ix2 (p 1) (headCol (p 2) e))

theorem rope_pick (P : S1152x512.Idx → EReal) (C S : Vec Ideal S1152x128 .f32) (h : Fin 4) (i : Fin 1152) (d : Fin 128) :
    rope (pick P h) C S i d = ropeB P C S i (headCol h d) := by
  unfold rope ropeB
  rw [headOf_col, dOf_col]
  rfl

theorem key_pick (P : S1152x512.Idx → EReal) (x4 : Vec Ideal S1x512 .f32) (C S : Vec Ideal S1152x128 .f32) (h : Fin 4) :
    k0_pay7 (F := Ideal) (pick P h) (pickRow x4 h) C S = pick (keyB P x4 C S) h := by
  funext y
  obtain ⟨i, d, rfl⟩ : ∃ (i : Fin 1152) (d : Fin 128), y = ix2 i d := ⟨y 0, y 1, eq_ix2 y⟩
  rw [key_at, rope_pick]
  rfl

theorem query_pick (P : S1152x512.Idx → EReal) (x4 : Vec Ideal S1x512 .f32) (C S : Vec Ideal S1152x128 .f32) (h : Fin 4) :
    query (pick P h) (pickRow x4 h) C S = pick (queryB P x4 C S) h := by
  funext y
  obtain ⟨i, d, rfl⟩ : ∃ (i : Fin 1152) (d : Fin 128), y = ix2 i d := ⟨y 0, y 1, eq_ix2 y⟩
  rw [query_at, rope_pick]
  rfl

/-- A head cut out of a block. -/
theorem slice_pick (P : Vec Ideal S1152x512 .f32) (h : Fin 4) (off : Fin 2 → ℕ) (sl : S1152x512.Slices off S1152x128) (h0 : off 0 = 0) (h1 : off 1 = 128 * h.val) :
    extractStridedSlice S1152x128 off P sl = pick P h := by
  funext y
  unfold extractStridedSlice pick
  refine congrArg P (funext fun a => Fin.ext ?_)
  match a with
  | ⟨0, _⟩ => show off 0 + (y 0).val = (y 0).val; omega
  | ⟨1, _⟩ => show off 1 + (y 1).val = 128 * h.val + (y 1).val; omega

/-- A head of the smoothing row as it is loaded. -/
theorem load_pick (x4 : Vec Ideal S1x512 .f32) (h : Fin 4) (off : Fin 2 → ℕ) (inb : ∀ a, off a + S1x128.size a ≤ S1x512.size a) (sc : S1x128.ShapeCasts S1x128)
    (h0 : off 0 = 0) (h1 : off 1 = 128 * h.val) :
    shapeCast S1x128 (View.ld (Val := Elt Ideal) (e' := .f32) x4 (Rect.unit off S1x128.size inb)) sc = pickRow x4 h := by
  funext y
  refine (shapeCast_apply _ sc y y rfl).trans ?_
  unfold pickRow
  refine congrArg x4 (funext fun a => Fin.ext ?_)
  match a with
  | ⟨0, _⟩ => show off 0 + 1 * (y 0).val = 0; have : (y 0).val < 1 := (y 0).isLt; omega
  | ⟨1, _⟩ => show off 1 + 1 * (y 1).val = 128 * h.val + (y 1).val; omega

/-- Where a head's store lies in its block. -/
theorem store_emb (h : Fin 4) (off : Fin 2 → ℕ) (inb : ∀ a, off a + S1152x128.size a ≤ S1152x512.size a) (h0 : off 0 = 0) (h1 : off 1 = 128 * h.val) (i : Fin 1152) (d : Fin 128) :
    (Rect.unit (s := S1152x512) off S1152x128.size inb).emb (ix2 i d) = (ix2 i (headCol h d) : S1152x512.Idx) := funext fun a => Fin.ext (by
  match a with
  | ⟨0, _⟩ => show off 0 + 1 * i.val = i.val; omega
  | ⟨1, _⟩ => show off 1 + 1 * d.val = 128 * h.val + d.val; omega)

/-- A head's numbers stored at its columns. -/
theorem piece_pick (X : S1152x512.Idx → EReal) (h : Fin 4) (off : Fin 2 → ℕ) (inb : ∀ a, off a + S1152x128.size a ≤ S1152x512.size a) (h0 : off 0 = 0) (h1 : off 1 = 128 * h.val)
    (v : S1152x128.Idx → EReal) (hv : v = pick X h) (x : S1152x128.Idx) : v x = X ((Rect.unit (s := S1152x512) off S1152x128.size inb).emb x) := by
  obtain ⟨i, d, rfl⟩ : ∃ (i : Fin 1152) (d : Fin 128), x = ix2 i d := ⟨x 0, x 1, eq_ix2 x⟩
  rw [store_emb h off inb h0 h1, hv]
  rfl

/-- A head's bytes stored at its columns. -/
theorem piece_bytes (X : S1152x512.Idx → EReal) (h : Fin 4) (off : Fin 2 → ℕ) (inb : ∀ a, off a + S1152x128.size a ≤ S1152x512.size a) (h0 : off 0 = 0) (h1 : off 1 = 128 * h.val)
    (v : Vec Ideal S1152x128 .f32) (hv : v = pick X h) (x : S1152x128.Idx) : k0_pay5 (F := Ideal) v x = bytesB X ((Rect.unit (s := S1152x512) off S1152x128.size inb).emb x) := by
  obtain ⟨i, d, rfl⟩ : ∃ (i : Fin 1152) (d : Fin 128), x = ix2 i d := ⟨x 0, x 1, eq_ix2 x⟩
  rw [store_emb h off inb h0 h1, hv, code_at]
  show _ = Cert.Quant.code (X (ix2 i (headCol h d))) (Cert.Quant.halfScale fun e : Fin 128 => X (ix2 i (headCol (headOf (headCol h d)) e)))
  rw [headOf_col]
  rfl

/-- A head's scales stored at its place. -/
theorem piece_scales (X : S1152x512.Idx → EReal) (h : Fin 4) (off : Fin 3 → ℕ) (inb : ∀ a, off a + S1x1152x1.size a ≤ S1x1152x4.size a) (h0 : off 0 = 0) (h1 : off 1 = 0) (h2 : off 2 = h.val)
    (v : Vec Ideal S1152x128 .f32) (hv : v = pick X h) (x : S1x1152x1.Idx) : k0_pay6 (F := Ideal) v x = scalesB X ((Rect.unit (s := S1x1152x4) off S1x1152x1.size inb).emb x) := by
  obtain ⟨a, i, b, rfl⟩ : ∃ (a : Fin 1) (i : Fin 1152) (b : Fin 1), x = ix3 a i b := ⟨x 0, x 1, x 2, eq_ix3 x⟩
  obtain rfl : a = 0 := Subsingleton.elim _ _
  obtain rfl : b = 0 := Subsingleton.elim _ _
  have e : (Rect.unit (s := S1x1152x4) off S1x1152x1.size inb).emb (ix3 0 i 0) = (ix3 0 i h : S1x1152x4.Idx) := funext fun a => Fin.ext (by
    match a with
    | ⟨0, _⟩ => show off 0 + 1 * 0 = 0; omega
    | ⟨1, _⟩ => show off 1 + 1 * i.val = i.val; omega
    | ⟨2, _⟩ => show off 2 + 1 * 0 = h.val; omega)
  have e6 : k0_pay6 (F := Ideal) v (ix3 0 i 0) = k0_pay4 (F := Ideal) v (ix2 i 0) := by
    unfold k0_pay6
    refine shapeCast_apply _ _ _ _ ?_
    rw [Shape.rowMajor_val_two, Shape.rowMajor_val_three]
    show i.val * 1 + 0 = (0 * 1152 + i.val) * 1 + 0
    omega
  rw [e, e6, scale_at, hv]
  rfl

end Cert.QkvIdeal.Head

end
-- ==== Proof.QkvBlock.lean ====
/- What one step of the query, key and value product leaves in its blocks. -/
module

public import proofs.«01_k».proof.Proof.Tile
public import proofs.«01_k».proof.Proof.QkvHead
public import proofs.«01_k».proof.Proof.Gen.QkvIdeal.Value
public import Idealize.ShloMosaic.Lib.Pipeline.ValueKit
public import Idealize.ShloMosaic.Lib.Pointwise

@[expose] public section

set_option maxRecDepth 16384

noncomputable section

namespace Cert.QkvIdeal.Block

open Cert.QkvIdeal Cert.QkvIdeal.Gen Idealize.ShloMosaic Idealize.ShloMosaic.TcCoe Idealize.SL.Sem

/-- Row `r` of the weights comes from row `r / 2` of the code bytes and from group `r / 128`. -/
theorem hk : ∀ r, r < 4096 → r / 2 < 2048 ∧ r / 128 < 32 := fun r h => by omega

/-- The unpacked weights as the kernel stores them, one group after the other, the last one first. -/
def stores (x5 : Vec Ideal S2048x512 .i8) (x6 x7 : Vec Ideal S32x512 .i8) : List (View.Piece (Elt Ideal) S4096x512 .bf16) := [
  ⟨Rect.unit (s := S4096x512) ![3968, 0] S128x512.size inb_S4096x512_S128x512_3968_0, Cert.W4.tile ![31, 0] slices_S32x512_o31_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1984, 0] S64x512.size inb_S2048x512_S64x512_1984_0))⟩,
  ⟨Rect.unit (s := S4096x512) ![3840, 0] S128x512.size inb_S4096x512_S128x512_3840_0, Cert.W4.tile ![30, 0] slices_S32x512_o30_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1920, 0] S64x512.size inb_S2048x512_S64x512_1920_0))⟩,
  ⟨Rect.unit (s := S4096x512) ![3712, 0] S128x512.size inb_S4096x512_S128x512_3712_0, Cert.W4.tile ![29, 0] slices_S32x512_o29_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1856, 0] S64x512.size inb_S2048x512_S64x512_1856_0))⟩,
  ⟨Rect.unit (s := S4096x512) ![3584, 0] S128x512.size inb_S4096x512_S128x512_3584_0, Cert.W4.tile ![28, 0] slices_S32x512_o28_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1792, 0] S64x512.size inb_S2048x512_S64x512_1792_0))⟩,
  ⟨Rect.unit (s := S4096x512) ![3456, 0] S128x512.size inb_S4096x512_S128x512_3456_0, Cert.W4.tile ![27, 0] slices_S32x512_o27_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1728, 0] S64x512.size inb_S2048x512_S64x512_1728_0))⟩,
  ⟨Rect.unit (s := S4096x512) ![3328, 0] S128x512.size inb_S4096x512_S128x512_3328_0, Cert.W4.tile ![26, 0] slices_S32x512_o26_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1664, 0] S64x512.size inb_S2048x512_S64x512_1664_0))⟩,
  ⟨Rect.unit (s := S4096x512) ![3200, 0] S128x512.size inb_S4096x512_S128x512_3200_0, Cert.W4.tile ![25, 0] slices_S32x512_o25_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1600, 0] S64x512.size inb_S2048x512_S64x512_1600_0))⟩,
  ⟨Rect.unit (s := S4096x512) ![3072, 0] S128x512.size inb_S4096x512_S128x512_3072_0, Cert.W4.tile ![24, 0] slices_S32x512_o24_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1536, 0] S64x512.size inb_S2048x512_S64x512_1536_0))⟩,
  ⟨Rect.unit (s := S4096x512) ![2944, 0] S128x512.size inb_S4096x512_S128x512_2944_0, Cert.W4.tile ![23, 0] slices_S32x512_o23_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1472, 0] S64x512.size inb_S2048x512_S64x512_1472_0))⟩,
  ⟨Rect.unit (s := S4096x512) ![2816, 0] S128x512.size inb_S4096x512_S128x512_2816_0, Cert.W4.tile ![22, 0] slices_S32x512_o22_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1408, 0] S64x512.size inb_S2048x512_S64x512_1408_0))⟩,
  ⟨Rect.unit (s := S4096x512) ![2688, 0] S128x512.size inb_S4096x512_S128x512_2688_0, Cert.W4.tile ![21, 0] slices_S32x512_o21_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1344, 0] S64x512.size inb_S2048x512_S64x512_1344_0))⟩,
  ⟨Rect.unit (s := S4096x512) ![2560, 0] S128x512.size inb_S4096x512_S128x512_2560_0, Cert.W4.tile ![20, 0] slices_S32x512_o20_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1280, 0] S64x512.size inb_S2048x512_S64x512_1280_0))⟩,
  ⟨Rect.unit (s := S4096x512) ![2432, 0] S128x512.size inb_S4096x512_S128x512_2432_0, Cert.W4.tile ![19, 0] slices_S32x512_o19_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1216, 0] S64x512.size inb_S2048x512_S64x512_1216_0))⟩,
  ⟨Rect.unit (s := S4096x512) ![2304, 0] S128x512.size inb_S4096x512_S128x512_2304_0, Cert.W4.tile ![18, 0] slices_S32x512_o18_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1152, 0] S64x512.size inb_S2048x512_S64x512_1152_0))⟩,
  ⟨Rect.unit (s := S4096x512) ![2176, 0] S128x512.size inb_S4096x512_S128x512_2176_0, Cert.W4.tile ![17, 0] slices_S32x512_o17_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1088, 0] S64x512.size inb_S2048x512_S64x512_1088_0))⟩,
  ⟨Rect.unit (s := S4096x512) ![2048, 0] S128x512.size inb_S4096x512_S128x512_2048_0, Cert.W4.tile ![16, 0] slices_S32x512_o16_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![1024, 0] S64x512.size inb_S2048x512_S64x512_1024_0))⟩,
  ⟨Rect.unit (s := S4096x512) ![1920, 0] S128x512.size inb_S4096x512_S128x512_1920_0, Cert.W4.tile ![15, 0] slices_S32x512_o15_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![960, 0] S64x512.size inb_S2048x512_S64x512_960_0))⟩,
  ⟨Rect.unit (s := S4096x512) ![1792, 0] S128x512.size inb_S4096x512_S128x512_1792_0, Cert.W4.tile ![14, 0] slices_S32x512_o14_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![896, 0] S64x512.size inb_S2048x512_S64x512_896_0))⟩,
  ⟨Rect.unit (s := S4096x512) ![1664, 0] S128x512.size inb_S4096x512_S128x512_1664_0, Cert.W4.tile ![13, 0] slices_S32x512_o13_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![832, 0] S64x512.size inb_S2048x512_S64x512_832_0))⟩,
  ⟨Rect.unit (s := S4096x512) ![1536, 0] S128x512.size inb_S4096x512_S128x512_1536_0, Cert.W4.tile ![12, 0] slices_S32x512_o12_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![768, 0] S64x512.size inb_S2048x512_S64x512_768_0))⟩,
  ⟨Rect.unit (s := S4096x512) ![1408, 0] S128x512.size inb_S4096x512_S128x512_1408_0, Cert.W4.tile ![11, 0] slices_S32x512_o11_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![704, 0] S64x512.size inb_S2048x512_S64x512_704_0))⟩,
  ⟨Rect.unit (s := S4096x512) ![1280, 0] S128x512.size inb_S4096x512_S128x512_1280_0, Cert.W4.tile ![10, 0] slices_S32x512_o10_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![640, 0] S64x512.size inb_S2048x512_S64x512_640_0))⟩,
  ⟨Rect.unit (s := S4096x512) ![1152, 0] S128x512.size inb_S4096x512_S128x512_1152_0, Cert.W4.tile ![9, 0] slices_S32x512_o9_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![576, 0] S64x512.size inb_S2048x512_S64x512_576_0))⟩,
  ⟨Rect.unit (s := S4096x512) ![1024, 0] S128x512.size inb_S4096x512_S128x512_1024_0, Cert.W4.tile ![8, 0] slices_S32x512_o8_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![512, 0] S64x512.size inb_S2048x512_S64x512_512_0))⟩,
  ⟨Rect.unit (s := S4096x512) ![896, 0] S128x512.size inb_S4096x512_S128x512_896_0, Cert.W4.tile ![7, 0] slices_S32x512_o7_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![448, 0] S64x512.size inb_S2048x512_S64x512_448_0))⟩,
  ⟨Rect.unit (s := S4096x512) ![768, 0] S128x512.size inb_S4096x512_S128x512_768_0, Cert.W4.tile ![6, 0] slices_S32x512_o6_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![384, 0] S64x512.size inb_S2048x512_S64x512_384_0))⟩,
  ⟨Rect.unit (s := S4096x512) ![640, 0] S128x512.size inb_S4096x512_S128x512_640_0, Cert.W4.tile ![5, 0] slices_S32x512_o5_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![320, 0] S64x512.size inb_S2048x512_S64x512_320_0))⟩,
  ⟨Rect.unit (s := S4096x512) ![512, 0] S128x512.size inb_S4096x512_S128x512_512_0, Cert.W4.tile ![4, 0] slices_S32x512_o4_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![256, 0] S64x512.size inb_S2048x512_S64x512_256_0))⟩,
  ⟨Rect.unit (s := S4096x512) ![384, 0] S128x512.size inb_S4096x512_S128x512_384_0, Cert.W4.tile ![3, 0] slices_S32x512_o3_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![192, 0] S64x512.size inb_S2048x512_S64x512_192_0))⟩,
  ⟨Rect.unit (s := S4096x512) ![256, 0] S128x512.size inb_S4096x512_S128x512_256_0, Cert.W4.tile ![2, 0] slices_S32x512_o2_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![128, 0] S64x512.size inb_S2048x512_S64x512_128_0))⟩,
  ⟨Rect.unit (s := S4096x512) ![128, 0] S128x512.size inb_S4096x512_S128x512_128_0, Cert.W4.tile ![1, 0] slices_S32x512_o1_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![64, 0] S64x512.size inb_S2048x512_S64x512_64_0))⟩,
  ⟨Rect.unit (s := S4096x512) ![0, 0] S128x512.size inb_S4096x512_S128x512_0_0, Cert.W4.tile ![0, 0] slices_S32x512_o0_0_S1x512 broadcasts_S1x512_S64x512 bitcasts_S64x512_w32_S128x512_w16 shapeCasts_S128x512_S128x512 (Cert.W4.scaleWord (k0_pay28 x6)) (Cert.W4.zeroWord (k0_pay28 x6) (extsi 32 x7 natLt_8_32)) (View.ld (Val := Elt Ideal) (e' := .i8) x5 (Rect.unit ![0, 0] S64x512.size inb_S2048x512_S64x512_0_0))⟩]

/-- The stores read back as the weights. -/
theorem readW (x5 : Vec Ideal S2048x512 .i8) (x6 x7 : Vec Ideal S32x512 .i8) {sig : RefSig} {κ : Kind} {sp : Space} (v : View sig κ sp S4096x512 .bf16)
    (L : List (View.Piece (Elt Ideal) S4096x512 .bf16)) (hL : L = stores x5 x6 x7) {off : Fin 2 → ℕ} (inb : ∀ a, off a + S4096x512.size a ≤ S4096x512.size a) (h : off = fun _ => 0) :
    v.readCov L (Rect.unit off S4096x512.size inb).toLoadRect = Cert.W4.weights hk x5 x6 x7 := by
  subst hL
  refine Cert.W4.readCov_pieces (Val := Elt Ideal) (S := S4096x512) _ _ S128x512.size _ _ h ?ht ?hp
  case ht => sl_kernel_rfl
  case hp =>
    refine List.forall_mem_cons.2 ⟨fun x => Cert.W4.piece hk 31 ![31, 0] slices_S32x512_o31_0_S1x512 broadcasts_S1x512_S64x512 bitcasts_S64x512_w32_S128x512_w16 shapeCasts_S128x512_S128x512 (k0_pay28 x6) (extsi 32 x7 natLt_8_32) x5 x6 x7 (fun _ => rfl) (fun _ => rfl) ![1984, 0] ![3968, 0] inb_S2048x512_S64x512_1984_0 inb_S4096x512_S128x512_3968_0 rfl rfl rfl rfl rfl rfl x, ?_⟩
    refine List.forall_mem_cons.2 ⟨fun x => Cert.W4.piece hk 30 ![30, 0] slices_S32x512_o30_0_S1x512 broadcasts_S1x512_S64x512 bitcasts_S64x512_w32_S128x512_w16 shapeCasts_S128x512_S128x512 (k0_pay28 x6) (extsi 32 x7 natLt_8_32) x5 x6 x7 (fun _ => rfl) (fun _ => rfl) ![1920, 0] ![3840, 0] inb_S2048x512_S64x512_1920_0 inb_S4096x512_S128x512_3840_0 rfl rfl rfl rfl rfl rfl x, ?_⟩
    refine List.forall_mem_cons.2 ⟨fun x => Cert.W4.piece hk 29 ![29, 0] slices_S32x512_o29_0_S1x512 broadcasts_S1x512_S64x512 bitcasts_S64x512_w32_S128x512_w16 shapeCasts_S128x512_S128x512 (k0_pay28 x6) (extsi 32 x7 natLt_8_32) x5 x6 x7 (fun _ => rfl) (fun _ => rfl) ![1856, 0] ![3712, 0] inb_S2048x512_S64x512_1856_0 inb_S4096x512_S128x512_3712_0 rfl rfl rfl rfl rfl rfl x, ?_⟩
    refine List.forall_mem_cons.2 ⟨fun x => Cert.W4.piece hk 28 ![28, 0] slices_S32x512_o28_0_S1x512 broadcasts_S1x512_S64x512 bitcasts_S64x512_w32_S128x512_w16 shapeCasts_S128x512_S128x512 (k0_pay28 x6) (extsi 32 x7 natLt_8_32) x5 x6 x7 (fun _ => rfl) (fun _ => rfl) ![1792, 0] ![3584, 0] inb_S2048x512_S64x512_1792_0 inb_S4096x512_S128x512_3584_0 rfl rfl rfl rfl rfl rfl x, ?_⟩
    refine List.forall_mem_cons.2 ⟨fun x => Cert.W4.piece hk 27 ![27, 0] slices_S32x512_o27_0_S1x512 broadcasts_S1x512_S64x512 bitcasts_S64x512_w32_S128x512_w16 shapeCasts_S128x512_S128x512 (k0_pay28 x6) (extsi 32 x7 natLt_8_32) x5 x6 x7 (fun _ => rfl) (fun _ => rfl) ![1728, 0] ![3456, 0] inb_S2048x512_S64x512_1728_0 inb_S4096x512_S128x512_3456_0 rfl rfl rfl rfl rfl rfl x, ?_⟩
    refine List.forall_mem_cons.2 ⟨fun x => Cert.W4.piece hk 26 ![26, 0] slices_S32x512_o26_0_S1x512 broadcasts_S1x512_S64x512 bitcasts_S64x512_w32_S128x512_w16 shapeCasts_S128x512_S128x512 (k0_pay28 x6) (extsi 32 x7 natLt_8_32) x5 x6 x7 (fun _ => rfl) (fun _ => rfl) ![1664, 0] ![3328, 0] inb_S2048x512_S64x512_1664_0 inb_S4096x512_S128x512_3328_0 rfl rfl rfl rfl rfl rfl x, ?_⟩
    refine List.forall_mem_cons.2 ⟨fun x => Cert.W4.piece hk 25 ![25, 0] slices_S32x512_o25_0_S1x512 broadcasts_S1x512_S64x512 bitcasts_S64x512_w32_S128x512_w16 shapeCasts_S128x512_S128x512 (k0_pay28 x6) (extsi 32 x7 natLt_8_32) x5 x6 x7 (fun _ => rfl) (fun _ => rfl) ![1600, 0] ![3200, 0] inb_S2048x512_S64x512_1600_0 inb_S4096x512_S128x512_3200_0 rfl rfl rfl rfl rfl rfl x, ?_⟩
    refine List.forall_mem_cons.2 ⟨fun x => Cert.W4.piece hk 24 ![24, 0] slices_S32x512_o24_0_S1x512 broadcasts_S1x512_S64x512 bitcasts_S64x512_w32_S128x512_w16 shapeCasts_S128x512_S128x512 (k0_pay28 x6) (extsi 32 x7 natLt_8_32) x5 x6 x7 (fun _ => rfl) (fun _ => rfl) ![1536, 0] ![3072, 0] inb_S2048x512_S64x512_1536_0 inb_S4096x512_S128x512_3072_0 rfl rfl rfl rfl rfl rfl x, ?_⟩
    refine List.forall_mem_cons.2 ⟨fun x => Cert.W4.piece hk 23 ![23, 0] slices_S32x512_o23_0_S1x512 broadcasts_S1x512_S64x512 bitcasts_S64x512_w32_S128x512_w16 shapeCasts_S128x512_S128x512 (k0_pay28 x6) (extsi 32 x7 natLt_8_32) x5 x6 x7 (fun _ => rfl) (fun _ => rfl) ![1472, 0] ![2944, 0] inb_S2048x512_S64x512_1472_0 inb_S4096x512_S128x512_2944_0 rfl rfl rfl rfl rfl rfl x, ?_⟩
    refine List.forall_mem_cons.2 ⟨fun x => Cert.W4.piece hk 22 ![22, 0] slices_S32x512_o22_0_S1x512 broadcasts_S1x512_S64x512 bitcasts_S64x512_w32_S128x512_w16 shapeCasts_S128x512_S128x512 (k0_pay28 x6) (extsi 32 x7 natLt_8_32) x5 x6 x7 (fun _ => rfl) (fun _ => rfl) ![1408, 0] ![2816, 0] inb_S2048x512_S64x512_1408_0 inb_S4096x512_S128x512_2816_0 rfl rfl rfl rfl rfl rfl x, ?_⟩
    refine List.forall_mem_cons.2 ⟨fun x => Cert.W4.piece hk 21 ![21, 0] slices_S32x512_o21_0_S1x512 broadcasts_S1x512_S64x512 bitcasts_S64x512_w32_S128x512_w16 shapeCasts_S128x512_S128x512 (k0_pay28 x6) (extsi 32 x7 natLt_8_32) x5 x6 x7 (fun _ => rfl) (fun _ => rfl) ![1344, 0] ![2688, 0] inb_S2048x512_S64x512_1344_0 inb_S4096x512_S128x512_2688_0 rfl rfl rfl rfl rfl rfl x, ?_⟩
    refine List.forall_mem_cons.2 ⟨fun x => Cert.W4.piece hk 20 ![20, 0] slices_S32x512_o20_0_S1x512 broadcasts_S1x512_S64x512 bitcasts_S64x512_w32_S128x512_w16 shapeCasts_S128x512_S128x512 (k0_pay28 x6) (extsi 32 x7 natLt_8_32) x5 x6 x7 (fun _ => rfl) (fun _ => rfl) ![1280, 0] ![2560, 0] inb_S2048x512_S64x512_1280_0 inb_S4096x512_S128x512_2560_0 rfl rfl rfl rfl rfl rfl x, ?_⟩
    refine List.forall_mem_cons.2 ⟨fun x => Cert.W4.piece hk 19 ![19, 0] slices_S32x512_o19_0_S1x512 broadcasts_S1x512_S64x512 bitcasts_S64x512_w32_S128x512_w16 shapeCasts_S128x512_S128x512 (k0_pay28 x6) (extsi 32 x7 natLt_8_32) x5 x6 x7 (fun _ => rfl) (fun _ => rfl) ![1216, 0] ![2432, 0] inb_S2048x512_S64x512_1216_0 inb_S4096x512_S128x512_2432_0 rfl rfl rfl rfl rfl rfl x, ?_⟩
    refine List.forall_mem_cons.2 ⟨fun x => Cert.W4.piece hk 18 ![18, 0] slices_S32x512_o18_0_S1x512 broadcasts_S1x512_S64x512 bitcasts_S64x512_w32_S128x512_w16 shapeCasts_S128x512_S128x512 (k0_pay28 x6) (extsi 32 x7 natLt_8_32) x5 x6 x7 (fun _ => rfl) (fun _ => rfl) ![1152, 0] ![2304, 0] inb_S2048x512_S64x512_1152_0 inb_S4096x512_S128x512_2304_0 rfl rfl rfl rfl rfl rfl x, ?_⟩
    refine List.forall_mem_cons.2 ⟨fun x => Cert.W4.piece hk 17 ![17, 0] slices_S32x512_o17_0_S1x512 broadcasts_S1x512_S64x512 bitcasts_S64x512_w32_S128x512_w16 shapeCasts_S128x512_S128x512 (k0_pay28 x6) (extsi 32 x7 natLt_8_32) x5 x6 x7 (fun _ => rfl) (fun _ => rfl) ![1088, 0] ![2176, 0] inb_S2048x512_S64x512_1088_0 inb_S4096x512_S128x512_2176_0 rfl rfl rfl rfl rfl rfl x, ?_⟩
    refine List.forall_mem_cons.2 ⟨fun x => Cert.W4.piece hk 16 ![16, 0] slices_S32x512_o16_0_S1x512 broadcasts_S1x512_S64x512 bitcasts_S64x512_w32_S128x512_w16 shapeCasts_S128x512_S128x512 (k0_pay28 x6) (extsi 32 x7 natLt_8_32) x5 x6 x7 (fun _ => rfl) (fun _ => rfl) ![1024, 0] ![2048, 0] inb_S2048x512_S64x512_1024_0 inb_S4096x512_S128x512_2048_0 rfl rfl rfl rfl rfl rfl x, ?_⟩
    refine List.forall_mem_cons.2 ⟨fun x => Cert.W4.piece hk 15 ![15, 0] slices_S32x512_o15_0_S1x512 broadcasts_S1x512_S64x512 bitcasts_S64x512_w32_S128x512_w16 shapeCasts_S128x512_S128x512 (k0_pay28 x6) (extsi 32 x7 natLt_8_32) x5 x6 x7 (fun _ => rfl) (fun _ => rfl) ![960, 0] ![1920, 0] inb_S2048x512_S64x512_960_0 inb_S4096x512_S128x512_1920_0 rfl rfl rfl rfl rfl rfl x, ?_⟩
    refine List.forall_mem_cons.2 ⟨fun x => Cert.W4.piece hk 14 ![14, 0] slices_S32x512_o14_0_S1x512 broadcasts_S1x512_S64x512 bitcasts_S64x512_w32_S128x512_w16 shapeCasts_S128x512_S128x512 (k0_pay28 x6) (extsi 32 x7 natLt_8_32) x5 x6 x7 (fun _ => rfl) (fun _ => rfl) ![896, 0] ![1792, 0] inb_S2048x512_S64x512_896_0 inb_S4096x512_S128x512_1792_0 rfl rfl rfl rfl rfl rfl x, ?_⟩
    refine List.forall_mem_cons.2 ⟨fun x => Cert.W4.piece hk 13 ![13, 0] slices_S32x512_o13_0_S1x512 broadcasts_S1x512_S64x512 bitcasts_S64x512_w32_S128x512_w16 shapeCasts_S128x512_S128x512 (k0_pay28 x6) (extsi 32 x7 natLt_8_32) x5 x6 x7 (fun _ => rfl) (fun _ => rfl) ![832, 0] ![1664, 0] inb_S2048x512_S64x512_832_0 inb_S4096x512_S128x512_1664_0 rfl rfl rfl rfl rfl rfl x, ?_⟩
    refine List.forall_mem_cons.2 ⟨fun x => Cert.W4.piece hk 12 ![12, 0] slices_S32x512_o12_0_S1x512 broadcasts_S1x512_S64x512 bitcasts_S64x512_w32_S128x512_w16 shapeCasts_S128x512_S128x512 (k0_pay28 x6) (extsi 32 x7 natLt_8_32) x5 x6 x7 (fun _ => rfl) (fun _ => rfl) ![768, 0] ![1536, 0] inb_S2048x512_S64x512_768_0 inb_S4096x512_S128x512_1536_0 rfl rfl rfl rfl rfl rfl x, ?_⟩
    refine List.forall_mem_cons.2 ⟨fun x => Cert.W4.piece hk 11 ![11, 0] slices_S32x512_o11_0_S1x512 broadcasts_S1x512_S64x512 bitcasts_S64x512_w32_S128x512_w16 shapeCasts_S128x512_S128x512 (k0_pay28 x6) (extsi 32 x7 natLt_8_32) x5 x6 x7 (fun _ => rfl) (fun _ => rfl) ![704, 0] ![1408, 0] inb_S2048x512_S64x512_704_0 inb_S4096x512_S128x512_1408_0 rfl rfl rfl rfl rfl rfl x, ?_⟩
    refine List.forall_mem_cons.2 ⟨fun x => Cert.W4.piece hk 10 ![10, 0] slices_S32x512_o10_0_S1x512 broadcasts_S1x512_S64x512 bitcasts_S64x512_w32_S128x512_w16 shapeCasts_S128x512_S128x512 (k0_pay28 x6) (extsi 32 x7 natLt_8_32) x5 x6 x7 (fun _ => rfl) (fun _ => rfl) ![640, 0] ![1280, 0] inb_S2048x512_S64x512_640_0 inb_S4096x512_S128x512_1280_0 rfl rfl rfl rfl rfl rfl x, ?_⟩
    refine List.forall_mem_cons.2 ⟨fun x => Cert.W4.piece hk 9 ![9, 0] slices_S32x512_o9_0_S1x512 broadcasts_S1x512_S64x512 bitcasts_S64x512_w32_S128x512_w16 shapeCasts_S128x512_S128x512 (k0_pay28 x6) (extsi 32 x7 natLt_8_32) x5 x6 x7 (fun _ => rfl) (fun _ => rfl) ![576, 0] ![1152, 0] inb_S2048x512_S64x512_576_0 inb_S4096x512_S128x512_1152_0 rfl rfl rfl rfl rfl rfl x, ?_⟩
    refine List.forall_mem_cons.2 ⟨fun x => Cert.W4.piece hk 8 ![8, 0] slices_S32x512_o8_0_S1x512 broadcasts_S1x512_S64x512 bitcasts_S64x512_w32_S128x512_w16 shapeCasts_S128x512_S128x512 (k0_pay28 x6) (extsi 32 x7 natLt_8_32) x5 x6 x7 (fun _ => rfl) (fun _ => rfl) ![512, 0] ![1024, 0] inb_S2048x512_S64x512_512_0 inb_S4096x512_S128x512_1024_0 rfl rfl rfl rfl rfl rfl x, ?_⟩
    refine List.forall_mem_cons.2 ⟨fun x => Cert.W4.piece hk 7 ![7, 0] slices_S32x512_o7_0_S1x512 broadcasts_S1x512_S64x512 bitcasts_S64x512_w32_S128x512_w16 shapeCasts_S128x512_S128x512 (k0_pay28 x6) (extsi 32 x7 natLt_8_32) x5 x6 x7 (fun _ => rfl) (fun _ => rfl) ![448, 0] ![896, 0] inb_S2048x512_S64x512_448_0 inb_S4096x512_S128x512_896_0 rfl rfl rfl rfl rfl rfl x, ?_⟩
    refine List.forall_mem_cons.2 ⟨fun x => Cert.W4.piece hk 6 ![6, 0] slices_S32x512_o6_0_S1x512 broadcasts_S1x512_S64x512 bitcasts_S64x512_w32_S128x512_w16 shapeCasts_S128x512_S128x512 (k0_pay28 x6) (extsi 32 x7 natLt_8_32) x5 x6 x7 (fun _ => rfl) (fun _ => rfl) ![384, 0] ![768, 0] inb_S2048x512_S64x512_384_0 inb_S4096x512_S128x512_768_0 rfl rfl rfl rfl rfl rfl x, ?_⟩
    refine List.forall_mem_cons.2 ⟨fun x => Cert.W4.piece hk 5 ![5, 0] slices_S32x512_o5_0_S1x512 broadcasts_S1x512_S64x512 bitcasts_S64x512_w32_S128x512_w16 shapeCasts_S128x512_S128x512 (k0_pay28 x6) (extsi 32 x7 natLt_8_32) x5 x6 x7 (fun _ => rfl) (fun _ => rfl) ![320, 0] ![640, 0] inb_S2048x512_S64x512_320_0 inb_S4096x512_S128x512_640_0 rfl rfl rfl rfl rfl rfl x, ?_⟩
    refine List.forall_mem_cons.2 ⟨fun x => Cert.W4.piece hk 4 ![4, 0] slices_S32x512_o4_0_S1x512 broadcasts_S1x512_S64x512 bitcasts_S64x512_w32_S128x512_w16 shapeCasts_S128x512_S128x512 (k0_pay28 x6) (extsi 32 x7 natLt_8_32) x5 x6 x7 (fun _ => rfl) (fun _ => rfl) ![256, 0] ![512, 0] inb_S2048x512_S64x512_256_0 inb_S4096x512_S128x512_512_0 rfl rfl rfl rfl rfl rfl x, ?_⟩
    refine List.forall_mem_cons.2 ⟨fun x => Cert.W4.piece hk 3 ![3, 0] slices_S32x512_o3_0_S1x512 broadcasts_S1x512_S64x512 bitcasts_S64x512_w32_S128x512_w16 shapeCasts_S128x512_S128x512 (k0_pay28 x6) (extsi 32 x7 natLt_8_32) x5 x6 x7 (fun _ => rfl) (fun _ => rfl) ![192, 0] ![384, 0] inb_S2048x512_S64x512_192_0 inb_S4096x512_S128x512_384_0 rfl rfl rfl rfl rfl rfl x, ?_⟩
    refine List.forall_mem_cons.2 ⟨fun x => Cert.W4.piece hk 2 ![2, 0] slices_S32x512_o2_0_S1x512 broadcasts_S1x512_S64x512 bitcasts_S64x512_w32_S128x512_w16 shapeCasts_S128x512_S128x512 (k0_pay28 x6) (extsi 32 x7 natLt_8_32) x5 x6 x7 (fun _ => rfl) (fun _ => rfl) ![128, 0] ![256, 0] inb_S2048x512_S64x512_128_0 inb_S4096x512_S128x512_256_0 rfl rfl rfl rfl rfl rfl x, ?_⟩
    refine List.forall_mem_cons.2 ⟨fun x => Cert.W4.piece hk 1 ![1, 0] slices_S32x512_o1_0_S1x512 broadcasts_S1x512_S64x512 bitcasts_S64x512_w32_S128x512_w16 shapeCasts_S128x512_S128x512 (k0_pay28 x6) (extsi 32 x7 natLt_8_32) x5 x6 x7 (fun _ => rfl) (fun _ => rfl) ![64, 0] ![128, 0] inb_S2048x512_S64x512_64_0 inb_S4096x512_S128x512_128_0 rfl rfl rfl rfl rfl rfl x, ?_⟩
    refine List.forall_mem_cons.2 ⟨fun x => Cert.W4.piece hk 0 ![0, 0] slices_S32x512_o0_0_S1x512 broadcasts_S1x512_S64x512 bitcasts_S64x512_w32_S128x512_w16 shapeCasts_S128x512_S128x512 (k0_pay28 x6) (extsi 32 x7 natLt_8_32) x5 x6 x7 (fun _ => rfl) (fun _ => rfl) ![0, 0] ![0, 0] inb_S2048x512_S64x512_0_0 inb_S4096x512_S128x512_0_0 rfl rfl rfl rfl rfl rfl x, ?_⟩
    exact fun p hp => absurd hp List.not_mem_nil

/-- The offsets of a whole read. -/
theorem zero2 : (![0, 0] : Fin 2 → ℕ) = fun _ => 0 := funext fun a => by match a with | ⟨0, _⟩ => rfl | ⟨1, _⟩ => rfl

/-- The block's product, scaled by the rows' and the columns' scales. -/
def prod (a : Vec Ideal S1152x4096 .bf16) (x1 : Vec Ideal S1152x1 .f32) (x5 : Vec Ideal S2048x512 .i8) (x6 x7 : Vec Ideal S32x512 .i8) (x8 : Vec Ideal S1x512 .f32) : Vec Ideal S1152x512 .f32 :=
  k0_pay97 (F := Ideal) (k0_pay96 (F := Ideal) a (Cert.W4.weights hk x5 x6 x7) x1) x8

/-- A head of the block, cut out and smoothed as a key. -/
theorem keys (P : Vec Ideal S1152x512 .f32) (x4 : Vec Ideal S1x512 .f32) (C S : Vec Ideal S1152x128 .f32) (h : Fin 4) (off : Fin 2 → ℕ)
    (sl : S1152x512.Slices off S1152x128) (inb : ∀ a, off a + S1x128.size a ≤ S1x512.size a) (sc : S1x128.ShapeCasts S1x128) (h0 : off 0 = 0) (h1 : off 1 = 128 * h.val) :
    k0_pay7 (F := Ideal) (extractStridedSlice S1152x128 off P sl) (shapeCast S1x128 (View.ld (Val := Elt Ideal) (e' := .f32) x4 (Rect.unit off S1x128.size inb)) sc) C S
      = Head.pick (Head.keyB P x4 C S) h := by
  rw [Head.slice_pick P h off sl h0 h1, Head.load_pick x4 h off inb sc h0 h1, Head.key_pick]

/-- A head of the block, cut out and smoothed as a query. -/
theorem queries (P : Vec Ideal S1152x512 .f32) (x4 : Vec Ideal S1x512 .f32) (C S : Vec Ideal S1152x128 .f32) (h : Fin 4) (off : Fin 2 → ℕ)
    (sl : S1152x512.Slices off S1152x128) (inb : ∀ a, off a + S1x128.size a ≤ S1x512.size a) (sc : S1x128.ShapeCasts S1x128) (h0 : off 0 = 0) (h1 : off 1 = 128 * h.val) :
    Head.query (extractStridedSlice S1152x128 off P sl) (shapeCast S1x128 (View.ld (Val := Elt Ideal) (e' := .f32) x4 (Rect.unit off S1x128.size inb)) sc) C S
      = Head.pick (Head.queryB P x4 C S) h := by
  rw [Head.slice_pick P h off sl h0 h1, Head.load_pick x4 h off inb sc h0 h1, Head.query_pick]

/-- The scales of a key head. -/
theorem keyScales3 (v : FVec Ideal S1152x128 .f32) (s : FVec Ideal S1x128 .f32) (C S : Vec Ideal S1152x128 .f32) :
    k0_pay2 (F := Ideal) (k0_pay24 (F := Ideal) v s C S) = k0_pay6 (F := Ideal) (k0_pay7 (F := Ideal) v s C S) := by
  unfold k0_pay2 k0_pay24 k0_pay6 k0_pay4 k0_pay22 k0_pay7
  rfl

/-- The scales of a key head. -/
theorem keyScales2 (v : FVec Ideal S1152x128 .f32) (s : FVec Ideal S1x128 .f32) (C S : Vec Ideal S1152x128 .f32) :
    k0_pay120 (F := Ideal) (k0_pay19 (F := Ideal) v s C S) = k0_pay6 (F := Ideal) (k0_pay7 (F := Ideal) v s C S) := by
  unfold k0_pay120 k0_pay19 k0_pay6 k0_pay4 k0_pay17 k0_pay7
  rfl

/-- The scales of a key head. -/
theorem keyScales1 (v : FVec Ideal S1152x128 .f32) (s : FVec Ideal S1x128 .f32) (C S : Vec Ideal S1152x128 .f32) :
    k0_pay111 (F := Ideal) (k0_pay14 (F := Ideal) v s C S) = k0_pay6 (F := Ideal) (k0_pay7 (F := Ideal) v s C S) := by
  unfold k0_pay111 k0_pay14 k0_pay6 k0_pay4 k0_pay12 k0_pay7
  rfl

/-- The scales of a key head. -/
theorem keyScales0 (v : FVec Ideal S1152x128 .f32) (s : FVec Ideal S1x128 .f32) (C S : Vec Ideal S1152x128 .f32) :
    k0_pay102 (F := Ideal) (k0_pay9 (F := Ideal) v s C S) = k0_pay6 (F := Ideal) (k0_pay7 (F := Ideal) v s C S) := by
  unfold k0_pay102 k0_pay9 k0_pay6 k0_pay4 k0_pay7
  rfl

/-- The scales of a value head. -/
theorem valueScales2 (v : FVec Ideal S1152x128 .f32) : k0_pay124 (F := Ideal) v = k0_pay6 (F := Ideal) v := by
  unfold k0_pay124 k0_pay122 k0_pay6 k0_pay4
  rfl

/-- The scales of a value head. -/
theorem valueScales1 (a : FVec Ideal S1152x512 .f32) (b : Vec Ideal S1x512 .f32) : k0_pay115 (F := Ideal) a b = k0_pay6 (F := Ideal) (k0_pay107 (F := Ideal) a b) := by
  unfold k0_pay115 k0_pay113 k0_pay6 k0_pay4
  rfl

/-- The scales of a value head. -/
theorem valueScales0 (a : FVec Ideal S1152x512 .f32) (b : Vec Ideal S1x512 .f32) : k0_pay106 (F := Ideal) a b = k0_pay6 (F := Ideal) (k0_pay98 (F := Ideal) a b) := by
  unfold k0_pay106 k0_pay104 k0_pay6 k0_pay4
  rfl

/-- The numbers of the first query block. -/
theorem out_A_9 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 = (Head.queryB (prod (k0_pay27 (F := Ideal) x0) x1 x5 x6 x7 x8) x4 x2 x3) := by
  frame_out
  rw [readW x5 x6 x7 _ _ ?hL _ zero2]
  case hL => rfl
  funext y
  refine View.canon_apply_of_pieces _ _ ?_ y (View.cover_of_tiledL (s := S1152x512) _ S1152x128.size (by sl_kernel_rfl) y)
  refine List.forall_mem_cons.2 ⟨fun x => Head.piece_pick (Head.queryB (prod (k0_pay27 (F := Ideal) x0) x1 x5 x6 x7 x8) x4 x2 x3) 3 ![0, 384] inb_S1152x512_S1152x128_0_384 rfl rfl _ (queries (prod (k0_pay27 (F := Ideal) x0) x1 x5 x6 x7 x8) x4 x2 x3 3 ![0, 384] slices_S1152x512_o0_384_S1152x128 inb_S1x512_S1x128_0_384 shapeCasts_S1x128_S1x128 rfl rfl) x, ?_⟩
  refine List.forall_mem_cons.2 ⟨fun x => Head.piece_pick (Head.queryB (prod (k0_pay27 (F := Ideal) x0) x1 x5 x6 x7 x8) x4 x2 x3) 2 ![0, 256] inb_S1152x512_S1152x128_0_256 rfl rfl _ (queries (prod (k0_pay27 (F := Ideal) x0) x1 x5 x6 x7 x8) x4 x2 x3 2 ![0, 256] slices_S1152x512_o0_256_S1152x128 inb_S1x512_S1x128_0_256 shapeCasts_S1x128_S1x128 rfl rfl) x, ?_⟩
  refine List.forall_mem_cons.2 ⟨fun x => Head.piece_pick (Head.queryB (prod (k0_pay27 (F := Ideal) x0) x1 x5 x6 x7 x8) x4 x2 x3) 1 ![0, 128] inb_S1152x512_S1152x128_0_128 rfl rfl _ (queries (prod (k0_pay27 (F := Ideal) x0) x1 x5 x6 x7 x8) x4 x2 x3 1 ![0, 128] slices_S1152x512_o0_128_S1152x128 inb_S1x512_S1x128_0_128 shapeCasts_S1x128_S1x128 rfl rfl) x, ?_⟩
  refine List.forall_mem_cons.2 ⟨fun x => Head.piece_pick (Head.queryB (prod (k0_pay27 (F := Ideal) x0) x1 x5 x6 x7 x8) x4 x2 x3) 0 ![0, 0] inb_S1152x512_S1152x128_0_0 rfl rfl _ (queries (prod (k0_pay27 (F := Ideal) x0) x1 x5 x6 x7 x8) x4 x2 x3 0 ![0, 0] slices_S1152x512_o0_0_S1152x128 inb_S1x512_S1x128_0_0 shapeCasts_S1x128_S1x128 rfl rfl) x, ?_⟩
  exact fun p hp => absurd hp List.not_mem_nil

/-- The numbers of a later query block. -/
theorem out_B_9 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) (xs1 : Vec Ideal S1152x4096 .bf16) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 xs1 = (Head.queryB (prod xs1 x1 x5 x6 x7 x8) x4 x2 x3) := by
  frame_out
  rw [readW x5 x6 x7 _ _ ?hL _ zero2]
  case hL => rfl
  funext y
  refine View.canon_apply_of_pieces _ _ ?_ y (View.cover_of_tiledL (s := S1152x512) _ S1152x128.size (by sl_kernel_rfl) y)
  refine List.forall_mem_cons.2 ⟨fun x => Head.piece_pick (Head.queryB (prod xs1 x1 x5 x6 x7 x8) x4 x2 x3) 3 ![0, 384] inb_S1152x512_S1152x128_0_384 rfl rfl _ (queries (prod xs1 x1 x5 x6 x7 x8) x4 x2 x3 3 ![0, 384] slices_S1152x512_o0_384_S1152x128 inb_S1x512_S1x128_0_384 shapeCasts_S1x128_S1x128 rfl rfl) x, ?_⟩
  refine List.forall_mem_cons.2 ⟨fun x => Head.piece_pick (Head.queryB (prod xs1 x1 x5 x6 x7 x8) x4 x2 x3) 2 ![0, 256] inb_S1152x512_S1152x128_0_256 rfl rfl _ (queries (prod xs1 x1 x5 x6 x7 x8) x4 x2 x3 2 ![0, 256] slices_S1152x512_o0_256_S1152x128 inb_S1x512_S1x128_0_256 shapeCasts_S1x128_S1x128 rfl rfl) x, ?_⟩
  refine List.forall_mem_cons.2 ⟨fun x => Head.piece_pick (Head.queryB (prod xs1 x1 x5 x6 x7 x8) x4 x2 x3) 1 ![0, 128] inb_S1152x512_S1152x128_0_128 rfl rfl _ (queries (prod xs1 x1 x5 x6 x7 x8) x4 x2 x3 1 ![0, 128] slices_S1152x512_o0_128_S1152x128 inb_S1x512_S1x128_0_128 shapeCasts_S1x128_S1x128 rfl rfl) x, ?_⟩
  refine List.forall_mem_cons.2 ⟨fun x => Head.piece_pick (Head.queryB (prod xs1 x1 x5 x6 x7 x8) x4 x2 x3) 0 ![0, 0] inb_S1152x512_S1152x128_0_0 rfl rfl _ (queries (prod xs1 x1 x5 x6 x7 x8) x4 x2 x3 0 ![0, 0] slices_S1152x512_o0_0_S1152x128 inb_S1x512_S1x128_0_0 shapeCasts_S1x128_S1x128 rfl rfl) x, ?_⟩
  exact fun p hp => absurd hp List.not_mem_nil

/-- The numbers of a key block. -/
theorem out_C_9 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) (xs1 : Vec Ideal S1152x4096 .bf16) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 xs1 = (Head.keyB (prod xs1 x1 x5 x6 x7 x8) x4 x2 x3) := by
  frame_out
  rw [readW x5 x6 x7 _ _ ?hL _ zero2]
  case hL => rfl
  funext y
  refine View.canon_apply_of_pieces _ _ ?_ y (View.cover_of_tiledL (s := S1152x512) _ S1152x128.size (by sl_kernel_rfl) y)
  refine List.forall_mem_cons.2 ⟨fun x => Head.piece_pick (Head.keyB (prod xs1 x1 x5 x6 x7 x8) x4 x2 x3) 3 ![0, 384] inb_S1152x512_S1152x128_0_384 rfl rfl _ (keys (prod xs1 x1 x5 x6 x7 x8) x4 x2 x3 3 ![0, 384] slices_S1152x512_o0_384_S1152x128 inb_S1x512_S1x128_0_384 shapeCasts_S1x128_S1x128 rfl rfl) x, ?_⟩
  refine List.forall_mem_cons.2 ⟨fun x => Head.piece_pick (Head.keyB (prod xs1 x1 x5 x6 x7 x8) x4 x2 x3) 2 ![0, 256] inb_S1152x512_S1152x128_0_256 rfl rfl _ (keys (prod xs1 x1 x5 x6 x7 x8) x4 x2 x3 2 ![0, 256] slices_S1152x512_o0_256_S1152x128 inb_S1x512_S1x128_0_256 shapeCasts_S1x128_S1x128 rfl rfl) x, ?_⟩
  refine List.forall_mem_cons.2 ⟨fun x => Head.piece_pick (Head.keyB (prod xs1 x1 x5 x6 x7 x8) x4 x2 x3) 1 ![0, 128] inb_S1152x512_S1152x128_0_128 rfl rfl _ (keys (prod xs1 x1 x5 x6 x7 x8) x4 x2 x3 1 ![0, 128] slices_S1152x512_o0_128_S1152x128 inb_S1x512_S1x128_0_128 shapeCasts_S1x128_S1x128 rfl rfl) x, ?_⟩
  refine List.forall_mem_cons.2 ⟨fun x => Head.piece_pick (Head.keyB (prod xs1 x1 x5 x6 x7 x8) x4 x2 x3) 0 ![0, 0] inb_S1152x512_S1152x128_0_0 rfl rfl _ (keys (prod xs1 x1 x5 x6 x7 x8) x4 x2 x3 0 ![0, 0] slices_S1152x512_o0_0_S1152x128 inb_S1x512_S1x128_0_0 shapeCasts_S1x128_S1x128 rfl rfl) x, ?_⟩
  exact fun p hp => absurd hp List.not_mem_nil

/-- The bytes of a key block. -/
theorem out_C_10 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) (xs1 : Vec Ideal S1152x4096 .bf16) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 xs1 = (Head.bytesB (Head.keyB (prod xs1 x1 x5 x6 x7 x8) x4 x2 x3)) := by
  frame_out
  rw [readW x5 x6 x7 _ _ ?hL _ zero2]
  case hL => rfl
  funext y
  refine View.canon_apply_of_pieces _ _ ?_ y (View.cover_of_tiledL (s := S1152x512) _ S1152x128.size (by sl_kernel_rfl) y)
  refine List.forall_mem_cons.2 ⟨fun x => Head.piece_bytes (Head.keyB (prod xs1 x1 x5 x6 x7 x8) x4 x2 x3) 3 ![0, 384] inb_S1152x512_S1152x128_0_384 rfl rfl _ (keys (prod xs1 x1 x5 x6 x7 x8) x4 x2 x3 3 ![0, 384] slices_S1152x512_o0_384_S1152x128 inb_S1x512_S1x128_0_384 shapeCasts_S1x128_S1x128 rfl rfl) x, ?_⟩
  refine List.forall_mem_cons.2 ⟨fun x => Head.piece_bytes (Head.keyB (prod xs1 x1 x5 x6 x7 x8) x4 x2 x3) 2 ![0, 256] inb_S1152x512_S1152x128_0_256 rfl rfl _ (keys (prod xs1 x1 x5 x6 x7 x8) x4 x2 x3 2 ![0, 256] slices_S1152x512_o0_256_S1152x128 inb_S1x512_S1x128_0_256 shapeCasts_S1x128_S1x128 rfl rfl) x, ?_⟩
  refine List.forall_mem_cons.2 ⟨fun x => Head.piece_bytes (Head.keyB (prod xs1 x1 x5 x6 x7 x8) x4 x2 x3) 1 ![0, 128] inb_S1152x512_S1152x128_0_128 rfl rfl _ (keys (prod xs1 x1 x5 x6 x7 x8) x4 x2 x3 1 ![0, 128] slices_S1152x512_o0_128_S1152x128 inb_S1x512_S1x128_0_128 shapeCasts_S1x128_S1x128 rfl rfl) x, ?_⟩
  refine List.forall_mem_cons.2 ⟨fun x => Head.piece_bytes (Head.keyB (prod xs1 x1 x5 x6 x7 x8) x4 x2 x3) 0 ![0, 0] inb_S1152x512_S1152x128_0_0 rfl rfl _ (keys (prod xs1 x1 x5 x6 x7 x8) x4 x2 x3 0 ![0, 0] slices_S1152x512_o0_0_S1152x128 inb_S1x512_S1x128_0_0 shapeCasts_S1x128_S1x128 rfl rfl) x, ?_⟩
  exact fun p hp => absurd hp List.not_mem_nil

/-- The scales of a key block. -/
theorem out_C_11 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) (xs1 : Vec Ideal S1152x4096 .bf16) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 xs1 = (Head.scalesB (Head.keyB (prod xs1 x1 x5 x6 x7 x8) x4 x2 x3)) := by
  frame_out
  rw [readW x5 x6 x7 _ _ ?hL _ zero2]
  case hL => rfl
  rw [keyScales3, keyScales2, keyScales1, keyScales0]
  funext y
  refine View.canon_apply_of_pieces _ _ ?_ y (View.cover_of_tiledL (s := S1x1152x4) _ S1x1152x1.size (by sl_kernel_rfl) y)
  have e3 : ∀ x : S1x1152x1.Idx, k0_pay6 (F := Ideal) (k0_pay7 (F := Ideal) (k0_pay125 (F := Ideal) (prod xs1 x1 x5 x6 x7 x8)) (k0_pay126 (F := Ideal) (View.ld (Val := Elt Ideal) (e' := .f32) x4 (Rect.unit ![0, 384] ![1, 128] inb_S1x512_S1x128_0_384))) x2 x3) x = Head.scalesB (Head.keyB (prod xs1 x1 x5 x6 x7 x8) x4 x2 x3) _ :=
    Head.piece_scales (Head.keyB (prod xs1 x1 x5 x6 x7 x8) x4 x2 x3) 3 ![0, 0, 3] inb_S1x1152x4_S1x1152x1_0_0_3 rfl rfl rfl (k0_pay7 (F := Ideal) (k0_pay125 (F := Ideal) (prod xs1 x1 x5 x6 x7 x8)) (k0_pay126 (F := Ideal) (View.ld (Val := Elt Ideal) (e' := .f32) x4 (Rect.unit ![0, 384] ![1, 128] inb_S1x512_S1x128_0_384))) x2 x3) (keys (prod xs1 x1 x5 x6 x7 x8) x4 x2 x3 3 ![0, 384] slices_S1152x512_o0_384_S1152x128 inb_S1x512_S1x128_0_384 shapeCasts_S1x128_S1x128 rfl rfl)
  unfold prod at e3
  have e2 : ∀ x : S1x1152x1.Idx, k0_pay6 (F := Ideal) (k0_pay7 (F := Ideal) (k0_pay116 (F := Ideal) (k0_pay96 (F := Ideal) xs1 (Cert.W4.weights hk x5 x6 x7) x1) x8) (k0_pay117 (F := Ideal) (View.ld (Val := Elt Ideal) (e' := .f32) x4 (Rect.unit ![0, 256] ![1, 128] inb_S1x512_S1x128_0_256))) x2 x3) x = Head.scalesB (Head.keyB (prod xs1 x1 x5 x6 x7 x8) x4 x2 x3) _ :=
    Head.piece_scales (Head.keyB (prod xs1 x1 x5 x6 x7 x8) x4 x2 x3) 2 ![0, 0, 2] inb_S1x1152x4_S1x1152x1_0_0_2 rfl rfl rfl (k0_pay7 (F := Ideal) (k0_pay116 (F := Ideal) (k0_pay96 (F := Ideal) xs1 (Cert.W4.weights hk x5 x6 x7) x1) x8) (k0_pay117 (F := Ideal) (View.ld (Val := Elt Ideal) (e' := .f32) x4 (Rect.unit ![0, 256] ![1, 128] inb_S1x512_S1x128_0_256))) x2 x3) (keys (prod xs1 x1 x5 x6 x7 x8) x4 x2 x3 2 ![0, 256] slices_S1152x512_o0_256_S1152x128 inb_S1x512_S1x128_0_256 shapeCasts_S1x128_S1x128 rfl rfl)
  unfold prod at e2
  have e1 : ∀ x : S1x1152x1.Idx, k0_pay6 (F := Ideal) (k0_pay7 (F := Ideal) (k0_pay107 (F := Ideal) (k0_pay96 (F := Ideal) xs1 (Cert.W4.weights hk x5 x6 x7) x1) x8) (k0_pay108 (F := Ideal) (View.ld (Val := Elt Ideal) (e' := .f32) x4 (Rect.unit ![0, 128] ![1, 128] inb_S1x512_S1x128_0_128))) x2 x3) x = Head.scalesB (Head.keyB (prod xs1 x1 x5 x6 x7 x8) x4 x2 x3) _ :=
    Head.piece_scales (Head.keyB (prod xs1 x1 x5 x6 x7 x8) x4 x2 x3) 1 ![0, 0, 1] inb_S1x1152x4_S1x1152x1_0_0_1 rfl rfl rfl (k0_pay7 (F := Ideal) (k0_pay107 (F := Ideal) (k0_pay96 (F := Ideal) xs1 (Cert.W4.weights hk x5 x6 x7) x1) x8) (k0_pay108 (F := Ideal) (View.ld (Val := Elt Ideal) (e' := .f32) x4 (Rect.unit ![0, 128] ![1, 128] inb_S1x512_S1x128_0_128))) x2 x3) (keys (prod xs1 x1 x5 x6 x7 x8) x4 x2 x3 1 ![0, 128] slices_S1152x512_o0_128_S1152x128 inb_S1x512_S1x128_0_128 shapeCasts_S1x128_S1x128 rfl rfl)
  unfold prod at e1
  have e0 : ∀ x : S1x1152x1.Idx, k0_pay6 (F := Ideal) (k0_pay7 (F := Ideal) (k0_pay98 (F := Ideal) (k0_pay96 (F := Ideal) xs1 (Cert.W4.weights hk x5 x6 x7) x1) x8) (k0_pay99 (F := Ideal) (View.ld (Val := Elt Ideal) (e' := .f32) x4 (Rect.unit ![0, 0] ![1, 128] inb_S1x512_S1x128_0_0))) x2 x3) x = Head.scalesB (Head.keyB (prod xs1 x1 x5 x6 x7 x8) x4 x2 x3) _ :=
    Head.piece_scales (Head.keyB (prod xs1 x1 x5 x6 x7 x8) x4 x2 x3) 0 ![0, 0, 0] inb_S1x1152x4_S1x1152x1_0_0_0 rfl rfl rfl (k0_pay7 (F := Ideal) (k0_pay98 (F := Ideal) (k0_pay96 (F := Ideal) xs1 (Cert.W4.weights hk x5 x6 x7) x1) x8) (k0_pay99 (F := Ideal) (View.ld (Val := Elt Ideal) (e' := .f32) x4 (Rect.unit ![0, 0] ![1, 128] inb_S1x512_S1x128_0_0))) x2 x3) (keys (prod xs1 x1 x5 x6 x7 x8) x4 x2 x3 0 ![0, 0] slices_S1152x512_o0_0_S1152x128 inb_S1x512_S1x128_0_0 shapeCasts_S1x128_S1x128 rfl rfl)
  unfold prod at e0
  unfold prod
  refine List.forall_mem_cons.2 ⟨by
    generalize Head.scalesB _ = G at e3 ⊢
    generalize k0_pay6 (F := Ideal) _ = w at e3 ⊢
    exact e3, ?_⟩
  refine List.forall_mem_cons.2 ⟨by
    generalize Head.scalesB _ = G at e2 ⊢
    generalize k0_pay6 (F := Ideal) _ = w at e2 ⊢
    exact e2, ?_⟩
  refine List.forall_mem_cons.2 ⟨by
    generalize Head.scalesB _ = G at e1 ⊢
    generalize k0_pay6 (F := Ideal) _ = w at e1 ⊢
    exact e1, ?_⟩
  refine List.forall_mem_cons.2 ⟨by
    generalize Head.scalesB _ = G at e0 ⊢
    generalize k0_pay6 (F := Ideal) _ = w at e0 ⊢
    exact e0, ?_⟩
  exact fun p hp => absurd hp List.not_mem_nil

/-- The numbers of a value block. -/
theorem out_D_9 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) (xs1 : Vec Ideal S1152x4096 .bf16) :
    out0_D_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 xs1 = (prod xs1 x1 x5 x6 x7 x8) := by
  frame_out
  rw [readW x5 x6 x7 _ _ ?hL _ zero2]
  case hL => rfl
  funext y
  refine View.canon_apply_of_pieces _ _ ?_ y (View.cover_of_tiledL (s := S1152x512) _ S1152x128.size (by sl_kernel_rfl) y)
  refine List.forall_mem_cons.2 ⟨fun x => Head.piece_pick (prod xs1 x1 x5 x6 x7 x8) 3 ![0, 384] inb_S1152x512_S1152x128_0_384 rfl rfl _ (Head.slice_pick (prod xs1 x1 x5 x6 x7 x8) 3 ![0, 384] slices_S1152x512_o0_384_S1152x128 rfl rfl) x, ?_⟩
  refine List.forall_mem_cons.2 ⟨fun x => Head.piece_pick (prod xs1 x1 x5 x6 x7 x8) 2 ![0, 256] inb_S1152x512_S1152x128_0_256 rfl rfl _ (Head.slice_pick (prod xs1 x1 x5 x6 x7 x8) 2 ![0, 256] slices_S1152x512_o0_256_S1152x128 rfl rfl) x, ?_⟩
  refine List.forall_mem_cons.2 ⟨fun x => Head.piece_pick (prod xs1 x1 x5 x6 x7 x8) 1 ![0, 128] inb_S1152x512_S1152x128_0_128 rfl rfl _ (Head.slice_pick (prod xs1 x1 x5 x6 x7 x8) 1 ![0, 128] slices_S1152x512_o0_128_S1152x128 rfl rfl) x, ?_⟩
  refine List.forall_mem_cons.2 ⟨fun x => Head.piece_pick (prod xs1 x1 x5 x6 x7 x8) 0 ![0, 0] inb_S1152x512_S1152x128_0_0 rfl rfl _ (Head.slice_pick (prod xs1 x1 x5 x6 x7 x8) 0 ![0, 0] slices_S1152x512_o0_0_S1152x128 rfl rfl) x, ?_⟩
  exact fun p hp => absurd hp List.not_mem_nil

/-- The bytes of a value block. -/
theorem out_D_10 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) (xs1 : Vec Ideal S1152x4096 .bf16) :
    out0_D_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 xs1 = (Head.bytesB (prod xs1 x1 x5 x6 x7 x8)) := by
  frame_out
  rw [readW x5 x6 x7 _ _ ?hL _ zero2]
  case hL => rfl
  funext y
  refine View.canon_apply_of_pieces _ _ ?_ y (View.cover_of_tiledL (s := S1152x512) _ S1152x128.size (by sl_kernel_rfl) y)
  refine List.forall_mem_cons.2 ⟨fun x => Head.piece_bytes (prod xs1 x1 x5 x6 x7 x8) 3 ![0, 384] inb_S1152x512_S1152x128_0_384 rfl rfl _ (Head.slice_pick (prod xs1 x1 x5 x6 x7 x8) 3 ![0, 384] slices_S1152x512_o0_384_S1152x128 rfl rfl) x, ?_⟩
  refine List.forall_mem_cons.2 ⟨fun x => Head.piece_bytes (prod xs1 x1 x5 x6 x7 x8) 2 ![0, 256] inb_S1152x512_S1152x128_0_256 rfl rfl _ (Head.slice_pick (prod xs1 x1 x5 x6 x7 x8) 2 ![0, 256] slices_S1152x512_o0_256_S1152x128 rfl rfl) x, ?_⟩
  refine List.forall_mem_cons.2 ⟨fun x => Head.piece_bytes (prod xs1 x1 x5 x6 x7 x8) 1 ![0, 128] inb_S1152x512_S1152x128_0_128 rfl rfl _ (Head.slice_pick (prod xs1 x1 x5 x6 x7 x8) 1 ![0, 128] slices_S1152x512_o0_128_S1152x128 rfl rfl) x, ?_⟩
  refine List.forall_mem_cons.2 ⟨fun x => Head.piece_bytes (prod xs1 x1 x5 x6 x7 x8) 0 ![0, 0] inb_S1152x512_S1152x128_0_0 rfl rfl _ (Head.slice_pick (prod xs1 x1 x5 x6 x7 x8) 0 ![0, 0] slices_S1152x512_o0_0_S1152x128 rfl rfl) x, ?_⟩
  exact fun p hp => absurd hp List.not_mem_nil

/-- The scales of a value block. -/
theorem out_D_11 (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) (xs1 : Vec Ideal S1152x4096 .bf16) :
    out0_D_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 xs1 = (Head.scalesB (prod xs1 x1 x5 x6 x7 x8)) := by
  frame_out
  rw [readW x5 x6 x7 _ _ ?hL _ zero2]
  case hL => rfl
  rw [valueScales2, valueScales1, valueScales0]
  funext y
  refine View.canon_apply_of_pieces _ _ ?_ y (View.cover_of_tiledL (s := S1x1152x4) _ S1x1152x1.size (by sl_kernel_rfl) y)
  have e3 : ∀ x : S1x1152x1.Idx, k0_pay6 (F := Ideal) (k0_pay125 (F := Ideal) (prod xs1 x1 x5 x6 x7 x8)) x = Head.scalesB (prod xs1 x1 x5 x6 x7 x8) _ :=
    Head.piece_scales (prod xs1 x1 x5 x6 x7 x8) 3 ![0, 0, 3] inb_S1x1152x4_S1x1152x1_0_0_3 rfl rfl rfl (k0_pay125 (F := Ideal) (prod xs1 x1 x5 x6 x7 x8)) (Head.slice_pick (prod xs1 x1 x5 x6 x7 x8) 3 ![0, 384] slices_S1152x512_o0_384_S1152x128 rfl rfl)
  unfold prod at e3
  have e2 : ∀ x : S1x1152x1.Idx, k0_pay6 (F := Ideal) (k0_pay116 (F := Ideal) (k0_pay96 (F := Ideal) xs1 (Cert.W4.weights hk x5 x6 x7) x1) x8) x = Head.scalesB (prod xs1 x1 x5 x6 x7 x8) _ :=
    Head.piece_scales (prod xs1 x1 x5 x6 x7 x8) 2 ![0, 0, 2] inb_S1x1152x4_S1x1152x1_0_0_2 rfl rfl rfl (k0_pay116 (F := Ideal) (k0_pay96 (F := Ideal) xs1 (Cert.W4.weights hk x5 x6 x7) x1) x8) (Head.slice_pick (prod xs1 x1 x5 x6 x7 x8) 2 ![0, 256] slices_S1152x512_o0_256_S1152x128 rfl rfl)
  unfold prod at e2
  have e1 : ∀ x : S1x1152x1.Idx, k0_pay6 (F := Ideal) (k0_pay107 (F := Ideal) (k0_pay96 (F := Ideal) xs1 (Cert.W4.weights hk x5 x6 x7) x1) x8) x = Head.scalesB (prod xs1 x1 x5 x6 x7 x8) _ :=
    Head.piece_scales (prod xs1 x1 x5 x6 x7 x8) 1 ![0, 0, 1] inb_S1x1152x4_S1x1152x1_0_0_1 rfl rfl rfl (k0_pay107 (F := Ideal) (k0_pay96 (F := Ideal) xs1 (Cert.W4.weights hk x5 x6 x7) x1) x8) (Head.slice_pick (prod xs1 x1 x5 x6 x7 x8) 1 ![0, 128] slices_S1152x512_o0_128_S1152x128 rfl rfl)
  unfold prod at e1
  have e0 : ∀ x : S1x1152x1.Idx, k0_pay6 (F := Ideal) (k0_pay98 (F := Ideal) (k0_pay96 (F := Ideal) xs1 (Cert.W4.weights hk x5 x6 x7) x1) x8) x = Head.scalesB (prod xs1 x1 x5 x6 x7 x8) _ :=
    Head.piece_scales (prod xs1 x1 x5 x6 x7 x8) 0 ![0, 0, 0] inb_S1x1152x4_S1x1152x1_0_0_0 rfl rfl rfl (k0_pay98 (F := Ideal) (k0_pay96 (F := Ideal) xs1 (Cert.W4.weights hk x5 x6 x7) x1) x8) (Head.slice_pick (prod xs1 x1 x5 x6 x7 x8) 0 ![0, 0] slices_S1152x512_o0_0_S1152x128 rfl rfl)
  unfold prod at e0
  unfold prod
  refine List.forall_mem_cons.2 ⟨by
    generalize Head.scalesB _ = G at e3 ⊢
    generalize k0_pay6 (F := Ideal) _ = w at e3 ⊢
    exact e3, ?_⟩
  refine List.forall_mem_cons.2 ⟨by
    generalize Head.scalesB _ = G at e2 ⊢
    generalize k0_pay6 (F := Ideal) _ = w at e2 ⊢
    exact e2, ?_⟩
  refine List.forall_mem_cons.2 ⟨by
    generalize Head.scalesB _ = G at e1 ⊢
    generalize k0_pay6 (F := Ideal) _ = w at e1 ⊢
    exact e1, ?_⟩
  refine List.forall_mem_cons.2 ⟨by
    generalize Head.scalesB _ = G at e0 ⊢
    generalize k0_pay6 (F := Ideal) _ = w at e0 ⊢
    exact e0, ?_⟩
  exact fun p hp => absurd hp List.not_mem_nil

/-- The activations kept by the first step. -/
theorem sout_A (c : Dev nD) (i : grid0.Coords) (arg1 : Memref sig .tc .vmem S1152x4096 .i8) (harg1 : arg1.IsWhole) (arg2 : Memref sig .tc .vmem S1152x1 .f32) (harg2 : arg2.IsWhole) (arg3 : Memref sig .tc .vmem S1152x128 .f32) (harg3 : arg3.IsWhole) (arg4 : Memref sig .tc .vmem S1152x128 .f32) (harg4 : arg4.IsWhole) (arg5 : Memref sig .tc .vmem S1x512 .f32) (harg5 : arg5.IsWhole) (arg6 : Memref sig .tc .vmem S2048x512 .i8) (harg6 : arg6.IsWhole) (arg7 : Memref sig .tc .vmem S32x512 .i8) (harg7 : arg7.IsWhole) (arg8 : Memref sig .tc .vmem S32x512 .i8) (harg8 : arg8.IsWhole) (arg9 : Memref sig .tc .vmem S1x512 .f32) (harg9 : arg9.IsWhole) (arg10 : Memref sig .tc .vmem S1152x512 .bf16) (harg10 : arg10.IsWhole) (arg11 : Memref sig .tc .vmem S1152x512 .i8) (harg11 : arg11.IsWhole) (arg12 : Memref sig .tc .vmem S1x1152x4 .f32) (harg12 : arg12.IsWhole) (arg13 : Memref sig .tc .vmem S4096x512 .bf16) (harg13 : arg13.IsWhole) (arg14 : Memref sig .tc .vmem S1152x4096 .bf16) (harg14 : arg14.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (x0 : Vec Ideal S1152x4096 .i8) (x1 : Vec Ideal S1152x1 .f32) (x2 : Vec Ideal S1152x128 .f32) (x3 : Vec Ideal S1152x128 .f32) (x4 : Vec Ideal S1x512 .f32) (x5 : Vec Ideal S2048x512 .i8) (x6 : Vec Ideal S32x512 .i8) (x7 : Vec Ideal S32x512 .i8) (x8 : Vec Ideal S1x512 .f32) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 hc9 hc10 hc11 hc12 x0 x1 x2 x3 x4 x5 x6 x7 x8 = k0_pay27 (F := Ideal) x0 := by
  frame_out

end Cert.QkvIdeal.Block

end
-- ==== Proof.QkvRef.lean ====
/- The query, key and value product's reference at a row and a column, and its heads. -/
module

public import proofs.«01_k».proof.Proof.QkvSpec
public import Idealize.ShloMosaic.Lib.Pipeline.Value
public import proofs.«01_k».proof.Proof.Gen.QkvRefIdeal.Read
public import proofs.«01_k».proof.Proof.Gen.QkvRefIdeal.Run

@[expose] public section

set_option maxRecDepth 16384

noncomputable section

namespace Cert.QkvRefIdeal.At

open Cert.QkvRefIdeal Cert.QkvRefIdeal.Read Idealize.ShloMosaic Idealize.ShloMosaic.TcCoe Idealize.SL.Sem

/-- Row `r` of the weights comes from row `r / 2` of the code bytes and from group `r / 128`. -/
theorem hk : ∀ r, r < 4096 → r / 2 < 2048 ∧ r / 128 < 32 := fun r h => by omega

/-- The even rows' weights, as the reference computes them from the low nibbles. -/
theorem lo (x5 : (⟨S2048x6144, .i8⟩ : BufTy).Contents (Elt Ideal)) (x6 x7 : (⟨S32x6144, .i8⟩ : BufTy).Contents (Elt Ideal)) (k : Fin 2048) (j : Fin 6144) :
    val_main_v28 (F := Ideal) x5 x6 x7 (ix2 k j)
      = Cert.W4.wval (x5 (ix2 k j)) (x6 (ix2 (⟨k.val / 64, by omega⟩ : Fin 32) j)) (x7 (ix2 (⟨k.val / 64, by omega⟩ : Fin 32) j)) 0 := by
  have hk := k.isLt
  have hj := j.isLt
  have e1 : idx_main_v7 (idx_main_v13 (ix2 k j)) = ix2 k j := funext fun a => Fin.ext (by
    match a with
    | ⟨0, _⟩ => show (((k.val * 6144 + j.val) / 393216 * 64 + (k.val * 6144 + j.val) / 6144 % 64) * 6144 + (k.val * 6144 + j.val) % 6144) / 6144 = k.val; omega
    | ⟨1, _⟩ => show (((k.val * 6144 + j.val) / 393216 * 64 + (k.val * 6144 + j.val) / 6144 % 64) * 6144 + (k.val * 6144 + j.val) % 6144) % 6144 = j.val; omega)
  have e2 : idx_main_v3 (idx_main_v8 (idx_main_v13 (ix2 k j))) = ix2 (⟨k.val / 64, by omega⟩ : Fin 32) j := funext fun a => Fin.ext (by
    match a with
    | ⟨0, _⟩ => show (k.val * 6144 + j.val) / 393216 = k.val / 64; omega
    | ⟨1, _⟩ => show (k.val * 6144 + j.val) % 6144 = j.val; omega)
  have e3 : idx_main_v1 (idx_main_v10 (idx_main_v13 (ix2 k j))) = ix2 (⟨k.val / 64, by omega⟩ : Fin 32) j := funext fun a => Fin.ext (by
    match a with
    | ⟨0, _⟩ => show (k.val * 6144 + j.val) / 393216 = k.val / 64; omega
    | ⟨1, _⟩ => show (k.val * 6144 + j.val) % 6144 = j.val; omega)
  rw [val_main_v28_apply, val_main_v27_apply, val_main_v13_apply, val_main_v12_apply, val_main_v11_apply, val_main_v9_apply, val_main_v7_apply, val_main_v8_apply, val_main_v3_apply, val_main_v2_apply, val_main_v10_apply, val_main_v1_apply, val_main_v0_apply, val_main_v6_apply, val_main_v4_apply, val_main_v5_apply, val_main_c_apply, e1, e2, e3]
  unfold Cert.W4.wval Cert.W4.weight
  rw [if_pos rfl]
  show (((BitVec.signExtend 32 (BitVec.setWidth 8 _)).toInt : ℝ) : EReal) = _
  rw [Cert.W4.toInt_signExtend]
  rfl

/-- The odd rows' weights, as the reference computes them from the high nibbles. -/
theorem hi (x5 : (⟨S2048x6144, .i8⟩ : BufTy).Contents (Elt Ideal)) (x6 x7 : (⟨S32x6144, .i8⟩ : BufTy).Contents (Elt Ideal)) (k : Fin 2048) (j : Fin 6144) :
    val_main_v34 (F := Ideal) x5 x6 x7 (ix2 k j)
      = Cert.W4.wval (x5 (ix2 k j)) (x6 (ix2 (⟨k.val / 64, by omega⟩ : Fin 32) j)) (x7 (ix2 (⟨k.val / 64, by omega⟩ : Fin 32) j)) 1 := by
  have hk := k.isLt
  have hj := j.isLt
  have e1 : idx_main_v17 (idx_main_v23 (ix2 k j)) = ix2 k j := funext fun a => Fin.ext (by
    match a with
    | ⟨0, _⟩ => show (((k.val * 6144 + j.val) / 393216 * 64 + (k.val * 6144 + j.val) / 6144 % 64) * 6144 + (k.val * 6144 + j.val) % 6144) / 6144 = k.val; omega
    | ⟨1, _⟩ => show (((k.val * 6144 + j.val) / 393216 * 64 + (k.val * 6144 + j.val) / 6144 % 64) * 6144 + (k.val * 6144 + j.val) % 6144) % 6144 = j.val; omega)
  have e2 : idx_main_v3 (idx_main_v18 (idx_main_v23 (ix2 k j))) = ix2 (⟨k.val / 64, by omega⟩ : Fin 32) j := funext fun a => Fin.ext (by
    match a with
    | ⟨0, _⟩ => show (k.val * 6144 + j.val) / 393216 = k.val / 64; omega
    | ⟨1, _⟩ => show (k.val * 6144 + j.val) % 6144 = j.val; omega)
  have e3 : idx_main_v1 (idx_main_v20 (idx_main_v23 (ix2 k j))) = ix2 (⟨k.val / 64, by omega⟩ : Fin 32) j := funext fun a => Fin.ext (by
    match a with
    | ⟨0, _⟩ => show (k.val * 6144 + j.val) / 393216 = k.val / 64; omega
    | ⟨1, _⟩ => show (k.val * 6144 + j.val) % 6144 = j.val; omega)
  rw [val_main_v34_apply, val_main_v33_apply, val_main_v23_apply, val_main_v22_apply, val_main_v21_apply, val_main_v19_apply, val_main_v17_apply, val_main_v18_apply, val_main_v3_apply, val_main_v2_apply, val_main_v20_apply, val_main_v1_apply, val_main_v0_apply, val_main_v16_apply, val_main_v14_apply, val_main_v15_apply, val_main_c_0_apply, e1, e2, e3]
  unfold Cert.W4.wval Cert.W4.weight
  rw [if_neg (by decide), Cert.W4.shrsi_byte]
  show (((BitVec.signExtend 32 (BitVec.setWidth 8 _)).toInt : ℝ) : EReal) = _
  rw [Cert.W4.toInt_signExtend]
  rfl

/-- The reference's two products, over the even and the odd columns of the activations, are one product with all the weights. -/
theorem prod (x0 : (⟨S1152x4096, .i8⟩ : BufTy).Contents (Elt Ideal)) (x5 : (⟨S2048x6144, .i8⟩ : BufTy).Contents (Elt Ideal)) (x6 x7 : (⟨S32x6144, .i8⟩ : BufTy).Contents (Elt Ideal)) (i : Fin 1152) (j : Fin 6144) :
    val_main_v36 (F := Ideal) x0 x5 x6 x7 (ix2 i j) = Cert.W4.rowProd x0 (Cert.W4.weights hk x5 x6 x7) i j := by
  unfold Cert.W4.rowProd
  rw [val_main_v36_apply, val_main_v29_apply, val_main_v35_apply, Cert.W4.sum_even_odd 2048 4096 rfl]
  show (_ : EReal) + _ = _
  refine congrArg₂ (· + ·) (Finset.sum_congr rfl fun k _ => ?_) (Finset.sum_congr rfl fun k _ => ?_)
  · have hk := k.isLt
    rw [show lidx_main_v29 (ix2 i j) k = ix2 i k from funext fun a => by match a with | ⟨0, _⟩ => rfl | ⟨1, _⟩ => rfl,
      show ridx_main_v29 (ix2 i j) k = ix2 k j from funext fun a => by match a with | ⟨0, _⟩ => rfl | ⟨1, _⟩ => rfl,
      lo, val_main_v26_apply, val_main_v25_apply, Cert.W4.weights_ix2,
      show val_main_v24 (F := Ideal) x0 (ix2 i k) = x0 (ix2 i (⟨2 * k.val, by omega⟩ : Fin 4096)) from congrArg x0 (funext fun a => Fin.ext (by
        match a with
        | ⟨0, _⟩ => show 0 + 1 * i.val = i.val; omega
        | ⟨1, _⟩ => show 0 + 2 * k.val = 2 * k.val; omega))]
    show (((BitVec.signExtend 32 _).toInt : ℝ) : EReal) * _ = _
    rw [Cert.W4.toInt_signExtend]
    have e1 : (⟨(2 * k.val) / 2, by omega⟩ : Fin 2048) = k := Fin.ext (by show (2 * k.val) / 2 = k.val; omega)
    have e2 : (⟨(2 * k.val) / 128, by omega⟩ : Fin 32) = ⟨k.val / 64, by omega⟩ := Fin.ext (by show (2 * k.val) / 128 = k.val / 64; omega)
    have e3 : (2 * k.val) % 2 = 0 := by omega
    simp only [e1, e2, e3]
    rfl
  · have hk := k.isLt
    rw [show lidx_main_v35 (ix2 i j) k = ix2 i k from funext fun a => by match a with | ⟨0, _⟩ => rfl | ⟨1, _⟩ => rfl,
      show ridx_main_v35 (ix2 i j) k = ix2 k j from funext fun a => by match a with | ⟨0, _⟩ => rfl | ⟨1, _⟩ => rfl,
      hi, val_main_v32_apply, val_main_v31_apply, Cert.W4.weights_ix2,
      show val_main_v30 (F := Ideal) x0 (ix2 i k) = x0 (ix2 i (⟨2 * k.val + 1, by omega⟩ : Fin 4096)) from congrArg x0 (funext fun a => Fin.ext (by
        match a with
        | ⟨0, _⟩ => show 0 + 1 * i.val = i.val; omega
        | ⟨1, _⟩ => show 1 + 2 * k.val = 2 * k.val + 1; omega))]
    show (((BitVec.signExtend 32 _).toInt : ℝ) : EReal) * _ = _
    rw [Cert.W4.toInt_signExtend]
    have e1 : (⟨(2 * k.val + 1) / 2, by omega⟩ : Fin 2048) = k := Fin.ext (by show (2 * k.val + 1) / 2 = k.val; omega)
    have e2 : (⟨(2 * k.val + 1) / 128, by omega⟩ : Fin 32) = ⟨k.val / 64, by omega⟩ := Fin.ext (by show (2 * k.val + 1) / 128 = k.val / 64; omega)
    have e3 : (2 * k.val + 1) % 2 = 1 := by omega
    simp only [e1, e2, e3]
    rfl

/-- The scaled product at a row and a column. -/
theorem scaled (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 x7 : (⟨S32x6144, .i8⟩ : BufTy).Contents (Elt Ideal)) (x8 : (⟨S6144, .f32⟩ : BufTy).Contents (Elt Ideal)) (i : Fin 1152) (j : Fin 6144) :
    val_main_v41 (F := Ideal) x0 x1 x5 x6 x7 x8 (ix2 i j)
      = Cert.W4.rowProd x0 (Cert.W4.weights hk x5 x6 x7) i j * x1 (ix2 i 0) * x8 (Cert.W4.at1 j) := by
  rw [val_main_v41_apply, val_main_v38_apply, prod, val_main_v37_apply, val_main_v40_apply, val_main_v39_apply]
  have e1 : idx_main_v37 (ix2 i j) = ix2 i 0 := funext fun a => by match a with | ⟨0, _⟩ => rfl | ⟨1, _⟩ => rfl
  have e2 : idx_main_v39 (idx_main_v40 (ix2 i j)) = (Cert.W4.at1 j) := funext fun a => by match a with | ⟨0, _⟩ => rfl
  rw [e1, e2]
  rfl

/-- The scaled product as a function of a row and a column. -/
def acc (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (j : Fin 6144) : EReal :=
  Cert.W4.rowProd x0 (Cert.W4.weights hk x5 x6 x7) i j * x1 (ix2 i 0) * x8 (Cert.W4.at1 j)

/-- Head `h` of the queries, of the keys and of the values. -/
def qCol (h : Fin 32) (e : Fin 128) : Fin 6144 := ⟨128 * h.val + e.val, by omega⟩
def kCol (h : Fin 8) (e : Fin 128) : Fin 6144 := ⟨4096 + 128 * h.val + e.val, by omega⟩
def vCol (h : Fin 8) (e : Fin 128) : Fin 6144 := ⟨5120 + 128 * h.val + e.val, by omega⟩

/-- A query head's column of the scaled product. -/
theorem query (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 32) (d : Fin 128) :
    val_main_v43 (F := Ideal) x0 x1 x5 x6 x7 x8 (ix3 i h d) = acc x0 x1 x5 x6 x7 x8 i (qCol h d) := by
  have hh := h.isLt
  have hd := d.isLt
  unfold acc
  rw [val_main_v43_apply, val_main_v42_apply, ← scaled]
  refine congrArg (val_main_v41 (F := Ideal) x0 x1 x5 x6 x7 x8) (funext fun a => Fin.ext ?_)
  match a with
  | ⟨0, _⟩ => show ((i.val * 32 + h.val) * 128 + d.val) / 4096 = i.val; omega
  | ⟨1, _⟩ => show ((i.val * 32 + h.val) * 128 + d.val) % 4096 = 128 * h.val + d.val; omega

/-- A key head's column of the scaled product. -/
theorem key (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 128) :
    val_main_v45 (F := Ideal) x0 x1 x5 x6 x7 x8 (ix3 i h d) = acc x0 x1 x5 x6 x7 x8 i (kCol h d) := by
  have hh := h.isLt
  have hd := d.isLt
  unfold acc
  rw [val_main_v45_apply, val_main_v44_apply, ← scaled]
  refine congrArg (val_main_v41 (F := Ideal) x0 x1 x5 x6 x7 x8) (funext fun a => Fin.ext ?_)
  match a with
  | ⟨0, _⟩ => show ((i.val * 8 + h.val) * 128 + d.val) / 1024 = i.val; omega
  | ⟨1, _⟩ => show 4096 + ((i.val * 8 + h.val) * 128 + d.val) % 1024 = 4096 + 128 * h.val + d.val; omega

/-- A value head's column of the scaled product. -/
theorem value (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 128) :
    val_main_v47 (F := Ideal) x0 x1 x5 x6 x7 x8 (ix3 i h d) = acc x0 x1 x5 x6 x7 x8 i (vCol h d) := by
  have hh := h.isLt
  have hd := d.isLt
  unfold acc
  rw [val_main_v47_apply, val_main_v46_apply, ← scaled]
  refine congrArg (val_main_v41 (F := Ideal) x0 x1 x5 x6 x7 x8) (funext fun a => Fin.ext ?_)
  match a with
  | ⟨0, _⟩ => show ((i.val * 8 + h.val) * 128 + d.val) / 1024 = i.val; omega
  | ⟨1, _⟩ => show 5120 + ((i.val * 8 + h.val) * 128 + d.val) % 1024 = 5120 + 128 * h.val + d.val; omega

/-- The first half of a rotated query head. -/
theorem query_half0 (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 32) (d : Fin 64) :
    val_main_v56 (F := Ideal) x0 x1 x2 x3 x5 x6 x7 x8 (ix3 i h d)
      = acc x0 x1 x5 x6 x7 x8 i (qCol h ⟨d.val, by omega⟩) * x2 (ix2 i d) - acc x0 x1 x5 x6 x7 x8 i (qCol h ⟨64 + d.val, by omega⟩) * x3 (ix2 i d) := by
  have hl : ∀ p : S1152x32x128.Idx, p = ix3 i h (⟨d.val, by omega⟩ : Fin 128) → val_main_v43 (F := Ideal) x0 x1 x5 x6 x7 x8 p = acc x0 x1 x5 x6 x7 x8 i (qCol h ⟨d.val, by omega⟩) := fun p e => by rw [e, query]
  have hr : ∀ p : S1152x32x128.Idx, p = ix3 i h (⟨64 + d.val, by omega⟩ : Fin 128) → val_main_v43 (F := Ideal) x0 x1 x5 x6 x7 x8 p = acc x0 x1 x5 x6 x7 x8 i (qCol h ⟨64 + d.val, by omega⟩) := fun p e => by rw [e, query]
  rw [val_main_v56_apply, val_main_v53_apply, val_main_v55_apply, val_main_v50_apply, val_main_v51_apply, val_main_v52_apply, val_main_v54_apply, val_main_v48_apply, val_main_v49_apply,
    hl (idx_main_v50 (ix3 i h d)) (funext fun a => by match a with | ⟨0, _⟩ => rfl | ⟨1, _⟩ => rfl | ⟨2, _⟩ => rfl), hr (idx_main_v51 (ix3 i h d)) (funext fun a => by match a with | ⟨0, _⟩ => rfl | ⟨1, _⟩ => rfl | ⟨2, _⟩ => rfl)]
  have e2 : idx_main_v48 (idx_main_v52 (ix3 i h d)) = ix2 i d := funext fun a => by match a with | ⟨0, _⟩ => rfl | ⟨1, _⟩ => rfl
  have e3 : idx_main_v49 (idx_main_v54 (ix3 i h d)) = ix2 i d := funext fun a => by match a with | ⟨0, _⟩ => rfl | ⟨1, _⟩ => rfl
  rw [e2, e3]
  rfl

/-- The second half of a rotated query head. -/
theorem query_half1 (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 32) (d : Fin 64) :
    val_main_v61 (F := Ideal) x0 x1 x2 x3 x5 x6 x7 x8 (ix3 i h d)
      = acc x0 x1 x5 x6 x7 x8 i (qCol h ⟨64 + d.val, by omega⟩) * x2 (ix2 i d) + acc x0 x1 x5 x6 x7 x8 i (qCol h ⟨d.val, by omega⟩) * x3 (ix2 i d) := by
  have hl : ∀ p : S1152x32x128.Idx, p = ix3 i h (⟨d.val, by omega⟩ : Fin 128) → val_main_v43 (F := Ideal) x0 x1 x5 x6 x7 x8 p = acc x0 x1 x5 x6 x7 x8 i (qCol h ⟨d.val, by omega⟩) := fun p e => by rw [e, query]
  have hr : ∀ p : S1152x32x128.Idx, p = ix3 i h (⟨64 + d.val, by omega⟩ : Fin 128) → val_main_v43 (F := Ideal) x0 x1 x5 x6 x7 x8 p = acc x0 x1 x5 x6 x7 x8 i (qCol h ⟨64 + d.val, by omega⟩) := fun p e => by rw [e, query]
  rw [val_main_v61_apply, val_main_v58_apply, val_main_v60_apply, val_main_v50_apply, val_main_v51_apply, val_main_v57_apply, val_main_v59_apply, val_main_v48_apply, val_main_v49_apply,
    hl (idx_main_v50 (ix3 i h d)) (funext fun a => by match a with | ⟨0, _⟩ => rfl | ⟨1, _⟩ => rfl | ⟨2, _⟩ => rfl), hr (idx_main_v51 (ix3 i h d)) (funext fun a => by match a with | ⟨0, _⟩ => rfl | ⟨1, _⟩ => rfl | ⟨2, _⟩ => rfl)]
  have e2 : idx_main_v48 (idx_main_v57 (ix3 i h d)) = ix2 i d := funext fun a => by match a with | ⟨0, _⟩ => rfl | ⟨1, _⟩ => rfl
  have e3 : idx_main_v49 (idx_main_v59 (ix3 i h d)) = ix2 i d := funext fun a => by match a with | ⟨0, _⟩ => rfl | ⟨1, _⟩ => rfl
  rw [e2, e3]
  rfl

/-- A rotated query head. -/
theorem query_rope (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 32) (d : Fin 128) :
    val_main_v62 (F := Ideal) x0 x1 x2 x3 x5 x6 x7 x8 (ix3 i h d)
      = Cert.QkvSpec.rope (fun e => acc x0 x1 x5 x6 x7 x8 i (qCol h e)) (fun e => x2 (ix2 i e)) (fun e => x3 (ix2 i e)) d := by
  unfold val_main_v62 Cert.QkvSpec.rope
  by_cases hd : d.val < 64
  · rw [dif_pos hd]
    refine (concatenate_pair_apply_left (t := S1152x32x128) (s₁ := S1152x32x64) (s₂ := S1152x32x64) 2 _ _ _ (ix3 i h d) rfl (ix3 i h (⟨d.val, hd⟩ : Fin 64)) (fun b => by
      match b with | ⟨0, _⟩ => rfl | ⟨1, _⟩ => rfl | ⟨2, _⟩ => rfl)).trans ?_
    rw [query_half0]
    have e : (qCol h ⟨64 + d.val, by omega⟩) = qCol h ⟨d.val + 64, by omega⟩ := congrArg (qCol h) (Fin.ext (Nat.add_comm _ _))
    exact congrArg (fun q => acc x0 x1 x5 x6 x7 x8 i (qCol h d) * x2 (ix2 i ⟨d.val, hd⟩) - acc x0 x1 x5 x6 x7 x8 i q * x3 (ix2 i ⟨d.val, hd⟩)) e
  · rw [dif_neg hd]
    have hlt := d.isLt
    refine (concatenate_pair_apply_right (t := S1152x32x128) (s₁ := S1152x32x64) (s₂ := S1152x32x64) 2 _ _ _ (ix3 i h d) rfl rfl (ix3 i h (⟨d.val - 64, by omega⟩ : Fin 64)) (fun b hb => by
      match b with | ⟨0, _⟩ => rfl | ⟨1, _⟩ => rfl | ⟨2, _⟩ => exact absurd rfl hb) (by show d.val - 64 + 64 = d.val; omega)).trans ?_
    rw [query_half1]
    have e : (qCol h ⟨64 + (d.val - 64), by omega⟩) = qCol h d := congrArg (qCol h) (Fin.ext (by show 64 + (d.val - 64) = d.val; omega))
    exact congrArg (fun q => acc x0 x1 x5 x6 x7 x8 i q * x2 (ix2 i ⟨d.val - 64, by omega⟩) + acc x0 x1 x5 x6 x7 x8 i (qCol h ⟨d.val - 64, by omega⟩) * x3 (ix2 i ⟨d.val - 64, by omega⟩)) e

/-- The first half of a rotated key head. -/
theorem key_half0 (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 64) :
    val_main_v74 (F := Ideal) x0 x1 x2 x3 x5 x6 x7 x8 (ix3 i h d)
      = acc x0 x1 x5 x6 x7 x8 i (kCol h ⟨d.val, by omega⟩) * x2 (ix2 i d) - acc x0 x1 x5 x6 x7 x8 i (kCol h ⟨64 + d.val, by omega⟩) * x3 (ix2 i d) := by
  have hl : ∀ p : S1152x8x128.Idx, p = ix3 i h (⟨d.val, by omega⟩ : Fin 128) → val_main_v45 (F := Ideal) x0 x1 x5 x6 x7 x8 p = acc x0 x1 x5 x6 x7 x8 i (kCol h ⟨d.val, by omega⟩) := fun p e => by rw [e, key]
  have hr : ∀ p : S1152x8x128.Idx, p = ix3 i h (⟨64 + d.val, by omega⟩ : Fin 128) → val_main_v45 (F := Ideal) x0 x1 x5 x6 x7 x8 p = acc x0 x1 x5 x6 x7 x8 i (kCol h ⟨64 + d.val, by omega⟩) := fun p e => by rw [e, key]
  rw [val_main_v74_apply, val_main_v71_apply, val_main_v73_apply, val_main_v68_apply, val_main_v69_apply, val_main_v70_apply, val_main_v72_apply, val_main_v48_apply, val_main_v49_apply,
    hl (idx_main_v68 (ix3 i h d)) (funext fun a => by match a with | ⟨0, _⟩ => rfl | ⟨1, _⟩ => rfl | ⟨2, _⟩ => rfl), hr (idx_main_v69 (ix3 i h d)) (funext fun a => by match a with | ⟨0, _⟩ => rfl | ⟨1, _⟩ => rfl | ⟨2, _⟩ => rfl)]
  have e2 : idx_main_v48 (idx_main_v70 (ix3 i h d)) = ix2 i d := funext fun a => by match a with | ⟨0, _⟩ => rfl | ⟨1, _⟩ => rfl
  have e3 : idx_main_v49 (idx_main_v72 (ix3 i h d)) = ix2 i d := funext fun a => by match a with | ⟨0, _⟩ => rfl | ⟨1, _⟩ => rfl
  rw [e2, e3]
  rfl

/-- The second half of a rotated key head. -/
theorem key_half1 (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 64) :
    val_main_v79 (F := Ideal) x0 x1 x2 x3 x5 x6 x7 x8 (ix3 i h d)
      = acc x0 x1 x5 x6 x7 x8 i (kCol h ⟨64 + d.val, by omega⟩) * x2 (ix2 i d) + acc x0 x1 x5 x6 x7 x8 i (kCol h ⟨d.val, by omega⟩) * x3 (ix2 i d) := by
  have hl : ∀ p : S1152x8x128.Idx, p = ix3 i h (⟨d.val, by omega⟩ : Fin 128) → val_main_v45 (F := Ideal) x0 x1 x5 x6 x7 x8 p = acc x0 x1 x5 x6 x7 x8 i (kCol h ⟨d.val, by omega⟩) := fun p e => by rw [e, key]
  have hr : ∀ p : S1152x8x128.Idx, p = ix3 i h (⟨64 + d.val, by omega⟩ : Fin 128) → val_main_v45 (F := Ideal) x0 x1 x5 x6 x7 x8 p = acc x0 x1 x5 x6 x7 x8 i (kCol h ⟨64 + d.val, by omega⟩) := fun p e => by rw [e, key]
  rw [val_main_v79_apply, val_main_v76_apply, val_main_v78_apply, val_main_v68_apply, val_main_v69_apply, val_main_v75_apply, val_main_v77_apply, val_main_v48_apply, val_main_v49_apply,
    hl (idx_main_v68 (ix3 i h d)) (funext fun a => by match a with | ⟨0, _⟩ => rfl | ⟨1, _⟩ => rfl | ⟨2, _⟩ => rfl), hr (idx_main_v69 (ix3 i h d)) (funext fun a => by match a with | ⟨0, _⟩ => rfl | ⟨1, _⟩ => rfl | ⟨2, _⟩ => rfl)]
  have e2 : idx_main_v48 (idx_main_v75 (ix3 i h d)) = ix2 i d := funext fun a => by match a with | ⟨0, _⟩ => rfl | ⟨1, _⟩ => rfl
  have e3 : idx_main_v49 (idx_main_v77 (ix3 i h d)) = ix2 i d := funext fun a => by match a with | ⟨0, _⟩ => rfl | ⟨1, _⟩ => rfl
  rw [e2, e3]
  rfl

/-- A rotated key head. -/
theorem key_rope (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 128) :
    val_main_v80 (F := Ideal) x0 x1 x2 x3 x5 x6 x7 x8 (ix3 i h d)
      = Cert.QkvSpec.rope (fun e => acc x0 x1 x5 x6 x7 x8 i (kCol h e)) (fun e => x2 (ix2 i e)) (fun e => x3 (ix2 i e)) d := by
  unfold val_main_v80 Cert.QkvSpec.rope
  by_cases hd : d.val < 64
  · rw [dif_pos hd]
    refine (concatenate_pair_apply_left (t := S1152x8x128) (s₁ := S1152x8x64) (s₂ := S1152x8x64) 2 _ _ _ (ix3 i h d) rfl (ix3 i h (⟨d.val, hd⟩ : Fin 64)) (fun b => by
      match b with | ⟨0, _⟩ => rfl | ⟨1, _⟩ => rfl | ⟨2, _⟩ => rfl)).trans ?_
    rw [key_half0]
    have e : (kCol h ⟨64 + d.val, by omega⟩) = kCol h ⟨d.val + 64, by omega⟩ := congrArg (kCol h) (Fin.ext (Nat.add_comm _ _))
    exact congrArg (fun q => acc x0 x1 x5 x6 x7 x8 i (kCol h d) * x2 (ix2 i ⟨d.val, hd⟩) - acc x0 x1 x5 x6 x7 x8 i q * x3 (ix2 i ⟨d.val, hd⟩)) e
  · rw [dif_neg hd]
    have hlt := d.isLt
    refine (concatenate_pair_apply_right (t := S1152x8x128) (s₁ := S1152x8x64) (s₂ := S1152x8x64) 2 _ _ _ (ix3 i h d) rfl rfl (ix3 i h (⟨d.val - 64, by omega⟩ : Fin 64)) (fun b hb => by
      match b with | ⟨0, _⟩ => rfl | ⟨1, _⟩ => rfl | ⟨2, _⟩ => exact absurd rfl hb) (by show d.val - 64 + 64 = d.val; omega)).trans ?_
    rw [key_half1]
    have e : (kCol h ⟨64 + (d.val - 64), by omega⟩) = kCol h d := congrArg (kCol h) (Fin.ext (by show 64 + (d.val - 64) = d.val; omega))
    exact congrArg (fun q => acc x0 x1 x5 x6 x7 x8 i q * x2 (ix2 i ⟨d.val - 64, by omega⟩) + acc x0 x1 x5 x6 x7 x8 i (kCol h ⟨d.val - 64, by omega⟩) * x3 (ix2 i ⟨d.val - 64, by omega⟩)) e

/-- Everything the reference computes from the scaled product. -/
def all (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) : Fin 1152 → Fin 6144 → EReal :=
  Cert.QkvSpec.outAt (acc x0 x1 x5 x6 x7 x8) (fun i e => x2 (ix2 i e)) (fun i e => x3 (ix2 i e)) (fun h e => x4 (ix2 h e))

/-- A smoothed query. -/
theorem query_out (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 32) (d : Fin 128) : val_main_v67 (F := Ideal) x0 x1 x2 x3 x4 x5 x6 x7 x8 (ix3 i h d) = all x0 x1 x2 x3 x4 x5 x6 x7 x8 i (qCol h d) := by
  have hh := h.isLt
  have hd := d.isLt
  have hlt : (qCol h d).val < 4096 := by show 128 * h.val + d.val < 4096; omega
  unfold all Cert.QkvSpec.outAt
  rw [dif_pos hlt, val_main_v67_apply, val_main_v66_apply, val_main_v65_apply, val_main_v64_apply, val_main_v63_apply, query_rope]
  have e1 : Cert.QkvSpec.dIn (qCol h d) = d := Fin.ext (by show (128 * h.val + d.val) % 128 = d.val; omega)
  have e2 : ∀ e, Cert.QkvSpec.inHead (qCol h d) e = qCol h e := fun e => Fin.ext (by show 128 * ((128 * h.val + d.val) / 128) + e.val = 128 * h.val + e.val; omega)
  have e3 : idx_main_v63 (idx_main_v64 (idx_main_v65 (idx_main_v66 (ix3 i h d)))) = ix2 (⟨(qCol h d).val / 512, by omega⟩ : Fin 8) d := funext fun a => Fin.ext (by
    match a with
    | ⟨0, _⟩ => show (h.val * 128 + d.val) / 512 = (128 * h.val + d.val) / 512; omega
    | ⟨1, _⟩ => show (h.val * 128 + d.val) % 128 = d.val; omega)
  rw [e1, e3]
  simp only [e2]
  rfl

/-- A smoothed key. -/
theorem key_out (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 128) : val_main_v83 (F := Ideal) x0 x1 x2 x3 x4 x5 x6 x7 x8 (ix3 i h d) = all x0 x1 x2 x3 x4 x5 x6 x7 x8 i (kCol h d) := by
  have hh := h.isLt
  have hd := d.isLt
  have hge : ¬(kCol h d).val < 4096 := by show ¬4096 + 128 * h.val + d.val < 4096; omega
  have hlt : (kCol h d).val < 5120 := by show 4096 + 128 * h.val + d.val < 5120; omega
  unfold all Cert.QkvSpec.outAt
  rw [dif_neg hge, dif_pos hlt, val_main_v83_apply, val_main_v82_apply, val_main_v81_apply, key_rope]
  have e1 : Cert.QkvSpec.dIn (kCol h d) = d := Fin.ext (by show (4096 + 128 * h.val + d.val) % 128 = d.val; omega)
  have e2 : ∀ e, Cert.QkvSpec.inHead (kCol h d) e = kCol h e := fun e => Fin.ext (by show 128 * ((4096 + 128 * h.val + d.val) / 128) + e.val = 4096 + 128 * h.val + e.val; omega)
  have e3 : idx_main_v81 (idx_main_v82 (ix3 i h d)) = ix2 (⟨((kCol h d).val - 4096) / 128, by omega⟩ : Fin 8) d := funext fun a => Fin.ext (by
    match a with
    | ⟨0, _⟩ => show h.val = (4096 + 128 * h.val + d.val - 4096) / 128; omega
    | ⟨1, _⟩ => rfl)
  rw [e1, e3]
  simp only [e2]
  rfl

/-- A value. -/
theorem value_out (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 128) : val_main_v47 (F := Ideal) x0 x1 x5 x6 x7 x8 (ix3 i h d) = all x0 x1 x2 x3 x4 x5 x6 x7 x8 i (vCol h d) := by
  have hge : ¬(vCol h d).val < 4096 := by show ¬5120 + 128 * h.val + d.val < 4096; omega
  have hge' : ¬(vCol h d).val < 5120 := by show ¬5120 + 128 * h.val + d.val < 5120; omega
  unfold all Cert.QkvSpec.outAt
  rw [dif_neg hge, dif_neg hge', value]

/-- The largest absolute value of a key head. -/
theorem key_max (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) :
    val_main_v85 (F := Ideal) x0 x1 x2 x3 x4 x5 x6 x7 x8 (ix2 i h) = Cert.Quant.amax fun e : Fin 128 => val_main_v83 (F := Ideal) x0 x1 x2 x3 x4 x5 x6 x7 x8 (ix3 i h e) := by
  unfold val_main_v85 val_main_v84
  generalize val_main_v83 (F := Ideal) x0 x1 x2 x3 x4 x5 x6 x7 x8 = X
  pointwise
  rfl

/-- The half-precision scale of a key head. -/
theorem key_scale (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) :
    val_main_v93 (F := Ideal) x0 x1 x2 x3 x4 x5 x6 x7 x8 (ix2 i h) = Cert.Quant.halfScale fun e : Fin 128 => val_main_v83 (F := Ideal) x0 x1 x2 x3 x4 x5 x6 x7 x8 (ix3 i h e) := by
  have hs : val_main_v90 (F := Ideal) x0 x1 x2 x3 x4 x5 x6 x7 x8 (ix2 i h) = Cert.Quant.scale (Cert.Quant.amax fun e : Fin 128 => val_main_v83 (F := Ideal) x0 x1 x2 x3 x4 x5 x6 x7 x8 (ix3 i h e)) := by
    rw [← key_max]
    unfold Cert.Quant.scale
    rw [val_main_v90_apply, val_main_v87_apply, val_main_v89_apply, val_main_call0_v1_apply, val_main_v86_apply, val_main_v88_apply]
    generalize val_main_v85 (F := Ideal) x0 x1 x2 x3 x4 x5 x6 x7 x8 (ix2 i h) = a
    exact Cert.Quant.select_gt _ _
  unfold Cert.Quant.halfScale
  rw [← hs, val_main_v93_apply, val_main_v92_apply, val_main_call1_v1_apply, val_main_v91_apply]
  generalize val_main_v90 (F := Ideal) x0 x1 x2 x3 x4 x5 x6 x7 x8 (ix2 i h) = a
  exact Cert.Quant.select_over _

/-- The byte of a key. -/
theorem key_code (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 128) :
    val_main_v100 (F := Ideal) x0 x1 x2 x3 x4 x5 x6 x7 x8 (ix3 i h d)
      = Cert.Quant.code (val_main_v83 (F := Ideal) x0 x1 x2 x3 x4 x5 x6 x7 x8 (ix3 i h d)) (Cert.Quant.halfScale fun e : Fin 128 => val_main_v83 (F := Ideal) x0 x1 x2 x3 x4 x5 x6 x7 x8 (ix3 i h e)) := by
  have hb : val_main_v95 (F := Ideal) x0 x1 x2 x3 x4 x5 x6 x7 x8 (ix3 i h d) = Cert.Quant.halfScale fun e : Fin 128 => val_main_v83 (F := Ideal) x0 x1 x2 x3 x4 x5 x6 x7 x8 (ix3 i h e) := by
    rw [val_main_v95_apply, val_main_v94_apply]
    exact (congrArg (val_main_v93 (F := Ideal) x0 x1 x2 x3 x4 x5 x6 x7 x8) (funext fun a => by match a with | ⟨0, _⟩ => rfl | ⟨1, _⟩ => rfl)).trans (key_scale x0 x1 x2 x3 x4 x5 x6 x7 x8 i h)
  rw [val_main_v100_apply, val_main_v99_apply, val_main_v98_apply, val_main_call3_v2_apply, val_main_v97_apply, val_main_v96_apply, hb]
  generalize val_main_v83 (F := Ideal) x0 x1 x2 x3 x4 x5 x6 x7 x8 (ix3 i h d) = x
  generalize (Cert.Quant.halfScale fun e : Fin 128 => val_main_v83 (F := Ideal) x0 x1 x2 x3 x4 x5 x6 x7 x8 (ix3 i h e)) = s
  exact Cert.Quant.code_wide _ _

/-- The largest absolute value of a value head. -/
theorem value_max (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) :
    val_main_v102 (F := Ideal) x0 x1 x5 x6 x7 x8 (ix2 i h) = Cert.Quant.amax fun e : Fin 128 => val_main_v47 (F := Ideal) x0 x1 x5 x6 x7 x8 (ix3 i h e) := by
  unfold val_main_v102 val_main_v101
  generalize val_main_v47 (F := Ideal) x0 x1 x5 x6 x7 x8 = X
  pointwise
  rfl

/-- The half-precision scale of a value head. -/
theorem value_scale (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) :
    val_main_v110 (F := Ideal) x0 x1 x5 x6 x7 x8 (ix2 i h) = Cert.Quant.halfScale fun e : Fin 128 => val_main_v47 (F := Ideal) x0 x1 x5 x6 x7 x8 (ix3 i h e) := by
  have hs : val_main_v107 (F := Ideal) x0 x1 x5 x6 x7 x8 (ix2 i h) = Cert.Quant.scale (Cert.Quant.amax fun e : Fin 128 => val_main_v47 (F := Ideal) x0 x1 x5 x6 x7 x8 (ix3 i h e)) := by
    rw [← value_max]
    unfold Cert.Quant.scale
    rw [val_main_v107_apply, val_main_v104_apply, val_main_v106_apply, val_main_call4_v1_apply, val_main_v103_apply, val_main_v105_apply]
    generalize val_main_v102 (F := Ideal) x0 x1 x5 x6 x7 x8 (ix2 i h) = a
    exact Cert.Quant.select_gt _ _
  unfold Cert.Quant.halfScale
  rw [← hs, val_main_v110_apply, val_main_v109_apply, val_main_call5_v1_apply, val_main_v108_apply]
  generalize val_main_v107 (F := Ideal) x0 x1 x5 x6 x7 x8 (ix2 i h) = a
  exact Cert.Quant.select_over _

/-- The byte of a value. -/
theorem value_code (x0 : (⟨S1152x4096, .i8⟩ : BufTy).Contents (Elt Ideal)) (x1 : (⟨S1152x1, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (h : Fin 8) (d : Fin 128) :
    val_main_v117 (F := Ideal) x0 x1 x5 x6 x7 x8 (ix3 i h d)
      = Cert.Quant.code (val_main_v47 (F := Ideal) x0 x1 x5 x6 x7 x8 (ix3 i h d)) (Cert.Quant.halfScale fun e : Fin 128 => val_main_v47 (F := Ideal) x0 x1 x5 x6 x7 x8 (ix3 i h e)) := by
  have hb : val_main_v112 (F := Ideal) x0 x1 x5 x6 x7 x8 (ix3 i h d) = Cert.Quant.halfScale fun e : Fin 128 => val_main_v47 (F := Ideal) x0 x1 x5 x6 x7 x8 (ix3 i h e) := by
    rw [val_main_v112_apply, val_main_v111_apply]
    exact (congrArg (val_main_v110 (F := Ideal) x0 x1 x5 x6 x7 x8) (funext fun a => by match a with | ⟨0, _⟩ => rfl | ⟨1, _⟩ => rfl)).trans (value_scale x0 x1 x5 x6 x7 x8 i h)
  rw [val_main_v117_apply, val_main_v116_apply, val_main_v115_apply, val_main_call7_v2_apply, val_main_v114_apply, val_main_v113_apply, hb]
  generalize val_main_v47 (F := Ideal) x0 x1 x5 x6 x7 x8 (ix3 i h d) = x
  generalize (Cert.Quant.halfScale fun e : Fin 128 => val_main_v47 (F := Ideal) x0 x1 x5 x6 x7 x8 (ix3 i h e)) = s
  exact Cert.Quant.code_wide _ _

/-- A flat column is a head and a place in it. -/
theorem flat118 (i : Fin 1152) (k : Fin 4096) :
    idx_main_v118 (ix2 i k) = ix3 i (⟨k.val / 128, by omega⟩ : Fin 32) (⟨k.val % 128, Nat.mod_lt _ (by decide)⟩ : Fin 128) := by
  have hk := k.isLt
  exact funext fun a => Fin.ext (by
    match a with
    | ⟨0, _⟩ => show (i.val * 4096 + k.val) / 4096 = i.val; omega
    | ⟨1, _⟩ => show (i.val * 4096 + k.val) / 128 % 32 = k.val / 128; omega
    | ⟨2, _⟩ => show (i.val * 4096 + k.val) % 128 = k.val % 128; omega)

/-- A flat column is a head and a place in it. -/
theorem flat119 (i : Fin 1152) (k : Fin 1024) :
    idx_main_v119 (ix2 i k) = ix3 i (⟨k.val / 128, by omega⟩ : Fin 8) (⟨k.val % 128, Nat.mod_lt _ (by decide)⟩ : Fin 128) := by
  have hk := k.isLt
  exact funext fun a => Fin.ext (by
    match a with
    | ⟨0, _⟩ => show (i.val * 1024 + k.val) / 1024 = i.val; omega
    | ⟨1, _⟩ => show (i.val * 1024 + k.val) / 128 % 8 = k.val / 128; omega
    | ⟨2, _⟩ => show (i.val * 1024 + k.val) % 128 = k.val % 128; omega)

/-- A flat column is a head and a place in it. -/
theorem flat120 (i : Fin 1152) (k : Fin 1024) :
    idx_main_v120 (ix2 i k) = ix3 i (⟨k.val / 128, by omega⟩ : Fin 8) (⟨k.val % 128, Nat.mod_lt _ (by decide)⟩ : Fin 128) := by
  have hk := k.isLt
  exact funext fun a => Fin.ext (by
    match a with
    | ⟨0, _⟩ => show (i.val * 1024 + k.val) / 1024 = i.val; omega
    | ⟨1, _⟩ => show (i.val * 1024 + k.val) / 128 % 8 = k.val / 128; omega
    | ⟨2, _⟩ => show (i.val * 1024 + k.val) % 128 = k.val % 128; omega)

/-- A flat column is a head and a place in it. -/
theorem flat123 (i : Fin 1152) (k : Fin 1024) :
    idx_main_v123 (ix2 i k) = ix3 i (⟨k.val / 128, by omega⟩ : Fin 8) (⟨k.val % 128, Nat.mod_lt _ (by decide)⟩ : Fin 128) := by
  have hk := k.isLt
  exact funext fun a => Fin.ext (by
    match a with
    | ⟨0, _⟩ => show (i.val * 1024 + k.val) / 1024 = i.val; omega
    | ⟨1, _⟩ => show (i.val * 1024 + k.val) / 128 % 8 = k.val / 128; omega
    | ⟨2, _⟩ => show (i.val * 1024 + k.val) % 128 = k.val % 128; omega)

/-- A flat column is a head and a place in it. -/
theorem flat124 (i : Fin 1152) (k : Fin 1024) :
    idx_main_v124 (ix2 i k) = ix3 i (⟨k.val / 128, by omega⟩ : Fin 8) (⟨k.val % 128, Nat.mod_lt _ (by decide)⟩ : Fin 128) := by
  have hk := k.isLt
  exact funext fun a => Fin.ext (by
    match a with
    | ⟨0, _⟩ => show (i.val * 1024 + k.val) / 1024 = i.val; omega
    | ⟨1, _⟩ => show (i.val * 1024 + k.val) / 128 % 8 = k.val / 128; omega
    | ⟨2, _⟩ => show (i.val * 1024 + k.val) % 128 = k.val % 128; omega)

/-- The reference's first result at a row and a column. -/
theorem out_all (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (J : Fin 6144) : val_main_v122 (F := Ideal) x0 x1 x2 x3 x4 x5 x6 x7 x8 (ix2 i J) = all x0 x1 x2 x3 x4 x5 x6 x7 x8 i J := by
  have hJ := J.isLt
  rw [val_main_v122_apply]
  show val_main_v121 (F := Ideal) x0 x1 x2 x3 x4 x5 x6 x7 x8 (ix2 i J) = _
  unfold val_main_v121
  generalize e0 : val_main_v118 (F := Ideal) x0 x1 x2 x3 x4 x5 x6 x7 x8 = y0
  generalize e1 : val_main_v119 (F := Ideal) x0 x1 x2 x3 x4 x5 x6 x7 x8 = y1
  generalize e2 : val_main_v120 (F := Ideal) x0 x1 x5 x6 x7 x8 = y2
  pointwise
  by_cases h0 : J.val < 4096
  · rw [dif_pos h0, ← e0, val_main_v118_apply, flat118, query_out]
    exact congrArg (all x0 x1 x2 x3 x4 x5 x6 x7 x8 i) (Fin.ext (by show 128 * (J.val / 128) + J.val % 128 = J.val; omega))
  · rw [dif_neg h0]
    by_cases h1 : J.val - 4096 < 1024
    · rw [dif_pos h1, ← e1, val_main_v119_apply, flat119, key_out]
      exact congrArg (all x0 x1 x2 x3 x4 x5 x6 x7 x8 i) (Fin.ext (by show 4096 + 128 * ((J.val - 4096) / 128) + (J.val - 4096) % 128 = J.val; omega))
    · rw [dif_neg h1, ← e2, val_main_v120_apply, flat120, value_out x0 x1 x2 x3 x4 x5 x6 x7 x8]
      exact congrArg (all x0 x1 x2 x3 x4 x5 x6 x7 x8 i) (Fin.ext (by show 5120 + 128 * ((J.val - 4096 - 1024) / 128) + (J.val - 4096 - 1024) % 128 = J.val; omega))

/-- The reference's second result at a row and a column. -/
theorem out_bytes (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (i : Fin 1152) (j : Fin 2048) : val_main_v125 (F := Ideal) x0 x1 x2 x3 x4 x5 x6 x7 x8 (ix2 i j) = Cert.QkvSpec.byteAt (all x0 x1 x2 x3 x4 x5 x6 x7 x8) i j := by
  have hj := j.isLt
  unfold val_main_v125 Cert.QkvSpec.byteAt
  generalize e0 : val_main_v123 (F := Ideal) x0 x1 x2 x3 x4 x5 x6 x7 x8 = y0
  generalize e1 : val_main_v124 (F := Ideal) x0 x1 x5 x6 x7 x8 = y1
  pointwise
  by_cases h0 : j.val < 1024
  · rw [dif_pos h0, ← e0, val_main_v123_apply, flat123, key_code]
    simp only [key_out]
    have c1 : kCol (⟨j.val / 128, by omega⟩ : Fin 8) (⟨j.val % 128, Nat.mod_lt _ (by decide)⟩ : Fin 128) = Cert.QkvSpec.kvCol j := Fin.ext (by
      show 4096 + 128 * (j.val / 128) + j.val % 128 = 4096 + j.val; omega)
    have c2 : (fun e : Fin 128 => all x0 x1 x2 x3 x4 x5 x6 x7 x8 i (kCol (⟨j.val / 128, by omega⟩ : Fin 8) e)) = fun e => all x0 x1 x2 x3 x4 x5 x6 x7 x8 i (Cert.QkvSpec.inHead (Cert.QkvSpec.kvCol j) e) :=
      funext fun e => congrArg (all x0 x1 x2 x3 x4 x5 x6 x7 x8 i) (Fin.ext (by show 4096 + 128 * (j.val / 128) + e.val = 128 * ((4096 + j.val) / 128) + e.val; omega))
    rw [c1, c2]
  · rw [dif_neg h0, ← e1, val_main_v124_apply, flat124, value_code]
    simp only [value_out x0 x1 x2 x3 x4 x5 x6 x7 x8]
    have c1 : vCol (⟨(j.val - 1024) / 128, by omega⟩ : Fin 8) (⟨(j.val - 1024) % 128, Nat.mod_lt _ (by decide)⟩ : Fin 128) = Cert.QkvSpec.kvCol j := Fin.ext (by
      show 5120 + 128 * ((j.val - 1024) / 128) + (j.val - 1024) % 128 = 4096 + j.val; omega)
    have c2 : (fun e : Fin 128 => all x0 x1 x2 x3 x4 x5 x6 x7 x8 i (vCol (⟨(j.val - 1024) / 128, by omega⟩ : Fin 8) e)) = fun e => all x0 x1 x2 x3 x4 x5 x6 x7 x8 i (Cert.QkvSpec.inHead (Cert.QkvSpec.kvCol j) e) :=
      funext fun e => congrArg (all x0 x1 x2 x3 x4 x5 x6 x7 x8 i) (Fin.ext (by show 5120 + 128 * ((j.val - 1024) / 128) + e.val = 128 * ((4096 + j.val) / 128) + e.val; omega))
    rw [c1, c2]

/-- The reference's third result at a block, a row and a head. -/
theorem out_scales (x0 : (⟨S1152x4096, .i8⟩ : BufTy).Contents (Elt Ideal)) (x1 : (⟨S1152x1, .f32⟩ : BufTy).Contents (Elt Ideal)) (x2 : (⟨S1152x64, .f32⟩ : BufTy).Contents (Elt Ideal)) (x3 : (⟨S1152x64, .f32⟩ : BufTy).Contents (Elt Ideal)) (x4 : (⟨S8x128, .f32⟩ : BufTy).Contents (Elt Ideal)) (x5 : (⟨S2048x6144, .i8⟩ : BufTy).Contents (Elt Ideal)) (x6 : (⟨S32x6144, .i8⟩ : BufTy).Contents (Elt Ideal)) (x7 : (⟨S32x6144, .i8⟩ : BufTy).Contents (Elt Ideal)) (x8 : (⟨S6144, .f32⟩ : BufTy).Contents (Elt Ideal)) (b : Fin 4) (i : Fin 1152) (h : Fin 4) : val_main_v128 (F := Ideal) x0 x1 x2 x3 x4 x5 x6 x7 x8 (ix3 b i h) = Cert.QkvSpec.scaleAt (all x0 x1 x2 x3 x4 x5 x6 x7 x8) b i h := by
  have hb := b.isLt
  have hh := h.isLt
  rw [val_main_v128_apply, val_main_v127_apply]
  have e : idx_main_v127 (idx_main_v128 (ix3 b i h)) = ix2 i (⟨4 * b.val + h.val, by omega⟩ : Fin 16) := funext fun a => Fin.ext (by
    match a with
    | ⟨0, _⟩ => show ((i.val * 4 + b.val) * 4 + h.val) / 16 = i.val; omega
    | ⟨1, _⟩ => show ((i.val * 4 + b.val) * 4 + h.val) % 16 = 4 * b.val + h.val; omega)
  rw [e]
  unfold val_main_v126 Cert.QkvSpec.scaleAt
  generalize e0 : val_main_v93 (F := Ideal) x0 x1 x2 x3 x4 x5 x6 x7 x8 = y0
  generalize e1 : val_main_v110 (F := Ideal) x0 x1 x5 x6 x7 x8 = y1
  pointwise
  by_cases h0 : 4 * b.val + h.val < 8
  · rw [dif_pos h0, ← e0, key_scale]
    simp only [key_out]
    exact congrArg Cert.Quant.halfScale (funext fun e => congrArg (all x0 x1 x2 x3 x4 x5 x6 x7 x8 i) (Fin.ext (by
      show 4096 + 128 * (4 * b.val + h.val) + e.val = 4096 + 512 * b.val + 128 * h.val + e.val; omega)))
  · rw [dif_neg h0, ← e1, value_scale]
    simp only [value_out x0 x1 x2 x3 x4 x5 x6 x7 x8]
    exact congrArg Cert.Quant.halfScale (funext fun e => congrArg (all x0 x1 x2 x3 x4 x5 x6 x7 x8 i) (Fin.ext (by
      show 5120 + 128 * (4 * b.val + h.val - 8) + e.val = 4096 + 512 * b.val + 128 * h.val + e.val; omega)))

end Cert.QkvRefIdeal.At

end
-- ==== Proof.Qkv.lean ====
/- The query, key and value product: the arrays after the run are the smoothed and rotated heads of the scaled product, with the bytes
   and the scales of the keys and the values, which is what the reference computes. -/
module

public import proofs.«01_k».proof.Defs
public import proofs.«01_k».proof.Proof.QkvBlock
public import proofs.«01_k».proof.Proof.QkvRef
public import proofs.«01_k».proof.Proof.Gen.Qkv.Frame
public import Idealize.ShloMosaic.Lib.ValueLayout

@[expose] public section

set_option maxRecDepth 16384

noncomputable section

namespace Cert.QkvIdeal.Whole

open Cert.QkvIdeal Cert.QkvIdeal.Gen Cert.QkvIdeal.Value Cert.QkvIdeal.Block Idealize.ShloMosaic Idealize.ShloMosaic.TcCoe Idealize.SL.Sem

/-- A block's scaled product at a row and a column. -/
theorem prod_at (a : Vec Ideal S1152x4096 .bf16) (x1 : Vec Ideal S1152x1 .f32) (x5 : Vec Ideal S2048x512 .i8) (x6 x7 : Vec Ideal S32x512 .i8) (x8 : Vec Ideal S1x512 .f32)
    (i : Fin 1152) (j : Fin 512) :
    prod a x1 x5 x6 x7 x8 (ix2 i j) = (∑ k : Fin 4096, (a (ix2 i k) : EReal) * Cert.W4.weights hk x5 x6 x7 (ix2 k j)) * x1 (ix2 i 0) * x8 (ix2 0 j) := by
  unfold prod
  pointwise [k0_pay96, k0_pay97]

/-- The activations as real numbers. -/
theorem acts_at (x0 : Vec Ideal S1152x4096 .i8) (i : Fin 1152) (k : Fin 4096) : (k0_pay27 (F := Ideal) x0 (ix2 i k) : EReal) = Cert.W4.real (x0 (ix2 i k)) := by
  pointwise [k0_pay27]
  rfl

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)
theorem idx7 : ∀ t : Fin cfg0.N, win0_7.index t (0 : Fin 2) = 0 ∧ win0_7.index t (1 : Fin 2) = t.val := (by decide +kernel : ∀ t : Fin grid0.N, _)
theorem idx8 : ∀ t : Fin cfg0.N, win0_8.index t (0 : Fin 2) = 0 ∧ win0_8.index t (1 : Fin 2) = t.val := (by decide +kernel : ∀ t : Fin grid0.N, _)
theorem idx9 : ∀ t : Fin cfg0.N, win0_9.index t (0 : Fin 2) = 0 ∧ win0_9.index t (1 : Fin 2) = t.val := (by decide +kernel : ∀ t : Fin grid0.N, _)
theorem idx10 : ∀ t : Fin cfg0.N, win0_10.index t (0 : Fin 2) = 0 ∧ win0_10.index t (1 : Fin 2) = t.val - 8 := (by decide +kernel : ∀ t : Fin grid0.N, _)
theorem idx11 : ∀ t : Fin cfg0.N, win0_11.index t (0 : Fin 3) = t.val - 8 ∧ win0_11.index t (1 : Fin 3) = 0 ∧ win0_11.index t (2 : Fin 3) = 0 := (by decide +kernel : ∀ t : Fin grid0.N, _)

/-- Column `j` of point `t`'s block is column `512 t + j` of the array. -/
def col (t : Fin cfg0.N) (j : Fin 512) : Fin 6144 := ⟨512 * t.val + j.val, by have h : t.val < 12 := lt_of_lt_of_eq t.isLt N_0; omega⟩

/-- The activations, their scales and the angles are whole at every point. -/
theorem blk0 (c : Dev nD) (t : Fin cfg0.N) : iblk m c 0 t = m ((c : Thread nD τ).loc main_arg0) := by
  obtain ⟨e0, e1⟩ := idx0 t
  funext j
  refine (show iblk m c 0 t j = V m c main_arg0 (((cfg0.win 0).blk t).view.emb j) from rfl).trans ?_
  rw [V_main_arg0]
  refine congrArg (m ((c : Thread nD τ).loc main_arg0)) (funext fun a => Fin.ext ?_)
  match a with
  | ⟨0, _⟩ => show win0_0.index t (0 : Fin 2) * 1152 + 1 * (j 0).val = (j 0).val; omega
  | ⟨1, _⟩ => show win0_0.index t (1 : Fin 2) * 4096 + 1 * (j 1).val = (j 1).val; omega

theorem blk1 (c : Dev nD) (t : Fin cfg0.N) (i : Fin 1152) : iblk m c 1 t (ix2 i 0) = m ((c : Thread nD τ).loc main_arg1) (ix2 i 0) := by
  obtain ⟨e0, e1⟩ := idx1 t
  refine (show iblk m c 1 t (ix2 i 0) = V m c main_arg1 (((cfg0.win 1).blk t).view.emb (ix2 i 0)) from rfl).trans ?_
  rw [V_main_arg1]
  refine congrArg (m ((c : Thread nD τ).loc main_arg1)) (funext fun a => Fin.ext ?_)
  match a with
  | ⟨0, _⟩ => show win0_1.index t (0 : Fin 2) * 1152 + 1 * i.val = i.val; omega
  | ⟨1, _⟩ => show win0_1.index t (1 : Fin 2) * 1 + 1 * 0 = 0; omega

/-- The cosines twice over. -/
theorem V_cos (c : Dev nD) : V m c main_v0 = concatenate S1152x128 1 [⟨S1152x64, m ((c : Thread nD τ).loc main_arg2)⟩, ⟨S1152x64, m ((c : Thread nD τ).loc main_arg2)⟩] concatenates_S1152x64_S1152x64_S1152x128_d1 := by
  show StableHlo.after hostOps0 (fun b => m (c, b)) (Proc.devRef .tc main_v0) = _
  after_results_simp <;> rfl

theorem blk2 (c : Dev nD) (t : Fin cfg0.N) (i : Fin 1152) (d : Fin 128) : iblk m c 2 t (ix2 i d)
    = if h : d.val < 64 then m ((c : Thread nD τ).loc main_arg2) (ix2 i (⟨d.val, h⟩ : Fin 64)) else m ((c : Thread nD τ).loc main_arg2) (ix2 i (⟨d.val - 64, by omega⟩ : Fin 64)) := by
  obtain ⟨e0, e1⟩ := idx2 t
  refine (show iblk m c 2 t (ix2 i d) = V m c main_v0 (((cfg0.win 2).blk t).view.emb (ix2 i d)) from rfl).trans ?_
  have e : ((cfg0.win 2).blk t).view.emb (ix2 i d) = (ix2 i d : S1152x128.Idx) := funext fun a => Fin.ext (by
    match a with
    | ⟨0, _⟩ => show win0_2.index t (0 : Fin 2) * 1152 + 1 * i.val = i.val; omega
    | ⟨1, _⟩ => show win0_2.index t (1 : Fin 2) * 128 + 1 * d.val = d.val; omega)
  rw [e, V_cos]
  generalize m ((c : Thread nD τ).loc main_arg2) = x
  pointwise
  done

/-- The sines, the first half negated. -/
theorem V_sin (c : Dev nD) : V m c main_v2 = concatenate S1152x128 1 [⟨S1152x64, Host.negf (F := Ideal) (s := S1152x64) (φ := .f32) (m ((c : Thread nD τ).loc main_arg3))⟩, ⟨S1152x64, m ((c : Thread nD τ).loc main_arg3)⟩] concatenates_S1152x64_S1152x64_S1152x128_d1 := by
  show StableHlo.after hostOps0 (fun b => m (c, b)) (Proc.devRef .tc main_v2) = _
  after_results_simp <;> rfl

theorem blk3 (c : Dev nD) (t : Fin cfg0.N) (i : Fin 1152) (d : Fin 128) : iblk m c 3 t (ix2 i d)
    = if h : d.val < 64 then Neg.neg (α := EReal) (m ((c : Thread nD τ).loc main_arg3) (ix2 i (⟨d.val, h⟩ : Fin 64))) else m ((c : Thread nD τ).loc main_arg3) (ix2 i (⟨d.val - 64, by omega⟩ : Fin 64)) := by
  obtain ⟨e0, e1⟩ := idx3 t
  refine (show iblk m c 3 t (ix2 i d) = V m c main_v2 (((cfg0.win 3).blk t).view.emb (ix2 i d)) from rfl).trans ?_
  have e : ((cfg0.win 3).blk t).view.emb (ix2 i d) = (ix2 i d : S1152x128.Idx) := funext fun a => Fin.ext (by
    match a with
    | ⟨0, _⟩ => show win0_3.index t (0 : Fin 2) * 1152 + 1 * i.val = i.val; omega
    | ⟨1, _⟩ => show win0_3.index t (1 : Fin 2) * 128 + 1 * d.val = d.val; omega)
  rw [e, V_sin]
  generalize m ((c : Thread nD τ).loc main_arg3) = x
  pointwise
  done

/-- The smoothing row: each key head's factors four times over, then once, then ones. -/
def smooth (x : Vec Ideal S8x128 .f32) : Vec Ideal S6144 .f32 :=
  concatenate S6144 0 [⟨S4096, shapeCast S4096 (shapeCast S32x128 (broadcastInDim S8x4x128 ![0, 2] bcast_S8x128_S8x4x128_0_2 x) shapeCasts_S8x4x128_S32x128) shapeCasts_S32x128_S4096⟩,
    ⟨S1024, shapeCast S1024 x shapeCasts_S8x128_S1024⟩, ⟨S1024, broadcastInDim S1024 ![] bcast_S_S1024 (constant (F := Ideal) S_ .f32 0x3F800000#32)⟩] concatenates_S4096_S1024_S1024_S6144_d0

theorem V_smooth (c : Dev nD) : V m c main_v9 = shapeCast S1x6144 (smooth (m ((c : Thread nD τ).loc main_arg4))) shapeCasts_S6144_S1x6144 := by
  unfold smooth
  show StableHlo.after hostOps0 (fun b => m (c, b)) (Proc.devRef .tc main_v9) = _
  after_results_simp <;> (try dsimp only [Matrix.cons_val]) <;> (try after_results_simp) <;> rfl

theorem blk4 (c : Dev nD) (t : Fin cfg0.N) (j : Fin 512) : iblk m c 4 t (ix2 0 j) = smooth (m ((c : Thread nD τ).loc main_arg4)) (Cert.W4.at1 (col t j)) := by
  obtain ⟨e0, e1⟩ := idx4 t
  refine (show iblk m c 4 t (ix2 0 j) = V m c main_v9 (((cfg0.win 4).blk t).view.emb (ix2 0 j)) from rfl).trans ?_
  rw [V_smooth]
  have e : ((cfg0.win 4).blk t).view.emb (ix2 0 j) = (ix2 (0 : Fin 1) (col t j) : S1x6144.Idx) := funext fun a => Fin.ext (by
    match a with
    | ⟨0, _⟩ => show win0_4.index t (0 : Fin 2) * 1 + 1 * 0 = 0; omega
    | ⟨1, _⟩ => show win0_4.index t (1 : Fin 2) * 512 + 1 * j.val = 512 * t.val + j.val; omega)
  rw [e]
  refine (ValueIdx.shapeCast_a_1a_apply _ _ _ _).trans ?_
  refine congrArg (smooth (m ((c : Thread nD τ).loc main_arg4))) (funext fun a => Fin.ext ?_)
  match a with
  | ⟨0, _⟩ => rfl

/-- The smoothing of the queries. -/
theorem smooth_q (x : Vec Ideal S8x128 .f32) (J : Fin 6144) (h : J.val < 4096) :
    smooth x (Cert.W4.at1 J) = x (ix2 (⟨J.val / 512, by omega⟩ : Fin 8) (Cert.QkvSpec.dIn J)) := by
  have e : smooth x (Cert.W4.at1 J) = shapeCast S4096 (shapeCast S32x128 (broadcastInDim S8x4x128 ![0, 2] bcast_S8x128_S8x4x128_0_2 x) shapeCasts_S8x4x128_S32x128) shapeCasts_S32x128_S4096 (Cert.W4.at1 ⟨J.val, h⟩) := by
    unfold smooth
    generalize shapeCast S4096 _ _ = y
    generalize shapeCast S1024 _ _ = y'
    pointwise
    exact (dif_pos (show (Cert.W4.at1 J 0).val < 4096 from h)).trans (congrArg y (funext fun a => by match a with | ⟨0, _⟩ => rfl))
  rw [e]
  refine (shapeCast_apply _ _ _ (ix2 (⟨J.val / 128, by omega⟩ : Fin 32) (Cert.QkvSpec.dIn J)) (by
    rw [Shape.rowMajor_val_two, Shape.rowMajor_val_one]; show J.val / 128 * 128 + J.val % 128 = J.val; omega)).trans ?_
  refine (shapeCast_apply _ _ _ (ix3 (⟨J.val / 512, by omega⟩ : Fin 8) (⟨J.val / 128 % 4, by omega⟩ : Fin 4) (Cert.QkvSpec.dIn J)) (by
    rw [Shape.rowMajor_val_two, Shape.rowMajor_val_three]; show (J.val / 512 * 4 + J.val / 128 % 4) * 128 + J.val % 128 = J.val / 128 * 128 + J.val % 128; omega)).trans ?_
  pointwise
  done

/-- The smoothing of the keys. -/
theorem smooth_k (x : Vec Ideal S8x128 .f32) (J : Fin 6144) (h : ¬J.val < 4096) (h' : J.val < 5120) :
    smooth x (Cert.W4.at1 J) = x (ix2 (⟨(J.val - 4096) / 128, by omega⟩ : Fin 8) (Cert.QkvSpec.dIn J)) := by
  have e : smooth x (Cert.W4.at1 J) = shapeCast S1024 x shapeCasts_S8x128_S1024 (Cert.W4.at1 ⟨J.val - 4096, by omega⟩) := by
    unfold smooth
    generalize shapeCast S4096 _ _ = y
    generalize shapeCast S1024 _ _ = y'
    pointwise
    exact (dif_neg (show ¬(Cert.W4.at1 J 0).val < 4096 from h)).trans ((dif_pos (show (Cert.W4.at1 J 0).val - 4096 < 1024 by show J.val - 4096 < 1024; omega)).trans
      (congrArg y' (funext fun a => by match a with | ⟨0, _⟩ => rfl)))
  rw [e]
  exact shapeCast_apply _ _ _ (ix2 (⟨(J.val - 4096) / 128, by omega⟩ : Fin 8) (Cert.QkvSpec.dIn J)) (by
    rw [Shape.rowMajor_val_two, Shape.rowMajor_val_one]; show (J.val - 4096) / 128 * 128 + J.val % 128 = J.val - 4096; omega)

theorem blk5 (c : Dev nD) (t : Fin cfg0.N) (i : Fin 2048) (j : Fin 512) : iblk m c 5 t (ix2 i j) = m ((c : Thread nD τ).loc main_arg5) (ix2 i (col t j)) := by
  obtain ⟨e0, e1⟩ := idx5 t
  refine (show iblk m c 5 t (ix2 i j) = V m c main_arg5 (((cfg0.win 5).blk t).view.emb (ix2 i j)) from rfl).trans ?_
  rw [V_main_arg5]
  refine congrArg (m ((c : Thread nD τ).loc main_arg5)) (funext fun a => Fin.ext ?_)
  match a with
  | ⟨0, _⟩ => show win0_5.index t (0 : Fin 2) * 2048 + 1 * i.val = i.val; omega
  | ⟨1, _⟩ => show win0_5.index t (1 : Fin 2) * 512 + 1 * j.val = 512 * t.val + j.val; omega

theorem blk6 (c : Dev nD) (t : Fin cfg0.N) (i : Fin 32) (j : Fin 512) : iblk m c 6 t (ix2 i j) = m ((c : Thread nD τ).loc main_arg6) (ix2 i (col t j)) := by
  obtain ⟨e0, e1⟩ := idx6 t
  refine (show iblk m c 6 t (ix2 i j) = V m c main_arg6 (((cfg0.win 6).blk t).view.emb (ix2 i j)) from rfl).trans ?_
  rw [V_main_arg6]
  refine congrArg (m ((c : Thread nD τ).loc main_arg6)) (funext fun a => Fin.ext ?_)
  match a with
  | ⟨0, _⟩ => show win0_6.index t (0 : Fin 2) * 32 + 1 * i.val = i.val; omega
  | ⟨1, _⟩ => show win0_6.index t (1 : Fin 2) * 512 + 1 * j.val = 512 * t.val + j.val; omega

theorem blk7 (c : Dev nD) (t : Fin cfg0.N) (i : Fin 32) (j : Fin 512) : iblk m c 7 t (ix2 i j) = m ((c : Thread nD τ).loc main_arg7) (ix2 i (col t j)) := by
  obtain ⟨e0, e1⟩ := idx7 t
  refine (show iblk m c 7 t (ix2 i j) = V m c main_arg7 (((cfg0.win 7).blk t).view.emb (ix2 i j)) from rfl).trans ?_
  rw [V_main_arg7]
  refine congrArg (m ((c : Thread nD τ).loc main_arg7)) (funext fun a => Fin.ext ?_)
  match a with
  | ⟨0, _⟩ => show win0_7.index t (0 : Fin 2) * 32 + 1 * i.val = i.val; omega
  | ⟨1, _⟩ => show win0_7.index t (1 : Fin 2) * 512 + 1 * j.val = 512 * t.val + j.val; omega

/-- The row of column scales at point `t`'s columns. -/
theorem V_row (c : Dev nD) : V m c main_v10 = shapeCast S1x6144 (m ((c : Thread nD τ).loc main_arg8)) shapeCasts_S6144_S1x6144 := by
  show StableHlo.after hostOps0 (fun b => m (c, b)) (Proc.devRef .tc main_v10) = _
  after_results_simp <;> rfl

theorem blk8 (c : Dev nD) (t : Fin cfg0.N) (j : Fin 512) : iblk m c 8 t (ix2 0 j) = m ((c : Thread nD τ).loc main_arg8) (Cert.W4.at1 (col t j)) := by
  obtain ⟨e0, e1⟩ := idx8 t
  refine (show iblk m c 8 t (ix2 0 j) = V m c main_v10 (((cfg0.win 8).blk t).view.emb (ix2 0 j)) from rfl).trans ?_
  rw [V_row]
  have e : ((cfg0.win 8).blk t).view.emb (ix2 0 j) = (ix2 (0 : Fin 1) (col t j) : S1x6144.Idx) := funext fun a => Fin.ext (by
    match a with
    | ⟨0, _⟩ => show win0_8.index t (0 : Fin 2) * 1 + 1 * 0 = 0; omega
    | ⟨1, _⟩ => show win0_8.index t (1 : Fin 2) * 512 + 1 * j.val = 512 * t.val + j.val; omega)
  rw [e]
  refine (ValueIdx.shapeCast_a_1a_apply _ _ _ _).trans ?_
  refine congrArg (m ((c : Thread nD τ).loc main_arg8)) (funext fun a => Fin.ext ?_)
  match a with
  | ⟨0, _⟩ => rfl

/-- The scaled product. -/
def A (c : Dev nD) : Fin 1152 → Fin 6144 → EReal :=
  Cert.QkvRefIdeal.At.acc (m ((c : Thread nD τ).loc main_arg0)) (m ((c : Thread nD τ).loc main_arg1)) (m ((c : Thread nD τ).loc main_arg5))
    (m ((c : Thread nD τ).loc main_arg6)) (m ((c : Thread nD τ).loc main_arg7)) (m ((c : Thread nD τ).loc main_arg8))

/-- The queries, the keys and the values. -/
def X (c : Dev nD) : Fin 1152 → Fin 6144 → EReal :=
  Cert.QkvSpec.outAt (A m c) (fun i e => m ((c : Thread nD τ).loc main_arg2) (ix2 i e)) (fun i e => m ((c : Thread nD τ).loc main_arg3) (ix2 i e))
    (fun h e => m ((c : Thread nD τ).loc main_arg4) (ix2 h e))

/-- The activations converted. -/
def acts (c : Dev nD) : Vec Ideal S1152x4096 .bf16 := k0_pay27 (F := Ideal) (m ((c : Thread nD τ).loc main_arg0))

/-- Point `t`'s block of the scaled product. -/
def P (c : Dev nD) (t : Fin cfg0.N) : S1152x512.Idx → EReal :=
  prod (acts m c) (iblk m c 1 t) (iblk m c 5 t) (iblk m c 6 t) (iblk m c 7 t) (iblk m c 8 t)

theorem P_at (c : Dev nD) (t : Fin cfg0.N) (i : Fin 1152) (j : Fin 512) : P m c t (ix2 i j) = A m c i (col t j) := by
  unfold P
  refine (prod_at _ _ _ _ _ _ i j).trans ?_
  rw [blk1, blk8]
  have hterm : ∀ k : Fin 4096, (acts m c (ix2 i k) : EReal) * Cert.W4.weights hk (iblk m c 5 t) (iblk m c 6 t) (iblk m c 7 t) (ix2 k j)
      = Cert.W4.real (m ((c : Thread nD τ).loc main_arg0) (ix2 i k))
        * Cert.W4.weights hk (m ((c : Thread nD τ).loc main_arg5)) (m ((c : Thread nD τ).loc main_arg6)) (m ((c : Thread nD τ).loc main_arg7)) (ix2 k (col t j)) := fun k =>
    congrArg₂ (fun p q : EReal => p * q) (acts_at _ _ _) (Cert.W4.weights_cols hk _ _ _ _ _ _ _ (col t j)
      (fun r => blk5 m c _ r _) (fun r => blk6 m c _ r _) (fun r => blk7 m c _ r _) k)
  rw [Finset.sum_congr rfl fun k _ => hterm k]
  unfold A Cert.QkvRefIdeal.At.acc Cert.W4.rowProd
  with_reducible rfl

theorem col_head (t : Fin cfg0.N) (j : Fin 512) (e : Fin 128) : col t (Head.headCol (Head.headOf j) e) = Cert.QkvSpec.inHead (col t j) e :=
  Fin.ext (by show 512 * t.val + (128 * (j.val / 128) + e.val) = 128 * ((512 * t.val + j.val) / 128) + e.val; omega)

theorem dIn_col (t : Fin cfg0.N) (j : Fin 512) : Cert.QkvSpec.dIn (col t j) = Head.dOf j :=
  Fin.ext (by show (512 * t.val + j.val) % 128 = j.val % 128; omega)

/-- The rotation written with the cosines twice over and the sines with the first half negated. -/
theorem rope_eq (f : Fin 128 → EReal) (C S : Fin 128 → EReal) (c s : Fin 64 → EReal) (d : Fin 128)
    (hC : C d = if h : d.val < 64 then c ⟨d.val, h⟩ else c ⟨d.val - 64, by omega⟩)
    (hS : S d = if h : d.val < 64 then Neg.neg (α := EReal) (s ⟨d.val, h⟩) else s ⟨d.val - 64, by omega⟩) :
    f d * C d + f (Head.flip d) * S d = Cert.QkvSpec.rope f c s d := by
  unfold Cert.QkvSpec.rope
  rw [hC, hS]
  by_cases h : d.val < 64
  · rw [dif_pos h, dif_pos h, dif_pos h]
    have e : Head.flip d = ⟨d.val + 64, by omega⟩ := Fin.ext (by show (d.val + 64) % 128 = d.val + 64; omega)
    rw [e, sub_eq_add_neg, mul_neg]
  · rw [dif_neg h, dif_neg h, dif_neg h]
    have e : Head.flip d = ⟨d.val - 64, by omega⟩ := Fin.ext (by show (d.val + 64) % 128 = d.val - 64; omega)
    rw [e]

theorem rope_at (c : Dev nD) (t : Fin cfg0.N) (i : Fin 1152) (j : Fin 512) :
    Head.ropeB (P m c t) (iblk m c 2 t) (iblk m c 3 t) i j
      = Cert.QkvSpec.rope (fun e => A m c i (Cert.QkvSpec.inHead (col t j) e)) (fun e => m ((c : Thread nD τ).loc main_arg2) (ix2 i e)) (fun e => m ((c : Thread nD τ).loc main_arg3) (ix2 i e)) (Cert.QkvSpec.dIn (col t j)) := by
  have h := rope_eq (fun e => A m c i (Cert.QkvSpec.inHead (col t j) e)) (fun d => iblk m c 2 t (ix2 i d)) (fun d => iblk m c 3 t (ix2 i d))
    (fun e => m ((c : Thread nD τ).loc main_arg2) (ix2 i e)) (fun e => m ((c : Thread nD τ).loc main_arg3) (ix2 i e)) (Head.dOf j) (blk2 m c t i _) (blk3 m c t i _)
  rw [dIn_col]
  refine Eq.trans ?_ h
  unfold Head.ropeB
  rw [P_at, P_at, col_head]
  have e : col t j = Cert.QkvSpec.inHead (col t j) (Head.dOf j) := by rw [← col_head, Head.col_of]
  rw [← e]

/-- The smoothed queries of a block. -/
theorem query_block (c : Dev nD) (t : Fin cfg0.N) (ht : t.val < 8) (i : Fin 1152) (j : Fin 512) :
    Head.queryB (P m c t) (iblk m c 4 t) (iblk m c 2 t) (iblk m c 3 t) (ix2 i j) = X m c i (col t j) := by
  have hJ : (col t j).val < 4096 := by show 512 * t.val + j.val < 4096; omega
  unfold X Cert.QkvSpec.outAt
  rw [dif_pos hJ, ← rope_at]
  dsimp only
  rw [← smooth_q (m ((c : Thread nD τ).loc main_arg4)) (col t j) hJ, ← blk4]
  rfl

/-- The smoothed keys of a block. -/
theorem key_block (c : Dev nD) (t : Fin cfg0.N) (ht : 8 ≤ t.val) (ht' : t.val < 10) (i : Fin 1152) (j : Fin 512) :
    Head.keyB (P m c t) (iblk m c 4 t) (iblk m c 2 t) (iblk m c 3 t) (ix2 i j) = X m c i (col t j) := by
  have hJ : ¬(col t j).val < 4096 := by show ¬512 * t.val + j.val < 4096; omega
  have hJ' : (col t j).val < 5120 := by show 512 * t.val + j.val < 5120; omega
  unfold X Cert.QkvSpec.outAt
  rw [dif_neg hJ, dif_pos hJ', ← rope_at]
  dsimp only
  rw [← smooth_k (m ((c : Thread nD τ).loc main_arg4)) (col t j) hJ hJ', ← blk4]
  rfl

/-- The values of a block. -/
theorem value_block (c : Dev nD) (t : Fin cfg0.N) (ht : 10 ≤ t.val) (i : Fin 1152) (j : Fin 512) : P m c t (ix2 i j) = X m c i (col t j) := by
  have hJ : ¬(col t j).val < 4096 := by show ¬512 * t.val + j.val < 4096; omega
  have hJ' : ¬(col t j).val < 5120 := by show ¬512 * t.val + j.val < 5120; omega
  unfold X Cert.QkvSpec.outAt
  rw [dif_neg hJ, dif_neg hJ']
  exact P_at m c t i j

/-- The scratch holds the converted activations after every point. -/
theorem scratch_A (c : Dev nD) (t : Fin cfg0.N) (ht : t.val = 0) : (outsAt0 m c t.val t.isLt).2.2.2 = acts m c := by
  have hN : t.val < 12 := lt_of_lt_of_eq t.isLt N_0
  rw [outsAt0_A m c t (show t.val % 12 = 0 by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega)]
  dsimp only
  rw [sout_A]
  exact congrArg (k0_pay27 (F := Ideal)) (blk0 m c t)

theorem scratch_B (c : Dev nD) (t : Fin cfg0.N) (ht : 0 < t.val) (ht' : t.val < 8) : (outsAt0 m c t.val t.isLt).2.2.2 = (outsAt0 m c (t.val - 1) (lt_of_le_of_lt (Nat.sub_le _ _) t.isLt)).2.2.2 := by
  have hN : t.val < 12 := lt_of_lt_of_eq t.isLt N_0
  rw [outsAt0_B m c t (show ¬t.val % 12 = 0 by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega)]
  rfl

theorem scratch_C (c : Dev nD) (t : Fin cfg0.N) (ht : 8 ≤ t.val) (ht' : t.val < 10) : (outsAt0 m c t.val t.isLt).2.2.2 = (outsAt0 m c (t.val - 1) (lt_of_le_of_lt (Nat.sub_le _ _) t.isLt)).2.2.2 := by
  have hN : t.val < 12 := lt_of_lt_of_eq t.isLt N_0
  rw [outsAt0_C m c t (show ¬t.val % 12 = 0 by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega)]
  rfl

theorem scratch_D (c : Dev nD) (t : Fin cfg0.N) (ht : 10 ≤ t.val) : (outsAt0 m c t.val t.isLt).2.2.2 = (outsAt0 m c (t.val - 1) (lt_of_le_of_lt (Nat.sub_le _ _) t.isLt)).2.2.2 := by
  have hN : t.val < 12 := lt_of_lt_of_eq t.isLt N_0
  rw [outsAt0_D m c t (show ¬t.val % 12 = 0 by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega)]
  rfl

theorem scratch_eq (c : Dev nD) : ∀ (n : ℕ) (h : n < cfg0.N), (outsAt0 m c n h).2.2.2 = acts m c
  | 0, h => scratch_A m c ⟨0, h⟩ rfl
  | n + 1, h => by
    have hN : n + 1 < 12 := lt_of_lt_of_eq h N_0
    have ih := scratch_eq c n (Nat.lt_of_succ_lt h)
    by_cases h8 : n + 1 < 8
    · exact (scratch_B m c ⟨n + 1, h⟩ (Nat.succ_pos n) h8).trans ih
    · by_cases h10 : n + 1 < 10
      · exact (scratch_C m c ⟨n + 1, h⟩ (show 8 ≤ n + 1 by omega) h10).trans ih
      · exact (scratch_D m c ⟨n + 1, h⟩ (show 10 ≤ n + 1 by omega)).trans ih

/-- The block of results a point leaves. -/
def Y (c : Dev nD) (t : Fin cfg0.N) : S1152x512.Idx → EReal := fun p => X m c (p 0) (col t (p 1))

theorem outs_A_9 (c : Dev nD) (t : Fin cfg0.N) (ht : t.val = 0) : (outsAt0 m c t.val t.isLt).1 = Y m c t := by
  have hN : t.val < 12 := lt_of_lt_of_eq t.isLt N_0
  have hy : Head.queryB (P m c t) (iblk m c 4 t) (iblk m c 2 t) (iblk m c 3 t) = Y m c t := funext fun p => (congrArg _ (eq_ix2 p)).trans (query_block m c t (by omega) (p 0) (p 1))
  rw [outsAt0_A m c t (show t.val % 12 = 0 by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega)]
  dsimp only
  rw [out_A_9]
  rw [blk0, ← hy]
  rfl

theorem outs_B_9 (c : Dev nD) (t : Fin cfg0.N) (ht : 0 < t.val) (ht' : t.val < 8) : (outsAt0 m c t.val t.isLt).1 = Y m c t := by
  have hN : t.val < 12 := lt_of_lt_of_eq t.isLt N_0
  have hy : Head.queryB (P m c t) (iblk m c 4 t) (iblk m c 2 t) (iblk m c 3 t) = Y m c t := funext fun p => (congrArg _ (eq_ix2 p)).trans (query_block m c t ht' (p 0) (p 1))
  rw [outsAt0_B m c t (show ¬t.val % 12 = 0 by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega) (show t.val < 8 by omega) (show ¬(8 ≤ t.val % 12 ∧ t.val % 12 ≤ 9) by omega) (show ¬10 ≤ t.val by omega)]
  dsimp only
  rw [out_B_9]
  rw [scratch_eq, ← hy]
  rfl

theorem outs_C_9 (c : Dev nD) (t : Fin cfg0.N) (ht : 8 ≤ t.val) (ht' : t.val < 10) : (outsAt0 m c t.val t.isLt).1 = Y m c t := by
  have hN : t.val < 12 := lt_of_lt_of_eq t.isLt N_0
  have hy : Head.keyB (P m c t) (iblk m c 4 t) (iblk m c 2 t) (iblk m c 3 t) = Y m c t := funext fun p => (congrArg _ (eq_ix2 p)).trans (key_block m c t ht ht' (p 0) (p 1))
  rw [outsAt0_C m c t (show ¬t.val % 12 = 0 by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega)]
  dsimp only
  rw [out_C_9]
  rw [scratch_eq, ← hy]
  rfl

theorem outs_C_10 (c : Dev nD) (t : Fin cfg0.N) (ht : 8 ≤ t.val) (ht' : t.val < 10) : (outsAt0 m c t.val t.isLt).2.1 = Head.bytesB (Y m c t) := by
  have hN : t.val < 12 := lt_of_lt_of_eq t.isLt N_0
  have hy : Head.keyB (P m c t) (iblk m c 4 t) (iblk m c 2 t) (iblk m c 3 t) = Y m c t := funext fun p => (congrArg _ (eq_ix2 p)).trans (key_block m c t ht ht' (p 0) (p 1))
  rw [outsAt0_C m c t (show ¬t.val % 12 = 0 by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega)]
  dsimp only
  rw [out_C_10]
  rw [scratch_eq, ← hy]
  rfl

theorem outs_C_11 (c : Dev nD) (t : Fin cfg0.N) (ht : 8 ≤ t.val) (ht' : t.val < 10) : (outsAt0 m c t.val t.isLt).2.2.1 = Head.scalesB (Y m c t) := by
  have hN : t.val < 12 := lt_of_lt_of_eq t.isLt N_0
  have hy : Head.keyB (P m c t) (iblk m c 4 t) (iblk m c 2 t) (iblk m c 3 t) = Y m c t := funext fun p => (congrArg _ (eq_ix2 p)).trans (key_block m c t ht ht' (p 0) (p 1))
  rw [outsAt0_C m c t (show ¬t.val % 12 = 0 by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega) (show ¬t.val < 8 by omega) (show 8 ≤ t.val % 12 ∧ t.val % 12 ≤ 9 by omega) (show ¬10 ≤ t.val by omega)]
  dsimp only
  rw [out_C_11]
  rw [scratch_eq, ← hy]
  rfl

theorem outs_D_9 (c : Dev nD) (t : Fin cfg0.N) (ht : 10 ≤ t.val) : (outsAt0 m c t.val t.isLt).1 = Y m c t := by
  have hN : t.val < 12 := lt_of_lt_of_eq t.isLt N_0
  have hy : P m c t = Y m c t := funext fun p => (congrArg _ (eq_ix2 p)).trans (value_block m c t ht (p 0) (p 1))
  rw [outsAt0_D m c t (show ¬t.val % 12 = 0 by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega)]
  dsimp only
  rw [out_D_9]
  rw [scratch_eq, ← hy]
  rfl

theorem outs_D_10 (c : Dev nD) (t : Fin cfg0.N) (ht : 10 ≤ t.val) : (outsAt0 m c t.val t.isLt).2.1 = Head.bytesB (Y m c t) := by
  have hN : t.val < 12 := lt_of_lt_of_eq t.isLt N_0
  have hy : P m c t = Y m c t := funext fun p => (congrArg _ (eq_ix2 p)).trans (value_block m c t ht (p 0) (p 1))
  rw [outsAt0_D m c t (show ¬t.val % 12 = 0 by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega)]
  dsimp only
  rw [out_D_10]
  rw [scratch_eq, ← hy]
  rfl

theorem outs_D_11 (c : Dev nD) (t : Fin cfg0.N) (ht : 10 ≤ t.val) : (outsAt0 m c t.val t.isLt).2.2.1 = Head.scalesB (Y m c t) := by
  have hN : t.val < 12 := lt_of_lt_of_eq t.isLt N_0
  have hy : P m c t = Y m c t := funext fun p => (congrArg _ (eq_ix2 p)).trans (value_block m c t ht (p 0) (p 1))
  rw [outsAt0_D m c t (show ¬t.val % 12 = 0 by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega) (show ¬t.val < 8 by omega) (show ¬(8 ≤ t.val % 12 ∧ t.val % 12 ≤ 9) by omega) (show 10 ≤ t.val by omega)]
  dsimp only
  rw [out_D_11]
  rw [scratch_eq, ← hy]
  rfl

theorem outs_9 (c : Dev nD) (t : Fin cfg0.N) : (outsAt0 m c t.val t.isLt).1 = Y m c t := by
  by_cases h0 : t.val = 0
  · exact outs_A_9 m c t h0
  · by_cases h8 : t.val < 8
    · exact outs_B_9 m c t (Nat.pos_of_ne_zero h0) h8
    · by_cases h10 : t.val < 10
      · exact outs_C_9 m c t (Nat.le_of_not_lt h8) h10
      · exact outs_D_9 m c t (Nat.le_of_not_lt h10)

theorem outs_10 (c : Dev nD) (t : Fin cfg0.N) (h8 : 8 ≤ t.val) : (outsAt0 m c t.val t.isLt).2.1 = Head.bytesB (Y m c t) := by
  by_cases h10 : t.val < 10
  · exact outs_C_10 m c t h8 h10
  · exact outs_D_10 m c t (Nat.le_of_not_lt h10)

theorem outs_11 (c : Dev nD) (t : Fin cfg0.N) (h8 : 8 ≤ t.val) : (outsAt0 m c t.val t.isLt).2.2.1 = Head.scalesB (Y m c t) := by
  by_cases h10 : t.val < 10
  · exact outs_C_11 m c t h8 h10
  · exact outs_D_11 m c t (Nat.le_of_not_lt h10)

/-- Only the points of the keys and the values write bytes and scales back. -/
theorem flush10 : ∀ t : Fin cfg0.N, (cfg0.win 10).flush t = true → 8 ≤ t.val := (by decide +kernel : ∀ t : Fin grid0.N, _)
theorem flush11 : ∀ t : Fin cfg0.N, (cfg0.win 11).flush t = true → 8 ≤ t.val := (by decide +kernel : ∀ t : Fin grid0.N, _)

/-- The queries, keys and values after the run. -/
def allOf (c : Dev nD) : Vec Ideal S1152x6144 .bf16 := fun p => X m c (p 0) (p 1)
/-- The bytes after the run. -/
def bytesOf (c : Dev nD) : Vec Ideal S1152x2048 .i8 := fun p => Cert.QkvSpec.byteAt (X m c) (p 0) (p 1)
/-- The scales after the run. -/
def scalesOf (c : Dev nD) : Vec Ideal S4x1152x4 .f32 := fun p => Cert.QkvSpec.scaleAt (X m c) (p 0) (p 1) (p 2)

theorem final_all (c : Dev nD) : (dats m 0 c).arrAt 9 cfg0.N = allOf m c := by
  refine (dats m 0 c).arrAt_eq_of_covers 9 _ (by decide +kernel) fun t hf y => ?_
  obtain ⟨i, j, rfl⟩ : ∃ (i : Fin 1152) (j : Fin 512), y = ix2 i j := ⟨y 0, y 1, eq_ix2 y⟩
  have e : ((cfg0.win 9).blk t).view.emb (ix2 i j) = (ix2 i (col t j) : S1152x6144.Idx) := by
    obtain ⟨e0, e1⟩ := idx9 t
    exact funext fun a => Fin.ext (by
      match a with
      | ⟨0, _⟩ => show win0_9.index t (0 : Fin 2) * 1152 + 1 * i.val = i.val; omega
      | ⟨1, _⟩ => show win0_9.index t (1 : Fin 2) * 512 + 1 * j.val = 512 * t.val + j.val; omega)
  rw [e]
  show (dats m 0 c).after 9 t (ix2 i j) = X m c i (col t j)
  rw [after0_9, outs_9]
  rfl

/-- A column of a block of bytes among all the bytes. -/
def kv (t : Fin cfg0.N) (h : 8 ≤ t.val) (j : Fin 512) : Fin 2048 := ⟨512 * (t.val - 8) + j.val, by have h : t.val < 12 := lt_of_lt_of_eq t.isLt N_0; omega⟩

theorem kv_col (t : Fin cfg0.N) (h : 8 ≤ t.val) (j : Fin 512) : Cert.QkvSpec.kvCol (kv t h j) = col t j :=
  Fin.ext (by show 4096 + (512 * (t.val - 8) + j.val) = 512 * t.val + j.val; omega)

theorem final_bytes (c : Dev nD) : (dats m 0 c).arrAt 10 cfg0.N = bytesOf m c := by
  refine (dats m 0 c).arrAt_eq_of_covers 10 _ (by decide +kernel) fun t hf y => ?_
  have h8 : 8 ≤ t.val := flush10 t hf
  obtain ⟨i, j, rfl⟩ : ∃ (i : Fin 1152) (j : Fin 512), y = ix2 i j := ⟨y 0, y 1, eq_ix2 y⟩
  have e : ((cfg0.win 10).blk t).view.emb (ix2 i j) = (ix2 i (kv t h8 j) : S1152x2048.Idx) := by
    obtain ⟨e0, e1⟩ := idx10 t
    exact funext fun a => Fin.ext (by
      match a with
      | ⟨0, _⟩ => show win0_10.index t (0 : Fin 2) * 1152 + 1 * i.val = i.val; omega
      | ⟨1, _⟩ => show win0_10.index t (1 : Fin 2) * 512 + 1 * j.val = 512 * (t.val - 8) + j.val; omega)
  rw [e]
  show (dats m 0 c).after 10 t (ix2 i j) = Cert.QkvSpec.byteAt (X m c) i (kv t h8 j)
  rw [after0_10, outs_10 m c t h8]
  unfold Cert.QkvSpec.byteAt
  rw [kv_col]
  have hh : (fun e => Y m c t (ix2 i (Head.headCol (Head.headOf j) e))) = fun e => X m c i (Cert.QkvSpec.inHead (col t j) e) :=
    funext fun e => congrArg (X m c i) (col_head t j e)
  rw [← hh]
  rfl

/-- A block of scales among all of them. -/
def quad (t : Fin cfg0.N) (h : 8 ≤ t.val) : Fin 4 := ⟨t.val - 8, by have h : t.val < 12 := lt_of_lt_of_eq t.isLt N_0; omega⟩

theorem final_scales (c : Dev nD) : (dats m 0 c).arrAt 11 cfg0.N = scalesOf m c := by
  refine (dats m 0 c).arrAt_eq_of_covers 11 _ (by decide +kernel) fun t hf y => ?_
  have h8 : 8 ≤ t.val := flush11 t hf
  obtain ⟨b, i, h, rfl⟩ : ∃ (b : Fin 1) (i : Fin 1152) (h : Fin 4), y = ix3 b i h := ⟨y 0, y 1, y 2, eq_ix3 y⟩
  obtain rfl : b = 0 := Subsingleton.elim _ _
  have e : ((cfg0.win 11).blk t).view.emb (ix3 0 i h) = (ix3 (quad t h8) i h : S4x1152x4.Idx) := by
    obtain ⟨e0, e1, e2⟩ := idx11 t
    exact funext fun a => Fin.ext (by
      match a with
      | ⟨0, _⟩ => show win0_11.index t (0 : Fin 3) * 1 + 1 * 0 = t.val - 8; omega
      | ⟨1, _⟩ => show win0_11.index t (1 : Fin 3) * 1152 + 1 * i.val = i.val; omega
      | ⟨2, _⟩ => show win0_11.index t (2 : Fin 3) * 4 + 1 * h.val = h.val; omega)
  rw [e]
  show (dats m 0 c).after 11 t (ix3 0 i h) = Cert.QkvSpec.scaleAt (X m c) (quad t h8) i h
  rw [after0_11, outs_11 m c t h8]
  unfold Cert.QkvSpec.scaleAt
  have hh : (fun e : Fin 128 => Y m c t (ix2 i (Head.headCol h e))) = fun e => X m c i ⟨4096 + 512 * (quad t h8).val + 128 * h.val + e.val, by have := (quad t h8).isLt; omega⟩ :=
    funext fun e => congrArg (X m c i) (Fin.ext (by show 512 * t.val + (128 * h.val + e.val) = 4096 + 512 * (t.val - 8) + 128 * h.val + e.val; omega))
  rw [← hh]
  rfl

end Cert.QkvIdeal.Whole

namespace Cert.Proof.QkvClaims

open Idealize.ShloMosaic Idealize.ShloMosaic.TcCoe Idealize.SL.Sem Cert.QkvRefIdeal.Read

theorem frame : Cert.quiescent_Qkv := fun m ρ _ => Cert.Qkv.Gen.frame m ρ
theorem frame_ideal : Cert.quiescent_QkvIdeal := fun m ρ _ => Cert.QkvIdeal.Gen.frame m ρ
theorem frame_ref : Cert.quiescent_QkvRefIdeal := fun m ρ _ =>
  (θ_run Cert.QkvRefIdeal.defs _ _).mono (fun r h => ⟨fun c => (h c).2.2.2, Idealize.ShloMosaic.sem_eq_zero_of_no_sems (by decide) r.2⟩)
    (Cert.QkvRefIdeal.Value.run (F := Ideal) m ρ)
theorem preserves : Cert.preserves_Qkv_QkvIdeal := trivial

/-- The kernel and the reference end with the same queries, keys and values, the same bytes and the same scales. -/
theorem algebraic : Cert.algebraic_QkvIdeal_QkvRefIdeal := by
  intro m ρ m' ρ' _ hag
  refine ⟨fun c => QkvIdeal.Whole.allOf m c, fun c => QkvIdeal.Whole.bytesOf m c, fun c => QkvIdeal.Whole.scalesOf m c, ?_, ?_⟩
  · exact (θ_run Cert.QkvIdeal.defs _ _).mono (fun _ h c => ⟨(h c).1.trans (QkvIdeal.Whole.final_all m c), (h c).2.1.trans (QkvIdeal.Whole.final_bytes m c),
      (h c).2.2.1.trans (QkvIdeal.Whole.final_scales m c), (h c).2.2.2⟩)
      (QkvIdeal.Value.run_blocks m ρ)
  · refine (θ_run Cert.QkvRefIdeal.defs _ _).mono (fun _ h c => ⟨(h c).1.trans ?_, (h c).2.1.trans ?_, (h c).2.2.1.trans ?_, (h c).2.2.2⟩) (Cert.QkvRefIdeal.Value.run (F := Ideal) m' ρ')
    · obtain ⟨h0, h1, h2, h3, h4, h5, h6, h7, h8⟩ := hag c
      refine (val_main_v122_eq m' c).trans ?_
      rw [h0, h1, h2, h3, h4, h5, h6, h7, h8]
      funext p
      obtain ⟨i, j, rfl⟩ : ∃ (i : Fin 1152) (j : Fin 6144), p = ix2 i j := ⟨p 0, p 1, eq_ix2 p⟩
      exact QkvRefIdeal.At.out_all _ _ _ _ _ _ _ _ _ i j
    · obtain ⟨h0, h1, h2, h3, h4, h5, h6, h7, h8⟩ := hag c
      refine (val_main_v125_eq m' c).trans ?_
      rw [h0, h1, h2, h3, h4, h5, h6, h7, h8]
      funext p
      obtain ⟨i, j, rfl⟩ : ∃ (i : Fin 1152) (j : Fin 2048), p = ix2 i j := ⟨p 0, p 1, eq_ix2 p⟩
      exact QkvRefIdeal.At.out_bytes _ _ _ _ _ _ _ _ _ i j
    · obtain ⟨h0, h1, h2, h3, h4, h5, h6, h7, h8⟩ := hag c
      refine (val_main_v128_eq m' c).trans ?_
      rw [h0, h1, h2, h3, h4, h5, h6, h7, h8]
      funext p
      obtain ⟨b, i, h, rfl⟩ : ∃ (b : Fin 4) (i : Fin 1152) (h : Fin 4), p = ix3 b i h := ⟨p 0, p 1, p 2, eq_ix3 p⟩
      exact QkvRefIdeal.At.out_scales _ _ _ _ _ _ _ _ _ b i h

end Cert.Proof.QkvClaims

end
-- ==== Proof.lean ====
module

public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjRefIdeal
public import proofs.«01_k».proof.Proof.Gen.RmsQuantX
public import proofs.«01_k».proof.Proof.Gen.RmsQuantX.Skeleton
public import proofs.«01_k».proof.Proof.Gen.RmsQuantX.Launch
public import proofs.«01_k».proof.Proof.Gen.RmsQuantX.Points
public import proofs.«01_k».proof.Proof.Gen.RmsQuantX.Frame
public import proofs.«01_k».proof.Proof.Gen.RmsQuantXIdeal
public import proofs.«01_k».proof.Proof.Gen.RmsQuantXIdeal.Skeleton
public import proofs.«01_k».proof.Proof.Gen.RmsQuantXIdeal.Launch
public import proofs.«01_k».proof.Proof.Gen.RmsQuantXIdeal.Points
public import proofs.«01_k».proof.Proof.Gen.RmsQuantXIdeal.Frame
public import proofs.«01_k».proof.Proof.Gen.RmsQuantXRefIdeal
public import proofs.«01_k».proof.Proof.Gen.RmsQuantH
public import proofs.«01_k».proof.Proof.Gen.RmsQuantH.Skeleton
public import proofs.«01_k».proof.Proof.Gen.RmsQuantH.Launch
public import proofs.«01_k».proof.Proof.Gen.RmsQuantH.Points
public import proofs.«01_k».proof.Proof.Gen.RmsQuantH.Frame
public import proofs.«01_k».proof.Proof.Gen.RmsQuantHIdeal
public import proofs.«01_k».proof.Proof.Gen.RmsQuantHIdeal.Skeleton
public import proofs.«01_k».proof.Proof.Gen.RmsQuantHIdeal.Launch
public import proofs.«01_k».proof.Proof.Gen.RmsQuantHIdeal.Points
public import proofs.«01_k».proof.Proof.Gen.RmsQuantHIdeal.Frame
public import proofs.«01_k».proof.Proof.Gen.RmsQuantHRefIdeal
public import proofs.«01_k».proof.Proof.Gen.RowQuantAttn
public import proofs.«01_k».proof.Proof.Gen.RowQuantAttn.Skeleton
public import proofs.«01_k».proof.Proof.Gen.RowQuantAttn.Launch
public import proofs.«01_k».proof.Proof.Gen.RowQuantAttn.Points
public import proofs.«01_k».proof.Proof.Gen.RowQuantAttn.Frame
public import proofs.«01_k».proof.Proof.Gen.RowQuantAttnIdeal
public import proofs.«01_k».proof.Proof.Gen.RowQuantAttnIdeal.Skeleton
public import proofs.«01_k».proof.Proof.Gen.RowQuantAttnIdeal.Launch
public import proofs.«01_k».proof.Proof.Gen.RowQuantAttnIdeal.Points
public import proofs.«01_k».proof.Proof.Gen.RowQuantAttnIdeal.Frame
public import proofs.«01_k».proof.Proof.Gen.RowQuantAttnRefIdeal
public import proofs.«01_k».proof.Proof.Gen.RowQuantMlp
public import proofs.«01_k».proof.Proof.Gen.RowQuantMlp.Skeleton
public import proofs.«01_k».proof.Proof.Gen.RowQuantMlp.Launch
public import proofs.«01_k».proof.Proof.Gen.RowQuantMlp.Points
public import proofs.«01_k».proof.Proof.Gen.RowQuantMlp.Frame
public import proofs.«01_k».proof.Proof.Gen.RowQuantMlpIdeal
public import proofs.«01_k».proof.Proof.Gen.RowQuantMlpIdeal.Skeleton
public import proofs.«01_k».proof.Proof.Gen.RowQuantMlpIdeal.Launch
public import proofs.«01_k».proof.Proof.Gen.RowQuantMlpIdeal.Points
public import proofs.«01_k».proof.Proof.Gen.RowQuantMlpIdeal.Frame
public import proofs.«01_k».proof.Proof.Gen.RowQuantMlpRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.OProjIdeal.Value
public import proofs.«01_k».proof.Proof.Gen.OProjRefIdeal.Run
public import proofs.«01_k».proof.Proof.Gen.OProjRefIdeal.Read
public import proofs.«01_k».proof.Proof.Gen.RmsQuantXIdeal.Value
public import proofs.«01_k».proof.Proof.Gen.RmsQuantXRefIdeal.Run
public import proofs.«01_k».proof.Proof.Gen.RmsQuantXRefIdeal.Read
public import proofs.«01_k».proof.Proof.Gen.RmsQuantHIdeal.Value
public import proofs.«01_k».proof.Proof.Gen.RmsQuantHRefIdeal.Run
public import proofs.«01_k».proof.Proof.Gen.RmsQuantHRefIdeal.Read
public import proofs.«01_k».proof.Proof.Gen.RowQuantAttnIdeal.Value
public import proofs.«01_k».proof.Proof.Gen.RowQuantAttnRefIdeal.Run
public import proofs.«01_k».proof.Proof.Gen.RowQuantAttnRefIdeal.Read
public import proofs.«01_k».proof.Proof.Gen.RowQuantMlpIdeal.Value
public import proofs.«01_k».proof.Proof.Gen.RowQuantMlpRefIdeal.Run
public import proofs.«01_k».proof.Proof.Gen.RowQuantMlpRefIdeal.Read
public import proofs.«01_k».proof.Proof.Gen.QkvIdeal.Value
public import proofs.«01_k».proof.Proof.Gen.QkvRefIdeal.Run
public import proofs.«01_k».proof.Proof.Gen.QkvRefIdeal.Read
public import proofs.«01_k».proof.Proof.GateUp
public import proofs.«01_k».proof.Proof.Down
public import proofs.«01_k».proof.Proof.OProj
public import proofs.«01_k».proof.Proof.RmsQuantX
public import proofs.«01_k».proof.Proof.RmsQuantH
public import proofs.«01_k».proof.Proof.RowQuantAttn
public import proofs.«01_k».proof.Proof.RowQuantMlp
public import proofs.«01_k».proof.Proof.Qkv
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim := ⟨Cert.GateUp.Gen.facts, Cert.GateUpIdeal.Gen.facts, Cert.GateUpRefIdeal.Gen.facts, Cert.Down.Gen.facts, Cert.DownIdeal.Gen.facts, Cert.DownRefIdeal.Gen.facts, Cert.OProj.Gen.facts, Cert.OProjIdeal.Gen.facts, Cert.OProjRefIdeal.Gen.facts, Cert.RmsQuantX.Gen.facts, Cert.RmsQuantXIdeal.Gen.facts, Cert.RmsQuantXRefIdeal.Gen.facts, Cert.RmsQuantH.Gen.facts, Cert.RmsQuantHIdeal.Gen.facts, Cert.RmsQuantHRefIdeal.Gen.facts, Cert.RowQuantAttn.Gen.facts, Cert.RowQuantAttnIdeal.Gen.facts, Cert.RowQuantAttnRefIdeal.Gen.facts, Cert.RowQuantMlp.Gen.facts, Cert.RowQuantMlpIdeal.Gen.facts, Cert.RowQuantMlpRefIdeal.Gen.facts, Cert.Qkv.Gen.facts, Cert.QkvIdeal.Gen.facts, Cert.QkvRefIdeal.Gen.facts,
  GateUpClaims.frame,
  GateUpClaims.frame_ideal,
  GateUpClaims.frame_ref,
  DownClaims.frame,
  DownClaims.frame_ideal,
  DownClaims.frame_ref,
  OProjClaims.frame,
  OProjClaims.frame_ideal,
  OProjClaims.frame_ref,
  RmsQuantXClaims.frame,
  RmsQuantXClaims.frame_ideal,
  RmsQuantXClaims.frame_ref,
  RmsQuantHClaims.frame,
  RmsQuantHClaims.frame_ideal,
  RmsQuantHClaims.frame_ref,
  RowQuantAttnClaims.frame,
  RowQuantAttnClaims.frame_ideal,
  RowQuantAttnClaims.frame_ref,
  RowQuantMlpClaims.frame,
  RowQuantMlpClaims.frame_ideal,
  RowQuantMlpClaims.frame_ref,
  QkvClaims.frame,
  QkvClaims.frame_ideal,
  QkvClaims.frame_ref,
  GateUpClaims.preserves,
  GateUpClaims.algebraic,
  DownClaims.preserves,
  DownClaims.algebraic,
  OProjClaims.preserves,
  OProjClaims.algebraic,
  RmsQuantXClaims.preserves,
  RmsQuantXClaims.algebraic,
  RmsQuantHClaims.preserves,
  RmsQuantHClaims.algebraic,
  RowQuantAttnClaims.preserves,
  RowQuantAttnClaims.algebraic,
  RowQuantMlpClaims.preserves,
  RowQuantMlpClaims.algebraic,
  QkvClaims.preserves,
  QkvClaims.algebraic⟩

end Cert.Proof

end
